-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.2.2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.2.2.2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.2.2.2.2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.2.2.2.2.2.2.2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.2.2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.2.2.2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.2.2.2.2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.2.2.2.2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11)
      ∧ r.2.mem ((c.tc : Thread Cert.Kernel10.nD Cert.Kernel10.τ).loc Cert.Kernel10.main_arg12) = m ((c.tc : Thread Cert.Kernel10.nD Cert.Kernel10.τ).loc Cert.Kernel10.main_arg12)
      ∧ r.2.mem ((c.tc : Thread Cert.Kernel10.nD Cert.Kernel10.τ).loc Cert.Kernel10.main_arg13) = m ((c.tc : Thread Cert.Kernel10.nD Cert.Kernel10.τ).loc Cert.Kernel10.main_arg13))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v10) = v1 c
          ∧ r.2.mem ((c.tc : Thread Cert.Reference4Ideal.nD Cert.Reference4Ideal.τ).loc Cert.Reference4Ideal.main_v16) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_v60) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)
      ∧ m' ((c.tc : Thread Cert.Reference10Ideal.nD Cert.Reference10Ideal.τ).loc Cert.Reference10Ideal.main_arg12) = m ((c.tc : Thread Cert.Kernel10Ideal.nD Cert.Kernel10Ideal.τ).loc Cert.Kernel10Ideal.main_arg12)
      ∧ m' ((c.tc : Thread Cert.Reference10Ideal.nD Cert.Reference10Ideal.τ).loc Cert.Reference10Ideal.main_arg13) = m ((c.tc : Thread Cert.Kernel10Ideal.nD Cert.Kernel10Ideal.τ).loc Cert.Kernel10Ideal.main_arg13)) →
    ∃ (v0 : (c : Dev Cert.Kernel10Ideal.nD) → Buf (Elt Ideal) ((c.tc : Thread Cert.Kernel10Ideal.nD Cert.Kernel10Ideal.τ).loc Cert.Kernel10Ideal.main_v32_0)) (v1 : (c : Dev Cert.Kernel10Ideal.nD) → Buf (Elt Ideal) ((c.tc : Thread Cert.Kernel10Ideal.nD Cert.Kernel10Ideal.τ).loc Cert.Kernel10Ideal.main_v32_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v32_0) = v0 c
          ∧ r.2.mem ((c.tc : Thread Cert.Kernel10Ideal.nD Cert.Kernel10Ideal.τ).loc Cert.Kernel10Ideal.main_v32_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
          ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
          ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v53) = v0 c
          ∧ r.2.mem ((c.tc : Thread Cert.Reference10Ideal.nD Cert.Reference10Ideal.τ).loc Cert.Reference10Ideal.main_v55) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11)
          ∧ r.2.mem ((c.tc : Thread Cert.Reference10Ideal.nD Cert.Reference10Ideal.τ).loc Cert.Reference10Ideal.main_arg12) = m' ((c.tc : Thread Cert.Reference10Ideal.nD Cert.Reference10Ideal.τ).loc Cert.Reference10Ideal.main_arg12)
          ∧ r.2.mem ((c.tc : Thread Cert.Reference10Ideal.nD Cert.Reference10Ideal.τ).loc Cert.Reference10Ideal.main_arg13) = m' ((c.tc : Thread Cert.Reference10Ideal.nD Cert.Reference10Ideal.τ).loc Cert.Reference10Ideal.main_arg13))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_v83) = v1 c
          ∧ r.2.mem ((c.tc : Thread Cert.Reference5Ideal.nD Cert.Reference5Ideal.τ).loc Cert.Reference5Ideal.main_v85) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel3 : Cert.Kernel3.Facts) (hKernel3Ideal : Cert.Kernel3Ideal.Facts) (hReference3Ideal : Cert.Reference3Ideal.Facts) (hKernel10 : Cert.Kernel10.Facts) (hKernel10Ideal : Cert.Kernel10Ideal.Facts) (hReference10Ideal : Cert.Reference10Ideal.Facts) (hKernel5 : Cert.Kernel5.Facts) (hKernel5Ideal : Cert.Kernel5Ideal.Facts) (hReference5Ideal : Cert.Reference5Ideal.Facts) (hPre_finite : Cert.Pre_finite.Facts) (hPre_finite3 : Cert.Pre_finite3.Facts) (hPre_finite10 : Cert.Pre_finite10.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .bf16) (main_arg1 : FVec F S1024x2816 .f32) (main_arg2 : FVec F S1024x2816 .f32) (main_arg3 : FVec F S2816x1024 .f32) (main_arg4 : FVec F S4096x1024 .bf16) : IVec S4096x1024 1 × IVec S1024x2816 1 × IVec S1024x2816 1 × IVec S2816x1024 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_v7 : FVec F S1024x2816 .f32 := Host.absf main_arg2
  let main_cst_1 : FVec F S_ .f32 := constant S_ .f32 0x7F800000#32
  let main_v8 : FVec F S1024x2816 .f32 := broadcastInDim S1024x2816 ![] bcast_S_S1024x2816 main_cst_1
  let main_v9 : IVec S1024x2816 1 := cmpf .olt main_v7 main_v8
  let main_v10 : FVec F S2816x1024 .f32 := Host.absf main_arg3
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_v13 : FVec F S4096x1024 .f32 := (extf .f32 · bitsLt_bf16_f32) main_arg4
  let main_v14 : FVec F S4096x1024 .f32 := Host.absf main_v13
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  (main_v3, main_v6, main_v9, main_v12, main_v16)
-- ==== Pre_finite10.lean ====
abbrev S4352x1024 : Shape := ⟨2, ![4352, 1024]⟩
abbrev S4352x2048 : Shape := ⟨2, ![4352, 2048]⟩
abbrev S4352x128 : Shape := ⟨2, ![4352, 128]⟩
abbrev S1024x8224 : Shape := ⟨2, ![1024, 8224]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4352x1024 : S_.BroadcastsInDim S4352x1024 (![] : Fin 0 → Fin S4352x1024.rank)
  bcast_S_S4352x2048 : S_.BroadcastsInDim S4352x2048 (![] : Fin 0 → Fin S4352x2048.rank)
  bcast_S_S4352x128 : S_.BroadcastsInDim S4352x128 (![] : Fin 0 → Fin S4352x128.rank)
  bcast_S_S1024x8224 : S_.BroadcastsInDim S1024x8224 (![] : Fin 0 → Fin S1024x8224.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part2 {F : FTy → Type} [FloatOps F] (main_arg10 : FVec F S1x1024 .f32) (main_arg11 : FVec F S1x1024 .f32) (main_arg12 : FVec F S1x1024 .f32) (main_arg13 : FVec F S4096x1024 .f32) (main_v3 : IVec S4352x1024 1) (main_v7 : IVec S4352x1024 1) (main_v11 : IVec S4352x1024 1) (main_v15 : IVec S4352x1024 1) (main_v19 : IVec S4352x1024 1) (main_v23 : IVec S4352x1024 1) (main_v27 : IVec S4352x2048 1) (main_v31 : IVec S4352x128 1) (main_v34 : IVec S1024x8224 1) (main_v37 : IVec S4096x1024 1) : IVec S4352x1024 1 × IVec S4352x1024 1 × IVec S4352x1024 1 × IVec S4352x1024 1 × IVec S4352x1024 1 × IVec S4352x1024 1 × IVec S4352x2048 1 × IVec S4352x128 1 × IVec S1024x8224 1 × IVec S4096x1024 1 × IVec S1x1024 1 × IVec S1x1024 1 × IVec S1x1024 1 × IVec S4096x1024 1 :=
  let main_v38 : FVec F S1x1024 .f32 := Host.absf main_arg10
  let main_cst_9 : FVec F S_ .f32 := constant S_ .f32 0x7F800000#32
  let main_v39 : FVec F S1x1024 .f32 := broadcastInDim S1x1024 ![] bcast_S_S1x1024 main_cst_9
  let main_v40 : IVec S1x1024 1 := cmpf .olt main_v38 main_v39
  let main_v41 : FVec F S1x1024 .f32 := Host.absf main_arg11
  let main_cst_10 : FVec F S_ .f32 := constant S_ .f32 0x7F800000#32
  let main_v42 : FVec F S1x1024 .f32 := broadcastInDim S1x1024 ![] bcast_S_S1x1024 main_cst_10
  let main_v43 : IVec S1x1024 1 := cmpf .olt main_v41 main_v42
  let main_v44 : FVec F S1x1024 .f32 := Host.absf main_arg12
  let main_cst_11 : FVec F S_ .f32 := constant S_ .f32 0x7F800000#32
  let main_v45 : FVec F S1x1024 .f32 := broadcastInDim S1x1024 ![] bcast_S_S1x1024 main_cst_11
  let main_v46 : IVec S1x1024 1 := cmpf .olt main_v44 main_v45
  let main_v47 : FVec F S4096x1024 .f32 := Host.absf main_arg13
  let main_cst_12 : FVec F S_ .f32 := constant S_ .f32 0x7F800000#32
  let main_v48 : FVec F S4096x1024 .f32 := broadcastInDim S4096x1024 ![] bcast_S_S4096x1024 main_cst_12
  let main_v49 : IVec S4096x1024 1 := cmpf .olt main_v47 main_v48
  (main_v3, main_v7, main_v11, main_v15, main_v19, main_v23, main_v27, main_v31, main_v34, main_v37, main_v40, main_v43, main_v46, main_v49)

def fn_part1 {F : FTy → Type} [FloatOps F] (main_arg5 : FVec F S4352x1024 .bf16) (main_arg6 : FVec F S4352x2048 .bf16) (main_arg7 : FVec F S4352x128 .bf16) (main_arg8 : FVec F S1024x8224 .f32) (main_arg9 : FVec F S4096x1024 .f32) (main_arg10 : FVec F S1x1024 .f32) (main_arg11 : FVec F S1x1024 .f32) (main_arg12 : FVec F S1x1024 .f32) (main_arg13 : FVec F S4096x1024 .f32) (main_v3 : IVec S4352x1024 1) (main_v7 : IVec S4352x1024 1) (main_v11 : IVec S4352x1024 1) (main_v15 : IVec S4352x1024 1) (main_v17 : FVec F S4352x1024 .f32) (main_v18 : FVec F S4352x1024 .f32) : IVec S4352x1024 1 × IVec S4352x1024 1 × IVec S4352x1024 1 × IVec S4352x1024 1 × IVec S4352x1024 1 × IVec S4352x1024 1 × IVec S4352x2048 1 × IVec S4352x128 1 × IVec S1024x8224 1 × IVec S4096x1024 1 × IVec S1x1024 1 × IVec S1x1024 1 × IVec S1x1024 1 × IVec S4096x1024 1 :=
  let main_v19 : IVec S4352x1024 1 := cmpf .olt main_v17 main_v18
  let main_v20 : FVec F S4352x1024 .f32 := (extf .f32 · bitsLt_bf16_f32) main_arg5
  let main_v21 : FVec F S4352x1024 .f32 := Host.absf main_v20
  let main_cst_4 : FVec F S_ .f32 := constant S_ .f32 0x7F800000#32
  let main_v22 : FVec F S4352x1024 .f32 := broadcastInDim S4352x1024 ![] bcast_S_S4352x1024 main_cst_4
  let main_v23 : IVec S4352x1024 1 := cmpf .olt main_v21 main_v22
  let main_v24 : FVec F S4352x2048 .f32 := (extf .f32 · bitsLt_bf16_f32) main_arg6
  let main_v25 : FVec F S4352x2048 .f32 := Host.absf main_v24
  let main_cst_5 : FVec F S_ .f32 := constant S_ .f32 0x7F800000#32
  let main_v26 : FVec F S4352x2048 .f32 := broadcastInDim S4352x2048 ![] bcast_S_S4352x2048 main_cst_5
  let main_v27 : IVec S4352x2048 1 := cmpf .olt main_v25 main_v26
  let main_v28 : FVec F S4352x128 .f32 := (extf .f32 · bitsLt_bf16_f32) main_arg7
  let main_v29 : FVec F S4352x128 .f32 := Host.absf main_v28
  let main_cst_6 : FVec F S_ .f32 := constant S_ .f32 0x7F800000#32
  let main_v30 : FVec F S4352x128 .f32 := broadcastInDim S4352x128 ![] bcast_S_S4352x128 main_cst_6
  let main_v31 : IVec S4352x128 1 := cmpf .olt main_v29 main_v30
  let main_v32 : FVec F S1024x8224 .f32 := Host.absf main_arg8
  let main_cst_7 : FVec F S_ .f32 := constant S_ .f32 0x7F800000#32
  let main_v33 : FVec F S1024x8224 .f32 := broadcastInDim S1024x8224 ![] bcast_S_S1024x8224 main_cst_7
  let main_v34 : IVec S1024x8224 1 := cmpf .olt main_v32 main_v33
  let main_v35 : FVec F S4096x1024 .f32 := Host.absf main_arg9
  let main_cst_8 : FVec F S_ .f32 := constant S_ .f32 0x7F800000#32
  let main_v36 : FVec F S4096x1024 .f32 := broadcastInDim S4096x1024 ![] bcast_S_S4096x1024 main_cst_8
  let main_v37 : IVec S4096x1024 1 := cmpf .olt main_v35 main_v36
  fn_part2 (F := F) main_arg10 main_arg11 main_arg12 main_arg13 main_v3 main_v7 main_v11 main_v15 main_v19 main_v23 main_v27 main_v31 main_v34 main_v37

def fn {F : FTy → Type} [FloatOps F] (main_arg0 : FVec F S4352x1024 .bf16) (main_arg1 : FVec F S4352x1024 .bf16) (main_arg2 : FVec F S4352x1024 .bf16) (main_arg3 : FVec F S4352x1024 .bf16) (main_arg4 : FVec F S4352x1024 .bf16) (main_arg5 : FVec F S4352x1024 .bf16) (main_arg6 : FVec F S4352x2048 .bf16) (main_arg7 : FVec F S4352x128 .bf16) (main_arg8 : FVec F S1024x8224 .f32) (main_arg9 : FVec F S4096x1024 .f32) (main_arg10 : FVec F S1x1024 .f32) (main_arg11 : FVec F S1x1024 .f32) (main_arg12 : FVec F S1x1024 .f32) (main_arg13 : FVec F S4096x1024 .f32) : IVec S4352x1024 1 × IVec S4352x1024 1 × IVec S4352x1024 1 × IVec S4352x1024 1 × IVec S4352x1024 1 × IVec S4352x1024 1 × IVec S4352x2048 1 × IVec S4352x128 1 × IVec S1024x8224 1 × IVec S4096x1024 1 × IVec S1x1024 1 × IVec S1x1024 1 × IVec S1x1024 1 × IVec S4096x1024 1 :=
  let main_v0 : FVec F S4352x1024 .f32 := (extf .f32 · bitsLt_bf16_f32) main_arg0
  let main_v1 : FVec F S4352x1024 .f32 := Host.absf main_v0
  let main_cst : FVec F S_ .f32 := constant S_ .f32 0x7F800000#32
  let main_v2 : FVec F S4352x1024 .f32 := broadcastInDim S4352x1024 ![] bcast_S_S4352x1024 main_cst
  let main_v3 : IVec S4352x1024 1 := cmpf .olt main_v1 main_v2
  let main_v4 : FVec F S4352x1024 .f32 := (extf .f32 · bitsLt_bf16_f32) main_arg1
  let main_v5 : FVec F S4352x1024 .f32 := Host.absf main_v4
  let main_cst_0 : FVec F S_ .f32 := constant S_ .f32 0x7F800000#32
  let main_v6 : FVec F S4352x1024 .f32 := broadcastInDim S4352x1024 ![] bcast_S_S4352x1024 main_cst_0
  let main_v7 : IVec S4352x1024 1 := cmpf .olt main_v5 main_v6
  let main_v8 : FVec F S4352x1024 .f32 := (extf .f32 · bitsLt_bf16_f32) main_arg2
  let main_v9 : FVec F S4352x1024 .f32 := Host.absf main_v8
  let main_cst_1 : FVec F S_ .f32 := constant S_ .f32 0x7F800000#32
  let main_v10 : FVec F S4352x1024 .f32 := broadcastInDim S4352x1024 ![] bcast_S_S4352x1024 main_cst_1
  let main_v11 : IVec S4352x1024 1 := cmpf .olt main_v9 main_v10
  let main_v12 : FVec F S4352x1024 .f32 := (extf .f32 · bitsLt_bf16_f32) main_arg3
  let main_v13 : FVec F S4352x1024 .f32 := Host.absf main_v12
  let main_cst_2 : FVec F S_ .f32 := constant S_ .f32 0x7F800000#32
  let main_v14 : FVec F S4352x1024 .f32 := broadcastInDim S4352x1024 ![] bcast_S_S4352x1024 main_cst_2
  let main_v15 : IVec S4352x1024 1 := cmpf .olt main_v13 main_v14
  let main_v16 : FVec F S4352x1024 .f32 := (extf .f32 · bitsLt_bf16_f32) main_arg4
  let main_v17 : FVec F S4352x1024 .f32 := Host.absf main_v16
  let main_cst_3 : FVec F S_ .f32 := constant S_ .f32 0x7F800000#32
  let main_v18 : FVec F S4352x1024 .f32 := broadcastInDim S4352x1024 ![] bcast_S_S4352x1024 main_cst_3
  fn_part1 (F := F) main_arg5 main_arg6 main_arg7 main_arg8 main_arg9 main_arg10 main_arg11 main_arg12 main_arg13 main_v3 main_v7 main_v11 main_v15 main_v17 main_v18
-- ==== Pre_finite3.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg6 : FVec F S4096x1024 .f32) (main_arg7 : FVec F S4096x1024 .f32) (main_v2 : IVec S4096x1024 1) (main_v5 : IVec S4096x1024 1) (main_v8 : IVec S1x1024 1) (main_v11 : IVec S1x1024 1) (main_v14 : IVec S1x1024 1) (main_v17 : IVec S1x1024 1) : IVec S4096x1024 1 × IVec S4096x1024 1 × IVec S1x1024 1 × IVec S1x1024 1 × IVec S1x1024 1 × IVec S1x1024 1 × IVec S4096x1024 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1x1024 .f32) (main_arg5 : FVec F S1x1024 .f32) (main_arg6 : FVec F S4096x1024 .f32) (main_arg7 : FVec F S4096x1024 .f32) : IVec S4096x1024 1 × IVec S4096x1024 1 × IVec S1x1024 1 × IVec S1x1024 1 × IVec S1x1024 1 × IVec S1x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_v2 main_v5 main_v8 main_v11 main_v14 main_v17
-- ==== Pre_finite5.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .bf16) (main_arg1 : FVec F S2816x1024 .f32) (main_arg2 : FVec F S4096x1024 .f32) (main_arg3 : FVec F S4096x1024 .f32) (main_arg4 : FVec F S1x1024 .f32) (main_arg5 : FVec F S1x1024 .f32) : IVec S4096x2816 1 × IVec S2816x1024 1 × IVec S4096x1024 1 × IVec S4096x1024 1 × IVec S1x1024 1 × IVec S1x1024 1 :=
  let main_v0 : FVec F S4096x2816 .bf16 := Host.absf main_arg0
  let main_cst : FVec F S_ .bf16 := constant S_ .bf16 0x7F80#16
  let main_v1 : FVec F S4096x2816 .bf16 := broadcastInDim S4096x2816 ![] bcast_S_S4096x2816 main_cst
  let main_v2 : IVec S4096x2816 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Kernel.lean ====
abbrev S4096x1024 : Shape := ⟨2, ![4096, 1024]⟩
abbrev S1024x2816 : Shape := ⟨2, ![1024, 2816]⟩
abbrev S2816x1024 : Shape := ⟨2, ![2816, 1024]⟩
abbrev S4x704x1024 : Shape := ⟨3, ![4, 704, 1024]⟩
abbrev S_ : Shape := ⟨0, ![]⟩
abbrev S4x768x1024 : Shape := ⟨3, ![4, 768, 1024]⟩
abbrev S3072x1024 : Shape := ⟨2, ![3072, 1024]⟩
abbrev S4096x2816 : Shape := ⟨2, ![4096, 2816]⟩
abbrev S4096x4x704 : Shape := ⟨3, ![4096, 4, 704]⟩
abbrev S4096x4x768 : Shape := ⟨3, ![4096, 4, 768]⟩
abbrev S4096x3072 : Shape := ⟨2, ![4096, 3072]⟩
abbrev S1024x1024 : Shape := ⟨2, ![1024, 1024]⟩
abbrev S768x1024 : Shape := ⟨2, ![768, 1024]⟩
abbrev S1024x768 : Shape := ⟨2, ![1024, 768]⟩
abbrev S1x768x1024 : Shape := ⟨3, ![1, 768, 1024]⟩
abbrev S256x1024 : Shape := ⟨2, ![256, 1024]⟩
abbrev S256x768 : Shape := ⟨2, ![256, 768]⟩

abbrev nBuf : Space → Nat
  | .hbm => 41
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .bf16⟩
  | .hbm, ⟨5, _⟩ => ⟨S2816x1024, .f32⟩
  | .hbm, ⟨6, _⟩ => ⟨S4x704x1024, .f32⟩
  | .hbm, ⟨7, _⟩ => ⟨S_, .i32⟩
  | .hbm, ⟨8, _⟩ => ⟨S_, .f32⟩
  | .hbm, ⟨9, _⟩ => ⟨S4x768x1024, .f32⟩
  | .hbm, ⟨10, _⟩ => ⟨S4x768x1024, .bf16⟩
  | .hbm, ⟨11, _⟩ => ⟨S2816x1024, .f32⟩
  | .hbm, ⟨12, _⟩ => ⟨S4x704x1024, .f32⟩
  | .hbm, ⟨13, _⟩ => ⟨S_, .i32⟩
  | .hbm, ⟨14, _⟩ => ⟨S_, .f32⟩
  | .hbm, ⟨15, _⟩ => ⟨S4x768x1024, .f32⟩
  | .hbm, ⟨16, _⟩ => ⟨S4x768x1024, .bf16⟩
  | .hbm, ⟨17, _⟩ => ⟨S4x704x1024, .f32⟩
  | .hbm, ⟨18, _⟩ => ⟨S_, .i32⟩
  | .hbm, ⟨19, _⟩ => ⟨S_, .f32⟩
  | .hbm, ⟨20, _⟩ => ⟨S4x768x1024, .f32⟩
  | .hbm, ⟨21, _⟩ => ⟨S4x768x1024, .bf16⟩
  | .hbm, ⟨22, _⟩ => ⟨S4096x1024, .f32⟩
  | .hbm, ⟨23, _⟩ => ⟨S3072x1024, .bf16⟩
  | .hbm, ⟨24, _⟩ => ⟨S4096x2816, .f32⟩
  | .hbm, ⟨25, _⟩ => ⟨S4096x4x704, .f32⟩
  | .hbm, ⟨26, _⟩ => ⟨S_, .i32⟩
  | .hbm, ⟨27, _⟩ => ⟨S_, .f32⟩
  | .hbm, ⟨28, _⟩ => ⟨S4096x4x768, .f32⟩
  | .hbm, ⟨29, _⟩ => ⟨S4096x4x768, .bf16⟩
  | .hbm, ⟨30, _⟩ => ⟨S4096x3072, .bf16⟩
  | .hbm, ⟨31, _⟩ => ⟨S4096x2816, .f32⟩
  | .hbm, ⟨32, _⟩ => ⟨S4096x4x704, .f32⟩
  | .hbm, ⟨33, _⟩ => ⟨S_, .i32⟩
  | .hbm, ⟨34, _⟩ => ⟨S_, .f32⟩
  | .hbm, ⟨35, _⟩ => ⟨S4096x4x768, .f32⟩
  | .hbm, ⟨36, _⟩ => ⟨S4096x4x768, .bf16⟩
  | .hbm, ⟨37, _⟩ => ⟨S4096x3072, .bf16⟩
  | .hbm, ⟨38, _⟩ => ⟨S4096x3072, .bf16⟩
  | .hbm, ⟨39, _⟩ => ⟨S4096x3072, .bf16⟩
  | .hbm, ⟨40, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1x768x1024, .bf16⟩
  | .local _ .vmem, ⟨9, _⟩ => ⟨S1x768x1024, .bf16⟩
  | .local _ .vmem, ⟨10, _⟩ => ⟨S1x768x1024, .bf16⟩
  | .local _ .vmem, ⟨11, _⟩ => ⟨S1x768x1024, .bf16⟩
  | .local _ .vmem, ⟨12, _⟩ => ⟨S1024x768, .bf16⟩
  | .local _ .vmem, ⟨13, _⟩ => ⟨S1024x768, .bf16⟩
  | .local _ .vmem, ⟨14, _⟩ => ⟨S1024x768, .bf16⟩
  | .local _ .vmem, ⟨15, _⟩ => ⟨S1024x768, .bf16⟩
  | .local _ .vmem, ⟨16, _⟩ => ⟨S1024x1024, .f32⟩
  | .local _ .vmem, ⟨17, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call2_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_call3_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_call4_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v111 : BitVec 1 := Scalar.cmpi .eq arg1 c0_i32
  let v112 : BitVec 32 := Scalar.extui v111
  let c0_i32_63 : BitVec 32 := 0#32
  let v113 : BitVec 1 := Scalar.cmpi .ne v112 c0_i32_63
  v113

def k0_cond2 (i : grid0.Coords) : BitVec 1 :=
  let arg1 : BitVec 32 := BitVec.ofNat 32 (i 1).val
  let c0_i32_64 : BitVec 32 := 0#32
  let v114 : BitVec 1 := Scalar.cmpi .sgt arg1 c0_i32_64
  let v115 : BitVec 32 := Scalar.extui v114
  let c0_i32_65 : BitVec 32 := 0#32
  let v116 : BitVec 1 := Scalar.cmpi .ne v115 c0_i32_65
  v116

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4096x4x704 : Shape := ⟨3, ![4096, 4, 704]⟩
abbrev S4096x4x768 : Shape := ⟨3, ![4096, 4, 768]⟩
abbrev S4096x3072 : Shape := ⟨2, ![4096, 3072]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x4x704, .f32⟩
  | .hbm, ⟨35, _⟩ => ⟨S_, .i32⟩
  | .hbm, ⟨36, _⟩ => ⟨S_, .f32⟩
  | .hbm, ⟨37, _⟩ => ⟨S4096x4x768, .f32⟩
  | .hbm, ⟨38, _⟩ => ⟨S4096x4x768, .bf16⟩
  | .hbm, ⟨39, _⟩ => ⟨S4096x3072, .bf16⟩
  | .hbm, ⟨40, _⟩ => ⟨S4096x4x704, .f32⟩
  | .hbm, ⟨41, _⟩ => ⟨S_, .i32⟩
  | .hbm, ⟨42, _⟩ => ⟨S_, .f32⟩
  | .hbm, ⟨43, _⟩ => ⟨S4096x4x768, .f32⟩
  | .hbm, ⟨44, _⟩ => ⟨S4096x4x768, .bf16⟩
  | .hbm, ⟨45, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_call2_v0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_0 : Ref sig .tc := ⟨.hbm, 41, rfl⟩
abbrev main_call3_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩

abbrev nD : Nat := 1
abbrev τ : Topo := Topo.v7x

variable {F : FTy → Type} [FloatOps F]
-- ==== Kernel2.lean ====
abbrev S4096x3072 : Shape := ⟨2, ![4096, 3072]⟩
abbrev S4096x1024 : Shape := ⟨2, ![4096, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x3072 : Shape := ⟨2, ![4096, 3072]⟩
abbrev S4096x1024 : Shape := ⟨2, ![4096, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x3072, .f32⟩
  | .hbm, ⟨3, _⟩ => ⟨S_, .f32⟩
  | .hbm, ⟨4, _⟩ => ⟨S3072x1024, .f32⟩
  | .hbm, ⟨5, _⟩ => ⟨S4096x1024, .f32⟩
  | .hbm, ⟨6, _⟩ => ⟨S4096x1024, .f32⟩
  | .hbm, ⟨7, _⟩ => ⟨S1024x3072, .f32⟩
  | .hbm, ⟨8, _⟩ => ⟨S3072x1024, .f32⟩
  | .hbm, ⟨9, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S1024x2816 : Shape := ⟨2, ![1024, 2816]⟩
abbrev S2816x1024 : Shape := ⟨2, ![2816, 1024]⟩
abbrev S4x704x1024 : Shape := ⟨3, ![4, 704, 1024]⟩
abbrev S_ : Shape := ⟨0, ![]⟩
abbrev S4x768x1024 : Shape := ⟨3, ![4, 768, 1024]⟩
abbrev S4096x3072 : Shape := ⟨2, ![4096, 3072]⟩
abbrev S1024x1024 : Shape := ⟨2, ![1024, 1024]⟩
abbrev S1x768x1024 : Shape := ⟨3, ![1, 768, 1024]⟩
abbrev S1024x768 : Shape := ⟨2, ![1024, 768]⟩
abbrev S768x1024 : Shape := ⟨2, ![768, 1024]⟩

abbrev nBuf : Space → Nat
  | .hbm => 18
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4x704x1024, .f32⟩
  | .hbm, ⟨5, _⟩ => ⟨S_, .i32⟩
  | .hbm, ⟨6, _⟩ => ⟨S_, .f32⟩
  | .hbm, ⟨7, _⟩ => ⟨S4x768x1024, .f32⟩
  | .hbm, ⟨8, _⟩ => ⟨S4x768x1024, .bf16⟩
  | .hbm, ⟨9, _⟩ => ⟨S2816x1024, .f32⟩
  | .hbm, ⟨10, _⟩ => ⟨S4x704x1024, .f32⟩
  | .hbm, ⟨11, _⟩ => ⟨S_, .i32⟩
  | .hbm, ⟨12, _⟩ => ⟨S_, .f32⟩
  | .hbm, ⟨13, _⟩ => ⟨S4x768x1024, .f32⟩
  | .hbm, ⟨14, _⟩ => ⟨S4x768x1024, .bf16⟩
  | .hbm, ⟨15, _⟩ => ⟨S4096x3072, .bf16⟩
  | .hbm, ⟨16, _⟩ => ⟨S4096x3072, .bf16⟩
  | .hbm, ⟨17, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x768x1024, .bf16⟩
  | .local _ .vmem, ⟨3, _⟩ => ⟨S1x768x1024, .bf16⟩
  | .local _ .vmem, ⟨4, _⟩ => ⟨S1x768x1024, .bf16⟩
  | .local _ .vmem, ⟨5, _⟩ => ⟨S1x768x1024, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4096x1024 : Shape := ⟨2, ![4096, 1024]⟩
abbrev S1024x2816 : Shape := ⟨2, ![1024, 2816]⟩
abbrev S4096x2816 : Shape := ⟨2, ![4096, 2816]⟩
abbrev S4096x4x704 : Shape := ⟨3, ![4096, 4, 704]⟩
abbrev S_ : Shape := ⟨0, ![]⟩
abbrev S4096x4x768 : Shape := ⟨3, ![4096, 4, 768]⟩
abbrev S4096x3072 : Shape := ⟨2, ![4096, 3072]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S4096x4x704, .f32⟩
  | .hbm, ⟨7, _⟩ => ⟨S_, .i32⟩
  | .hbm, ⟨8, _⟩ => ⟨S_, .f32⟩
  | .hbm, ⟨9, _⟩ => ⟨S4096x4x768, .f32⟩
  | .hbm, ⟨10, _⟩ => ⟨S4096x4x768, .bf16⟩
  | .hbm, ⟨11, _⟩ => ⟨S4096x3072, .bf16⟩
  | .hbm, ⟨12, _⟩ => ⟨S4096x4x704, .f32⟩
  | .hbm, ⟨13, _⟩ => ⟨S_, .i32⟩
  | .hbm, ⟨14, _⟩ => ⟨S_, .f32⟩
  | .hbm, ⟨15, _⟩ => ⟨S4096x4x768, .f32⟩
  | .hbm, ⟨16, _⟩ => ⟨S4096x4x768, .bf16⟩
  | .hbm, ⟨17, _⟩ => ⟨S4096x3072, .bf16⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x4x704, .f32⟩
  | .hbm, ⟨29, _⟩ => ⟨S_, .i32⟩
  | .hbm, ⟨30, _⟩ => ⟨S_, .f32⟩
  | .hbm, ⟨31, _⟩ => ⟨S4096x4x768, .f32⟩
  | .hbm, ⟨32, _⟩ => ⟨S4096x4x768, .bf16⟩
  | .hbm, ⟨33, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call2_v0 : Ref sig .tc := ⟨.hbm, 18, rfl⟩
abbrev main_call2_v1 : Ref sig .tc := ⟨.hbm, 19, rfl⟩
abbrev main_call2_cst : Ref sig .tc := ⟨.hbm, 20, rfl⟩
abbrev main_call2_v2 : Ref sig .tc := ⟨.hbm, 21, rfl⟩
abbrev main_call2_v3 : Ref sig .tc := ⟨.hbm, 22, rfl⟩
abbrev main_call2_cst_0 : Ref sig .tc := ⟨.hbm, 23, rfl⟩
abbrev main_call2_v4 : Ref sig .tc := ⟨.hbm, 24, rfl⟩
abbrev main_call2_v5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_call3_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩

abbrev nD : Nat := 1
abbrev τ : Topo := Topo.v7x

variable {F : FTy → Type} [FloatOps F]
-- ==== Kernel6.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .f32⟩
  | .hbm, ⟨3, _⟩ => ⟨S_, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4352x1024 : Shape := ⟨2, ![4352, 1024]⟩
abbrev S1x2048x1024 : Shape := ⟨3, ![1, 2048, 1024]⟩
abbrev S2176x1024 : Shape := ⟨2, ![2176, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S1x2048x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S2176x1024, .bf16⟩
  | .local _ .vmem, ⟨5, _⟩ => ⟨S2176x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def k0_cond7 (i : grid0.Coords) : BitVec 1 :=
  let arg1 : BitVec 32 := BitVec.ofNat 32 (i 1).val
  let c1_i32_2 : BitVec 32 := 1#32
  let v6 : BitVec 1 := Scalar.cmpi .eq arg1 c1_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c0_i32_0 : BitVec 32 := 0#32
  let v1 : BitVec 1 := Scalar.cmpi .sle arg0 c0_i32_0
  let v2 : BitVec 1 := Scalar.andi v0 v1
  let c0_i32_1 : BitVec 32 := 0#32
  let v3 : BitVec 32 := Scalar.select v2 arg1 c0_i32_1
  let c0_i32_2 : BitVec 32 := 0#32
  let v4 : BitVec 1 := Scalar.cmpi .sge arg0 c0_i32_2
  let c0_i32_3 : BitVec 32 := 0#32
  let v5 : BitVec 1 := Scalar.cmpi .sle arg0 c0_i32_3
  let v6 : BitVec 1 := Scalar.andi v4 v5
  let c0_i32_4 : BitVec 32 := 0#32
  let v7 : BitVec 32 := Scalar.subi arg0 c0_i32_4
  let c0_i32_5 : BitVec 32 := 0#32
  let v8 : BitVec 32 := Scalar.select v6 v7 c0_i32_5
  let c0_i32_6 : BitVec 32 := 0#32
  ![v3.toNat, v8.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c1_i32_0 : BitVec 32 := 1#32
  let v1 : BitVec 1 := Scalar.cmpi .sle arg0 c1_i32_0
  let v2 : BitVec 1 := Scalar.andi v0 v1
  let c0_i32 : BitVec 32 := 0#32
  let v3 : BitVec 32 := Scalar.select v2 arg1 c0_i32
  let c1_i32_1 : BitVec 32 := 1#32
  let v4 : BitVec 1 := Scalar.cmpi .sge arg0 c1_i32_1
  let c1_i32_2 : BitVec 32 := 1#32
  let v5 : BitVec 1 := Scalar.cmpi .sle arg0 c1_i32_2
  let v6 : BitVec 1 := Scalar.andi v4 v5
  let c1_i32_3 : BitVec 32 := 1#32
  let v7 : BitVec 32 := Scalar.subi arg0 c1_i32_3
  let c0_i32_4 : BitVec 32 := 0#32
  let v8 : BitVec 32 := Scalar.select v6 v7 c0_i32_4
  let c0_i32_5 : BitVec 32 := 0#32
  ![v3.toNat, v8.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference7Ideal.lean ====
abbrev S4352x1024 : Shape := ⟨2, ![4352, 1024]⟩
abbrev S4352x2048 : Shape := ⟨2, ![4352, 2048]⟩
abbrev S_ : Shape := ⟨0, ![]⟩
abbrev S1024x2048 : Shape := ⟨2, ![1024, 2048]⟩
abbrev S2048x1024 : Shape := ⟨2, ![2048, 1024]⟩
abbrev S1x2048x1024 : Shape := ⟨3, ![1, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x1024, .f32⟩
  | .hbm, ⟨4, _⟩ => ⟨S4352x2048, .bf16⟩
  | .hbm, ⟨5, _⟩ => ⟨S4352x2048, .f32⟩
  | .hbm, ⟨6, _⟩ => ⟨S_, .f32⟩
  | .hbm, ⟨7, _⟩ => ⟨S1024x2048, .f32⟩
  | .hbm, ⟨8, _⟩ => ⟨S4352x2048, .f32⟩
  | .hbm, ⟨9, _⟩ => ⟨S2048x1024, .f32⟩
  | .hbm, ⟨10, _⟩ => ⟨S1024x2048, .f32⟩
  | .hbm, ⟨11, _⟩ => ⟨S2048x1024, .f32⟩
  | .hbm, ⟨12, _⟩ => ⟨S2048x1024, .bf16⟩
  | .hbm, ⟨13, _⟩ => ⟨S1x2048x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel8.lean ====
abbrev S4352x2048 : Shape := ⟨2, ![4352, 2048]⟩
abbrev S4352x1024 : Shape := ⟨2, ![4352, 1024]⟩
abbrev S1x2048x1024 : Shape := ⟨3, ![1, 2048, 1024]⟩
abbrev S2176x1024 : Shape := ⟨2, ![2176, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x1024, .bf16⟩
  | .hbm, ⟨2, _⟩ => ⟨S1x2048x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond7 (i : grid0.Coords) : BitVec 1 :=
  let arg1 : BitVec 32 := BitVec.ofNat 32 (i 1).val
  let c1_i32_2 : BitVec 32 := 1#32
  let v6 : BitVec 1 := Scalar.cmpi .eq arg1 c1_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c1_i32 : BitVec 32 := 1#32
  let v1 : BitVec 1 := Scalar.cmpi .sle arg0 c1_i32
  let v2 : BitVec 1 := Scalar.andi v0 v1
  let c0_i32_0 : BitVec 32 := 0#32
  let v3 : BitVec 32 := Scalar.select v2 arg1 c0_i32_0
  let c0_i32_1 : BitVec 32 := 0#32
  let v4 : BitVec 1 := Scalar.cmpi .sge arg0 c0_i32_1
  let c1_i32_2 : BitVec 32 := 1#32
  let v5 : BitVec 1 := Scalar.cmpi .sle arg0 c1_i32_2
  let v6 : BitVec 1 := Scalar.andi v4 v5
  let c0_i32_3 : BitVec 32 := 0#32
  let v7 : BitVec 32 := Scalar.subi arg0 c0_i32_3
  let c0_i32_4 : BitVec 32 := 0#32
  let v8 : BitVec 32 := Scalar.select v6 v7 c0_i32_4
  let c0_i32_5 : BitVec 32 := 0#32
  ![v3.toNat, v8.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S4352x2048 : Shape := ⟨2, ![4352, 2048]⟩
abbrev S4352x1024 : Shape := ⟨2, ![4352, 1024]⟩
abbrev S_ : Shape := ⟨0, ![]⟩
abbrev S1024x2048 : Shape := ⟨2, ![1024, 2048]⟩
abbrev S2048x1024 : Shape := ⟨2, ![2048, 1024]⟩
abbrev S1x2048x1024 : Shape := ⟨3, ![1, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x1024, .bf16⟩
  | .hbm, ⟨2, _⟩ => ⟨S4352x1024, .f32⟩
  | .hbm, ⟨3, _⟩ => ⟨S_, .f32⟩
  | .hbm, ⟨4, _⟩ => ⟨S1024x2048, .f32⟩
  | .hbm, ⟨5, _⟩ => ⟨S4352x2048, .f32⟩
  | .hbm, ⟨6, _⟩ => ⟨S4352x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | .hbm, ⟨11, _⟩ => ⟨S1x2048x1024, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S4352x128 : Shape := ⟨2, ![4352, 128]⟩
abbrev S4352x1024 : Shape := ⟨2, ![4352, 1024]⟩
abbrev S128x1024 : Shape := ⟨2, ![128, 1024]⟩
abbrev S2176x128 : Shape := ⟨2, ![2176, 128]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x128, .bf16⟩
  | .hbm, ⟨1, _⟩ => ⟨S4352x1024, .bf16⟩
  | .hbm, ⟨2, _⟩ => ⟨S128x1024, .bf16⟩
  | .local _ .vmem, ⟨0, _⟩ => ⟨S2176x128, .bf16⟩
  | .local _ .vmem, ⟨1, _⟩ => ⟨S2176x128, .bf16⟩
  | .local _ .vmem, ⟨2, _⟩ => ⟨S2176x1024, .bf16⟩
  | .local _ .vmem, ⟨3, _⟩ => ⟨S2176x1024, .bf16⟩
  | .local _ .vmem, ⟨4, _⟩ => ⟨S128x1024, .bf16⟩
  | .local _ .vmem, ⟨5, _⟩ => ⟨S128x1024, .f32⟩
  | _, _ => ⟨S4352x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4352x128 : Shape := ⟨2, ![4352, 128]⟩
abbrev S4352x1024 : Shape := ⟨2, ![4352, 1024]⟩
abbrev S_ : Shape := ⟨0, ![]⟩
abbrev S1024x128 : Shape := ⟨2, ![1024, 128]⟩
abbrev S128x1024 : Shape := ⟨2, ![128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4352x128, .bf16⟩
  | .hbm, ⟨1, _⟩ => ⟨S4352x1024, .bf16⟩
  | .hbm, ⟨2, _⟩ => ⟨S4352x1024, .f32⟩
  | .hbm, ⟨3, _⟩ => ⟨S_, .f32⟩
  | .hbm, ⟨4, _⟩ => ⟨S1024x128, .f32⟩
  | .hbm, ⟨5, _⟩ => ⟨S4352x128, .f32⟩
  | .hbm, ⟨6, _⟩ => ⟨S4352x128, .f32⟩
  | .hbm, ⟨7, _⟩ => ⟨S128x1024, .f32⟩
  | .hbm, ⟨8, _⟩ => ⟨S1024x128, .f32⟩
  | .hbm, ⟨9, _⟩ => ⟨S128x1024, .f32⟩
  | .hbm, ⟨10, _⟩ => ⟨S128x1024, .bf16⟩
  | _, _ => ⟨S4352x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S_ : Shape := ⟨0, ![]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 20
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S8x1024, .f32⟩
  | .hbm, ⟨17, _⟩ => ⟨S4096x1024, .f32⟩
  | .hbm, ⟨18, _⟩ => ⟨S4096x1024, .bf16⟩
  | .hbm, ⟨19, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4x1024 : Shape := ⟨2, ![4, 1024]⟩
abbrev S8x1024 : Shape := ⟨2, ![8, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .bf16⟩
  | .hbm, ⟨79, _⟩ => ⟨S_, .f32⟩
  | .hbm, ⟨80, _⟩ => ⟨S4x1024, .f32⟩
  | .hbm, ⟨81, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Kernel10.lean ====
abbrev S4352x1024 : Shape := ⟨2, ![4352, 1024]⟩
abbrev S4352x2048 : Shape := ⟨2, ![4352, 2048]⟩
abbrev S4352x128 : Shape := ⟨2, ![4352, 128]⟩
abbrev S1024x8224 : Shape := ⟨2, ![1024, 8224]⟩
abbrev S4096x1024 : Shape := ⟨2, ![4096, 1024]⟩
abbrev S1x1024 : Shape := ⟨2, ![1, 1024]⟩
abbrev S_ : Shape := ⟨0, ![]⟩
abbrev S8x1024 : Shape := ⟨2, ![8, 1024]⟩
abbrev S8224x1024 : Shape := ⟨2, ![8224, 1024]⟩
abbrev S2056x1024 : Shape := ⟨2, ![2056, 1024]⟩
abbrev S2176x1024 : Shape := ⟨2, ![2176, 1024]⟩
abbrev S2048x1024 : Shape := ⟨2, ![2048, 1024]⟩
abbrev S1x2048x1024 : Shape := ⟨3, ![1, 2048, 1024]⟩
abbrev S4x2048x1024 : Shape := ⟨3, ![4, 2048, 1024]⟩
abbrev S128x1024 : Shape := ⟨2, ![128, 1024]⟩
abbrev S1x128x1024 : Shape := ⟨3, ![1, 128, 1024]⟩
abbrev S4x128x1024 : Shape := ⟨3, ![4, 128, 1024]⟩
abbrev S512x1024 : Shape := ⟨2, ![512, 1024]⟩
abbrev S512x2048 : Shape := ⟨2, ![512, 2048]⟩
abbrev S512x128 : Shape := ⟨2, ![512, 128]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 58
  | .vmem => 30
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x1024, .bf16⟩
  | .hbm, ⟨4, _⟩ => ⟨S4352x1024, .bf16⟩
  | .hbm, ⟨5, _⟩ => ⟨S4352x1024, .bf16⟩
  | .hbm, ⟨6, _⟩ => ⟨S4352x2048, .bf16⟩
  | .hbm, ⟨7, _⟩ => ⟨S4352x128, .bf16⟩
  | .hbm, ⟨8, _⟩ => ⟨S1024x8224, .f32⟩
  | .hbm, ⟨9, _⟩ => ⟨S4096x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S_, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S8x1024, .f32⟩
  | .hbm, ⟨20, _⟩ => ⟨S8224x1024, .f32⟩
  | .hbm, ⟨21, _⟩ => ⟨S8224x1024, .bf16⟩
  | .hbm, ⟨22, _⟩ => ⟨S2056x1024, .bf16⟩
  | .hbm, ⟨23, _⟩ => ⟨S_, .i32⟩
  | .hbm, ⟨24, _⟩ => ⟨S_, .bf16⟩
  | .hbm, ⟨25, _⟩ => ⟨S2176x1024, .bf16⟩
  | .hbm, ⟨26, _⟩ => ⟨S2056x1024, .bf16⟩
  | .hbm, ⟨27, _⟩ => ⟨S_, .i32⟩
  | .hbm, ⟨28, _⟩ => ⟨S_, .bf16⟩
  | .hbm, ⟨29, _⟩ => ⟨S2176x1024, .bf16⟩
  | .hbm, ⟨30, _⟩ => ⟨S2056x1024, .bf16⟩
  | .hbm, ⟨31, _⟩ => ⟨S_, .i32⟩
  | .hbm, ⟨32, _⟩ => ⟨S_, .bf16⟩
  | .hbm, ⟨33, _⟩ => ⟨S2176x1024, .bf16⟩
  | .hbm, ⟨34, _⟩ => ⟨S2056x1024, .bf16⟩
  | .hbm, ⟨35, _⟩ => ⟨S_, .i32⟩
  | .hbm, ⟨36, _⟩ => ⟨S_, .bf16⟩
  | .hbm, ⟨37, _⟩ => ⟨S2176x1024, .bf16⟩
  | .hbm, ⟨38, _⟩ => ⟨S2048x1024, .bf16⟩
  | .hbm, ⟨39, _⟩ => ⟨S2048x1024, .bf16⟩
  | .hbm, ⟨40, _⟩ => ⟨S2048x1024, .bf16⟩
  | .hbm, ⟨41, _⟩ => ⟨S2048x1024, .bf16⟩
  | .hbm, ⟨42, _⟩ => ⟨S1x2048x1024, .bf16⟩
  | .hbm, ⟨43, _⟩ => ⟨S1x2048x1024, .bf16⟩
  | .hbm, ⟨44, _⟩ => ⟨S1x2048x1024, .bf16⟩
  | .hbm, ⟨45, _⟩ => ⟨S1x2048x1024, .bf16⟩
  | .hbm, ⟨46, _⟩ => ⟨S4x2048x1024, .bf16⟩
  | .hbm, ⟨47, _⟩ => ⟨S128x1024, .bf16⟩
  | .hbm, ⟨48, _⟩ => ⟨S128x1024, .bf16⟩
  | .hbm, ⟨49, _⟩ => ⟨S128x1024, .bf16⟩
  | .hbm, ⟨50, _⟩ => ⟨S128x1024, .bf16⟩
  | .hbm, ⟨51, _⟩ => ⟨S1x128x1024, .bf16⟩
  | .hbm, ⟨52, _⟩ => ⟨S1x128x1024, .bf16⟩
  | .hbm, ⟨53, _⟩ => ⟨S1x128x1024, .bf16⟩
  | .hbm, ⟨54, _⟩ => ⟨S1x128x1024, .bf16⟩
  | .hbm, ⟨55, _⟩ => ⟨S4x128x1024, .bf16⟩
  | .hbm, ⟨56, _⟩ => ⟨S4096x1024, .f32⟩
  | .hbm, ⟨57, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | .local _ .vmem, ⟨14, _⟩ => ⟨S512x128, .bf16⟩
  | .local _ .vmem, ⟨15, _⟩ => ⟨S512x128, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x128x1024, .bf16⟩
  | .local _ .vmem, ⟨19, _⟩ => ⟨S1x128x1024, .bf16⟩
  | .local _ .vmem, ⟨20, _⟩ => ⟨S1x128x1024, .bf16⟩
  | .local _ .vmem, ⟨21, _⟩ => ⟨S512x1024, .f32⟩
  | .local _ .vmem, ⟨22, _⟩ => ⟨S512x1024, .f32⟩
  | .local _ .vmem, ⟨23, _⟩ => ⟨S8x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S8x1024, .f32⟩
  | .local _ .vmem, ⟨29, _⟩ => ⟨S4096x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_call0_v0 : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_call1_v0 : Ref sig .tc := ⟨.hbm, 28, rfl⟩
abbrev main_v9 : Ref sig .tc := ⟨.hbm, 29, rfl⟩
abbrev main_v10 : Ref sig .tc := ⟨.hbm, 30, rfl⟩
abbrev main_c_2 : Ref sig .tc := ⟨.hbm, 31, rfl⟩
abbrev main_call2_v0 : Ref sig .tc := ⟨.hbm, 32, rfl⟩
abbrev main_v11 : Ref sig .tc := ⟨.hbm, 33, rfl⟩
abbrev main_v12 : Ref sig .tc := ⟨.hbm, 34, rfl⟩
abbrev main_c_3 : Ref sig .tc := ⟨.hbm, 35, rfl⟩
abbrev main_call3_v0 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32_0 : Ref sig .tc := ⟨.hbm, 56, rfl⟩
abbrev main_v32_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond2 (i : grid0.Coords) : BitVec 1 :=
  let arg0 : BitVec 32 := BitVec.ofNat 32 (i 0).val
  let c0_i32_2 : BitVec 32 := 0#32
  let v7 : BitVec 1 := Scalar.cmpi .eq arg0 c0_i32_2
  let v8 : BitVec 32 := Scalar.extui v7
  let c0_i32_3 : BitVec 32 := 0#32
  let v9 : BitVec 1 := Scalar.cmpi .ne v8 c0_i32_3
  v9

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v29 : Index := Scalar.indexCast v1
  let c0_15 : Index := 0#32
  ![v29.toNat, 0]
def k0_cond3 (i : grid0.Coords) : BitVec 1 :=
  let arg0 : BitVec 32 := BitVec.ofNat 32 (i 0).val
  let c0_i32_4 : BitVec 32 := 0#32
  let v10 : BitVec 1 := Scalar.cmpi .eq arg0 c0_i32_4
  let v11 : BitVec 32 := Scalar.extui v10
  let c0_i32_5 : BitVec 32 := 0#32
  let v12 : BitVec 1 := Scalar.cmpi .ne v11 c0_i32_5
  v12

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v34 : Index := Scalar.indexCast v1
  let c0_20 : Index := 0#32
  ![v34.toNat, 0]
def k0_cond4 (i : grid0.Coords) : BitVec 1 :=
  let arg0 : BitVec 32 := BitVec.ofNat 32 (i 0).val
  let c1_i32 : BitVec 32 := 1#32
  let v13 : BitVec 1 := Scalar.cmpi .eq arg0 c1_i32
  let v14 : BitVec 32 := Scalar.extui v13
  let c0_i32_6 : BitVec 32 := 0#32
  let v15 : BitVec 1 := Scalar.cmpi .ne v14 c0_i32_6
  v15

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v39 : Index := Scalar.indexCast v1
  let c0_24 : Index := 0#32
  ![v39.toNat, 0]
def k0_cond5 (i : grid0.Coords) : BitVec 1 :=
  let arg0 : BitVec 32 := BitVec.ofNat 32 (i 0).val
  let c2_i32 : BitVec 32 := 2#32
  let v16 : BitVec 1 := Scalar.cmpi .eq arg0 c2_i32
  let v17 : BitVec 32 := Scalar.extui v16
  let c0_i32_7 : BitVec 32 := 0#32
  let v18 : BitVec 1 := Scalar.cmpi .ne v17 c0_i32_7
  v18

def k0_off4 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v39 : Index := Scalar.indexCast v1
  let c0_24 : Index := 0#32
  ![v39.toNat, 0]
def k0_cond6 (i : grid0.Coords) : BitVec 1 :=
  let arg0 : BitVec 32 := BitVec.ofNat 32 (i 0).val
  let c3_i32 : BitVec 32 := 3#32
  let v19 : BitVec 1 := Scalar.cmpi .eq arg0 c3_i32
  let v20 : BitVec 32 := Scalar.extui v19
  let c0_i32_8 : BitVec 32 := 0#32
  let v21 : BitVec 1 := Scalar.cmpi .ne v20 c0_i32_8
  v21

def k0_off5 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v39 : Index := Scalar.indexCast v1
  let c0_24 : Index := 0#32
  ![v39.toNat, 0]
def k0_cond7 (i : grid0.Coords) : BitVec 1 :=
  let arg0 : BitVec 32 := BitVec.ofNat 32 (i 0).val
  let c3_i32_9 : BitVec 32 := 3#32
  let v22 : BitVec 1 := Scalar.cmpi .eq arg0 c3_i32_9
  let v23 : BitVec 32 := Scalar.extui v22
  let c0_i32_10 : BitVec 32 := 0#32
  let v24 : BitVec 1 := Scalar.cmpi .ne v23 c0_i32_10
  v24

def k0_off6 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v25 : Index := Scalar.indexCast v1
  let c0 : Index := 0#32
  ![v25.toNat, 0]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let arg0 : BitVec 32 := BitVec.ofNat 32 (i 0).val
  let c0_i32_0 : BitVec 32 := 0#32
  let v3 : BitVec 1 := Scalar.cmpi .eq arg0 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.addi arg1 c0_i32_0
  let c0_i32_1 : BitVec 32 := 0#32
  let v2 : BitVec 32 := Scalar.select v0 v1 c0_i32_1
  let c0_i32_2 : BitVec 32 := 0#32
  let c0_i32_3 : BitVec 32 := 0#32
  ![v2.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.addi arg1 c0_i32_0
  let c0_i32_1 : BitVec 32 := 0#32
  let v2 : BitVec 32 := Scalar.select v0 v1 c0_i32_1
  let c0_i32_2 : BitVec 32 := 0#32
  let c0_i32_3 : BitVec 32 := 0#32
  ![v2.toNat, c0_i32_2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.addi arg1 c0_i32
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.addi arg1 c0_i32
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.addi arg1 c0_i32
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.addi arg1 c0_i32
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.addi arg1 c0_i32
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.addi arg1 c0_i32_0
  let c0_i32_1 : BitVec 32 := 0#32
  let v2 : BitVec 32 := Scalar.select v0 v1 c0_i32_1
  let c0_i32_2 : BitVec 32 := 0#32
  let c0_i32_3 : BitVec 32 := 0#32
  ![v2.toNat, c0_i32_2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== Reference10Ideal.lean ====
abbrev S4352x1024 : Shape := ⟨2, ![4352, 1024]⟩
abbrev S4352x2048 : Shape := ⟨2, ![4352, 2048]⟩
abbrev S4352x128 : Shape := ⟨2, ![4352, 128]⟩
abbrev S1024x8224 : Shape := ⟨2, ![1024, 8224]⟩
abbrev S4096x1024 : Shape := ⟨2, ![4096, 1024]⟩
abbrev S1x1024 : Shape := ⟨2, ![1, 1024]⟩
abbrev S4352x32 : Shape := ⟨2, ![4352, 32]⟩
abbrev S4352x8224 : Shape := ⟨2, ![4352, 8224]⟩
abbrev S4096x8224 : Shape := ⟨2, ![4096, 8224]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x1024, .bf16⟩
  | .hbm, ⟨4, _⟩ => ⟨S4352x1024, .bf16⟩
  | .hbm, ⟨5, _⟩ => ⟨S4352x1024, .bf16⟩
  | .hbm, ⟨6, _⟩ => ⟨S4352x2048, .bf16⟩
  | .hbm, ⟨7, _⟩ => ⟨S4352x128, .bf16⟩
  | .hbm, ⟨8, _⟩ => ⟨S1024x8224, .f32⟩
  | .hbm, ⟨9, _⟩ => ⟨S4096x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4352x32, .bf16⟩
  | .hbm, ⟨15, _⟩ => ⟨S4352x8224, .bf16⟩
  | .hbm, ⟨16, _⟩ => ⟨S4096x8224, .bf16⟩
  | .hbm, ⟨17, _⟩ => ⟨S4096x8224, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x8224, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S5x1024, .f32⟩
  | .hbm, ⟨81, _⟩ => ⟨S8x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== Kernel5.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S4096x4x704 : Shape := ⟨3, ![4096, 4, 704]⟩
abbrev S_ : Shape := ⟨0, ![]⟩
abbrev S4096x4x768 : Shape := ⟨3, ![4096, 4, 768]⟩
abbrev S4096x3072 : Shape := ⟨2, ![4096, 3072]⟩
abbrev S8x1024 : Shape := ⟨2, ![8, 1024]⟩
abbrev S4x704x1024 : Shape := ⟨3, ![4, 704, 1024]⟩
abbrev S4x768x1024 : Shape := ⟨3, ![4, 768, 1024]⟩
abbrev S3072x1024 : Shape := ⟨2, ![3072, 1024]⟩
abbrev S512x3072 : Shape := ⟨2, ![512, 3072]⟩
abbrev S512x1024 : Shape := ⟨2, ![512, 1024]⟩
abbrev S128x3072 : Shape := ⟨2, ![128, 3072]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 23
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x4x704, .bf16⟩
  | .hbm, ⟨7, _⟩ => ⟨S_, .i32⟩
  | .hbm, ⟨8, _⟩ => ⟨S_, .bf16⟩
  | .hbm, ⟨9, _⟩ => ⟨S4096x4x768, .bf16⟩
  | .hbm, ⟨10, _⟩ => ⟨S4096x3072, .bf16⟩
  | .hbm, ⟨11, _⟩ => ⟨S_, .f32⟩
  | .hbm, ⟨12, _⟩ => ⟨S1x1024, .f32⟩
  | .hbm, ⟨13, _⟩ => ⟨S8x1024, .f32⟩
  | .hbm, ⟨14, _⟩ => ⟨S4x704x1024, .f32⟩
  | .hbm, ⟨15, _⟩ => ⟨S_, .i32⟩
  | .hbm, ⟨16, _⟩ => ⟨S_, .f32⟩
  | .hbm, ⟨17, _⟩ => ⟨S4x768x1024, .f32⟩
  | .hbm, ⟨18, _⟩ => ⟨S4x768x1024, .bf16⟩
  | .hbm, ⟨19, _⟩ => ⟨S3072x1024, .bf16⟩
  | .hbm, ⟨20, _⟩ => ⟨S4096x1024, .f32⟩
  | .hbm, ⟨21, _⟩ => ⟨S4096x1024, .bf16⟩
  | .hbm, ⟨22, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 115
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x2816, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S4096x1, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S1024, .f32⟩
  | .hbm, ⟨104, _⟩ => ⟨S1x1024, .f32⟩
  | .hbm, ⟨105, _⟩ => ⟨S_, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S1x1024, .f32⟩
  | .hbm, ⟨110, _⟩ => ⟨S1x1024, .f32⟩
  | .hbm, ⟨111, _⟩ => ⟨S4096x1024, .bf16⟩
  | .hbm, ⟨112, _⟩ => ⟨S_, .f32⟩
  | .hbm, ⟨113, _⟩ => ⟨S5x1024, .f32⟩
  | .hbm, ⟨114, _⟩ => ⟨S8x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_15 : Ref sig .tc := ⟨.hbm, 86, rfl⟩
abbrev main_v64 : Ref sig .tc := ⟨.hbm, 87, rfl⟩
abbrev main_v65 : Ref sig .tc := ⟨.hbm, 88, rfl⟩
abbrev main_cst_16 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_v78 : Ref sig .tc := ⟨.hbm, 104, rfl⟩
abbrev main_cst_19 : Ref sig .tc := ⟨.hbm, 105, rfl⟩
abbrev main_v79 : Ref sig .tc := ⟨.hbm, 106, rfl⟩
abbrev main_v80 : Ref sig .tc := ⟨.hbm, 107, rfl⟩
abbrev main_cst_20 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_21 : Ref sig .tc := ⟨.hbm, 112, rfl⟩
abbrev main_v84 : Ref sig .tc := ⟨.hbm, 113, rfl⟩
abbrev main_v85 : Ref sig .tc := ⟨.hbm, 114, rfl⟩

abbrev nD : Nat := 1
abbrev τ : Topo := Topo.v7x

variable {F : FTy → Type} [FloatOps F]
-- ==== Proof.Kit.lean ====
/-
  Facts shared by the value proofs, about extended reals and about nothing else: which of them are real numbers, the two
  ways of writing the gradient of SwiGLU's gate, and a sum over the padded width of the hidden axis.
-/
module

public import Idealize.ShloMosaic.PureOps.Ideal
public import Idealize.ShloMosaic.PureOps.Ideal.Laws
public import Idealize.ShloMosaic.Lib.IdealHost
public import Idealize.ShloMosaic.Lib.KernelVsHost
public import Idealize.ShloMosaic.Lib.MatmulPlain
public import Idealize.ShloMosaic.Lib.ValueIdx
public import Idealize.ShloMosaic.Lib.Pipeline.Value

@[expose] public section

noncomputable section

namespace Cert.Kit

open Idealize.ShloMosaic
open scoped BigOperators

/-! ## Real numbers among the extended reals -/

/-- `x` is a real number: neither infinity. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem isReal_zero : IsReal 0 := ⟨0, rfl⟩

theorem isReal_sum {ι : Type} (s : Finset ι) (f : ι → EReal) (h : ∀ i, IsReal (f i)) : IsReal (∑ i ∈ s, f i) := by
  classical
  induction s using Finset.induction_on with
  | empty => rw [Finset.sum_empty]; exact isReal_zero
  | insert a s ha ih => rw [Finset.sum_insert ha]; exact (h a).add ih

theorem isReal_logistic {x : EReal} (hx : IsReal x) : IsReal (Ideal.logistic x) := by
  obtain ⟨a, rfl⟩ := hx
  exact ⟨_, Ideal.logistic_coe a⟩

/-- The comparison the finiteness condition prints, `|x| < ∞`, says that `x` is a real number. -/
theorem isReal_of_lt {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- The gradient of `silu` in factored form, as a kernel computes it, and as the sum a derivative taken operation by
    operation leaves: equal where gate and incoming gradient are real (at infinities they are not). -/
theorem dsilu_eq {x g : EReal} (hx : IsReal x) (hg : IsReal g) :
    x * (Ideal.logistic g * (1 + g * (1 - Ideal.logistic g)))
      = x * Ideal.logistic g + g * x * (Ideal.logistic g * (1 - Ideal.logistic g)) := by
  obtain ⟨s, hs⟩ := isReal_logistic hg
  obtain ⟨a, rfl⟩ := hx; obtain ⟨b, rfl⟩ := hg
  rw [hs, ← EReal.coe_one]
  simp only [← EReal.coe_mul, ← EReal.coe_add, ← EReal.coe_sub]
  congr 1; ring

/-! ## The hidden axis: four segments of 704 columns, each padded with zeros to 768 -/

/-- Column `h` of the padded axis: the true column it holds, or zero in the padding. -/
def pick (x : Fin 2816 → EReal) (h : Fin 3072) : EReal :=
  if hh : h.val % 768 < 704 then x ⟨704 * (h.val / 768) + h.val % 768, by have := h.isLt; omega⟩ else 0

theorem pick_pos (x : Fin 2816 → EReal) (h : Fin 3072) (hh : h.val % 768 < 704) :
    pick x h = x ⟨704 * (h.val / 768) + h.val % 768, by have := h.isLt; omega⟩ := dif_pos hh
theorem pick_neg (x : Fin 2816 → EReal) (h : Fin 3072) (hh : ¬h.val % 768 < 704) : pick x h = 0 := dif_neg hh

theorem pick_mul (x y : Fin 2816 → EReal) (h : Fin 3072) : pick x h * pick y h = pick (fun c => x c * y c) h := by
  unfold pick; split <;> simp

/-- A sum over the padded axis, segment by segment, is the sum over the true one. -/
theorem sum_pick (x : Fin 2816 → EReal) :
    ∑ j : Fin 4, ∑ k : Fin 768, pick x ⟨768 * j.val + k.val, by omega⟩ = ∑ c : Fin 2816, x c := by
  have e1 : ∀ j : Fin 4, ∑ k : Fin 768, pick x ⟨768 * j.val + k.val, by omega⟩
      = ∑ k : Fin 704, x ⟨704 * j.val + k.val, by omega⟩ := fun j => by
    refine (Fin.sum_univ_add (a := 704) (b := 64) fun k : Fin 768 => pick x ⟨768 * j.val + k.val, by omega⟩).trans ?_
    have z : ∑ i : Fin 64, pick x ⟨768 * j.val + (Fin.natAdd 704 i).val, by have := i.isLt; have := j.isLt; simp only [Fin.natAdd]; omega⟩ = 0 :=
      Finset.sum_eq_zero fun i _ => pick_neg _ _ (by
        have := i.isLt; show ¬(768 * j.val + (704 + i.val)) % 768 < 704; omega)
    refine (congrArg₂ (· + ·) (Finset.sum_congr rfl fun k _ => ?_) z).trans (add_zero _)
    have hk := k.isLt
    have hm : (768 * j.val + k.val) % 768 < 704 := by omega
    refine (pick_pos x ⟨768 * j.val + k.val, by omega⟩ hm).trans (congrArg x (Fin.ext ?_))
    show 704 * ((768 * j.val + k.val) / 768) + (768 * j.val + k.val) % 768 = 704 * j.val + k.val
    omega
  rw [Finset.sum_congr rfl fun j _ => e1 j, ← Fintype.sum_prod_type' (f := fun (j : Fin 4) (k : Fin 704) => x ⟨704 * j.val + k.val, by omega⟩)]
  refine Fintype.sum_equiv (finProdFinEquiv (m := 4) (n := 704)) _ _ fun p => congrArg x (Fin.ext ?_)
  show 704 * p.1.val + p.2.val = p.2.val + 704 * p.1.val
  omega

end Cert.Kit

end
-- ==== Proof.SwigluBlock.lean ====
/-
  ONE GRID POINT of the feed-forward backward kernel, at the ideal instance: what its body leaves in the three output
  blocks, as functions of the six input blocks. The body treats the 1024 rows in four stretches of 256; each stretch's
  two stores and its part of the input gradient are the same three functions of the rows they cover.
-/
module

public import proofs.«01_k».proof.Proof.Kit
public import proofs.«01_k».proof.Proof.Gen.KernelIdeal.Value

@[expose] public section

set_option maxRecDepth 16384

noncomputable section

namespace Cert.Swiglu

open Cert.KernelIdeal Cert.KernelIdeal.Gen Idealize.ShloMosaic Idealize.ShloMosaic.TcCoe
open Idealize.ShloMosaic.ValueIdx
open scoped BigOperators

/-! ## The payloads at an index -/

theorem zero_word : (constant S256x768 .f32 0x00000000#32 : FVec Ideal S256x768 .f32) = fun _ => 0 :=
  funext fun _ => Ideal.ofBits_zero_f32
theorem zero_word' : (constant S256x1024 .f32 0x00000000#32 : FVec Ideal S256x1024 .f32) = fun _ => 0 :=
  funext fun _ => Ideal.ofBits_zero_f32

/-- A stretch's incoming gradient times the transposed down projection. -/
theorem nt_apply (l : FVec Ideal S256x1024 .bf16) (w : FVec Ideal S768x1024 .bf16) (r : Fin 256) (k : Fin 768) :
    matmul dot_S256x1024_S768x1024_S256x768_1_1_0_0_n_n none l w (constant S256x768 .f32 0x00000000#32) (ix2 r k)
      = ∑ d : Fin 1024, l (ix2 r d) * w (ix2 k d) := by
  rw [zero_word]
  exact (Ideal.matmul_transposedRhs_apply none l w (fun _ => 0) r k).trans (zero_add _)

/-- A product with one of the transposed slabs. -/
theorem nn_apply (l : FVec Ideal S256x768 .bf16) (w : FVec Ideal S768x1024 .bf16) (r : Fin 256) (d : Fin 1024) :
    matmul dot_S256x768_S768x1024_S256x1024_1_0_0_1_n_n none l w (constant S256x1024 .f32 0x00000000#32) (ix2 r d)
      = ∑ k : Fin 768, l (ix2 r k) * w (ix2 k d) := by
  rw [zero_word']
  exact (Ideal.matmul_plain_apply none l w (fun _ => 0) r d).trans (zero_add _)

/-- The gate's gradient, element by element. -/
def gateF (d u g : EReal) : EReal := d * u * (Ideal.logistic g * (1 + g * (1 - Ideal.logistic g)))
/-- The up projection's gradient, element by element. -/
def upF (d g : EReal) : EReal := d * (g * Ideal.logistic g)

theorem gateF_words (d u g : EReal) :
    d * u * (Ideal.logistic g * (Ideal.ofBits .f32 0x3F800000#32 + g * (Ideal.ofBits .f32 0x3F800000#32 - Ideal.logistic g)))
      = gateF d u g := by rw [Ideal.ofBits_one_f32]; rfl

theorem pay12_apply (v0 : Vec Ideal S768x1024 .bf16) (v6 : Vec Ideal S256x1024 .bf16) (v14 v17 : Vec Ideal S256x768 .bf16) (z : S256x768.Idx) :
    k0_pay12 v0 v6 v14 v17 z = gateF (k0_pay6 v0 v6 z) (v17 z) (v14 z) := by
  unfold k0_pay12 k0_pay11 k0_pay10
  simp only [shapeCast_self]
  exact gateF_words _ _ _
theorem pay18_apply (v9 : FVec Ideal S256x768 .f32) (v38 v41 : Vec Ideal S256x768 .bf16) (z : S256x768.Idx) :
    k0_pay18 v9 v38 v41 z = gateF (v9 z) (v41 z) (v38 z) := by
  unfold k0_pay18 k0_pay17 k0_pay16
  simp only [shapeCast_self]
  exact gateF_words _ _ _
theorem pay23_apply (v11 : FVec Ideal S256x768 .f32) (v62 v65 : Vec Ideal S256x768 .bf16) (z : S256x768.Idx) :
    k0_pay23 v11 (k0_pay21 v62) v65 z = gateF (v11 z) (v65 z) (v62 z) := by
  unfold k0_pay23 k0_pay22 k0_pay21
  simp only [shapeCast_self]
  exact gateF_words _ _ _
theorem pay28_apply (v13 : FVec Ideal S256x768 .f32) (v86 v89 : Vec Ideal S256x768 .bf16) (z : S256x768.Idx) :
    k0_pay28 v13 v86 v89 z = gateF (v13 z) (v89 z) (v86 z) := by
  unfold k0_pay28 k0_pay27 k0_pay26
  simp only [shapeCast_self]
  exact gateF_words _ _ _

theorem pay14_apply (v0 : Vec Ideal S768x1024 .bf16) (v6 : Vec Ideal S256x1024 .bf16) (v14 : Vec Ideal S256x768 .bf16) (z : S256x768.Idx) :
    k0_pay14 (k0_pay13 v0 v6 v14) z = upF (k0_pay6 v0 v6 z) (v14 z) := by
  unfold k0_pay14 k0_pay13 k0_pay11 k0_pay10
  simp only [shapeCast_self]
  rfl
theorem pay19_apply (v9 : FVec Ideal S256x768 .f32) (v38 : Vec Ideal S256x768 .bf16) (z : S256x768.Idx) :
    k0_pay19 v9 v38 z = upF (v9 z) (v38 z) := by
  unfold k0_pay19 k0_pay17 k0_pay16
  simp only [shapeCast_self]
  rfl
theorem pay24_apply (v11 : FVec Ideal S256x768 .f32) (v62 : Vec Ideal S256x768 .bf16) (z : S256x768.Idx) :
    k0_pay24 v11 (k0_pay21 v62) z = upF (v11 z) (v62 z) := by
  unfold k0_pay24 k0_pay22 k0_pay21
  simp only [shapeCast_self]
  rfl
theorem pay29_apply (v13 : FVec Ideal S256x768 .f32) (v86 : Vec Ideal S256x768 .bf16) (z : S256x768.Idx) :
    k0_pay29 v13 v86 z = upF (v13 z) (v86 z) := by
  unfold k0_pay29 k0_pay27 k0_pay26
  simp only [shapeCast_self]
  rfl

theorem pay6_apply (v0 : Vec Ideal S768x1024 .bf16) (v6 : Vec Ideal S256x1024 .bf16) (r : Fin 256) (k : Fin 768) :
    k0_pay6 v0 v6 (ix2 r k) = ∑ d : Fin 1024, v6 (ix2 r d) * v0 (ix2 k d) := by
  unfold k0_pay6 k0_pay3; simp only [shapeCast_self]; exact nt_apply _ _ r k
theorem pay7_apply (v0 : Vec Ideal S768x1024 .bf16) (v6 : Vec Ideal S256x1024 .bf16) (r : Fin 256) (k : Fin 768) :
    k0_pay7 v0 v6 (ix2 r k) = ∑ d : Fin 1024, v6 (ix2 r d) * v0 (ix2 k d) := pay6_apply v0 v6 r k
theorem pay8_apply (v0 : Vec Ideal S768x1024 .bf16) (v6 : Vec Ideal S256x1024 .bf16) (r : Fin 256) (k : Fin 768) :
    k0_pay8 v0 v6 (ix2 r k) = ∑ d : Fin 1024, v6 (ix2 r d) * v0 (ix2 k d) := pay6_apply v0 v6 r k
theorem pay9_apply (v0 : Vec Ideal S768x1024 .bf16) (v6 : Vec Ideal S256x1024 .bf16) (r : Fin 256) (k : Fin 768) :
    k0_pay9 v0 v6 (ix2 r k) = ∑ d : Fin 1024, v6 (ix2 r d) * v0 (ix2 k d) := pay6_apply v0 v6 r k

/-- A slab without its leading axis. -/
theorem pay4_apply (v2 : Vec Ideal S1x768x1024 .bf16) (k : Fin 768) (d : Fin 1024) :
    k0_pay4 v2 (ix2 k d) = v2 (ix3 (0 : Fin 1) k d) := by
  unfold k0_pay4
  exact shapeCast_apply v2 shapeCasts_S1x768x1024_S768x1024 (ix2 k d) (ix3 (0 : Fin 1) k d) (by
    rewrite [Shape.rowMajor_val_three, Shape.rowMajor_val_two]
    show (0 * 768 + k.val) * 1024 + d.val = k.val * 1024 + d.val
    omega)
theorem pay5_apply (v2 : Vec Ideal S1x768x1024 .bf16) (k : Fin 768) (d : Fin 1024) :
    k0_pay5 v2 (ix2 k d) = v2 (ix3 (0 : Fin 1) k d) := pay4_apply v2 k d

/-! ## The block functions -/

section Block

variable (x0 : Vec Ideal S1024x1024 .bf16) (x1 : Vec Ideal S768x1024 .bf16) (x2 x3 : Vec Ideal S1024x768 .bf16)
  (x4 x5 : Vec Ideal S1x768x1024 .bf16)

/-- The activation's gradient in the block. -/
def dactB (y : S1024x768.Idx) : EReal := ∑ d : Fin 1024, x0 (ix2 (y 0) d) * x1 (ix2 (y 1) d)
/-- What the body leaves in the gate gradient's block. -/
def dgateB (y : S1024x768.Idx) : EReal := gateF (dactB x0 x1 y) (x3 y) (x2 y)
/-- What it leaves in the up projection gradient's block. -/
def dupB (y : S1024x768.Idx) : EReal := upF (dactB x0 x1 y) (x2 y)
/-- What it adds to the input gradient's block. -/
def partB (y : S1024x1024.Idx) : EReal :=
  ∑ k : Fin 768, dgateB x0 x1 x2 x3 (ix2 (y 0) k) * x4 (ix3 (0 : Fin 1) k (y 1))
    + ∑ k : Fin 768, dupB x0 x1 x2 (ix2 (y 0) k) * x5 (ix3 (0 : Fin 1) k (y 1))

/-- The stretch of rows from `o`, of a block of 1024 columns and of one of 768. -/
abbrev rA (o : ℕ) (h : ∀ a, (![o, 0] : Fin 2 → ℕ) a + S256x1024.size a ≤ S1024x1024.size a) : Rect S1024x1024 :=
  Rect.unit (s := S1024x1024) ![o, 0] S256x1024.size h
abbrev rB (o : ℕ) (h : ∀ a, (![o, 0] : Fin 2 → ℕ) a + S256x768.size a ≤ S1024x768.size a) : Rect S1024x768 :=
  Rect.unit (s := S1024x768) ![o, 0] S256x768.size h

variable {o : ℕ} (hA : ∀ a, (![o, 0] : Fin 2 → ℕ) a + S256x1024.size a ≤ S1024x1024.size a)
  (hB : ∀ a, (![o, 0] : Fin 2 → ℕ) a + S256x768.size a ≤ S1024x768.size a)

/-- The activation's gradient of a stretch is the block's at its rows. -/
theorem dact_piece (da : FVec Ideal S256x768 .f32)
    (hda : ∀ (r : Fin 256) (k : Fin 768), da (ix2 r k) = ∑ d : Fin 1024, View.ld x0 (rA o hA) (ix2 r d) * x1 (ix2 k d))
    (z : S256x768.Idx) : da z = dactB x0 x1 ((rB o hB).idx z) := by
  refine (congrArg da (eq_ix2 z)).trans ((hda (z 0) (z 1)).trans ?_)
  refine Finset.sum_congr rfl fun d _ => congrArg₂ (· * ·) (congrArg x0 (funext fun a => Fin.ext ?_)) (congrArg x1 (funext fun a => Fin.ext ?_))
  · match a with
    | ⟨0, _⟩ => rfl
    | ⟨1, _⟩ => show 0 + 1 * d.val = d.val; omega
  · match a with
    | ⟨0, _⟩ => show (z 1).val = 0 + 1 * (z 1).val; omega
    | ⟨1, _⟩ => rfl

theorem gate_piece (da : FVec Ideal S256x768 .f32)
    (hda : ∀ (r : Fin 256) (k : Fin 768), da (ix2 r k) = ∑ d : Fin 1024, View.ld x0 (rA o hA) (ix2 r d) * x1 (ix2 k d))
    (z : S256x768.Idx) :
    gateF (da z) (View.ld x3 (rB o hB) z) (View.ld x2 (rB o hB) z) = dgateB x0 x1 x2 x3 ((rB o hB).idx z) := by
  rw [dact_piece x0 x1 hA hB da hda z]; rfl
theorem up_piece (da : FVec Ideal S256x768 .f32)
    (hda : ∀ (r : Fin 256) (k : Fin 768), da (ix2 r k) = ∑ d : Fin 1024, View.ld x0 (rA o hA) (ix2 r d) * x1 (ix2 k d))
    (z : S256x768.Idx) :
    upF (da z) (View.ld x2 (rB o hB) z) = dupB x0 x1 x2 ((rB o hB).idx z) := by
  rw [dact_piece x0 x1 hA hB da hda z]; rfl

/-- A stretch's part of the input gradient is the block's at its rows. -/
theorem part_piece (g u : FVec Ideal S256x768 .bf16) (hg : ∀ z, g z = dgateB x0 x1 x2 x3 ((rB o hB).idx z))
    (hu : ∀ z, u z = dupB x0 x1 x2 ((rB o hB).idx z)) (r : Fin 256) (d : Fin 1024) (n : Fin 1024) (hn : n.val = o + r.val) :
    matmul dot_S256x768_S768x1024_S256x1024_1_0_0_1_n_n none g (k0_pay4 x4) (constant S256x1024 .f32 0x00000000#32) (ix2 r d)
      + matmul dot_S256x768_S768x1024_S256x1024_1_0_0_1_n_n none u (k0_pay5 x5) (constant S256x1024 .f32 0x00000000#32) (ix2 r d)
      = partB x0 x1 x2 x3 x4 x5 (ix2 n d) := by
  rw [nn_apply, nn_apply]
  have hi : ∀ k : Fin 768, (rB o hB).idx (ix2 r k) = ix2 n k := fun k => funext fun a => Fin.ext (by
    match a with
    | ⟨0, _⟩ => show o + 1 * r.val = n.val; omega
    | ⟨1, _⟩ => show 0 + 1 * k.val = k.val; omega)
  refine congrArg₂ (· + ·) (Finset.sum_congr rfl fun k _ => ?_) (Finset.sum_congr rfl fun k _ => ?_)
  · rw [hg, hi, pay4_apply]
  · rw [hu, hi, pay5_apply]

/-! ## The stores of each stretch, as read by the run -/

theorem gate0 (z : S256x768.Idx) : k0_pay12 x1 (View.ld x0 (rA o hA)) (View.ld x2 (rB o hB)) (View.ld x3 (rB o hB)) z = dgateB x0 x1 x2 x3 ((rB o hB).idx z) :=
  (pay12_apply _ _ _ _ z).trans (gate_piece x0 x1 x2 x3 hA hB (k0_pay6 x1 (View.ld x0 (rA o hA))) (pay6_apply x1 (View.ld x0 (rA o hA))) z)
theorem up0 (z : S256x768.Idx) : k0_pay14 (k0_pay13 x1 (View.ld x0 (rA o hA)) (View.ld x2 (rB o hB))) z = dupB x0 x1 x2 ((rB o hB).idx z) :=
  (pay14_apply _ _ _ z).trans (up_piece x0 x1 x2 hA hB (k0_pay6 x1 (View.ld x0 (rA o hA))) (pay6_apply x1 (View.ld x0 (rA o hA))) z)
theorem gate1 (z : S256x768.Idx) : k0_pay18 (k0_pay7 x1 (View.ld x0 (rA o hA))) (View.ld x2 (rB o hB)) (View.ld x3 (rB o hB)) z = dgateB x0 x1 x2 x3 ((rB o hB).idx z) :=
  (pay18_apply _ _ _ z).trans (gate_piece x0 x1 x2 x3 hA hB (k0_pay7 x1 (View.ld x0 (rA o hA))) (pay7_apply x1 (View.ld x0 (rA o hA))) z)
theorem up1 (z : S256x768.Idx) : k0_pay19 (k0_pay7 x1 (View.ld x0 (rA o hA))) (View.ld x2 (rB o hB)) z = dupB x0 x1 x2 ((rB o hB).idx z) :=
  (pay19_apply _ _ z).trans (up_piece x0 x1 x2 hA hB (k0_pay7 x1 (View.ld x0 (rA o hA))) (pay7_apply x1 (View.ld x0 (rA o hA))) z)
theorem gate2 (z : S256x768.Idx) : k0_pay23 (k0_pay8 x1 (View.ld x0 (rA o hA))) (k0_pay21 (View.ld x2 (rB o hB))) (View.ld x3 (rB o hB)) z = dgateB x0 x1 x2 x3 ((rB o hB).idx z) :=
  (pay23_apply _ _ _ z).trans (gate_piece x0 x1 x2 x3 hA hB (k0_pay8 x1 (View.ld x0 (rA o hA))) (pay8_apply x1 (View.ld x0 (rA o hA))) z)
theorem up2 (z : S256x768.Idx) : k0_pay24 (k0_pay8 x1 (View.ld x0 (rA o hA))) (k0_pay21 (View.ld x2 (rB o hB))) z = dupB x0 x1 x2 ((rB o hB).idx z) :=
  (pay24_apply _ _ z).trans (up_piece x0 x1 x2 hA hB (k0_pay8 x1 (View.ld x0 (rA o hA))) (pay8_apply x1 (View.ld x0 (rA o hA))) z)
theorem gate3 (z : S256x768.Idx) : k0_pay28 (k0_pay9 x1 (View.ld x0 (rA o hA))) (View.ld x2 (rB o hB)) (View.ld x3 (rB o hB)) z = dgateB x0 x1 x2 x3 ((rB o hB).idx z) :=
  (pay28_apply _ _ _ z).trans (gate_piece x0 x1 x2 x3 hA hB (k0_pay9 x1 (View.ld x0 (rA o hA))) (pay9_apply x1 (View.ld x0 (rA o hA))) z)
theorem up3 (z : S256x768.Idx) : k0_pay29 (k0_pay9 x1 (View.ld x0 (rA o hA))) (View.ld x2 (rB o hB)) z = dupB x0 x1 x2 ((rB o hB).idx z) :=
  (pay29_apply _ _ z).trans (up_piece x0 x1 x2 hA hB (k0_pay9 x1 (View.ld x0 (rA o hA))) (pay9_apply x1 (View.ld x0 (rA o hA))) z)
theorem part0 (r : Fin 256) (d n : Fin 1024) (hn : n.val = o + r.val) :
    k0_pay15 (k0_pay4 x4) (k0_pay5 x5) (k0_pay12 x1 (View.ld x0 (rA o hA)) (View.ld x2 (rB o hB)) (View.ld x3 (rB o hB))) (k0_pay13 x1 (View.ld x0 (rA o hA)) (View.ld x2 (rB o hB))) (ix2 r d) = partB x0 x1 x2 x3 x4 x5 (ix2 n d) :=
  part_piece x0 x1 x2 x3 x4 x5 hB _ _ (gate0 x0 x1 x2 x3 hA hB) (up0 x0 x1 x2 hA hB) r d n hn
theorem part1 (r : Fin 256) (d n : Fin 1024) (hn : n.val = o + r.val) :
    k0_pay20 (k0_pay4 x4) (k0_pay5 x5) (k0_pay7 x1 (View.ld x0 (rA o hA))) (View.ld x2 (rB o hB)) (View.ld x3 (rB o hB)) (ix2 r d) = partB x0 x1 x2 x3 x4 x5 (ix2 n d) :=
  part_piece x0 x1 x2 x3 x4 x5 hB _ _ (gate1 x0 x1 x2 x3 hA hB) (up1 x0 x1 x2 hA hB) r d n hn
theorem part2 (r : Fin 256) (d n : Fin 1024) (hn : n.val = o + r.val) :
    k0_pay25 (k0_pay4 x4) (k0_pay5 x5) (k0_pay8 x1 (View.ld x0 (rA o hA))) (k0_pay21 (View.ld x2 (rB o hB))) (View.ld x3 (rB o hB)) (ix2 r d) = partB x0 x1 x2 x3 x4 x5 (ix2 n d) :=
  part_piece x0 x1 x2 x3 x4 x5 hB _ _ (gate2 x0 x1 x2 x3 hA hB) (up2 x0 x1 x2 hA hB) r d n hn

/-- Four stretches one below the other. -/
theorem rows_apply (G : S1024x1024.Idx → EReal) (w0 w1 w2 w3 : FVec Ideal S256x1024 .f32)
    (e0 : ∀ (r : Fin 256) (d n : Fin 1024), n.val = 0 + r.val → w0 (ix2 r d) = G (ix2 n d))
    (e1 : ∀ (r : Fin 256) (d n : Fin 1024), n.val = 256 + r.val → w1 (ix2 r d) = G (ix2 n d))
    (e2 : ∀ (r : Fin 256) (d n : Fin 1024), n.val = 512 + r.val → w2 (ix2 r d) = G (ix2 n d))
    (e3 : ∀ (r : Fin 256) (d n : Fin 1024), n.val = 768 + r.val → w3 (ix2 r d) = G (ix2 n d))
    (n d : Fin 1024) :
    concatenate S1024x1024 0 [⟨S256x1024, w0⟩, ⟨S256x1024, w1⟩, ⟨S256x1024, w2⟩, ⟨S256x1024, w3⟩]
      concatenates_S256x1024_S256x1024_S256x1024_S256x1024_S1024x1024_d0 (ix2 n d) = G (ix2 n d) := by
  have hoff : ∀ (r : Fin 256) (b : Fin 2), b ≠ (0 : Fin 2) → ((ix2 r d : S256x1024.Idx) b).val = ((ix2 n d : S1024x1024.Idx) b).val := fun r b hb => by
    match b, hb with
    | ⟨0, _⟩, hb => exact absurd rfl hb
    | ⟨1, _⟩, _ => rfl
  by_cases h1 : n.val < 256
  · refine (concatenate_apply_piece (t := S1024x1024) 0 [⟨S256x1024, w0⟩, ⟨S256x1024, w1⟩, ⟨S256x1024, w2⟩, ⟨S256x1024, w3⟩] concatenates_S256x1024_S256x1024_S256x1024_S256x1024_S1024x1024_d0 (ix2 n d) 0 (by show 0 < 4; omega) S256x1024 w0 rfl rfl 0 rfl
      (ix2 (⟨n.val, h1⟩ : Fin 256) d) (fun b hb => hoff _ b hb) (Nat.zero_add _)).trans (e0 _ d n (Nat.zero_add _).symm)
  by_cases h2 : n.val < 512
  · refine (concatenate_apply_piece (t := S1024x1024) 0 [⟨S256x1024, w0⟩, ⟨S256x1024, w1⟩, ⟨S256x1024, w2⟩, ⟨S256x1024, w3⟩] concatenates_S256x1024_S256x1024_S256x1024_S256x1024_S1024x1024_d0 (ix2 n d) 1 (by show 1 < 4; omega) S256x1024 w1 rfl rfl 256 rfl
      (ix2 (⟨n.val - 256, by omega⟩ : Fin 256) d) (fun b hb => hoff _ b hb) (show 256 + (n.val - 256) = n.val by omega)).trans (e1 _ d n (show n.val = 256 + (n.val - 256) by omega))
  by_cases h3 : n.val < 768
  · refine (concatenate_apply_piece (t := S1024x1024) 0 [⟨S256x1024, w0⟩, ⟨S256x1024, w1⟩, ⟨S256x1024, w2⟩, ⟨S256x1024, w3⟩] concatenates_S256x1024_S256x1024_S256x1024_S256x1024_S1024x1024_d0 (ix2 n d) 2 (by show 2 < 4; omega) S256x1024 w2 rfl rfl 512 rfl
      (ix2 (⟨n.val - 512, by omega⟩ : Fin 256) d) (fun b hb => hoff _ b hb) (show 512 + (n.val - 512) = n.val by omega)).trans (e2 _ d n (show n.val = 512 + (n.val - 512) by omega))
  · have hn := n.isLt
    refine (concatenate_apply_piece (t := S1024x1024) 0 [⟨S256x1024, w0⟩, ⟨S256x1024, w1⟩, ⟨S256x1024, w2⟩, ⟨S256x1024, w3⟩] concatenates_S256x1024_S256x1024_S256x1024_S256x1024_S1024x1024_d0 (ix2 n d) 3 (by show 3 < 4; omega) S256x1024 w3 rfl rfl 768 rfl
      (ix2 (⟨n.val - 768, by omega⟩ : Fin 256) d) (fun b hb => hoff _ b hb) (show 768 + (n.val - 768) = n.val by omega)).trans (e3 _ d n (show n.val = 768 + (n.val - 768) by omega))

/-- The block's part of the input gradient, from the four stretches. -/
theorem pay1_block (y : S1024x1024.Idx) :
    k0_pay1 (k0_pay4 x4) (k0_pay5 x5)
      (k0_pay15 (k0_pay4 x4) (k0_pay5 x5) (k0_pay12 x1 (View.ld x0 (rA 0 inb_S1024x1024_S256x1024_0_0)) (View.ld x2 (rB 0 inb_S1024x768_S256x768_0_0)) (View.ld x3 (rB 0 inb_S1024x768_S256x768_0_0))) (k0_pay13 x1 (View.ld x0 (rA 0 inb_S1024x1024_S256x1024_0_0)) (View.ld x2 (rB 0 inb_S1024x768_S256x768_0_0))))
      (k0_pay20 (k0_pay4 x4) (k0_pay5 x5) (k0_pay7 x1 (View.ld x0 (rA 256 inb_S1024x1024_S256x1024_256_0))) (View.ld x2 (rB 256 inb_S1024x768_S256x768_256_0)) (View.ld x3 (rB 256 inb_S1024x768_S256x768_256_0)))
      (k0_pay25 (k0_pay4 x4) (k0_pay5 x5) (k0_pay8 x1 (View.ld x0 (rA 512 inb_S1024x1024_S256x1024_512_0))) (k0_pay21 (View.ld x2 (rB 512 inb_S1024x768_S256x768_512_0))) (View.ld x3 (rB 512 inb_S1024x768_S256x768_512_0)))
      (k0_pay28 (k0_pay9 x1 (View.ld x0 (rA 768 inb_S1024x1024_S256x1024_768_0))) (View.ld x2 (rB 768 inb_S1024x768_S256x768_768_0)) (View.ld x3 (rB 768 inb_S1024x768_S256x768_768_0)))
      (k0_pay29 (k0_pay9 x1 (View.ld x0 (rA 768 inb_S1024x1024_S256x1024_768_0))) (View.ld x2 (rB 768 inb_S1024x768_S256x768_768_0))) y = partB x0 x1 x2 x3 x4 x5 y := by
  obtain ⟨n, d, rfl⟩ : ∃ (n d : Fin 1024), y = ix2 n d := ⟨y 0, y 1, eq_ix2 y⟩
  exact rows_apply (partB x0 x1 x2 x3 x4 x5) _ _ _ _
    (part0 x0 x1 x2 x3 x4 x5 inb_S1024x1024_S256x1024_0_0 inb_S1024x768_S256x768_0_0)
    (part1 x0 x1 x2 x3 x4 x5 inb_S1024x1024_S256x1024_256_0 inb_S1024x768_S256x768_256_0)
    (part2 x0 x1 x2 x3 x4 x5 inb_S1024x1024_S256x1024_512_0 inb_S1024x768_S256x768_512_0)
    (part_piece x0 x1 x2 x3 x4 x5 inb_S1024x768_S256x768_768_0 _ _
      (gate3 x0 x1 x2 x3 inb_S1024x1024_S256x1024_768_0 inb_S1024x768_S256x768_768_0)
      (up3 x0 x1 x2 inb_S1024x1024_S256x1024_768_0 inb_S1024x768_S256x768_768_0)) n d

/-- The same added to what the block holds. -/
theorem pay2_block (xo : Vec Ideal S1024x1024 .f32) (y : S1024x1024.Idx) :
    k0_pay2 (k0_pay4 x4) (k0_pay5 x5)
      (k0_pay15 (k0_pay4 x4) (k0_pay5 x5) (k0_pay12 x1 (View.ld x0 (rA 0 inb_S1024x1024_S256x1024_0_0)) (View.ld x2 (rB 0 inb_S1024x768_S256x768_0_0)) (View.ld x3 (rB 0 inb_S1024x768_S256x768_0_0))) (k0_pay13 x1 (View.ld x0 (rA 0 inb_S1024x1024_S256x1024_0_0)) (View.ld x2 (rB 0 inb_S1024x768_S256x768_0_0))))
      (k0_pay20 (k0_pay4 x4) (k0_pay5 x5) (k0_pay7 x1 (View.ld x0 (rA 256 inb_S1024x1024_S256x1024_256_0))) (View.ld x2 (rB 256 inb_S1024x768_S256x768_256_0)) (View.ld x3 (rB 256 inb_S1024x768_S256x768_256_0)))
      (k0_pay25 (k0_pay4 x4) (k0_pay5 x5) (k0_pay8 x1 (View.ld x0 (rA 512 inb_S1024x1024_S256x1024_512_0))) (k0_pay21 (View.ld x2 (rB 512 inb_S1024x768_S256x768_512_0))) (View.ld x3 (rB 512 inb_S1024x768_S256x768_512_0)))
      (k0_pay28 (k0_pay9 x1 (View.ld x0 (rA 768 inb_S1024x1024_S256x1024_768_0))) (View.ld x2 (rB 768 inb_S1024x768_S256x768_768_0)) (View.ld x3 (rB 768 inb_S1024x768_S256x768_768_0)))
      (k0_pay29 (k0_pay9 x1 (View.ld x0 (rA 768 inb_S1024x1024_S256x1024_768_0))) (View.ld x2 (rB 768 inb_S1024x768_S256x768_768_0))) xo y = xo y + partB x0 x1 x2 x3 x4 x5 y := by
  unfold k0_pay2
  simp only [shapeCast_self]
  exact congrArg (xo y + ·) (pay1_block x0 x1 x2 x3 x4 x5 y)

end Block

end Cert.Swiglu

end
-- ==== Proof.SwigluOut.lean ====
/-
  The three output blocks of the feed-forward backward kernel after one grid point, in both cases of its two
  conditionals (first point of a row: the input gradient is stored; later points: it is added).
-/
module

public import proofs.«01_k».proof.Proof.SwigluBlock

@[expose] public section

set_option maxRecDepth 16384

noncomputable section

namespace Cert.Swiglu

open Cert.KernelIdeal Cert.KernelIdeal.Gen Idealize.ShloMosaic Idealize.ShloMosaic.TcCoe
open Idealize.ShloMosaic.ValueIdx
open scoped BigOperators

theorem hz2 : (![0, 0] : Fin 2 → ℕ) = fun _ => 0 := funext fun a => by fin_cases a <;> rfl
theorem hz3 : (![0, 0, 0] : Fin 3 → ℕ) = fun _ => 0 := funext fun a => by fin_cases a <;> rfl

section Out

variable (c : Dev nD) (i : grid0.Coords)
  (a2 : Memref sig .tc .vmem S1024x1024 .bf16) (h2 : a2.IsWhole) (a3 : Memref sig .tc .vmem S768x1024 .bf16) (h3 : a3.IsWhole)
  (a4 : Memref sig .tc .vmem S1024x768 .bf16) (h4 : a4.IsWhole) (a5 : Memref sig .tc .vmem S1024x768 .bf16) (h5 : a5.IsWhole)
  (a6 : Memref sig .tc .vmem S1x768x1024 .bf16) (h6 : a6.IsWhole) (a7 : Memref sig .tc .vmem S1x768x1024 .bf16) (h7 : a7.IsWhole)
  (a8 : Memref sig .tc .vmem S1024x768 .bf16) (h8 : a8.IsWhole) (a9 : Memref sig .tc .vmem S1024x768 .bf16) (h9 : a9.IsWhole)
  (a10 : Memref sig .tc .vmem S1024x1024 .f32) (h10 : a10.IsWhole)
  (x0 : Vec Ideal S1024x1024 .bf16) (x1 : Vec Ideal S768x1024 .bf16) (x2 x3 : Vec Ideal S1024x768 .bf16)
  (x4 x5 : Vec Ideal S1x768x1024 .bf16) (xo : Vec Ideal S1024x1024 .f32)

theorem out_A_6 (hc0 : cond0_0 i) (hc1 : ¬cond0_1 i) (y : S1024x768.Idx) :
    out0_A_6 (F := Ideal) c i a2 h2 a3 h3 a4 h4 a5 h5 a6 h6 a7 h7 a8 h8 a9 h9 a10 h10 hc0 hc1 x0 x1 x2 x3 x4 x5 y = dgateB x0 x1 x2 x3 y := by
  unfold out0_A_6
  refine View.read_writes_apply_of_pieces _ _ (dgateB x0 x1 x2 x3) _ ?_ y (cover0_A_6 c i a2 h2 a3 h3 a4 h4 a5 h5 a6 h6 a7 h7 a8 h8 a9 h9 a10 h10 hc0 hc1 x0 x1 x2 x3 x4 x5 y)
  unfold kernelRun0_A; dsimp only; sl_unfold_words
  simp only [View.readAt_eq_ld, h2.read_unread, h3.read_unread, h4.read_unread, h5.read_unread, View.ld_unit_zero (S := S768x1024) hz2]
  simp only [List.forall_mem_cons, List.not_mem_nil, false_implies, implies_true, and_true]
  refine ⟨fun z => ?_, fun z => ?_, fun z => ?_, fun z => ?_⟩
  · exact gate3 x0 x1 x2 x3 inb_S1024x1024_S256x1024_768_0 inb_S1024x768_S256x768_768_0 z
  · exact gate2 x0 x1 x2 x3 inb_S1024x1024_S256x1024_512_0 inb_S1024x768_S256x768_512_0 z
  · exact gate1 x0 x1 x2 x3 inb_S1024x1024_S256x1024_256_0 inb_S1024x768_S256x768_256_0 z
  · exact gate0 x0 x1 x2 x3 inb_S1024x1024_S256x1024_0_0 inb_S1024x768_S256x768_0_0 z

theorem out_A_7 (hc0 : cond0_0 i) (hc1 : ¬cond0_1 i) (y : S1024x768.Idx) :
    out0_A_7 (F := Ideal) c i a2 h2 a3 h3 a4 h4 a5 h5 a6 h6 a7 h7 a8 h8 a9 h9 a10 h10 hc0 hc1 x0 x1 x2 x3 x4 x5 y = dupB x0 x1 x2 y := by
  unfold out0_A_7
  refine View.read_writes_apply_of_pieces _ _ (dupB x0 x1 x2) _ ?_ y (cover0_A_7 c i a2 h2 a3 h3 a4 h4 a5 h5 a6 h6 a7 h7 a8 h8 a9 h9 a10 h10 hc0 hc1 x0 x1 x2 x3 x4 x5 y)
  unfold kernelRun0_A; dsimp only; sl_unfold_words
  simp only [View.readAt_eq_ld, h2.read_unread, h3.read_unread, h4.read_unread, h5.read_unread, View.ld_unit_zero (S := S768x1024) hz2]
  simp only [List.forall_mem_cons, List.not_mem_nil, false_implies, implies_true, and_true]
  refine ⟨fun z => ?_, fun z => ?_, fun z => ?_, fun z => ?_⟩
  · exact up3 x0 x1 x2 inb_S1024x1024_S256x1024_768_0 inb_S1024x768_S256x768_768_0 z
  · exact up2 x0 x1 x2 inb_S1024x1024_S256x1024_512_0 inb_S1024x768_S256x768_512_0 z
  · exact up1 x0 x1 x2 inb_S1024x1024_S256x1024_256_0 inb_S1024x768_S256x768_256_0 z
  · exact up0 x0 x1 x2 inb_S1024x1024_S256x1024_0_0 inb_S1024x768_S256x768_0_0 z

theorem out_A_8 (hc0 : cond0_0 i) (hc1 : ¬cond0_1 i) (y : S1024x1024.Idx) :
    out0_A_8 (F := Ideal) c i a2 h2 a3 h3 a4 h4 a5 h5 a6 h6 a7 h7 a8 h8 a9 h9 a10 h10 hc0 hc1 x0 x1 x2 x3 x4 x5 y = (partB x0 x1 x2 x3 x4 x5) y := by
  unfold out0_A_8
  refine View.read_writes_apply_of_pieces _ _ (partB x0 x1 x2 x3 x4 x5) _ ?_ y (cover0_A_8 c i a2 h2 a3 h3 a4 h4 a5 h5 a6 h6 a7 h7 a8 h8 a9 h9 a10 h10 hc0 hc1 x0 x1 x2 x3 x4 x5 y)
  unfold kernelRun0_A; dsimp only; sl_unfold_words
  simp only [View.readAt_eq_ld, h2.read_unread, h3.read_unread, h4.read_unread, h5.read_unread, h6.read_unread, h7.read_unread, h10.read_unread,
    View.ld_unit_zero (S := S768x1024) hz2, View.ld_unit_zero (S := S1024x1024) hz2, View.ld_unit_zero (S := S1x768x1024) hz3]
  simp only [List.forall_mem_cons, List.not_mem_nil, false_implies, implies_true, and_true]
  intro z
  refine (pay1_block x0 x1 x2 x3 x4 x5 z).trans (congrArg (partB x0 x1 x2 x3 x4 x5) (funext fun a => Fin.ext ?_))
  match a with
  | ⟨0, _⟩ => show (z 0).val = 0 + 1 * (z 0).val; omega
  | ⟨1, _⟩ => show (z 1).val = 0 + 1 * (z 1).val; omega

theorem out_B_6 (hc0 : ¬cond0_0 i) (hc1 : cond0_1 i) (y : S1024x768.Idx) :
    out0_B_6 (F := Ideal) c i a2 h2 a3 h3 a4 h4 a5 h5 a6 h6 a7 h7 a8 h8 a9 h9 a10 h10 hc0 hc1 x0 x1 x2 x3 x4 x5 xo y = dgateB x0 x1 x2 x3 y := by
  unfold out0_B_6
  refine View.read_writes_apply_of_pieces _ _ (dgateB x0 x1 x2 x3) _ ?_ y (cover0_B_6 c i a2 h2 a3 h3 a4 h4 a5 h5 a6 h6 a7 h7 a8 h8 a9 h9 a10 h10 hc0 hc1 x0 x1 x2 x3 x4 x5 xo y)
  unfold kernelRun0_B; dsimp only; sl_unfold_words
  simp only [View.readAt_eq_ld, h2.read_unread, h3.read_unread, h4.read_unread, h5.read_unread, View.ld_unit_zero (S := S768x1024) hz2]
  simp only [List.forall_mem_cons, List.not_mem_nil, false_implies, implies_true, and_true]
  refine ⟨fun z => ?_, fun z => ?_, fun z => ?_, fun z => ?_⟩
  · exact gate3 x0 x1 x2 x3 inb_S1024x1024_S256x1024_768_0 inb_S1024x768_S256x768_768_0 z
  · exact gate2 x0 x1 x2 x3 inb_S1024x1024_S256x1024_512_0 inb_S1024x768_S256x768_512_0 z
  · exact gate1 x0 x1 x2 x3 inb_S1024x1024_S256x1024_256_0 inb_S1024x768_S256x768_256_0 z
  · exact gate0 x0 x1 x2 x3 inb_S1024x1024_S256x1024_0_0 inb_S1024x768_S256x768_0_0 z

theorem out_B_7 (hc0 : ¬cond0_0 i) (hc1 : cond0_1 i) (y : S1024x768.Idx) :
    out0_B_7 (F := Ideal) c i a2 h2 a3 h3 a4 h4 a5 h5 a6 h6 a7 h7 a8 h8 a9 h9 a10 h10 hc0 hc1 x0 x1 x2 x3 x4 x5 xo y = dupB x0 x1 x2 y := by
  unfold out0_B_7
  refine View.read_writes_apply_of_pieces _ _ (dupB x0 x1 x2) _ ?_ y (cover0_B_7 c i a2 h2 a3 h3 a4 h4 a5 h5 a6 h6 a7 h7 a8 h8 a9 h9 a10 h10 hc0 hc1 x0 x1 x2 x3 x4 x5 xo y)
  unfold kernelRun0_B; dsimp only; sl_unfold_words
  simp only [View.readAt_eq_ld, h2.read_unread, h3.read_unread, h4.read_unread, h5.read_unread, View.ld_unit_zero (S := S768x1024) hz2]
  simp only [List.forall_mem_cons, List.not_mem_nil, false_implies, implies_true, and_true]
  refine ⟨fun z => ?_, fun z => ?_, fun z => ?_, fun z => ?_⟩
  · exact up3 x0 x1 x2 inb_S1024x1024_S256x1024_768_0 inb_S1024x768_S256x768_768_0 z
  · exact up2 x0 x1 x2 inb_S1024x1024_S256x1024_512_0 inb_S1024x768_S256x768_512_0 z
  · exact up1 x0 x1 x2 inb_S1024x1024_S256x1024_256_0 inb_S1024x768_S256x768_256_0 z
  · exact up0 x0 x1 x2 inb_S1024x1024_S256x1024_0_0 inb_S1024x768_S256x768_0_0 z

theorem out_B_8 (hc0 : ¬cond0_0 i) (hc1 : cond0_1 i) (y : S1024x1024.Idx) :
    out0_B_8 (F := Ideal) c i a2 h2 a3 h3 a4 h4 a5 h5 a6 h6 a7 h7 a8 h8 a9 h9 a10 h10 hc0 hc1 x0 x1 x2 x3 x4 x5 xo y = (fun y => xo y + partB x0 x1 x2 x3 x4 x5 y) y := by
  unfold out0_B_8
  refine View.read_writes_apply_of_pieces _ _ (fun y => xo y + partB x0 x1 x2 x3 x4 x5 y) _ ?_ y (cover0_B_8 c i a2 h2 a3 h3 a4 h4 a5 h5 a6 h6 a7 h7 a8 h8 a9 h9 a10 h10 hc0 hc1 x0 x1 x2 x3 x4 x5 xo y)
  unfold kernelRun0_B; dsimp only; sl_unfold_words
  simp only [View.readAt_eq_ld, h2.read_unread, h3.read_unread, h4.read_unread, h5.read_unread, h6.read_unread, h7.read_unread, h10.read_unread,
    View.ld_unit_zero (S := S768x1024) hz2, View.ld_unit_zero (S := S1024x1024) hz2, View.ld_unit_zero (S := S1x768x1024) hz3]
  simp only [List.forall_mem_cons, List.not_mem_nil, false_implies, implies_true, and_true]
  intro z
  refine (pay2_block x0 x1 x2 x3 x4 x5 xo z).trans (congrArg (fun y => xo y + partB x0 x1 x2 x3 x4 x5 y) (funext fun a => Fin.ext ?_))
  match a with
  | ⟨0, _⟩ => show (z 0).val = 0 + 1 * (z 0).val; omega
  | ⟨1, _⟩ => show (z 1).val = 0 + 1 * (z 1).val; omega

end Out

end Cert.Swiglu

end
-- ==== Proof.SwigluRun.lean ====
/-
  The feed-forward backward kernel's three result arrays as functions of the arrays its windows read: each block after its
  point, the input gradient accumulated over the four points of a row, and the arrays the blocks make up.
-/
module

public import proofs.«01_k».proof.Proof.SwigluOut

@[expose] public section

set_option maxRecDepth 16384

noncomputable section

namespace Cert.Swiglu

open Cert.KernelIdeal Cert.KernelIdeal.Gen Idealize.ShloMosaic Idealize.ShloMosaic.TcCoe
open Idealize.ShloMosaic.ValueIdx
open scoped BigOperators

/-! ## The arrays -/

section Arrays

variable (A0 : S4096x1024.Idx → EReal) (A1 : S3072x1024.Idx → EReal) (A2 A3 : S4096x3072.Idx → EReal)
  (A4 A5 : S4x768x1024.Idx → EReal)

/-- The activation's gradient at a token and a (padded) hidden unit. -/
def dactA (n : Fin 4096) (h : Fin 3072) : EReal := ∑ d : Fin 1024, A0 (ix2 n d) * A1 (ix2 h d)
def dgateA (n : Fin 4096) (h : Fin 3072) : EReal := gateF (dactA A0 A1 n h) (A3 (ix2 n h)) (A2 (ix2 n h))
def dupA (n : Fin 4096) (h : Fin 3072) : EReal := upF (dactA A0 A1 n h) (A2 (ix2 n h))
/-- The hidden unit `k` of segment `j`. -/
abbrev hid (j : Fin 4) (k : Fin 768) : Fin 3072 := ⟨768 * j.val + k.val, by omega⟩
/-- A segment's part of the input gradient. -/
def partA (j : Fin 4) (n : Fin 4096) (d : Fin 1024) : EReal :=
  ∑ k : Fin 768, dgateA A0 A1 A2 A3 n (hid j k) * A4 (ix3 j k d)
    + ∑ k : Fin 768, dupA A0 A1 A2 n (hid j k) * A5 (ix3 j k d)
/-- The input gradient. -/
def duA (n : Fin 4096) (d : Fin 1024) : EReal := ∑ j : Fin 4, partA A0 A1 A2 A3 A4 A5 j n d

end Arrays

/-! ## A point's blocks -/

theorem index_vals (t : Fin cfg0.N) :
    (win0_0.index t 0 = t.val / 4 ∧ win0_0.index t 1 = 0) ∧ (win0_1.index t 0 = t.val % 4 ∧ win0_1.index t 1 = 0)
    ∧ (win0_2.index t 0 = t.val / 4 ∧ win0_2.index t 1 = t.val % 4) ∧ (win0_3.index t 0 = t.val / 4 ∧ win0_3.index t 1 = t.val % 4)
    ∧ (win0_4.index t 0 = t.val % 4 ∧ win0_4.index t 1 = 0 ∧ win0_4.index t 2 = 0)
    ∧ (win0_5.index t 0 = t.val % 4 ∧ win0_5.index t 1 = 0 ∧ win0_5.index t 2 = 0) :=
  (by decide +kernel : ∀ t : Fin grid0.N,
    (win0_0.index t 0 = t.val / 4 ∧ win0_0.index t 1 = 0) ∧ (win0_1.index t 0 = t.val % 4 ∧ win0_1.index t 1 = 0)
    ∧ (win0_2.index t 0 = t.val / 4 ∧ win0_2.index t 1 = t.val % 4) ∧ (win0_3.index t 0 = t.val / 4 ∧ win0_3.index t 1 = t.val % 4)
    ∧ (win0_4.index t 0 = t.val % 4 ∧ win0_4.index t 1 = 0 ∧ win0_4.index t 2 = 0)
    ∧ (win0_5.index t 0 = t.val % 4 ∧ win0_5.index t 1 = 0 ∧ win0_5.index t 2 = 0)) t

theorem out_index_vals (t : Fin cfg0.N) :
    (win0_6.index t 0 = t.val / 4 ∧ win0_6.index t 1 = t.val % 4) ∧ (win0_7.index t 0 = t.val / 4 ∧ win0_7.index t 1 = t.val % 4)
    ∧ (win0_8.index t 0 = t.val / 4 ∧ win0_8.index t 1 = 0) :=
  (by decide +kernel : ∀ t : Fin grid0.N,
    (win0_6.index t 0 = t.val / 4 ∧ win0_6.index t 1 = t.val % 4) ∧ (win0_7.index t 0 = t.val / 4 ∧ win0_7.index t 1 = t.val % 4)
    ∧ (win0_8.index t 0 = t.val / 4 ∧ win0_8.index t 1 = 0)) t

theorem out_size_vals (t : Fin cfg0.N) :
    (win0_6.xsize (grid0.coords t) 0 = 1024 ∧ win0_6.xsize (grid0.coords t) 1 = 768)
    ∧ (win0_7.xsize (grid0.coords t) 0 = 1024 ∧ win0_7.xsize (grid0.coords t) 1 = 768)
    ∧ (win0_8.xsize (grid0.coords t) 0 = 1024 ∧ win0_8.xsize (grid0.coords t) 1 = 1024) :=
  (by decide +kernel : ∀ t : Fin grid0.N,
    (win0_6.xsize (grid0.coords t) 0 = 1024 ∧ win0_6.xsize (grid0.coords t) 1 = 768)
    ∧ (win0_7.xsize (grid0.coords t) 0 = 1024 ∧ win0_7.xsize (grid0.coords t) 1 = 768)
    ∧ (win0_8.xsize (grid0.coords t) 0 = 1024 ∧ win0_8.xsize (grid0.coords t) 1 = 1024)) t

section Run

variable (m : (ℓ : Loc nD τ sig) → Buf (Elt Ideal) ℓ) (c : Dev nD)

abbrev B0 : S4096x1024.Idx → EReal := V m c main_arg4
abbrev B1 : S3072x1024.Idx → EReal := V m c main_v12
abbrev B2 : S4096x3072.Idx → EReal := V m c main_v17
abbrev B3 : S4096x3072.Idx → EReal := V m c main_v22
abbrev B4 : S4x768x1024.Idx → EReal := V m c main_v3
abbrev B5 : S4x768x1024.Idx → EReal := V m c main_v7

variable (t : Fin cfg0.N)

theorem read0 (r d : Fin 1024) (n : Fin 4096) (hn : n.val = 1024 * (t.val / 4) + r.val) :
    (iblk m c 0 t : Vec Ideal S1024x1024 .bf16) (ix2 r d) = B0 m c (ix2 n d) := by
  obtain ⟨⟨e0, e1⟩, -⟩ := index_vals t
  unfold iblk
  rw [View.read_apply]
  show V m c main_arg4 _ = V m c main_arg4 _
  refine congrArg (V m c main_arg4) (funext fun a => Fin.ext ?_)
  match a with
  | ⟨0, _⟩ => show win0_0.index t 0 * 1024 + 1 * r.val = n.val; rw [e0]; omega
  | ⟨1, _⟩ => show win0_0.index t 1 * 1024 + 1 * d.val = d.val; rw [e1]; omega

theorem read1 (k : Fin 768) (d : Fin 1024) (h : Fin 3072) (hh : h.val = 768 * (t.val % 4) + k.val) :
    (iblk m c 1 t : Vec Ideal S768x1024 .bf16) (ix2 k d) = B1 m c (ix2 h d) := by
  obtain ⟨-, ⟨e0, e1⟩, -⟩ := index_vals t
  unfold iblk
  rw [View.read_apply]
  show V m c main_v12 _ = V m c main_v12 _
  refine congrArg (V m c main_v12) (funext fun a => Fin.ext ?_)
  match a with
  | ⟨0, _⟩ => show win0_1.index t 0 * 768 + 1 * k.val = h.val; rw [e0]; omega
  | ⟨1, _⟩ => show win0_1.index t 1 * 1024 + 1 * d.val = d.val; rw [e1]; omega

theorem read2 (r : Fin 1024) (k : Fin 768) (n : Fin 4096) (hn : n.val = 1024 * (t.val / 4) + r.val)
    (h : Fin 3072) (hh : h.val = 768 * (t.val % 4) + k.val) :
    (iblk m c 2 t : Vec Ideal S1024x768 .bf16) (ix2 r k) = B2 m c (ix2 n h) := by
  obtain ⟨-, -, ⟨e0, e1⟩, -⟩ := index_vals t
  unfold iblk
  rw [View.read_apply]
  show V m c main_v17 _ = V m c main_v17 _
  refine congrArg (V m c main_v17) (funext fun a => Fin.ext ?_)
  match a with
  | ⟨0, _⟩ => show win0_2.index t 0 * 1024 + 1 * r.val = n.val; rw [e0]; omega
  | ⟨1, _⟩ => show win0_2.index t 1 * 768 + 1 * k.val = h.val; rw [e1]; omega

theorem read3 (r : Fin 1024) (k : Fin 768) (n : Fin 4096) (hn : n.val = 1024 * (t.val / 4) + r.val)
    (h : Fin 3072) (hh : h.val = 768 * (t.val % 4) + k.val) :
    (iblk m c 3 t : Vec Ideal S1024x768 .bf16) (ix2 r k) = B3 m c (ix2 n h) := by
  obtain ⟨-, -, -, ⟨e0, e1⟩, -⟩ := index_vals t
  unfold iblk
  rw [View.read_apply]
  show V m c main_v22 _ = V m c main_v22 _
  refine congrArg (V m c main_v22) (funext fun a => Fin.ext ?_)
  match a with
  | ⟨0, _⟩ => show win0_3.index t 0 * 1024 + 1 * r.val = n.val; rw [e0]; omega
  | ⟨1, _⟩ => show win0_3.index t 1 * 768 + 1 * k.val = h.val; rw [e1]; omega

theorem read4 (k : Fin 768) (d : Fin 1024) (j : Fin 4) (hj : j.val = t.val % 4) :
    (iblk m c 4 t : Vec Ideal S1x768x1024 .bf16) (ix3 (0 : Fin 1) k d) = B4 m c (ix3 j k d) := by
  obtain ⟨-, -, -, -, ⟨e0, e1, e2⟩, -⟩ := index_vals t
  unfold iblk
  rw [View.read_apply]
  show V m c main_v3 _ = V m c main_v3 _
  refine congrArg (V m c main_v3) (funext fun a => Fin.ext ?_)
  match a with
  | ⟨0, _⟩ => show win0_4.index t 0 * 1 + 1 * 0 = j.val; rw [e0]; omega
  | ⟨1, _⟩ => show win0_4.index t 1 * 768 + 1 * k.val = k.val; rw [e1]; omega
  | ⟨2, _⟩ => show win0_4.index t 2 * 1024 + 1 * d.val = d.val; rw [e2]; omega

theorem read5 (k : Fin 768) (d : Fin 1024) (j : Fin 4) (hj : j.val = t.val % 4) :
    (iblk m c 5 t : Vec Ideal S1x768x1024 .bf16) (ix3 (0 : Fin 1) k d) = B5 m c (ix3 j k d) := by
  obtain ⟨-, -, -, -, -, ⟨e0, e1, e2⟩⟩ := index_vals t
  unfold iblk
  rw [View.read_apply]
  show V m c main_v7 _ = V m c main_v7 _
  refine congrArg (V m c main_v7) (funext fun a => Fin.ext ?_)
  match a with
  | ⟨0, _⟩ => show win0_5.index t 0 * 1 + 1 * 0 = j.val; rw [e0]; omega
  | ⟨1, _⟩ => show win0_5.index t 1 * 768 + 1 * k.val = k.val; rw [e1]; omega
  | ⟨2, _⟩ => show win0_5.index t 2 * 1024 + 1 * d.val = d.val; rw [e2]; omega

section Point

variable (r : Fin 1024) (n : Fin 4096) (hn : n.val = 1024 * (t.val / 4) + r.val)
include hn

theorem dact_point (k : Fin 768) (h : Fin 3072) (hh : h.val = 768 * (t.val % 4) + k.val) :
    dactB (iblk m c 0 t) (iblk m c 1 t) (ix2 r k) = dactA (B0 m c) (B1 m c) n h :=
  Finset.sum_congr rfl fun d _ => congrArg₂ (· * ·) (read0 m c t r d n hn) (read1 m c t k d h hh)

theorem dgate_point (k : Fin 768) (h : Fin 3072) (hh : h.val = 768 * (t.val % 4) + k.val) :
    dgateB (iblk m c 0 t) (iblk m c 1 t) (iblk m c 2 t) (iblk m c 3 t) (ix2 r k)
      = dgateA (B0 m c) (B1 m c) (B2 m c) (B3 m c) n h := by
  unfold dgateB dgateA
  rw [dact_point m c t r n hn k h hh, read2 m c t r k n hn h hh, read3 m c t r k n hn h hh]

theorem dup_point (k : Fin 768) (h : Fin 3072) (hh : h.val = 768 * (t.val % 4) + k.val) :
    dupB (iblk m c 0 t) (iblk m c 1 t) (iblk m c 2 t) (ix2 r k) = dupA (B0 m c) (B1 m c) (B2 m c) n h := by
  unfold dupB dupA
  rw [dact_point m c t r n hn k h hh, read2 m c t r k n hn h hh]

theorem part_point (j : Fin 4) (hj : j.val = t.val % 4) (d : Fin 1024) :
    partB (iblk m c 0 t) (iblk m c 1 t) (iblk m c 2 t) (iblk m c 3 t) (iblk m c 4 t) (iblk m c 5 t) (ix2 r d)
      = partA (B0 m c) (B1 m c) (B2 m c) (B3 m c) (B4 m c) (B5 m c) j n d := by
  have hh : ∀ k : Fin 768, (hid j k).val = 768 * (t.val % 4) + k.val := fun k => by show 768 * j.val + k.val = _; rw [hj]
  exact congrArg₂ (· + ·)
    (Finset.sum_congr rfl fun k _ => congrArg₂ (· * ·) (dgate_point m c t r n hn k (hid j k) (hh k)) (read4 m c t k d j hj))
    (Finset.sum_congr rfl fun k _ => congrArg₂ (· * ·) (dup_point m c t r n hn k (hid j k) (hh k)) (read5 m c t k d j hj))

end Point

/-- After its point, the gate gradient's block. -/
theorem outs_6 (y : S1024x768.Idx) : (outsAt0 m c t.val t.isLt).1 y
    = dgateB (iblk m c 0 t) (iblk m c 1 t) (iblk m c 2 t) (iblk m c 3 t) y := by
  by_cases h0 : t.val % 4 = 0
  · have h1 : ¬1 ≤ t.val % 4 := by omega
    have e : (outsAt0 m c t.val t.isLt).1 = out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk m c 0 t) (iblk m c 1 t) (iblk m c 2 t) (iblk m c 3 t) (iblk m c 4 t) (iblk m c 5 t) := by
      rw [outsAt0_A m c t h0 h1]
    exact (congrFun e y).trans (out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) ((hcond0_0 t).mpr h0) (fun h => h1 ((hcond0_1 t).mp h)) y)
  · have h1 : 1 ≤ t.val % 4 := by omega
    have e : (outsAt0 m c t.val t.isLt).1 = out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2 := by
      rw [outsAt0_B m c t h0 h1]
    exact (congrFun e y).trans (out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (outsAt0 m c (t.val - 1) (Nat.lt_of_le_of_lt (Nat.sub_le _ _) t.isLt)).2.2 (fun h => h0 ((hcond0_0 t).mp h)) ((hcond0_1 t).mpr h1) y)
/-- The up projection gradient's. -/
theorem outs_7 (y : S1024x768.Idx) : (outsAt0 m c t.val t.isLt).2.1 y
    = dupB (iblk m c 0 t) (iblk m c 1 t) (iblk m c 2 t) y := by
  by_cases h0 : t.val % 4 = 0
  · have h1 : ¬1 ≤ t.val % 4 := by omega
    have e : (outsAt0 m c t.val t.isLt).2.1 = out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk m c 0 t) (iblk m c 1 t) (iblk m c 2 t) (iblk m c 3 t) (iblk m c 4 t) (iblk m c 5 t) := by
      rw [outsAt0_A m c t h0 h1]
    exact (congrFun e y).trans (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) ((hcond0_0 t).mpr h0) (fun h => h1 ((hcond0_1 t).mp h)) y)
  · have h1 : 1 ≤ t.val % 4 := by omega
    have e : (outsAt0 m c t.val t.isLt).2.1 = out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2 := by
      rw [outsAt0_B m c t h0 h1]
    exact (congrFun e y).trans (out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (outsAt0 m c (t.val - 1) (Nat.lt_of_le_of_lt (Nat.sub_le _ _) t.isLt)).2.2 (fun h => h0 ((hcond0_0 t).mp h)) ((hcond0_1 t).mpr h1) y)
/-- The input gradient's at the first point of a row of points. -/
theorem outs_8_A (h0 : t.val % 4 = 0) (r d : Fin 1024) (n : Fin 4096) (hn : n.val = 1024 * (t.val / 4) + r.val) :
    (outsAt0 m c t.val t.isLt).2.2 (ix2 r d)
    = partA (B0 m c) (B1 m c) (B2 m c) (B3 m c) (B4 m c) (B5 m c) 0 n d := by
  have h1 : ¬1 ≤ t.val % 4 := by omega
  have e : (outsAt0 m c t.val t.isLt).2.2 = out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk m c 0 t) (iblk m c 1 t) (iblk m c 2 t) (iblk m c 3 t) (iblk m c 4 t) (iblk m c 5 t) := by
    rw [outsAt0_A m c t h0 h1]
  exact ((congrFun e (ix2 r d)).trans (out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) ((hcond0_0 t).mpr h0) (fun h => h1 ((hcond0_1 t).mp h)) (ix2 r d))).trans (part_point m c t r n hn 0 (by show 0 = _; omega) d)
/-- At a later one. -/
theorem outs_8_B (h0 : ¬t.val % 4 = 0) (r d : Fin 1024) (n : Fin 4096) (hn : n.val = 1024 * (t.val / 4) + r.val)
    (j : Fin 4) (hj : j.val = t.val % 4) :
    (outsAt0 m c t.val t.isLt).2.2 (ix2 r d)
    = (outsAt0 m c (t.val - 1) (Nat.lt_of_le_of_lt (Nat.sub_le _ _) t.isLt)).2.2 (ix2 r d)
      + partA (B0 m c) (B1 m c) (B2 m c) (B3 m c) (B4 m c) (B5 m c) j n d := by
  have h1 : 1 ≤ t.val % 4 := by omega
  have e : (outsAt0 m c t.val t.isLt).2.2 = out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2 := by
    rw [outsAt0_B m c t h0 h1]
  exact ((congrFun e (ix2 r d)).trans (out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (outsAt0 m c (t.val - 1) (Nat.lt_of_le_of_lt (Nat.sub_le _ _) t.isLt)).2.2 (fun h => h0 ((hcond0_0 t).mp h)) ((hcond0_1 t).mpr h1) (ix2 r d))).trans (congrArg (_ + ·) (part_point m c t r n hn j hj d))

/-- After the last point of a row of points. -/
theorem outs_8 (h3 : t.val % 4 = 3) (r d : Fin 1024) (n : Fin 4096) (hn : n.val = 1024 * (t.val / 4) + r.val) :
    (outsAt0 m c t.val t.isLt).2.2 (ix2 r d)
    = duA (B0 m c) (B1 m c) (B2 m c) (B3 m c) (B4 m c) (B5 m c) n d := by
  have hN := t.isLt
  have q3 := outs_8_B m c t (by omega) r d n hn 3 h3.symm
  have q2 := outs_8_B m c ⟨t.val - 1, by omega⟩ (by show ¬(t.val - 1) % 4 = 0; omega) r d n
    (by show n.val = 1024 * ((t.val - 1) / 4) + r.val; omega) 2 (by show 2 = (t.val - 1) % 4; omega)
  have q1 := outs_8_B m c ⟨t.val - 1 - 1, by omega⟩ (by show ¬(t.val - 1 - 1) % 4 = 0; omega) r d n
    (by show n.val = 1024 * ((t.val - 1 - 1) / 4) + r.val; omega) 1 (by show 1 = (t.val - 1 - 1) % 4; omega)
  have q0 := outs_8_A m c ⟨t.val - 1 - 1 - 1, by omega⟩ (by show (t.val - 1 - 1 - 1) % 4 = 0; omega) r d n
    (by show n.val = 1024 * ((t.val - 1 - 1 - 1) / 4) + r.val; omega)
  unfold duA
  rw [Fin.sum_univ_four, q3]
  exact congrArg (· + _) (q2.trans (congrArg (· + _) (q1.trans (congrArg (· + _) q0))))

/-! ## The arrays after the run -/

/-- The gate gradient's array. -/
theorem arr6 : ((dats m 0 c).arrAt 6 cfg0.N : S4096x3072.Idx → EReal)
    = fun i => dgateA (B0 m c) (B1 m c) (B2 m c) (B3 m c) (i 0) (i 1) := by
  refine (dats m 0 c).arrAt_eq_of_cover 6 (fun i : S4096x3072.Idx => dgateA (B0 m c) (B1 m c) (B2 m c) (B3 m c) (i 0) (i 1))
    (fun t _ => ?_) fun i => ?_
  · obtain ⟨⟨e0, e1⟩, -⟩ := out_index_vals t
    rw [Cert.KernelIdeal.Value.flushed6]
    funext y
    rw [View.read_apply]
    obtain ⟨r, k, rfl⟩ : ∃ (r : Fin 1024) (k : Fin 768), y = (ix2 r k : S1024x768.Idx) := ⟨y 0, y 1, eq_ix2 y⟩
    refine (outs_6 m c t (ix2 r k)).trans (dgate_point m c t r _ ?_ k _ ?_)
    · show win0_6.index t 0 * 1024 + 1 * r.val = _; rw [e0]; omega
    · show win0_6.index t 1 * 768 + 1 * k.val = _; rw [e1]; omega
  · have h0 : (i 0 : Nat) < 4096 := (i 0).isLt
    have h1 : (i 1 : Nat) < 3072 := (i 1).isLt
    have hN : cfg0.N = 16 := N_0
    let t : Fin cfg0.N := ⟨4 * ((i 0 : Nat) / 1024) + (i 1 : Nat) / 768, by omega⟩
    obtain ⟨⟨e0, e1⟩, -⟩ := out_index_vals t
    obtain ⟨⟨s0, s1⟩, -⟩ := out_size_vals t
    have t0 : t.val / 4 = (i 0 : Nat) / 1024 := by show (4 * ((i 0 : Nat) / 1024) + (i 1 : Nat) / 768) / 4 = _; omega
    have t1 : t.val % 4 = (i 1 : Nat) / 768 := by show (4 * ((i 0 : Nat) / 1024) + (i 1 : Nat) / 768) % 4 = _; omega
    refine ⟨t, flush0_6 t, ?_⟩
    show i ∈ ((View.whole main_v23_0).slice (win0_6.rect t)).set
    rw [View.set_slice_whole, Rect.mem_set_unit]
    intro a
    match a with
    | ⟨0, _⟩ => show win0_6.index t 0 * 1024 ≤ (i 0 : Nat) ∧ (i 0 : Nat) < win0_6.index t 0 * 1024 + win0_6.xsize (grid0.coords t) 0
                rw [e0, s0, t0]; omega
    | ⟨1, _⟩ => show win0_6.index t 1 * 768 ≤ (i 1 : Nat) ∧ (i 1 : Nat) < win0_6.index t 1 * 768 + win0_6.xsize (grid0.coords t) 1
                rw [e1, s1, t1]; omega

/-- The up projection gradient's array. -/
theorem arr7 : ((dats m 0 c).arrAt 7 cfg0.N : S4096x3072.Idx → EReal)
    = fun i => dupA (B0 m c) (B1 m c) (B2 m c) (i 0) (i 1) := by
  refine (dats m 0 c).arrAt_eq_of_cover 7 (fun i : S4096x3072.Idx => dupA (B0 m c) (B1 m c) (B2 m c) (i 0) (i 1))
    (fun t _ => ?_) fun i => ?_
  · obtain ⟨-, ⟨e0, e1⟩, -⟩ := out_index_vals t
    rw [Cert.KernelIdeal.Value.flushed7]
    funext y
    rw [View.read_apply]
    obtain ⟨r, k, rfl⟩ : ∃ (r : Fin 1024) (k : Fin 768), y = (ix2 r k : S1024x768.Idx) := ⟨y 0, y 1, eq_ix2 y⟩
    refine (outs_7 m c t (ix2 r k)).trans (dup_point m c t r _ ?_ k _ ?_)
    · show win0_7.index t 0 * 1024 + 1 * r.val = _; rw [e0]; omega
    · show win0_7.index t 1 * 768 + 1 * k.val = _; rw [e1]; omega
  · have h0 : (i 0 : Nat) < 4096 := (i 0).isLt
    have h1 : (i 1 : Nat) < 3072 := (i 1).isLt
    have hN : cfg0.N = 16 := N_0
    let t : Fin cfg0.N := ⟨4 * ((i 0 : Nat) / 1024) + (i 1 : Nat) / 768, by omega⟩
    obtain ⟨-, ⟨e0, e1⟩, -⟩ := out_index_vals t
    obtain ⟨-, ⟨s0, s1⟩, -⟩ := out_size_vals t
    have t0 : t.val / 4 = (i 0 : Nat) / 1024 := by show (4 * ((i 0 : Nat) / 1024) + (i 1 : Nat) / 768) / 4 = _; omega
    have t1 : t.val % 4 = (i 1 : Nat) / 768 := by show (4 * ((i 0 : Nat) / 1024) + (i 1 : Nat) / 768) % 4 = _; omega
    refine ⟨t, flush0_7 t, ?_⟩
    show i ∈ ((View.whole main_v23_1).slice (win0_7.rect t)).set
    rw [View.set_slice_whole, Rect.mem_set_unit]
    intro a
    match a with
    | ⟨0, _⟩ => show win0_7.index t 0 * 1024 ≤ (i 0 : Nat) ∧ (i 0 : Nat) < win0_7.index t 0 * 1024 + win0_7.xsize (grid0.coords t) 0
                rw [e0, s0, t0]; omega
    | ⟨1, _⟩ => show win0_7.index t 1 * 768 ≤ (i 1 : Nat) ∧ (i 1 : Nat) < win0_7.index t 1 * 768 + win0_7.xsize (grid0.coords t) 1
                rw [e1, s1, t1]; omega

/-- The input gradient's array. -/
theorem arr8 : ((dats m 0 c).arrAt 8 cfg0.N : S4096x1024.Idx → EReal)
    = fun i => duA (B0 m c) (B1 m c) (B2 m c) (B3 m c) (B4 m c) (B5 m c) (i 0) (i 1) := by
  refine (dats m 0 c).arrAt_eq_of_cover 8
    (fun i : S4096x1024.Idx => duA (B0 m c) (B1 m c) (B2 m c) (B3 m c) (B4 m c) (B5 m c) (i 0) (i 1))
    (fun t hf => ?_) fun i => ?_
  · obtain ⟨-, -, ⟨e0, e1⟩⟩ := out_index_vals t
    rw [Cert.KernelIdeal.Value.flushed8]
    funext y
    rw [View.read_apply]
    obtain ⟨r, d, rfl⟩ : ∃ (r d : Fin 1024), y = (ix2 r d : S1024x1024.Idx) := ⟨y 0, y 1, eq_ix2 y⟩
    have hd : ((cfg0.win 8).blk t).view.emb (ix2 r d : S1024x1024.Idx) 1 = d := Fin.ext (by
      show win0_8.index t 1 * 1024 + 1 * d.val = _; rw [e1]; omega)
    refine (outs_8 m c t ((flush0_8 t).mp hf) r d (((cfg0.win 8).blk t).view.emb (ix2 r d : S1024x1024.Idx) 0) ?_).trans ?_
    · show win0_8.index t 0 * 1024 + 1 * r.val = _; rw [e0]; omega
    · exact congrArg (duA (B0 m c) (B1 m c) (B2 m c) (B3 m c) (B4 m c) (B5 m c) _) hd.symm
  · have h0 : (i 0 : Nat) < 4096 := (i 0).isLt
    have h1 : (i 1 : Nat) < 1024 := (i 1).isLt
    have hN : cfg0.N = 16 := N_0
    let t : Fin cfg0.N := ⟨4 * ((i 0 : Nat) / 1024) + 3, by omega⟩
    obtain ⟨-, -, ⟨e0, e1⟩⟩ := out_index_vals t
    obtain ⟨-, -, ⟨s0, s1⟩⟩ := out_size_vals t
    have t0 : t.val / 4 = (i 0 : Nat) / 1024 := by show (4 * ((i 0 : Nat) / 1024) + 3) / 4 = _; omega
    refine ⟨t, (flush0_8 t).mpr (by show (4 * ((i 0 : Nat) / 1024) + 3) % 4 = 3; omega), ?_⟩
    show i ∈ ((View.whole main_v23_2).slice (win0_8.rect t)).set
    rw [View.set_slice_whole, Rect.mem_set_unit]
    intro a
    match a with
    | ⟨0, _⟩ => show win0_8.index t 0 * 1024 ≤ (i 0 : Nat) ∧ (i 0 : Nat) < win0_8.index t 0 * 1024 + win0_8.xsize (grid0.coords t) 0
                rw [e0, s0, t0]; omega
    | ⟨1, _⟩ => show win0_8.index t 1 * 1024 ≤ (i 1 : Nat) ∧ (i 1 : Nat) < win0_8.index t 1 * 1024 + win0_8.xsize (grid0.coords t) 1
                rw [e1, s1]; omega

end Run

end Cert.Swiglu

end
-- ==== Proof.SwigluHost.lean ====
/-
  The arrays the feed-forward backward kernel's windows read, as functions of the arguments: the host operations before
  the call, read at an index. Weights and pre-activations come in four segments of 704 hidden units, each padded with
  zeros to 768 (`Kit.pick`).
-/
module

public import proofs.«01_k».proof.Proof.SwigluRun
public import proofs.«01_k».proof.Proof.Gen.ReferenceIdeal.Read
public import Idealize.ShloMosaic.Lib.KernelVsHost

@[expose] public section

set_option maxRecDepth 16384

noncomputable section

namespace Cert.Swiglu

open Cert.KernelIdeal Cert.KernelIdeal.Gen Idealize.ShloMosaic Idealize.ShloMosaic.TcCoe
open Idealize.ShloMosaic.ValueIdx Cert.Kit
open scoped BigOperators

/-! ## Padded segments, read at an index -/

/-- The padding value: the integer zero as a float. -/
abbrev padZero : S_.Idx → EReal := sitofp (F := Ideal) .f32 (constantI S_ 32 0#32)

theorem padZero_eq (i : S_.Idx) : padZero i = 0 := by
  show (((0#32 : BitVec 32).toInt : ℝ) : EReal) = 0
  simp

/-- Columns in four segments, each padded: entry `(n, h)` of the wide array. -/
theorem wide_apply (x : S4096x2816.Idx → EReal) (z : S_.Idx → EReal) (hz : ∀ i, z i = 0)
    (hs : S4096x2816.ShapeCasts S4096x4x704) (hp : S4096x4x704.Pads (![0, 0, 0] : Fin 3 → Nat) ![0, 0, 64] ![0, 0, 0] S4096x4x768)
    (hu : 0 < S_.numel) (hc : S4096x4x768.ShapeCasts S4096x3072) (n : Fin 4096) (h : Fin 3072) :
    shapeCast S4096x3072 (pad S4096x4x768 ![0, 0, 0] ![0, 0, 64] ![0, 0, 0] (shapeCast S4096x4x704 x hs) z hp hu) hc (ix2 n h)
      = pick (fun q => x (ix2 n q)) h := by
  have hh := h.isLt
  refine (shapeCast_apply _ hc (ix2 n h) (ix3 n (⟨h.val / 768, by omega⟩ : Fin 4) (⟨h.val % 768, by omega⟩ : Fin 768)) (by
    rewrite [Shape.rowMajor_val_three, Shape.rowMajor_val_two]
    show (n.val * 4 + h.val / 768) * 768 + h.val % 768 = n.val * 3072 + h.val
    omega)).trans ?_
  by_cases hq : h.val % 768 < 704
  · rw [pick_pos _ _ hq]
    refine (pad_apply_of_inside _ _ _ _ z hp hu _ (ix3 n (⟨h.val / 768, by omega⟩ : Fin 4) (⟨h.val % 768, hq⟩ : Fin 704)) fun a => ?_).trans ?_
    · match a with
      | ⟨0, _⟩ => show n.val = 0 + n.val * (0 + 1); omega
      | ⟨1, _⟩ => show h.val / 768 = 0 + h.val / 768 * (0 + 1); omega
      | ⟨2, _⟩ => show h.val % 768 = 0 + h.val % 768 * (0 + 1); omega
    · exact shapeCast_apply x hs _ (ix2 n (⟨704 * (h.val / 768) + h.val % 768, by omega⟩ : Fin 2816)) (by
        rewrite [Shape.rowMajor_val_three, Shape.rowMajor_val_two]
        show n.val * 2816 + (704 * (h.val / 768) + h.val % 768) = (n.val * 4 + h.val / 768) * 704 + h.val % 768
        omega)
  · rw [pick_neg _ _ hq]
    refine (pad_apply_of_not_inside _ _ _ _ z hp hu _ (2 : Fin 3) ?_).trans (hz _)
    show ¬(0 ≤ h.val % 768 ∧ (h.val % 768 - 0) % (0 + 1) = 0 ∧ (h.val % 768 - 0) / (0 + 1) < 704)
    omega

/-- Rows in four segments, each padded: entry `(j, k, d)` of the slabs. -/
theorem slab_apply (x : S2816x1024.Idx → EReal) (z : S_.Idx → EReal) (hz : ∀ i, z i = 0)
    (hs : S2816x1024.ShapeCasts S4x704x1024) (hp : S4x704x1024.Pads (![0, 0, 0] : Fin 3 → Nat) ![0, 64, 0] ![0, 0, 0] S4x768x1024)
    (hu : 0 < S_.numel) (j : Fin 4) (k : Fin 768) (d : Fin 1024) :
    pad S4x768x1024 ![0, 0, 0] ![0, 64, 0] ![0, 0, 0] (shapeCast S4x704x1024 x hs) z hp hu (ix3 j k d)
      = pick (fun q => x (ix2 q d)) (hid j k) := by
  have hj := j.isLt
  have hk := k.isLt
  have e1 : (hid j k).val / 768 = j.val := by show (768 * j.val + k.val) / 768 = _; omega
  have e2 : (hid j k).val % 768 = k.val := by show (768 * j.val + k.val) % 768 = _; omega
  by_cases hq : k.val < 704
  · rw [pick_pos _ _ (by rw [e2]; exact hq)]
    refine (pad_apply_of_inside _ _ _ _ z hp hu _ (ix3 j (⟨k.val, hq⟩ : Fin 704) d) fun a => ?_).trans ?_
    · match a with
      | ⟨0, _⟩ => show j.val = 0 + j.val * (0 + 1); omega
      | ⟨1, _⟩ => show k.val = 0 + k.val * (0 + 1); omega
      | ⟨2, _⟩ => show d.val = 0 + d.val * (0 + 1); omega
    · exact shapeCast_apply x hs _ (ix2 (⟨704 * ((hid j k).val / 768) + (hid j k).val % 768, by omega⟩ : Fin 2816) d) (by
        rewrite [Shape.rowMajor_val_three, Shape.rowMajor_val_two]
        show (704 * ((hid j k).val / 768) + (hid j k).val % 768) * 1024 + d.val = (j.val * 704 + k.val) * 1024 + d.val
        rw [e1, e2]; omega)
  · rw [pick_neg _ _ (by rw [e2]; exact hq)]
    refine (pad_apply_of_not_inside _ _ _ _ z hp hu _ (1 : Fin 3) ?_).trans (hz _)
    show ¬(0 ≤ k.val ∧ (k.val - 0) % (0 + 1) = 0 ∧ (k.val - 0) / (0 + 1) < 704)
    omega

/-- The slabs one below the other: entry `(h, d)`. -/
theorem rowsB_apply (y : S4x768x1024.Idx → EReal) (hc : S4x768x1024.ShapeCasts S3072x1024) (x : S2816x1024.Idx → EReal)
    (hy : ∀ (j : Fin 4) (k : Fin 768) (d : Fin 1024), y (ix3 j k d) = pick (fun q => x (ix2 q d)) (hid j k))
    (h : Fin 3072) (d : Fin 1024) :
    shapeCast S3072x1024 y hc (ix2 h d) = pick (fun q => x (ix2 q d)) h := by
  have hh := h.isLt
  refine (shapeCast_apply _ hc (ix2 h d) (ix3 (⟨h.val / 768, by omega⟩ : Fin 4) (⟨h.val % 768, by omega⟩ : Fin 768) d) (by
    rewrite [Shape.rowMajor_val_three, Shape.rowMajor_val_two]
    show (h.val / 768 * 768 + h.val % 768) * 1024 + d.val = h.val * 1024 + d.val
    omega)).trans ((hy _ _ _).trans (congrArg _ (Fin.ext ?_)))
  show 768 * (h.val / 768) + h.val % 768 = h.val
  omega

/-! ## The host's arrays -/

section Host

variable (m : (ℓ : Loc nD τ sig) → Buf (Elt Ideal) ℓ) (c : Dev nD)

/-- The arguments. -/
abbrev aU : S4096x1024.Idx → EReal := m ((c : Thread nD τ).loc main_arg0)
abbrev aG : S1024x2816.Idx → EReal := m ((c : Thread nD τ).loc main_arg1)
abbrev aP : S1024x2816.Idx → EReal := m ((c : Thread nD τ).loc main_arg2)
abbrev aD : S2816x1024.Idx → EReal := m ((c : Thread nD τ).loc main_arg3)
abbrev aT : S4096x1024.Idx → EReal := m ((c : Thread nD τ).loc main_arg4)

/-- The gate's and the up projection's pre-activations, of the true width. -/
abbrev pre (u : S4096x1024.Idx → EReal) (w : S1024x2816.Idx → EReal) : S4096x2816.Idx → EReal :=
  Host.dotGeneral (F := Ideal) (φ₁ := .f32) (φ₂ := .f32) dot_S4096x1024_S1024x2816_S4096x2816_1_0_0_1_n_n none
    (extf (F := Ideal) (φ := .bf16) .f32 u bitsLt_bf16_f32) w

theorem V_v17 : V m c main_v17 = shapeCast S4096x3072 (truncf (F := Ideal) .bf16 (pad S4096x4x768 ![0, 0, 0] ![0, 0, 64] ![0, 0, 0]
    (shapeCast S4096x4x704 (pre (aU m c) (aG m c)) shapeCasts_S4096x2816_S4096x4x704)
    padZero pads_S4096x4x704_S4096x4x768_000_000_0640 h_S_) bitsLt_bf16_f32) shapeCasts_S4096x4x768_S4096x3072 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v22 : V m c main_v22 = shapeCast S4096x3072 (truncf (F := Ideal) .bf16 (pad S4096x4x768 ![0, 0, 0] ![0, 0, 64] ![0, 0, 0]
    (shapeCast S4096x4x704 (pre (aU m c) (aP m c)) shapeCasts_S4096x2816_S4096x4x704)
    padZero pads_S4096x4x704_S4096x4x768_000_000_0640 h_S_) bitsLt_bf16_f32) shapeCasts_S4096x4x768_S4096x3072 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v3 : V m c main_v3 = truncf (F := Ideal) .bf16 (pad S4x768x1024 ![0, 0, 0] ![0, 64, 0] ![0, 0, 0]
    (shapeCast S4x704x1024 (transpose S2816x1024 [1, 0] (aG m c) transposes_S1024x2816_S2816x1024_1_0) shapeCasts_S2816x1024_S4x704x1024)
    padZero pads_S4x704x1024_S4x768x1024_000_0640_000 h_S_) bitsLt_bf16_f32 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v7 : V m c main_v7 = truncf (F := Ideal) .bf16 (pad S4x768x1024 ![0, 0, 0] ![0, 64, 0] ![0, 0, 0]
    (shapeCast S4x704x1024 (transpose S2816x1024 [1, 0] (aP m c) transposes_S1024x2816_S2816x1024_1_0) shapeCasts_S2816x1024_S4x704x1024)
    padZero pads_S4x704x1024_S4x768x1024_000_0640_000 h_S_) bitsLt_bf16_f32 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v12 : V m c main_v12 = shapeCast S3072x1024 (truncf (F := Ideal) .bf16 (pad S4x768x1024 ![0, 0, 0] ![0, 64, 0] ![0, 0, 0]
    (shapeCast S4x704x1024 (aD m c) shapeCasts_S2816x1024_S4x704x1024)
    padZero pads_S4x704x1024_S4x768x1024_000_0640_000 h_S_) bitsLt_bf16_f32) shapeCasts_S4x768x1024_S3072x1024 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem B0_eq : B0 m c = aT m c := V_main_arg4 m c

theorem B2_apply (n : Fin 4096) (h : Fin 3072) : B2 m c (ix2 n h) = pick (fun q => pre (aU m c) (aG m c) (ix2 n q)) h :=
  (congrFun (V_v17 m c) (ix2 n h)).trans (wide_apply _ _ padZero_eq shapeCasts_S4096x2816_S4096x4x704 pads_S4096x4x704_S4096x4x768_000_000_0640 h_S_ shapeCasts_S4096x4x768_S4096x3072 n h)
theorem B3_apply (n : Fin 4096) (h : Fin 3072) : B3 m c (ix2 n h) = pick (fun q => pre (aU m c) (aP m c) (ix2 n q)) h :=
  (congrFun (V_v22 m c) (ix2 n h)).trans (wide_apply _ _ padZero_eq shapeCasts_S4096x2816_S4096x4x704 pads_S4096x4x704_S4096x4x768_000_000_0640 h_S_ shapeCasts_S4096x4x768_S4096x3072 n h)
theorem B1_apply (h : Fin 3072) (d : Fin 1024) : B1 m c (ix2 h d) = pick (fun q => aD m c (ix2 q d)) h :=
  (congrFun (V_v12 m c) (ix2 h d)).trans (rowsB_apply (truncf (F := Ideal) .bf16 (pad S4x768x1024 ![0, 0, 0] ![0, 64, 0] ![0, 0, 0]
    (shapeCast S4x704x1024 (aD m c) shapeCasts_S2816x1024_S4x704x1024)
    padZero pads_S4x704x1024_S4x768x1024_000_0640_000 h_S_) bitsLt_bf16_f32) shapeCasts_S4x768x1024_S3072x1024 (aD m c) (by
    intro j k d
    exact slab_apply (aD m c) padZero padZero_eq shapeCasts_S2816x1024_S4x704x1024 pads_S4x704x1024_S4x768x1024_000_0640_000 h_S_ j k d) h d)

/-- A weight's transpose, read at an index. -/
theorem tr_apply (w : S1024x2816.Idx → EReal) (q : Fin 2816) (d : Fin 1024) :
    transpose S2816x1024 [1, 0] w transposes_S1024x2816_S2816x1024_1_0 (ix2 q d) = w (ix2 d q) :=
  transpose_apply [1, 0] w _ (ix2 q d) (ix2 d q) (fun a => by
    match a with
    | ⟨0, _⟩ => rfl
    | ⟨1, _⟩ => rfl)

theorem B4_apply (j : Fin 4) (k : Fin 768) (d : Fin 1024) : B4 m c (ix3 j k d) = pick (fun q => aG m c (ix2 d q)) (hid j k) :=
  ((congrFun (V_v3 m c) (ix3 j k d)).trans (slab_apply _ _ padZero_eq shapeCasts_S2816x1024_S4x704x1024 pads_S4x704x1024_S4x768x1024_000_0640_000 h_S_ j k d)).trans
    (congrArg (fun f => pick f (hid j k)) (funext fun q => tr_apply _ q d))
theorem B5_apply (j : Fin 4) (k : Fin 768) (d : Fin 1024) : B5 m c (ix3 j k d) = pick (fun q => aP m c (ix2 d q)) (hid j k) :=
  ((congrFun (V_v7 m c) (ix3 j k d)).trans (slab_apply _ _ padZero_eq shapeCasts_S2816x1024_S4x704x1024 pads_S4x704x1024_S4x768x1024_000_0640_000 h_S_ j k d)).trans
    (congrArg (fun f => pick f (hid j k)) (funext fun q => tr_apply _ q d))

/-! ## The result arrays, in the true columns -/

/-- The activation's gradient of the true width. -/
def dact (n : Fin 4096) (q : Fin 2816) : EReal := ∑ d : Fin 1024, aT m c (ix2 n d) * aD m c (ix2 q d)
def dgate (n : Fin 4096) (q : Fin 2816) : EReal :=
  gateF (dact m c n q) (pre (aU m c) (aP m c) (ix2 n q)) (pre (aU m c) (aG m c) (ix2 n q))
def dup (n : Fin 4096) (q : Fin 2816) : EReal := upF (dact m c n q) (pre (aU m c) (aG m c) (ix2 n q))

theorem dactA_eq (n : Fin 4096) (h : Fin 3072) : dactA (B0 m c) (B1 m c) n h = pick (dact m c n) h := by
  have e : dactA (B0 m c) (B1 m c) n h = ∑ d : Fin 1024, aT m c (ix2 n d) * pick (fun q => aD m c (ix2 q d)) h :=
    Finset.sum_congr rfl fun d _ => congrArg₂ (· * ·) (congrFun (B0_eq m c) _) (B1_apply m c h d)
  rw [e]
  by_cases hq : h.val % 768 < 704
  · simp only [pick_pos _ _ hq]; rfl
  · simp only [pick_neg _ _ hq, mul_zero]; exact Finset.sum_const_zero

theorem dgateA_eq (n : Fin 4096) (h : Fin 3072) :
    dgateA (B0 m c) (B1 m c) (B2 m c) (B3 m c) n h = pick (dgate m c n) h := by
  unfold dgateA
  rw [dactA_eq, B2_apply, B3_apply]
  by_cases hq : h.val % 768 < 704
  · simp only [pick_pos _ _ hq]; rfl
  · simp only [pick_neg _ _ hq]; unfold gateF; rw [mul_zero, zero_mul]

theorem dupA_eq (n : Fin 4096) (h : Fin 3072) : dupA (B0 m c) (B1 m c) (B2 m c) n h = pick (dup m c n) h := by
  unfold dupA
  rw [dactA_eq, B2_apply]
  by_cases hq : h.val % 768 < 704
  · simp only [pick_pos _ _ hq]; rfl
  · simp only [pick_neg _ _ hq]; unfold upF; rw [zero_mul]

theorem duA_eq (n : Fin 4096) (d : Fin 1024) :
    duA (B0 m c) (B1 m c) (B2 m c) (B3 m c) (B4 m c) (B5 m c) n d
      = ∑ q : Fin 2816, dgate m c n q * aG m c (ix2 d q) + ∑ q : Fin 2816, dup m c n q * aP m c (ix2 d q) := by
  have e : ∀ j : Fin 4, partA (B0 m c) (B1 m c) (B2 m c) (B3 m c) (B4 m c) (B5 m c) j n d
      = ∑ k : Fin 768, pick (fun q => dgate m c n q * aG m c (ix2 d q)) ⟨768 * j.val + k.val, by omega⟩
        + ∑ k : Fin 768, pick (fun q => dup m c n q * aP m c (ix2 d q)) ⟨768 * j.val + k.val, by omega⟩ := fun j =>
    congrArg₂ (· + ·)
      (Finset.sum_congr rfl fun k _ => by rw [dgateA_eq, B4_apply, pick_mul])
      (Finset.sum_congr rfl fun k _ => by rw [dupA_eq, B5_apply, pick_mul])
  unfold duA
  rw [Finset.sum_congr rfl fun j _ => e j, Finset.sum_add_distrib, sum_pick, sum_pick]

end Host

end Cert.Swiglu

end
-- ==== Proof.SwigluValue.lean ====
/-
  The reference's results at the ideal instance, in the same columns, and the two programs' results side by side.
-/
module

public import proofs.«01_k».proof.Defs
public import proofs.«01_k».proof.Proof.SwigluHost
public import proofs.«01_k».proof.Proof.Gen.ReferenceIdeal.Run
public import Idealize.ShloMosaic.Lib.Quiescent

@[expose] public section

set_option maxRecDepth 16384

noncomputable section

namespace Cert.Swiglu

open Cert.KernelIdeal Cert.KernelIdeal.Gen Idealize.ShloMosaic Idealize.ShloMosaic.TcCoe Idealize.SL.Sem
open Idealize.ShloMosaic.ValueIdx Cert.Kit
open scoped BigOperators

section Ref

open Cert.ReferenceIdeal.Read

variable (u t : S4096x1024.Idx → EReal) (wg wu : S1024x2816.Idx → EReal) (wd : S2816x1024.Idx → EReal)

theorem ref_gate (i : S4096x2816.Idx) : val_main_v2 (F := Ideal) u wg i = pre u wg i := rfl
theorem ref_up (i : S4096x2816.Idx) : val_main_v3 (F := Ideal) u wu i = pre u wu i := rfl

theorem ref_sig (i : S4096x2816.Idx) : val_main_v4_2 (F := Ideal) u wg i = Ideal.logistic (pre u wg i) := by
  rw [val_main_v4_2_apply, val_main_call0_v4_apply, val_main_call0_cst_0_apply, val_main_call0_v3_apply, val_main_call0_v2_apply,
    val_main_call0_cst_apply, val_main_call0_v1_apply, val_main_call0_v0_apply, ref_gate]
  show Ideal.div (Ideal.ofBits .f32 0x3F800000#32) (Ideal.ofBits .f32 0x3F800000#32 + Ideal.exp (-(pre u wg i))) = _
  rw [Ideal.ofBits_one_f32]; rfl

theorem ref_dact (n : Fin 4096) (q : Fin 2816) :
    val_main_v7 (F := Ideal) wd t (ix2 n q) = ∑ d : Fin 1024, t (ix2 n d) * wd (ix2 q d) := by
  rw [val_main_v7_apply]
  refine Finset.sum_congr rfl fun d _ => congrArg₂ (· * ·) (congrArg t (funext fun a => ?_)) (congrArg wd (funext fun a => ?_))
  · match a with
    | ⟨0, _⟩ => rfl
    | ⟨1, _⟩ => rfl
  · match a with
    | ⟨0, _⟩ => rfl
    | ⟨1, _⟩ => rfl

theorem ref_dup (n : Fin 4096) (q : Fin 2816) :
    val_main_v8 (F := Ideal) u wg wd t (ix2 n q)
      = upF (∑ d : Fin 1024, t (ix2 n d) * wd (ix2 q d)) (pre u wg (ix2 n q)) := by
  rw [val_main_v8_apply, val_main_v4_0_apply, ref_gate, ref_sig, ref_dact]
  exact mul_comm _ _

/-- The operation-by-operation gradient of `silu`, at real operands: the kernel's factored form. -/
theorem ref_dgate (n : Fin 4096) (q : Fin 2816)
    (hx : IsReal ((∑ d : Fin 1024, t (ix2 n d) * wd (ix2 q d)) * pre u wu (ix2 n q))) (hg : IsReal (pre u wg (ix2 n q))) :
    val_main_v10 (F := Ideal) u wg wu wd t (ix2 n q)
      = gateF (∑ d : Fin 1024, t (ix2 n d) * wd (ix2 q d)) (pre u wu (ix2 n q)) (pre u wg (ix2 n q)) := by
  rw [val_main_v10_apply, val_main_call1_v1_apply, val_main_call1_v2_apply, val_main_call1_v0_apply, val_main_v9_apply,
    val_main_v4_1_apply, val_main_call0_v7_apply, val_main_call0_v6_apply, val_main_call0_cst_1_apply, ref_gate, ref_up, ref_sig, ref_dact]
  refine Eq.trans ?_ (dsilu_eq hx hg).symm
  show _ + _ * (_ * (Ideal.ofBits .f32 0x3F800000#32 - _)) = _
  rw [Ideal.ofBits_one_f32]; rfl

theorem ref_v17 (n : Fin 4096) (h : Fin 3072) :
    val_main_v17 (F := Ideal) u wg wu wd t (ix2 n h) = pick (fun q => val_main_v10 (F := Ideal) u wg wu wd t (ix2 n q)) h :=
  wide_apply (val_main_v10 (F := Ideal) u wg wu wd t) padZero padZero_eq shapeCasts_S4096x2816_S4096x4x704
    pads_S4096x4x704_S4096x4x768_000_000_0640 h_S_ shapeCasts_S4096x4x768_S4096x3072 n h

theorem ref_v21 (n : Fin 4096) (h : Fin 3072) :
    val_main_v21 (F := Ideal) u wg wd t (ix2 n h) = pick (fun q => val_main_v8 (F := Ideal) u wg wd t (ix2 n q)) h :=
  wide_apply (val_main_v8 (F := Ideal) u wg wd t) padZero padZero_eq shapeCasts_S4096x2816_S4096x4x704
    pads_S4096x4x704_S4096x4x768_000_000_0640 h_S_ shapeCasts_S4096x4x768_S4096x3072 n h

theorem ref_du (n : Fin 4096) (d : Fin 1024) :
    val_main_v13 (F := Ideal) u wg wu wd t (ix2 n d)
      = ∑ q : Fin 2816, val_main_v10 (F := Ideal) u wg wu wd t (ix2 n q) * wg (ix2 d q)
        + ∑ q : Fin 2816, val_main_v8 (F := Ideal) u wg wd t (ix2 n q) * wu (ix2 d q) := by
  rw [val_main_v13_apply, val_main_v11_apply, val_main_v12_apply]
  refine (add_comm _ _).trans (congrArg₂ (· + ·) ?_ ?_) <;>
  · refine Finset.sum_congr rfl fun k _ => congrArg₂ (· * ·) (congrArg _ (funext fun a => ?_)) (congrArg _ (funext fun a => ?_))
    · match a with
      | ⟨0, _⟩ => rfl
      | ⟨1, _⟩ => rfl
    · match a with
      | ⟨0, _⟩ => rfl
      | ⟨1, _⟩ => rfl

/-! ## Real entries -/

theorem isReal_pre (hu : ∀ i, IsReal (u i)) (hw : ∀ i, IsReal (wg i)) (i : S4096x2816.Idx) : IsReal (pre u wg i) := by
  rw [← ref_gate, val_main_v2_apply]
  exact isReal_sum _ _ fun k => (hu _).mul (hw _)

end Ref

/-! ## The precondition -/

theorem hPre : Cert.Pre_finite.Facts := ⟨by decide, by decide, by decide, by decide⟩

section Both

variable (m : (ℓ : Loc nD τ sig) → Buf (Elt Ideal) ℓ)

theorem real_of_pre (h : Cert.Pre_KernelIdeal_finite (hPre_finite := hPre) m) (c : Dev nD) :
    (∀ i, IsReal (aU m c i)) ∧ (∀ i, IsReal (aG m c i)) ∧ (∀ i, IsReal (aP m c i)) ∧ (∀ i, IsReal (aD m c i))
      ∧ ∀ i, IsReal (aT m c i) :=
  ⟨fun i => isReal_of_lt (congrFun (h c).1 i), fun i => isReal_of_lt (congrFun (h c).2.1 i),
    fun i => isReal_of_lt (congrFun (h c).2.2.1 i), fun i => isReal_of_lt (congrFun (h c).2.2.2.1 i),
    fun i => isReal_of_lt (congrFun (h c).2.2.2.2 i)⟩

variable (h : Cert.Pre_KernelIdeal_finite (hPre_finite := hPre) m) (c : Dev nD)

include h in
theorem v10_eq (n : Fin 4096) (q : Fin 2816) :
    Cert.ReferenceIdeal.Read.val_main_v10 (F := Ideal) (aU m c) (aG m c) (aP m c) (aD m c) (aT m c) (ix2 n q) = dgate m c n q := by
  obtain ⟨hu, hg, hp, hd, ht⟩ := real_of_pre m h c
  exact ref_dgate _ _ _ _ _ n q ((isReal_sum _ _ fun k => (ht _).mul (hd _)).mul (isReal_pre _ _ hu hp _)) (isReal_pre _ _ hu hg _)

theorem v8_eq (n : Fin 4096) (q : Fin 2816) :
    Cert.ReferenceIdeal.Read.val_main_v8 (F := Ideal) (aU m c) (aG m c) (aD m c) (aT m c) (ix2 n q) = dup m c n q :=
  ref_dup _ _ _ _ n q

include h in
theorem point6 (n : Fin 4096) (k : Fin 3072) : dgateA (B0 m c) (B1 m c) (B2 m c) (B3 m c) n k
    = Cert.ReferenceIdeal.Read.val_main_v17 (F := Ideal) (aU m c) (aG m c) (aP m c) (aD m c) (aT m c) (ix2 n k) := by
  rw [dgateA_eq, ref_v17]
  exact congrArg (fun f => pick f k) (funext fun q => (v10_eq m h c n q).symm)

theorem point7 (n : Fin 4096) (k : Fin 3072) : dupA (B0 m c) (B1 m c) (B2 m c) n k
    = Cert.ReferenceIdeal.Read.val_main_v21 (F := Ideal) (aU m c) (aG m c) (aD m c) (aT m c) (ix2 n k) := by
  rw [dupA_eq, ref_v21]
  exact congrArg (fun f => pick f k) (funext fun q => (v8_eq m c n q).symm)

include h in
theorem point8 (n : Fin 4096) (d : Fin 1024) : duA (B0 m c) (B1 m c) (B2 m c) (B3 m c) (B4 m c) (B5 m c) n d
    = Cert.ReferenceIdeal.Read.val_main_v13 (F := Ideal) (aU m c) (aG m c) (aP m c) (aD m c) (aT m c) (ix2 n d) := by
  rw [duA_eq, ref_du]
  exact congrArg₂ (· + ·) (Finset.sum_congr rfl fun q _ => congrArg (· * _) (v10_eq m h c n q).symm)
    (Finset.sum_congr rfl fun q _ => congrArg (· * _) (v8_eq m c n q).symm)

include h in
theorem same6 : (dats m 0 c).arrAt 6 cfg0.N
    = Cert.ReferenceIdeal.Read.val_main_v17 (F := Ideal) (aU m c) (aG m c) (aP m c) (aD m c) (aT m c) :=
  (arr6 m c).trans (funext fun i : S4096x3072.Idx => (point6 m h c (i 0) (i 1)).trans (congrArg
    (Cert.ReferenceIdeal.Read.val_main_v17 (F := Ideal) (aU m c) (aG m c) (aP m c) (aD m c) (aT m c)) (eq_ix2 i).symm))

theorem same7 : (dats m 0 c).arrAt 7 cfg0.N
    = Cert.ReferenceIdeal.Read.val_main_v21 (F := Ideal) (aU m c) (aG m c) (aD m c) (aT m c) :=
  (arr7 m c).trans (funext fun i : S4096x3072.Idx => (point7 m c (i 0) (i 1)).trans (congrArg
    (Cert.ReferenceIdeal.Read.val_main_v21 (F := Ideal) (aU m c) (aG m c) (aD m c) (aT m c)) (eq_ix2 i).symm))

include h in
theorem same8 : (dats m 0 c).arrAt 8 cfg0.N
    = Cert.ReferenceIdeal.Read.val_main_v13 (F := Ideal) (aU m c) (aG m c) (aP m c) (aD m c) (aT m c) :=
  (arr8 m c).trans (funext fun i : S4096x1024.Idx => (point8 m h c (i 0) (i 1)).trans (congrArg
    (Cert.ReferenceIdeal.Read.val_main_v13 (F := Ideal) (aU m c) (aG m c) (aP m c) (aD m c) (aT m c)) (eq_ix2 i).symm))

end Both

/-! ## The claims -/

theorem ref_frame : Cert.quiescent_ReferenceIdeal (hReferenceIdeal := Cert.ReferenceIdeal.Gen.facts) := fun m ρ _ =>
  (θ_run _ _ _).mono (fun r h => ⟨fun c => (h c).2.2.2, sem_eq_zero_of_no_sems rfl r.2⟩)
    (Cert.ReferenceIdeal.Value.run (F := Ideal) m ρ)

open Cert.ReferenceIdeal.Read in
theorem algebraic : Cert.algebraic_KernelIdeal_ReferenceIdeal_pre_finite (hKernelIdeal := Cert.KernelIdeal.Gen.facts)
    (hReferenceIdeal := Cert.ReferenceIdeal.Gen.facts) (hPre_finite := hPre) := by
  intro m g m' g' h hm
  refine ⟨fun c => val_main_v17 (F := Ideal) (aU m c) (aG m c) (aP m c) (aD m c) (aT m c),
    fun c => val_main_v21 (F := Ideal) (aU m c) (aG m c) (aD m c) (aT m c),
    fun c => val_main_v13 (F := Ideal) (aU m c) (aG m c) (aP m c) (aD m c) (aT m c), ?_, ?_⟩
  · exact (θ_run _ _ _).mono (fun r hr c => ⟨(hr c).1.trans (same6 m h c), (hr c).2.1.trans (same7 m c),
      (hr c).2.2.1.trans (same8 m h c), (hr c).2.2.2⟩) (Cert.KernelIdeal.Value.run_blocks (F := Ideal) m g)
  · refine (θ_run _ _ _).mono (fun r hr c => ?_) (Cert.ReferenceIdeal.Value.run (F := Ideal) m' g')
    obtain ⟨h0, h1, h2, h3, h4⟩ := hm c
    refine ⟨(hr c).1.trans ((val_main_v17_eq _ _ _ _ _).trans ?_), (hr c).2.1.trans ((val_main_v21_eq _ _ _ _).trans ?_),
      (hr c).2.2.1.trans ((val_main_v13_eq _ _ _ _ _).trans ?_), (hr c).2.2.2⟩
    · rw [h0, h1, h2, h3, h4]
    · rw [h0, h1, h3, h4]
    · rw [h0, h1, h2, h3, h4]

end Cert.Swiglu

end
-- ==== Proof.Dw.lean ====
/-
  The weight gradient of the down projection: an output block accumulated over two stretches of 2048 tokens is the
  reference's sum over the 4096 tokens.
-/
module

public import proofs.«01_k».proof.Defs
public import proofs.«01_k».proof.Proof.Kit
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

namespace Cert.Dw

open Idealize.ShloMosaic hiding ix2 ix3 eq_ix2 eq_ix3
open Cert.Kernel2Ideal Cert.Kernel2Ideal.Gen Idealize.ShloMosaic.TcCoe Idealize.SL.Sem
open Idealize.ShloMosaic.ValueIdx Idealize.ShloMosaic.Pipeline
open scoped BigOperators

/-- A stretch's product of the transposed activations with the gradient. -/
theorem pay1_apply (a b : Vec Ideal S2048x1024 .bf16) (k n : Fin 1024) :
    k0_pay1 a b (ix2 k n) = ∑ r : Fin 2048, a (ix2 r k) * b (ix2 r n) := by
  unfold k0_pay1
  refine (Ideal.matmul_apply₁_of dot_S2048x1024_S2048x1024_S1024x1024_0_0_1_1_n_n (a := 0) rfl (K := 2048) rfl a b _ (ix2 k n)
    (fun r => ix2 r k) (fun r => ix2 r n) ?_ ?_).trans ?_
  · intro r; funext a; fin_cases a <;> rfl
  · intro r; funext a; fin_cases a <;> rfl
  · show Ideal.ofBits .f32 0x00000000#32 + _ = _
    rw [Ideal.ofBits_zero_f32, zero_add]

section Run

variable (m : (ℓ : Loc nD τ sig) → Buf (Elt Ideal) ℓ) (c : Dev nD) (t : Fin cfg0.N)

theorem outs_A (h : t.val % 2 = 0) :
    (outsAt0 m c t.val t.isLt).2 = k0_pay2 (iblk m c 0 t) (iblk m c 1 t) := by
  rw [outsAt0_A m c t h (by omega) (by omega)]; frame_out

theorem outs_B (h : t.val % 2 = 1) :
    (outsAt0 m c t.val t.isLt).1 = k0_pay4 (k0_pay3 (iblk m c 0 t) (iblk m c 1 t)
      (outsAt0 m c (t.val - 1) (Nat.lt_of_le_of_lt (Nat.sub_le _ _) t.isLt)).2) := by
  rw [outsAt0_B m c t (by omega) h h]; frame_out
  exact congrArg (fun z => k0_pay4 (k0_pay3 _ _ z)) ((Memref.isWhole_whole _).read_unread _)

theorem idx : ∀ t : Fin cfg0.N, (win0_0.index t 0 = t.val % 2 ∧ win0_0.index t 1 = t.val / 2)
    ∧ (win0_1.index t 0 = t.val % 2 ∧ win0_1.index t 1 = 0) :=
  (by decide +kernel : ∀ t : Fin grid0.N, (win0_0.index t 0 = t.val % 2 ∧ win0_0.index t 1 = t.val / 2)
    ∧ (win0_1.index t 0 = t.val % 2 ∧ win0_1.index t 1 = 0))

abbrev A0 : S4096x3072.Idx → EReal := m ((c : Thread nD τ).loc main_arg0)
abbrev A1 : S4096x1024.Idx → EReal := m ((c : Thread nD τ).loc main_arg1)

theorem read0 (r : Fin 2048) (k : Fin 1024) (n : Fin 4096) (h : Fin 3072) (hn : n.val = 2048 * (t.val % 2) + r.val)
    (hh : h.val = 1024 * (t.val / 2) + k.val) :
    (iblk m c 0 t : Vec Ideal S2048x1024 .bf16) (ix2 r k) = A0 m c (ix2 n h) := by
  obtain ⟨⟨e0, e1⟩, -⟩ := idx t
  unfold iblk
  rw [View.read_apply]
  refine (congrFun (V_main_arg0 m c) _).trans (congrArg (A0 m c) (funext fun a => Fin.ext ?_))
  match a with
  | ⟨0, _⟩ => show win0_0.index t 0 * 2048 + 1 * r.val = n.val; rw [e0]; omega
  | ⟨1, _⟩ => show win0_0.index t 1 * 1024 + 1 * k.val = h.val; rw [e1]; omega

theorem read1 (r : Fin 2048) (k : Fin 1024) (n : Fin 4096) (hn : n.val = 2048 * (t.val % 2) + r.val) :
    (iblk m c 1 t : Vec Ideal S2048x1024 .bf16) (ix2 r k) = A1 m c (ix2 n k) := by
  obtain ⟨-, e0, e1⟩ := idx t
  unfold iblk
  rw [View.read_apply]
  refine (congrFun (V_main_arg1 m c) _).trans (congrArg (A1 m c) (funext fun a => Fin.ext ?_))
  match a with
  | ⟨0, _⟩ => show win0_1.index t 0 * 2048 + 1 * r.val = n.val; rw [e0]; omega
  | ⟨1, _⟩ => show win0_1.index t 1 * 1024 + 1 * k.val = k.val; rw [e1]; omega

end Run

variable (m : (ℓ : Loc nD τ sig) → Buf (Elt Ideal) ℓ) (c : Dev nD)

/-- A row and a column of the weight's gradient. -/
def dw (a : S4096x3072.Idx → EReal) (b : S4096x1024.Idx → EReal) (h : Fin 3072) (n : Fin 1024) : EReal :=
  ∑ r : Fin 4096, a (ix2 r h) * b (ix2 r n)

theorem dw_halves (a : S4096x3072.Idx → EReal) (b : S4096x1024.Idx → EReal) (h : Fin 3072) (n : Fin 1024) :
    dw a b h n = ∑ r : Fin 2048, a (ix2 (⟨r.val, by omega⟩ : Fin 4096) h) * b (ix2 (⟨r.val, by omega⟩ : Fin 4096) n)
      + ∑ r : Fin 2048, a (ix2 (⟨2048 + r.val, by omega⟩ : Fin 4096) h) * b (ix2 (⟨2048 + r.val, by omega⟩ : Fin 4096) n) := by
  unfold dw
  exact Fin.sum_univ_add (a := 2048) (b := 2048) (fun r : Fin 4096 => a (ix2 r h) * b (ix2 r n))

/-- The block a run of two points leaves. -/
theorem block (t : Fin cfg0.N) (ht : t.val % 2 = 1) (k n : Fin 1024) (h : Fin 3072) (hh : h.val = 1024 * (t.val / 2) + k.val) :
    (outsAt0 m c t.val t.isLt).1 (ix2 k n) = dw (A0 m c) (A1 m c) h n := by
  have hp : (outsAt0 m c (t.val - 1) (Nat.lt_of_le_of_lt (Nat.sub_le _ _) t.isLt)).2 = _ :=
    outs_A m c ⟨t.val - 1, Nat.lt_of_le_of_lt (Nat.sub_le _ _) t.isLt⟩ (by show (t.val - 1) % 2 = 0; omega)
  rw [outs_B m c t ht, hp]
  show (shapeCast S1024x1024 (addf (shapeCast S1024x1024 (k0_pay1 _ _) _) (k0_pay1 _ _)) _ : FVec Ideal S1024x1024 .f32) (ix2 k n) = _
  rw [shapeCast_self, shapeCast_self]
  refine (congrArg₂ (· + ·) (pay1_apply _ _ k n) (pay1_apply _ _ k n)).trans ((dw_halves _ _ h n).trans ?_).symm
  refine congrArg₂ (· + ·) (Finset.sum_congr rfl fun r _ => ?_) (Finset.sum_congr rfl fun r _ => ?_)
  · refine (congrArg₂ (fun x y : EReal => x * y) (read0 m c _ r k _ h ?_ ?_) (read1 m c _ r n _ ?_)).symm
    · show r.val = 2048 * ((t.val - 1) % 2) + r.val; omega
    · show h.val = 1024 * ((t.val - 1) / 2) + k.val; omega
    · show r.val = 2048 * ((t.val - 1) % 2) + r.val; omega
  · refine (congrArg₂ (fun x y : EReal => x * y) (read0 m c _ r k _ h ?_ hh) (read1 m c _ r n _ ?_)).symm
    · show 2048 + r.val = 2048 * (t.val % 2) + r.val; omega
    · show 2048 + r.val = 2048 * (t.val % 2) + r.val; omega

theorem G2_apply (k : Fin 3072) (n : Fin 1024) : Value.G2 m c (ix2 k n) = dw (A0 m c) (A1 m c) k n := by
  have hN : cfg0.N = 6 := N_0
  have hpt : Value.pt2Of (ix2 k n) = 2 * (k.val / 1024) + 1 := by
    show 2 * (1 * (k.val / 1024 - 0) + 1 * (n.val / 1024 - 0)) + 1 = _
    have := n.isLt; omega
  have hlt : Value.pt2Of (ix2 k n) < cfg0.N := by rw [hpt, hN]; omega
  unfold Value.G2
  rw [dif_pos hlt, ← Value.outsAt0_sweep m c _ hlt]
  have hl : Value.loc2Of (ix2 k n) = ix2 (⟨k.val % 1024, Nat.mod_lt _ (by decide)⟩ : Fin 1024) n := funext fun a => Fin.ext (by
    match a with
    | ⟨0, _⟩ => rfl
    | ⟨1, _⟩ => exact Nat.mod_eq_of_lt n.isLt)
  rw [hl]
  refine block m c ⟨Value.pt2Of (ix2 k n), hlt⟩ ?_ _ n k ?_
  · show Value.pt2Of (ix2 k n) % 2 = 1; rw [hpt]; omega
  · show k.val = 1024 * (Value.pt2Of (ix2 k n) / 2) + k.val % 1024; rw [hpt]; omega

theorem ref_dw (a : S4096x3072.Idx → EReal) (b : S4096x1024.Idx → EReal) (k : Fin 3072) (n : Fin 1024) :
    Cert.Reference2Ideal.Read.val_main_v6 (F := Ideal) a b (ix2 k n) = dw a b k n := by
  rw [Cert.Reference2Ideal.Read.val_main_v6_apply, Cert.Reference2Ideal.Read.val_main_v5_apply]
  refine (Cert.Reference2Ideal.Read.val_main_v4_apply _ _ _).trans (Finset.sum_congr rfl fun r _ => ?_)
  refine (mul_comm _ _).trans (congrArg₂ (· * ·) (congrArg a (funext fun x => ?_)) (congrArg b (funext fun x => ?_)))
  · match x with
    | ⟨0, _⟩ => rfl
    | ⟨1, _⟩ => rfl
  · match x with
    | ⟨0, _⟩ => rfl
    | ⟨1, _⟩ => rfl

theorem same : Value.G2 m c = Cert.Reference2Ideal.Read.val_main_v6 (F := Ideal) (A0 m c) (A1 m c) :=
  funext fun i : S3072x1024.Idx => (congrArg (Value.G2 m c) (eq_ix2 i)).trans ((G2_apply m c (i 0) (i 1)).trans
    ((ref_dw (A0 m c) (A1 m c) (i 0) (i 1)).symm.trans (congrArg (Cert.Reference2Ideal.Read.val_main_v6 (F := Ideal) (A0 m c) (A1 m c)) (eq_ix2 i).symm)))

theorem ref_frame : Cert.quiescent_Reference2Ideal (hReference2Ideal := Cert.Reference2Ideal.Gen.facts) :=
  fun m ρ _ => (θ_run _ _ _).mono (fun r h => ⟨fun c => (h c).2, sem_eq_zero_of_no_sems rfl r.2⟩)
    (Cert.Reference2Ideal.Value.run (F := Ideal) m ρ)

theorem algebraic : Cert.algebraic_Kernel2Ideal_Reference2Ideal (hKernel2Ideal := Cert.Kernel2Ideal.Gen.facts)
    (hReference2Ideal := Cert.Reference2Ideal.Gen.facts) := by
  intro m g m' g' h hm
  refine ⟨fun c => Cert.Reference2Ideal.Read.val_main_v6 (F := Ideal) (A0 m c) (A1 m c), ?_, ?_⟩
  · exact (θ_run _ _ _).mono (fun r hr c => ⟨(hr c).1.trans (same m c), (hr c).2⟩) (Cert.Kernel2Ideal.Value.run (F := Ideal) m g)
  · refine (θ_run _ _ _).mono (fun r hr c => ?_) (Cert.Reference2Ideal.Value.run (F := Ideal) m' g')
    obtain ⟨h0, h1⟩ := hm c
    refine ⟨(hr c).1.trans ((Cert.Reference2Ideal.Read.val_main_v6_eq _ _).trans ?_), (hr c).2⟩
    rw [h0, h1]

end Cert.Dw

end
-- ==== Proof.FfnUp.lean ====
/-
  The feed-forward up call: the gate's and the up projection's pre-activations and the activation, in four padded segments,
  are the reference's products over the whole hidden axis.
-/
module

public import proofs.«01_k».proof.Defs
public import proofs.«01_k».proof.Proof.SwigluHost
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Quiescent

@[expose] public section

set_option maxRecDepth 16384

noncomputable section

namespace Cert.FfnUp

open Idealize.ShloMosaic hiding ix2 ix3 eq_ix2 eq_ix3
open Cert.Kernel4Ideal Cert.Kernel4Ideal.Gen Idealize.ShloMosaic.TcCoe Idealize.SL.Sem
open Idealize.ShloMosaic.ValueIdx Cert.Kit
open Cert.Swiglu (padZero padZero_eq wide_apply slab_apply hid)
open scoped BigOperators

/-! ## The payloads at an index -/

theorem slab0 (v : Vec Ideal S1x768x1024 .bf16) (k : Fin 768) (d : Fin 1024) :
    shapeCast S768x1024 v shapeCasts_S1x768x1024_S768x1024 (ix2 k d) = v (ix3 (0 : Fin 1) k d) :=
  shapeCast_apply v shapeCasts_S1x768x1024_S768x1024 (ix2 k d) (ix3 (0 : Fin 1) k d) (by
    rewrite [Shape.rowMajor_val_three, Shape.rowMajor_val_two]
    show (0 * 768 + k.val) * 1024 + d.val = k.val * 1024 + d.val
    omega)

theorem pay1_apply (v0 : Vec Ideal S1024x1024 .bf16) (v1 : Vec Ideal S1x768x1024 .bf16) (r : Fin 1024) (k : Fin 768) :
    k0_pay1 v0 v1 (ix2 r k) = ∑ d : Fin 1024, v0 (ix2 r d) * v1 (ix3 (0 : Fin 1) k d) := by
  unfold k0_pay1
  refine (Ideal.matmul_transposedRhs_apply (φ₁ := .bf16) (φ₂ := .bf16) none v0 _ (constant S1024x768 .f32 0x00000000#32) r k).trans ?_
  refine (congrArg (· + _) Ideal.ofBits_zero_f32).trans ((zero_add _).trans (Finset.sum_congr rfl fun d _ => ?_))
  exact congrArg (fun z : EReal => v0 (ix2 r d) * z) (slab0 v1 k d)
theorem pay2_apply (v0 : Vec Ideal S1024x1024 .bf16) (v1 : Vec Ideal S1x768x1024 .bf16) (r : Fin 1024) (k : Fin 768) :
    k0_pay2 v0 v1 (ix2 r k) = ∑ d : Fin 1024, v0 (ix2 r d) * v1 (ix3 (0 : Fin 1) k d) := pay1_apply v0 v1 r k

/-! ## A point's blocks -/

theorem idx : ∀ t : Fin cfg0.N, (win0_0.index t 0 = t.val % 4 ∧ win0_0.index t 1 = 0)
    ∧ (win0_1.index t 0 = t.val / 4 ∧ win0_1.index t 1 = 0 ∧ win0_1.index t 2 = 0)
    ∧ (win0_2.index t 0 = t.val / 4 ∧ win0_2.index t 1 = 0 ∧ win0_2.index t 2 = 0) :=
  (by decide +kernel : ∀ t : Fin grid0.N, (win0_0.index t 0 = t.val % 4 ∧ win0_0.index t 1 = 0)
    ∧ (win0_1.index t 0 = t.val / 4 ∧ win0_1.index t 1 = 0 ∧ win0_1.index t 2 = 0)
    ∧ (win0_2.index t 0 = t.val / 4 ∧ win0_2.index t 1 = 0 ∧ win0_2.index t 2 = 0))

theorem oidx : ∀ t : Fin cfg0.N, (win0_3.index t 0 = t.val % 4 ∧ win0_3.index t 1 = t.val / 4)
    ∧ (win0_4.index t 0 = t.val % 4 ∧ win0_4.index t 1 = t.val / 4)
    ∧ (win0_5.index t 0 = t.val % 4 ∧ win0_5.index t 1 = t.val / 4) :=
  (by decide +kernel : ∀ t : Fin grid0.N, (win0_3.index t 0 = t.val % 4 ∧ win0_3.index t 1 = t.val / 4)
    ∧ (win0_4.index t 0 = t.val % 4 ∧ win0_4.index t 1 = t.val / 4)
    ∧ (win0_5.index t 0 = t.val % 4 ∧ win0_5.index t 1 = t.val / 4))

theorem osize : ∀ t : Fin cfg0.N, (win0_3.xsize (grid0.coords t) 0 = 1024 ∧ win0_3.xsize (grid0.coords t) 1 = 768)
    ∧ (win0_4.xsize (grid0.coords t) 0 = 1024 ∧ win0_4.xsize (grid0.coords t) 1 = 768)
    ∧ (win0_5.xsize (grid0.coords t) 0 = 1024 ∧ win0_5.xsize (grid0.coords t) 1 = 768) :=
  (by decide +kernel : ∀ t : Fin grid0.N, (win0_3.xsize (grid0.coords t) 0 = 1024 ∧ win0_3.xsize (grid0.coords t) 1 = 768)
    ∧ (win0_4.xsize (grid0.coords t) 0 = 1024 ∧ win0_4.xsize (grid0.coords t) 1 = 768)
    ∧ (win0_5.xsize (grid0.coords t) 0 = 1024 ∧ win0_5.xsize (grid0.coords t) 1 = 768))

section Run

variable (m : (ℓ : Loc nD τ sig) → Buf (Elt Ideal) ℓ) (c : Dev nD)

abbrev aU : S4096x1024.Idx → EReal := m ((c : Thread nD τ).loc main_arg0)
abbrev aG : S1024x2816.Idx → EReal := m ((c : Thread nD τ).loc main_arg1)
abbrev aP : S1024x2816.Idx → EReal := m ((c : Thread nD τ).loc main_arg2)
abbrev B1 : S4x768x1024.Idx → EReal := V m c main_v3
abbrev B2 : S4x768x1024.Idx → EReal := V m c main_v7

theorem V_v3 : V m c main_v3 = truncf (F := Ideal) .bf16 (pad S4x768x1024 ![0, 0, 0] ![0, 64, 0] ![0, 0, 0]
    (shapeCast S4x704x1024 (transpose S2816x1024 [1, 0] (aG m c) transposes_S1024x2816_S2816x1024_1_0) shapeCasts_S2816x1024_S4x704x1024)
    padZero pads_S4x704x1024_S4x768x1024_000_0640_000 h_S_) bitsLt_bf16_f32 := by
  simp only [V, hostOps0, hostOps0_1, hostOps0_2, hostOps0_3, hostOps0_4,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v7 : V m c main_v7 = truncf (F := Ideal) .bf16 (pad S4x768x1024 ![0, 0, 0] ![0, 64, 0] ![0, 0, 0]
    (shapeCast S4x704x1024 (transpose S2816x1024 [1, 0] (aP m c) transposes_S1024x2816_S2816x1024_1_0) shapeCasts_S2816x1024_S4x704x1024)
    padZero pads_S4x704x1024_S4x768x1024_000_0640_000 h_S_) bitsLt_bf16_f32 := by
  simp only [V, hostOps0, hostOps0_1, hostOps0_2, hostOps0_3, hostOps0_4,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem B1_apply (j : Fin 4) (k : Fin 768) (d : Fin 1024) : B1 m c (ix3 j k d) = pick (fun q => aG m c (ix2 d q)) (hid j k) :=
  ((congrFun (V_v3 m c) (ix3 j k d)).trans (slab_apply _ _ padZero_eq shapeCasts_S2816x1024_S4x704x1024 pads_S4x704x1024_S4x768x1024_000_0640_000 h_S_ j k d)).trans
    (congrArg (fun f => pick f (hid j k)) (funext fun q => Cert.Swiglu.tr_apply _ q d))
theorem B2_apply (j : Fin 4) (k : Fin 768) (d : Fin 1024) : B2 m c (ix3 j k d) = pick (fun q => aP m c (ix2 d q)) (hid j k) :=
  ((congrFun (V_v7 m c) (ix3 j k d)).trans (slab_apply _ _ padZero_eq shapeCasts_S2816x1024_S4x704x1024 pads_S4x704x1024_S4x768x1024_000_0640_000 h_S_ j k d)).trans
    (congrArg (fun f => pick f (hid j k)) (funext fun q => Cert.Swiglu.tr_apply _ q d))

/-- A pre-activation, and the activation, of a token and a true hidden unit. -/
def pre (u : S4096x1024.Idx → EReal) (w : S1024x2816.Idx → EReal) (n : Fin 4096) (q : Fin 2816) : EReal :=
  ∑ d : Fin 1024, u (ix2 n d) * w (ix2 d q)
def act (u : S4096x1024.Idx → EReal) (wg wp : S1024x2816.Idx → EReal) (n : Fin 4096) (q : Fin 2816) : EReal :=
  pre u wg n q * Ideal.logistic (pre u wg n q) * pre u wp n q

theorem sum_pick_w (u : S4096x1024.Idx → EReal) (w : S1024x2816.Idx → EReal) (n : Fin 4096) (h : Fin 3072) :
    ∑ d : Fin 1024, u (ix2 n d) * pick (fun q => w (ix2 d q)) h = pick (pre u w n) h := by
  by_cases hq : h.val % 768 < 704
  · simp only [pick_pos _ _ hq]; rfl
  · simp only [pick_neg _ _ hq, mul_zero]; exact Finset.sum_const_zero

variable (t : Fin cfg0.N)

theorem read0 (r d : Fin 1024) (n : Fin 4096) (hn : n.val = 1024 * (t.val % 4) + r.val) :
    (iblk m c 0 t : Vec Ideal S1024x1024 .bf16) (ix2 r d) = aU m c (ix2 n d) := by
  obtain ⟨⟨e0, e1⟩, -⟩ := idx t
  unfold iblk
  rw [View.read_apply]
  refine (congrFun (V_main_arg0 m c) _).trans (congrArg (aU m c) (funext fun a => Fin.ext ?_))
  match a with
  | ⟨0, _⟩ => show win0_0.index t 0 * 1024 + 1 * r.val = n.val; rw [e0]; omega
  | ⟨1, _⟩ => show win0_0.index t 1 * 1024 + 1 * d.val = d.val; rw [e1]; omega

theorem read1 (k : Fin 768) (d : Fin 1024) (j : Fin 4) (hj : j.val = t.val / 4) :
    (iblk m c 1 t : Vec Ideal S1x768x1024 .bf16) (ix3 (0 : Fin 1) k d) = B1 m c (ix3 j k d) := by
  obtain ⟨-, ⟨e0, e1, e2⟩, -⟩ := idx t
  unfold iblk
  rw [View.read_apply]
  show V m c main_v3 _ = V m c main_v3 _
  refine congrArg (V m c main_v3) (funext fun a => Fin.ext ?_)
  match a with
  | ⟨0, _⟩ => show win0_1.index t 0 * 1 + 1 * 0 = j.val; rw [e0]; omega
  | ⟨1, _⟩ => show win0_1.index t 1 * 768 + 1 * k.val = k.val; rw [e1]; omega
  | ⟨2, _⟩ => show win0_1.index t 2 * 1024 + 1 * d.val = d.val; rw [e2]; omega

theorem read2 (k : Fin 768) (d : Fin 1024) (j : Fin 4) (hj : j.val = t.val / 4) :
    (iblk m c 2 t : Vec Ideal S1x768x1024 .bf16) (ix3 (0 : Fin 1) k d) = B2 m c (ix3 j k d) := by
  obtain ⟨-, -, ⟨e0, e1, e2⟩⟩ := idx t
  unfold iblk
  rw [View.read_apply]
  show V m c main_v7 _ = V m c main_v7 _
  refine congrArg (V m c main_v7) (funext fun a => Fin.ext ?_)
  match a with
  | ⟨0, _⟩ => show win0_2.index t 0 * 1 + 1 * 0 = j.val; rw [e0]; omega
  | ⟨1, _⟩ => show win0_2.index t 1 * 768 + 1 * k.val = k.val; rw [e1]; omega
  | ⟨2, _⟩ => show win0_2.index t 2 * 1024 + 1 * d.val = d.val; rw [e2]; omega

section Point

variable (r : Fin 1024) (k : Fin 768) (n : Fin 4096) (hn : n.val = 1024 * (t.val % 4) + r.val)
  (h : Fin 3072) (hh : h.val = 768 * (t.val / 4) + k.val)
include hn hh

theorem gate_point : k0_pay1 (iblk m c 0 t : Vec Ideal S1024x1024 .bf16) (iblk m c 1 t : Vec Ideal S1x768x1024 .bf16) (ix2 r k)
    = pick (pre (aU m c) (aG m c) n) h := by
  refine (pay1_apply _ _ r k).trans ((Finset.sum_congr rfl fun d _ => ?_).trans (sum_pick_w (aU m c) (aG m c) n h))
  refine congrArg₂ (fun x y : EReal => x * y) (read0 m c t r d n hn) ((read1 m c t k d ⟨t.val / 4, by have := t.isLt; have hN : cfg0.N = 16 := N_0; omega⟩ rfl).trans
    ((B1_apply m c _ k d).trans (congrArg _ (Fin.ext ?_))))
  show 768 * (t.val / 4) + k.val = h.val; omega

theorem up_point : k0_pay2 (iblk m c 0 t : Vec Ideal S1024x1024 .bf16) (iblk m c 2 t : Vec Ideal S1x768x1024 .bf16) (ix2 r k)
    = pick (pre (aU m c) (aP m c) n) h := by
  refine (pay2_apply _ _ r k).trans ((Finset.sum_congr rfl fun d _ => ?_).trans (sum_pick_w (aU m c) (aP m c) n h))
  refine congrArg₂ (fun x y : EReal => x * y) (read0 m c t r d n hn) ((read2 m c t k d ⟨t.val / 4, by have := t.isLt; have hN : cfg0.N = 16 := N_0; omega⟩ rfl).trans
    ((B2_apply m c _ k d).trans (congrArg _ (Fin.ext ?_))))
  show 768 * (t.val / 4) + k.val = h.val; omega

theorem act_point : k0_pay5 (iblk m c 0 t : Vec Ideal S1024x1024 .bf16) (iblk m c 1 t : Vec Ideal S1x768x1024 .bf16)
      (iblk m c 2 t : Vec Ideal S1x768x1024 .bf16) (ix2 r k)
    = pick (act (aU m c) (aG m c) (aP m c) n) h := by
  have e : k0_pay5 (iblk m c 0 t : Vec Ideal S1024x1024 .bf16) (iblk m c 1 t : Vec Ideal S1x768x1024 .bf16)
      (iblk m c 2 t : Vec Ideal S1x768x1024 .bf16) (ix2 r k)
    = pick (pre (aU m c) (aG m c) n) h * Ideal.logistic (pick (pre (aU m c) (aG m c) n) h) * pick (pre (aU m c) (aP m c) n) h := by
    rw [← gate_point m c t r k n hn h hh, ← up_point m c t r k n hn h hh]; rfl
  rw [e]
  by_cases hq : h.val % 768 < 704
  · simp only [pick_pos _ _ hq]; rfl
  · simp only [pick_neg _ _ hq, mul_zero]

end Point

/-- A result array given the block each point writes back. -/
theorem arr3 : ((dats m 0 c).arrAt 3 cfg0.N : S4096x3072.Idx → EReal) = fun i => pick (pre (aU m c) (aG m c) (i 0)) (i 1) := by
  refine (dats m 0 c).arrAt_eq_of_cover 3 (fun i : S4096x3072.Idx => pick (pre (aU m c) (aG m c) (i 0)) (i 1)) (fun t _ => ?_) fun i => ?_
  · obtain ⟨⟨e0, e1⟩, -⟩ := oidx t
    rw [Value.flushed3]
    funext y
    rw [View.read_apply]
    obtain ⟨r, k, rfl⟩ : ∃ (r : Fin 1024) (k : Fin 768), y = (ix2 r k : S1024x768.Idx) := ⟨y 0, y 1, eq_ix2 y⟩
    have e : out0_3 (iblk m c 0 t) (iblk m c 1 t) (iblk m c 2 t) = k0_pay3 (iblk m c 0 t) (iblk m c 1 t) := by frame_out
    refine (congrFun e (ix2 r k)).trans (gate_point m c t r k _ ?_ _ ?_)
    · show win0_3.index t 0 * 1024 + 1 * r.val = _; rw [e0]; omega
    · show win0_3.index t 1 * 768 + 1 * k.val = _; rw [e1]; omega
  · have h0 : (i 0 : Nat) < 4096 := (i 0).isLt
    have h1 : (i 1 : Nat) < 3072 := (i 1).isLt
    have hN : cfg0.N = 16 := N_0
    let t : Fin cfg0.N := ⟨4 * ((i 1 : Nat) / 768) + (i 0 : Nat) / 1024, by omega⟩
    obtain ⟨⟨e0, e1⟩, -⟩ := oidx t
    obtain ⟨⟨s0, s1⟩, -⟩ := osize t
    have t0 : t.val % 4 = (i 0 : Nat) / 1024 := by show (4 * ((i 1 : Nat) / 768) + (i 0 : Nat) / 1024) % 4 = _; omega
    have t1 : t.val / 4 = (i 1 : Nat) / 768 := by show (4 * ((i 1 : Nat) / 768) + (i 0 : Nat) / 1024) / 4 = _; omega
    refine ⟨t, flush0_3 t, ?_⟩
    show i ∈ ((View.whole main_v8_0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + win0_3.xsize (grid0.coords t) 0
                rw [e0, s0, t0]; omega
    | ⟨1, _⟩ => show win0_3.index t 1 * 768 ≤ (i 1 : Nat) ∧ (i 1 : Nat) < win0_3.index t 1 * 768 + win0_3.xsize (grid0.coords t) 1
                rw [e1, s1, t1]; omega

theorem arr4 : ((dats m 0 c).arrAt 4 cfg0.N : S4096x3072.Idx → EReal) = fun i => pick (pre (aU m c) (aP m c) (i 0)) (i 1) := by
  refine (dats m 0 c).arrAt_eq_of_cover 4 (fun i : S4096x3072.Idx => pick (pre (aU m c) (aP m c) (i 0)) (i 1)) (fun t _ => ?_) fun i => ?_
  · obtain ⟨-, ⟨e0, e1⟩, -⟩ := oidx t
    rw [Value.flushed4]
    funext y
    rw [View.read_apply]
    obtain ⟨r, k, rfl⟩ : ∃ (r : Fin 1024) (k : Fin 768), y = (ix2 r k : S1024x768.Idx) := ⟨y 0, y 1, eq_ix2 y⟩
    have e : out0_4 (iblk m c 0 t) (iblk m c 1 t) (iblk m c 2 t) = k0_pay4 (iblk m c 0 t) (iblk m c 2 t) := by frame_out
    refine (congrFun e (ix2 r k)).trans (up_point m c t r k _ ?_ _ ?_)
    · show win0_4.index t 0 * 1024 + 1 * r.val = _; rw [e0]; omega
    · show win0_4.index t 1 * 768 + 1 * k.val = _; rw [e1]; omega
  · have h0 : (i 0 : Nat) < 4096 := (i 0).isLt
    have h1 : (i 1 : Nat) < 3072 := (i 1).isLt
    have hN : cfg0.N = 16 := N_0
    let t : Fin cfg0.N := ⟨4 * ((i 1 : Nat) / 768) + (i 0 : Nat) / 1024, by omega⟩
    obtain ⟨-, ⟨e0, e1⟩, -⟩ := oidx t
    obtain ⟨-, ⟨s0, s1⟩, -⟩ := osize t
    have t0 : t.val % 4 = (i 0 : Nat) / 1024 := by show (4 * ((i 1 : Nat) / 768) + (i 0 : Nat) / 1024) % 4 = _; omega
    have t1 : t.val / 4 = (i 1 : Nat) / 768 := by show (4 * ((i 1 : Nat) / 768) + (i 0 : Nat) / 1024) / 4 = _; omega
    refine ⟨t, flush0_4 t, ?_⟩
    show i ∈ ((View.whole main_v8_1).slice (win0_4.rect t)).set
    rw [View.set_slice_whole, Rect.mem_set_unit]
    intro a
    match a with
    | ⟨0, _⟩ => show win0_4.index t 0 * 1024 ≤ (i 0 : Nat) ∧ (i 0 : Nat) < win0_4.index t 0 * 1024 + win0_4.xsize (grid0.coords t) 0
                rw [e0, s0, t0]; omega
    | ⟨1, _⟩ => show win0_4.index t 1 * 768 ≤ (i 1 : Nat) ∧ (i 1 : Nat) < win0_4.index t 1 * 768 + win0_4.xsize (grid0.coords t) 1
                rw [e1, s1, t1]; omega

theorem arr5 : ((dats m 0 c).arrAt 5 cfg0.N : S4096x3072.Idx → EReal)
    = fun i => pick (act (aU m c) (aG m c) (aP m c) (i 0)) (i 1) := by
  refine (dats m 0 c).arrAt_eq_of_cover 5 (fun i : S4096x3072.Idx => pick (act (aU m c) (aG m c) (aP m c) (i 0)) (i 1)) (fun t _ => ?_) fun i => ?_
  · obtain ⟨-, -, ⟨e0, e1⟩⟩ := oidx t
    rw [Value.flushed5]
    funext y
    rw [View.read_apply]
    obtain ⟨r, k, rfl⟩ : ∃ (r : Fin 1024) (k : Fin 768), y = (ix2 r k : S1024x768.Idx) := ⟨y 0, y 1, eq_ix2 y⟩
    have e : out0_5 (iblk m c 0 t) (iblk m c 1 t) (iblk m c 2 t) = k0_pay5 (iblk m c 0 t) (iblk m c 1 t) (iblk m c 2 t) := by frame_out
    refine (congrFun e (ix2 r k)).trans (act_point m c t r k _ ?_ _ ?_)
    · show win0_5.index t 0 * 1024 + 1 * r.val = _; rw [e0]; omega
    · show win0_5.index t 1 * 768 + 1 * k.val = _; rw [e1]; omega
  · have h0 : (i 0 : Nat) < 4096 := (i 0).isLt
    have h1 : (i 1 : Nat) < 3072 := (i 1).isLt
    have hN : cfg0.N = 16 := N_0
    let t : Fin cfg0.N := ⟨4 * ((i 1 : Nat) / 768) + (i 0 : Nat) / 1024, by omega⟩
    obtain ⟨-, -, ⟨e0, e1⟩⟩ := oidx t
    obtain ⟨-, -, ⟨s0, s1⟩⟩ := osize t
    have t0 : t.val % 4 = (i 0 : Nat) / 1024 := by show (4 * ((i 1 : Nat) / 768) + (i 0 : Nat) / 1024) % 4 = _; omega
    have t1 : t.val / 4 = (i 1 : Nat) / 768 := by show (4 * ((i 1 : Nat) / 768) + (i 0 : Nat) / 1024) / 4 = _; omega
    refine ⟨t, flush0_5 t, ?_⟩
    show i ∈ ((View.whole main_v8_2).slice (win0_5.rect t)).set
    rw [View.set_slice_whole, Rect.mem_set_unit]
    intro a
    match a with
    | ⟨0, _⟩ => show win0_5.index t 0 * 1024 ≤ (i 0 : Nat) ∧ (i 0 : Nat) < win0_5.index t 0 * 1024 + win0_5.xsize (grid0.coords t) 0
                rw [e0, s0, t0]; omega
    | ⟨1, _⟩ => show win0_5.index t 1 * 768 ≤ (i 1 : Nat) ∧ (i 1 : Nat) < win0_5.index t 1 * 768 + win0_5.xsize (grid0.coords t) 1
                rw [e1, s1, t1]; omega

end Run

/-! ## The reference -/

section Ref

open Cert.Reference4Ideal.Read

variable (u : S4096x1024.Idx → EReal) (wg wp : S1024x2816.Idx → EReal)

theorem ref_pre (n : Fin 4096) (q : Fin 2816) : val_main_v1 (F := Ideal) u wg (ix2 n q) = pre u wg n q := by
  refine (val_main_v1_apply u wg (ix2 n q)).trans (Finset.sum_congr rfl fun d _ => ?_)
  refine congrArg₂ (fun x y : EReal => x * y) (congrArg u (funext fun a => ?_)) (congrArg wg (funext fun a => ?_))
  · match a with
    | ⟨0, _⟩ => rfl
    | ⟨1, _⟩ => rfl
  · match a with
    | ⟨0, _⟩ => rfl
    | ⟨1, _⟩ => rfl
theorem ref_pre' (n : Fin 4096) (q : Fin 2816) : val_main_v2 (F := Ideal) u wp (ix2 n q) = pre u wp n q := ref_pre u wp n q

theorem ref_sig (i : Cert.Reference4Ideal.S4096x2816.Idx) : val_main_call2_v5 (F := Ideal) u wg i = Ideal.logistic (val_main_v1 (F := Ideal) u wg i) := by
  rw [val_main_call2_v5_apply, val_main_call2_v4_apply, val_main_call2_cst_0_apply, val_main_call2_v3_apply, val_main_call2_v2_apply,
    val_main_call2_cst_apply, val_main_call2_v1_apply, val_main_call2_v0_apply]
  show Ideal.div (Ideal.ofBits .f32 0x3F800000#32) (Ideal.ofBits .f32 0x3F800000#32 + Ideal.exp (-(val_main_v1 (F := Ideal) u wg i))) = _
  rw [Ideal.ofBits_one_f32]; rfl

theorem ref_act (n : Fin 4096) (q : Fin 2816) : val_main_v12 (F := Ideal) u wg wp (ix2 n q) = act u wg wp n q := by
  rw [val_main_v12_apply, val_main_v11_apply, ref_sig, ref_pre, ref_pre']; rfl

theorem ref_v6 (n : Fin 4096) (h : Fin 3072) : val_main_v6 (F := Ideal) u wg (ix2 n h) = pick (pre u wg n) h :=
  (wide_apply (val_main_v1 (F := Ideal) u wg) padZero padZero_eq Cert.Reference4Ideal.Gen.shapeCasts_S4096x2816_S4096x4x704
    Cert.Reference4Ideal.Gen.pads_S4096x4x704_S4096x4x768_000_000_0640 h_S_ Cert.Reference4Ideal.Gen.shapeCasts_S4096x4x768_S4096x3072 n h).trans
    (congrArg (fun f => pick f h) (funext fun q => ref_pre u wg n q))
theorem ref_v10 (n : Fin 4096) (h : Fin 3072) : val_main_v10 (F := Ideal) u wp (ix2 n h) = pick (pre u wp n) h := ref_v6 u wp n h
theorem ref_v16 (n : Fin 4096) (h : Fin 3072) : val_main_v16 (F := Ideal) u wg wp (ix2 n h) = pick (act u wg wp n) h :=
  (wide_apply (val_main_v12 (F := Ideal) u wg wp) padZero padZero_eq Cert.Reference4Ideal.Gen.shapeCasts_S4096x2816_S4096x4x704
    Cert.Reference4Ideal.Gen.pads_S4096x4x704_S4096x4x768_000_000_0640 h_S_ Cert.Reference4Ideal.Gen.shapeCasts_S4096x4x768_S4096x3072 n h).trans
    (congrArg (fun f => pick f h) (funext fun q => ref_act u wg wp n q))

theorem ref_v6' : (fun i : S4096x3072.Idx => pick (pre u wg (i 0)) (i 1)) = val_main_v6 (F := Ideal) u wg :=
  funext fun i : S4096x3072.Idx => (ref_v6 u wg (i 0) (i 1)).symm.trans (congrArg (val_main_v6 (F := Ideal) u wg) (eq_ix2 i).symm)
theorem ref_v10' : (fun i : S4096x3072.Idx => pick (pre u wp (i 0)) (i 1)) = val_main_v10 (F := Ideal) u wp :=
  funext fun i : S4096x3072.Idx => (ref_v10 u wp (i 0) (i 1)).symm.trans (congrArg (val_main_v10 (F := Ideal) u wp) (eq_ix2 i).symm)
theorem ref_v16' : (fun i : S4096x3072.Idx => pick (act u wg wp (i 0)) (i 1)) = val_main_v16 (F := Ideal) u wg wp :=
  funext fun i : S4096x3072.Idx => (ref_v16 u wg wp (i 0) (i 1)).symm.trans (congrArg (val_main_v16 (F := Ideal) u wg wp) (eq_ix2 i).symm)

end Ref

theorem ref_frame : Cert.quiescent_Reference4Ideal (hReference4Ideal := Cert.Reference4Ideal.Gen.facts) :=
  fun m ρ _ => (θ_run _ _ _).mono (fun r h => ⟨fun c => (h c).2.2.2, sem_eq_zero_of_no_sems rfl r.2⟩)
    (Cert.Reference4Ideal.Value.run (F := Ideal) m ρ)

open Cert.Reference4Ideal.Read in
theorem algebraic : Cert.algebraic_Kernel4Ideal_Reference4Ideal (hKernel4Ideal := Cert.Kernel4Ideal.Gen.facts)
    (hReference4Ideal := Cert.Reference4Ideal.Gen.facts) := by
  intro m g m' g' h hm
  refine ⟨fun c => val_main_v6 (F := Ideal) (aU m c) (aG m c), fun c => val_main_v10 (F := Ideal) (aU m c) (aP m c),
    fun c => val_main_v16 (F := Ideal) (aU m c) (aG m c) (aP m c), ?_, ?_⟩
  · exact (θ_run _ _ _).mono (fun r hr c => ⟨(hr c).1.trans ((arr3 m c).trans (ref_v6' _ _)),
      (hr c).2.1.trans ((arr4 m c).trans (ref_v10' _ _)), (hr c).2.2.1.trans ((arr5 m c).trans (ref_v16' _ _ _)), (hr c).2.2.2⟩)
      (Cert.Kernel4Ideal.Value.run_blocks (F := Ideal) m g)
  · refine (θ_run _ _ _).mono (fun r hr c => ?_) (Cert.Reference4Ideal.Value.run (F := Ideal) m' g')
    obtain ⟨h0, h1, h2⟩ := hm c
    refine ⟨(hr c).1.trans ((val_main_v6_eq _ _).trans ?_), (hr c).2.1.trans ((val_main_v10_eq _ _).trans ?_),
      (hr c).2.2.1.trans ((val_main_v16_eq _ _ _).trans ?_), (hr c).2.2.2⟩
    · rw [h0, h1]
    · rw [h0, h2]
    · rw [h0, h1, h2]

end Cert.FfnUp

end
-- ==== Proof.DwOut.lean ====
/-
  The weight gradient of the output projection: an output block accumulated over two stretches of 2048 tokens is the
  reference's sum over the 4096 tokens.
-/
module

public import proofs.«01_k».proof.Defs
public import proofs.«01_k».proof.Proof.Kit
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

namespace Cert.DwOut

open Idealize.ShloMosaic hiding ix2 ix3 eq_ix2 eq_ix3
open Cert.Kernel6Ideal Cert.Kernel6Ideal.Gen Idealize.ShloMosaic.TcCoe Idealize.SL.Sem
open Idealize.ShloMosaic.ValueIdx Idealize.ShloMosaic.Pipeline
open scoped BigOperators

/-- A stretch's product of the transposed activations with the gradient. -/
theorem pay1_apply (a b : Vec Ideal S2048x1024 .bf16) (k n : Fin 1024) :
    k0_pay1 a b (ix2 k n) = ∑ r : Fin 2048, a (ix2 r k) * b (ix2 r n) := by
  unfold k0_pay1
  refine (Ideal.matmul_apply₁_of dot_S2048x1024_S2048x1024_S1024x1024_0_0_1_1_n_n (a := 0) rfl (K := 2048) rfl a b _ (ix2 k n)
    (fun r => ix2 r k) (fun r => ix2 r n) ?_ ?_).trans ?_
  · intro r; funext a; fin_cases a <;> rfl
  · intro r; funext a; fin_cases a <;> rfl
  · show Ideal.ofBits .f32 0x00000000#32 + _ = _
    rw [Ideal.ofBits_zero_f32, zero_add]

section Run

variable (m : (ℓ : Loc nD τ sig) → Buf (Elt Ideal) ℓ) (c : Dev nD) (t : Fin cfg0.N)

theorem outs_A (h : t.val % 2 = 0) :
    (outsAt0 m c t.val t.isLt).2 = k0_pay2 (iblk m c 0 t) (iblk m c 1 t) := by
  rw [outsAt0_A m c t h (by omega) (by omega)]; frame_out

theorem outs_B (h : t.val % 2 = 1) :
    (outsAt0 m c t.val t.isLt).1 = k0_pay4 (k0_pay3 (iblk m c 0 t) (iblk m c 1 t)
      (outsAt0 m c (t.val - 1) (Nat.lt_of_le_of_lt (Nat.sub_le _ _) t.isLt)).2) := by
  rw [outsAt0_B m c t (by omega) h h]; frame_out
  exact congrArg (fun z => k0_pay4 (k0_pay3 _ _ z)) ((Memref.isWhole_whole _).read_unread _)

theorem idx : ∀ t : Fin cfg0.N, (win0_0.index t 0 = t.val % 2 ∧ win0_0.index t 1 = t.val / 2)
    ∧ (win0_1.index t 0 = t.val % 2 ∧ win0_1.index t 1 = 0) :=
  (by decide +kernel : ∀ t : Fin grid0.N, (win0_0.index t 0 = t.val % 2 ∧ win0_0.index t 1 = t.val / 2)
    ∧ (win0_1.index t 0 = t.val % 2 ∧ win0_1.index t 1 = 0))

abbrev A0 : S4096x2048.Idx → EReal := m ((c : Thread nD τ).loc main_arg0)
abbrev A1 : S4096x1024.Idx → EReal := m ((c : Thread nD τ).loc main_arg1)

theorem read0 (r : Fin 2048) (k : Fin 1024) (n : Fin 4096) (h : Fin 2048) (hn : n.val = 2048 * (t.val % 2) + r.val)
    (hh : h.val = 1024 * (t.val / 2) + k.val) :
    (iblk m c 0 t : Vec Ideal S2048x1024 .bf16) (ix2 r k) = A0 m c (ix2 n h) := by
  obtain ⟨⟨e0, e1⟩, -⟩ := idx t
  unfold iblk
  rw [View.read_apply]
  refine (congrFun (V_main_arg0 m c) _).trans (congrArg (A0 m c) (funext fun a => Fin.ext ?_))
  match a with
  | ⟨0, _⟩ => show win0_0.index t 0 * 2048 + 1 * r.val = n.val; rw [e0]; omega
  | ⟨1, _⟩ => show win0_0.index t 1 * 1024 + 1 * k.val = h.val; rw [e1]; omega

theorem read1 (r : Fin 2048) (k : Fin 1024) (n : Fin 4096) (hn : n.val = 2048 * (t.val % 2) + r.val) :
    (iblk m c 1 t : Vec Ideal S2048x1024 .bf16) (ix2 r k) = A1 m c (ix2 n k) := by
  obtain ⟨-, e0, e1⟩ := idx t
  unfold iblk
  rw [View.read_apply]
  refine (congrFun (V_main_arg1 m c) _).trans (congrArg (A1 m c) (funext fun a => Fin.ext ?_))
  match a with
  | ⟨0, _⟩ => show win0_1.index t 0 * 2048 + 1 * r.val = n.val; rw [e0]; omega
  | ⟨1, _⟩ => show win0_1.index t 1 * 1024 + 1 * k.val = k.val; rw [e1]; omega

end Run

variable (m : (ℓ : Loc nD τ sig) → Buf (Elt Ideal) ℓ) (c : Dev nD)

/-- A row and a column of the weight's gradient. -/
def dw (a : S4096x2048.Idx → EReal) (b : S4096x1024.Idx → EReal) (h : Fin 2048) (n : Fin 1024) : EReal :=
  ∑ r : Fin 4096, a (ix2 r h) * b (ix2 r n)

theorem dw_halves (a : S4096x2048.Idx → EReal) (b : S4096x1024.Idx → EReal) (h : Fin 2048) (n : Fin 1024) :
    dw a b h n = ∑ r : Fin 2048, a (ix2 (⟨r.val, by omega⟩ : Fin 4096) h) * b (ix2 (⟨r.val, by omega⟩ : Fin 4096) n)
      + ∑ r : Fin 2048, a (ix2 (⟨2048 + r.val, by omega⟩ : Fin 4096) h) * b (ix2 (⟨2048 + r.val, by omega⟩ : Fin 4096) n) := by
  unfold dw
  exact Fin.sum_univ_add (a := 2048) (b := 2048) (fun r : Fin 4096 => a (ix2 r h) * b (ix2 r n))

/-- The block a run of two points leaves. -/
theorem block (t : Fin cfg0.N) (ht : t.val % 2 = 1) (k n : Fin 1024) (h : Fin 2048) (hh : h.val = 1024 * (t.val / 2) + k.val) :
    (outsAt0 m c t.val t.isLt).1 (ix2 k n) = dw (A0 m c) (A1 m c) h n := by
  have hp : (outsAt0 m c (t.val - 1) (Nat.lt_of_le_of_lt (Nat.sub_le _ _) t.isLt)).2 = _ :=
    outs_A m c ⟨t.val - 1, Nat.lt_of_le_of_lt (Nat.sub_le _ _) t.isLt⟩ (by show (t.val - 1) % 2 = 0; omega)
  rw [outs_B m c t ht, hp]
  show (shapeCast S1024x1024 (addf (shapeCast S1024x1024 (k0_pay1 _ _) _) (k0_pay1 _ _)) _ : FVec Ideal S1024x1024 .f32) (ix2 k n) = _
  rw [shapeCast_self, shapeCast_self]
  refine (congrArg₂ (· + ·) (pay1_apply _ _ k n) (pay1_apply _ _ k n)).trans ((dw_halves _ _ h n).trans ?_).symm
  refine congrArg₂ (· + ·) (Finset.sum_congr rfl fun r _ => ?_) (Finset.sum_congr rfl fun r _ => ?_)
  · refine (congrArg₂ (fun x y : EReal => x * y) (read0 m c _ r k _ h ?_ ?_) (read1 m c _ r n _ ?_)).symm
    · show r.val = 2048 * ((t.val - 1) % 2) + r.val; omega
    · show h.val = 1024 * ((t.val - 1) / 2) + k.val; omega
    · show r.val = 2048 * ((t.val - 1) % 2) + r.val; omega
  · refine (congrArg₂ (fun x y : EReal => x * y) (read0 m c _ r k _ h ?_ hh) (read1 m c _ r n _ ?_)).symm
    · show 2048 + r.val = 2048 * (t.val % 2) + r.val; omega
    · show 2048 + r.val = 2048 * (t.val % 2) + r.val; omega

theorem G2_apply (k : Fin 2048) (n : Fin 1024) : Value.G2 m c (ix2 k n) = dw (A0 m c) (A1 m c) k n := by
  have hN : cfg0.N = 4 := N_0
  have hpt : Value.pt2Of (ix2 k n) = 2 * (k.val / 1024) + 1 := by
    show 2 * (1 * (k.val / 1024 - 0) + 1 * (n.val / 1024 - 0)) + 1 = _
    have := n.isLt; omega
  have hlt : Value.pt2Of (ix2 k n) < cfg0.N := by rw [hpt, hN]; omega
  unfold Value.G2
  rw [dif_pos hlt, ← Value.outsAt0_sweep m c _ hlt]
  have hl : Value.loc2Of (ix2 k n) = ix2 (⟨k.val % 1024, Nat.mod_lt _ (by decide)⟩ : Fin 1024) n := funext fun a => Fin.ext (by
    match a with
    | ⟨0, _⟩ => rfl
    | ⟨1, _⟩ => exact Nat.mod_eq_of_lt n.isLt)
  rw [hl]
  refine block m c ⟨Value.pt2Of (ix2 k n), hlt⟩ ?_ _ n k ?_
  · show Value.pt2Of (ix2 k n) % 2 = 1; rw [hpt]; omega
  · show k.val = 1024 * (Value.pt2Of (ix2 k n) / 2) + k.val % 1024; rw [hpt]; omega

theorem ref_dw (a : S4096x2048.Idx → EReal) (b : S4096x1024.Idx → EReal) (k : Fin 2048) (n : Fin 1024) :
    Cert.Reference6Ideal.Read.val_main_v6 (F := Ideal) a b (ix2 k n) = dw a b k n := by
  rw [Cert.Reference6Ideal.Read.val_main_v6_apply, Cert.Reference6Ideal.Read.val_main_v5_apply]
  refine (Cert.Reference6Ideal.Read.val_main_v4_apply _ _ _).trans (Finset.sum_congr rfl fun r _ => ?_)
  refine (mul_comm _ _).trans (congrArg₂ (· * ·) (congrArg a (funext fun x => ?_)) (congrArg b (funext fun x => ?_)))
  · match x with
    | ⟨0, _⟩ => rfl
    | ⟨1, _⟩ => rfl
  · match x with
    | ⟨0, _⟩ => rfl
    | ⟨1, _⟩ => rfl

theorem same : Value.G2 m c = Cert.Reference6Ideal.Read.val_main_v6 (F := Ideal) (A0 m c) (A1 m c) :=
  funext fun i : S2048x1024.Idx => (congrArg (Value.G2 m c) (eq_ix2 i)).trans ((G2_apply m c (i 0) (i 1)).trans
    ((ref_dw (A0 m c) (A1 m c) (i 0) (i 1)).symm.trans (congrArg (Cert.Reference6Ideal.Read.val_main_v6 (F := Ideal) (A0 m c) (A1 m c)) (eq_ix2 i).symm)))

theorem ref_frame : Cert.quiescent_Reference6Ideal (hReference6Ideal := Cert.Reference6Ideal.Gen.facts) :=
  fun m ρ _ => (θ_run _ _ _).mono (fun r h => ⟨fun c => (h c).2, sem_eq_zero_of_no_sems rfl r.2⟩)
    (Cert.Reference6Ideal.Value.run (F := Ideal) m ρ)

theorem algebraic : Cert.algebraic_Kernel6Ideal_Reference6Ideal (hKernel6Ideal := Cert.Kernel6Ideal.Gen.facts)
    (hReference6Ideal := Cert.Reference6Ideal.Gen.facts) := by
  intro m g m' g' h hm
  refine ⟨fun c => Cert.Reference6Ideal.Read.val_main_v6 (F := Ideal) (A0 m c) (A1 m c), ?_, ?_⟩
  · exact (θ_run _ _ _).mono (fun r hr c => ⟨(hr c).1.trans (same m c), (hr c).2⟩) (Cert.Kernel6Ideal.Value.run (F := Ideal) m g)
  · refine (θ_run _ _ _).mono (fun r hr c => ?_) (Cert.Reference6Ideal.Value.run (F := Ideal) m' g')
    obtain ⟨h0, h1⟩ := hm c
    refine ⟨(hr c).1.trans ((Cert.Reference6Ideal.Read.val_main_v6_eq _ _).trans ?_), (hr c).2⟩
    rw [h0, h1]

end Cert.DwOut

end
-- ==== Proof.DwIn.lean ====
/-
  The gradient of the input projection's columns for two neighbouring segments: an output block each, accumulated over two
  stretches of 2176 tokens, are the reference's sums over the 4352 tokens.
-/
module

public import proofs.«01_k».proof.Defs
public import proofs.«01_k».proof.Proof.Kit
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

namespace Cert.DwIn

open Idealize.ShloMosaic hiding ix2 ix3 eq_ix2 eq_ix3
open Cert.Kernel7Ideal Cert.Kernel7Ideal.Gen Idealize.ShloMosaic.TcCoe Idealize.SL.Sem
open Idealize.ShloMosaic.ValueIdx Idealize.ShloMosaic.Pipeline
open scoped BigOperators

/-- A stretch's product of the transposed gradient with the input. -/
theorem tn_apply (a b : Vec Ideal S2176x1024 .bf16) (k n : Fin 1024) :
    k0_pay1 a b (ix2 k n) = ∑ r : Fin 2176, a (ix2 r k) * b (ix2 r n) := by
  unfold k0_pay1
  refine (Ideal.matmul_apply₁_of dot_S2176x1024_S2176x1024_S1024x1024_0_0_1_1_n_n (a := 0) rfl (K := 2176) rfl a b _ (ix2 k n)
    (fun r => ix2 r k) (fun r => ix2 r n) ?_ ?_).trans ?_
  · intro r; funext a; fin_cases a <;> rfl
  · intro r; funext a; fin_cases a <;> rfl
  · show Ideal.ofBits .f32 0x00000000#32 + _ = _
    rw [Ideal.ofBits_zero_f32, zero_add]

theorem lift0 (v : Vec Ideal S1024x1024 .f32) (k n : Fin 1024) : k0_pay7 v (ix3 (0 : Fin 1) k n) = v (ix2 k n) :=
  shapeCast_apply (truncf (F := Ideal) .bf16 (v : FVec Ideal S1024x1024 .f32) bitsLt_bf16_f32) shapeCasts_S1024x1024_S1x1024x1024 (ix3 (0 : Fin 1) k n) (ix2 k n) (by
    rewrite [Shape.rowMajor_val_three, Shape.rowMajor_val_two]
    show k.val * 1024 + n.val = (0 * 1024 + k.val) * 1024 + n.val
    omega)

/-- A row and a column of the weight's gradient. -/
def dw (a : Cert.Reference7Ideal.S4352x2048.Idx → EReal) (b : S4352x1024.Idx → EReal) (h : Fin 2048) (n : Fin 1024) : EReal :=
  ∑ r : Fin 4352, a (ix2 r h) * b (ix2 r n)

theorem dw_halves (a : Cert.Reference7Ideal.S4352x2048.Idx → EReal) (b : S4352x1024.Idx → EReal) (h : Fin 2048) (n : Fin 1024) :
    dw a b h n = ∑ r : Fin 2176, a (ix2 (⟨r.val, by omega⟩ : Fin 4352) h) * b (ix2 (⟨r.val, by omega⟩ : Fin 4352) n)
      + ∑ r : Fin 2176, a (ix2 (⟨2176 + r.val, by omega⟩ : Fin 4352) h) * b (ix2 (⟨2176 + r.val, by omega⟩ : Fin 4352) n) := by
  unfold dw
  exact Fin.sum_univ_add (a := 2176) (b := 2176) (fun r : Fin 4352 => a (ix2 r h) * b (ix2 r n))

section Run

variable (m : (ℓ : Loc nD τ sig) → Buf (Elt Ideal) ℓ) (c : Dev nD) (t : Fin cfg0.N)

abbrev S0 : S4352x1024.Idx → EReal := m ((c : Thread nD τ).loc main_arg0)
abbrev S1 : S4352x1024.Idx → EReal := m ((c : Thread nD τ).loc main_arg1)
abbrev AU : S4352x1024.Idx → EReal := m ((c : Thread nD τ).loc main_arg2)
/-- The two segments side by side. -/
abbrev SEG : Cert.Reference7Ideal.S4352x2048.Idx → EReal := Cert.Reference7Ideal.Read.val_main_v1 (F := Ideal) (S0 m c) (S1 m c)

theorem cat_lo (a b : S4352x1024.Idx → EReal) (n : Fin 4352) (h : Fin 2048) (k : Fin 1024) (hh : h.val = k.val) :
    Cert.Reference7Ideal.Read.val_main_v1 (F := Ideal) a b (ix2 n h) = a (ix2 n k) :=
  concatenate_apply_piece (t := Cert.Reference7Ideal.S4352x2048) 1 [⟨S4352x1024, a⟩, ⟨S4352x1024, b⟩]
    Cert.Reference7Ideal.Gen.concatenates_S4352x1024_S4352x1024_S4352x2048_d1 (ix2 n h) 0 (by show 0 < 2; omega) S4352x1024 a rfl rfl 0 rfl
    (ix2 n k) (fun x hx => by
      match x, hx with
      | ⟨0, _⟩, _ => rfl
      | ⟨1, _⟩, hx => exact absurd rfl hx) (by show 0 + k.val = h.val; omega)
theorem cat_hi (a b : S4352x1024.Idx → EReal) (n : Fin 4352) (h : Fin 2048) (k : Fin 1024) (hh : h.val = 1024 + k.val) :
    Cert.Reference7Ideal.Read.val_main_v1 (F := Ideal) a b (ix2 n h) = b (ix2 n k) :=
  concatenate_apply_piece (t := Cert.Reference7Ideal.S4352x2048) 1 [⟨S4352x1024, a⟩, ⟨S4352x1024, b⟩]
    Cert.Reference7Ideal.Gen.concatenates_S4352x1024_S4352x1024_S4352x2048_d1 (ix2 n h) 1 (by show 1 < 2; omega) S4352x1024 b rfl rfl 1024 rfl
    (ix2 n k) (fun x hx => by
      match x, hx with
      | ⟨0, _⟩, _ => rfl
      | ⟨1, _⟩, hx => exact absurd rfl hx) (by show 1024 + k.val = h.val; omega)

theorem outs_A (h : t.val = 0) : (outsAt0 m c t.val t.isLt).2 = k0_pay2 (iblk m c 1 t) (iblk m c 0 t) := by
  rw [outsAt0_A m c t (by omega) (by omega) (by omega) (by omega) (by omega)]; frame_out
theorem outs_C (h : t.val = 2) : (outsAt0 m c t.val t.isLt).2 = k0_pay5 (iblk m c 2 t) (iblk m c 0 t) := by
  rw [outsAt0_C m c t (by omega) (by omega) (by omega) (by omega) (by omega)]; frame_out
theorem outs_B (h : t.val = 1) : (outsAt0 m c t.val t.isLt).1 = k0_pay7 (k0_pay3 (iblk m c 1 t) (iblk m c 0 t)
    (outsAt0 m c (t.val - 1) (Nat.lt_of_le_of_lt (Nat.sub_le _ _) t.isLt)).2) := by
  rw [outsAt0_B m c t (by omega) (by omega) (by omega) (by omega) (by omega)]; frame_out
  exact congrArg (fun z => k0_pay7 (k0_pay3 _ _ z)) ((Memref.isWhole_whole _).read_unread _)
theorem outs_D (h : t.val = 3) : (outsAt0 m c t.val t.isLt).1 = k0_pay7 (k0_pay6 (iblk m c 2 t) (iblk m c 0 t)
    (outsAt0 m c (t.val - 1) (Nat.lt_of_le_of_lt (Nat.sub_le _ _) t.isLt)).2) := by
  rw [outsAt0_D m c t (by omega) (by omega) (by omega) (by omega) (by omega)]; frame_out
  exact congrArg (fun z => k0_pay7 (k0_pay6 _ _ z)) ((Memref.isWhole_whole _).read_unread _)

theorem idx : ∀ t : Fin cfg0.N, (win0_0.index t 0 = t.val % 2 ∧ win0_0.index t 1 = 0)
    ∧ (t.val < 2 → win0_1.index t 0 = t.val % 2 ∧ win0_1.index t 1 = 0)
    ∧ (2 ≤ t.val → win0_2.index t 0 = t.val % 2 ∧ win0_2.index t 1 = 0) :=
  (by decide +kernel : ∀ t : Fin grid0.N, (win0_0.index t 0 = t.val % 2 ∧ win0_0.index t 1 = 0)
    ∧ (t.val < 2 → win0_1.index t 0 = t.val % 2 ∧ win0_1.index t 1 = 0)
    ∧ (2 ≤ t.val → win0_2.index t 0 = t.val % 2 ∧ win0_2.index t 1 = 0))

theorem read0 (r : Fin 2176) (k : Fin 1024) (n : Fin 4352) (hn : n.val = 2176 * (t.val % 2) + r.val) :
    (iblk m c 0 t : Vec Ideal S2176x1024 .bf16) (ix2 r k) = AU m c (ix2 n k) := by
  obtain ⟨⟨e0, e1⟩, -⟩ := idx t
  unfold iblk
  rw [View.read_apply]
  refine (congrFun (V_main_arg2 m c) _).trans (congrArg (AU m c) (funext fun a => Fin.ext ?_))
  match a with
  | ⟨0, _⟩ => show win0_0.index t 0 * 2176 + 1 * r.val = n.val; rw [e0]; omega
  | ⟨1, _⟩ => show win0_0.index t 1 * 1024 + 1 * k.val = k.val; rw [e1]; omega

theorem read1 (ht : t.val < 2) (r : Fin 2176) (k : Fin 1024) (n : Fin 4352) (hn : n.val = 2176 * (t.val % 2) + r.val) :
    (iblk m c 1 t : Vec Ideal S2176x1024 .bf16) (ix2 r k) = S0 m c (ix2 n k) := by
  obtain ⟨-, e, -⟩ := idx t
  obtain ⟨e0, e1⟩ := e ht
  unfold iblk
  rw [View.read_apply]
  refine (congrFun (V_main_arg0 m c) _).trans (congrArg (S0 m c) (funext fun a => Fin.ext ?_))
  match a with
  | ⟨0, _⟩ => show win0_1.index t 0 * 2176 + 1 * r.val = n.val; rw [e0]; omega
  | ⟨1, _⟩ => show win0_1.index t 1 * 1024 + 1 * k.val = k.val; rw [e1]; omega

theorem read2 (ht : 2 ≤ t.val) (r : Fin 2176) (k : Fin 1024) (n : Fin 4352) (hn : n.val = 2176 * (t.val % 2) + r.val) :
    (iblk m c 2 t : Vec Ideal S2176x1024 .bf16) (ix2 r k) = S1 m c (ix2 n k) := by
  obtain ⟨-, -, e⟩ := idx t
  obtain ⟨e0, e1⟩ := e ht
  unfold iblk
  rw [View.read_apply]
  refine (congrFun (V_main_arg1 m c) _).trans (congrArg (S1 m c) (funext fun a => Fin.ext ?_))
  match a with
  | ⟨0, _⟩ => show win0_2.index t 0 * 2176 + 1 * r.val = n.val; rw [e0]; omega
  | ⟨1, _⟩ => show win0_2.index t 1 * 1024 + 1 * k.val = k.val; rw [e1]; omega

/-- The block a run of two points leaves, the segment's block read as `s` at both points. -/
theorem block_of (x y : Vec Ideal S2176x1024 .bf16) (s : S4352x1024.Idx → EReal) (t' : Fin cfg0.N) (ht : t.val % 2 = 1) (ht' : t'.val % 2 = 0)
    (hx : ∀ (r : Fin 2176) (k : Fin 1024), x (ix2 r k) = s (ix2 (⟨r.val, by omega⟩ : Fin 4352) k))
    (hy : ∀ (r : Fin 2176) (k : Fin 1024), y (ix2 r k) = s (ix2 (⟨2176 + r.val, by omega⟩ : Fin 4352) k))
    (k n : Fin 1024) (h : Fin 2048) (hs : ∀ r : Fin 4352, SEG m c (ix2 r h) = s (ix2 r k)) :
    (∑ r : Fin 2176, x (ix2 r k) * (iblk m c 0 t' : Vec Ideal S2176x1024 .bf16) (ix2 r n))
      + ∑ r : Fin 2176, y (ix2 r k) * (iblk m c 0 t : Vec Ideal S2176x1024 .bf16) (ix2 r n) = dw (SEG m c) (AU m c) h n := by
  refine ((dw_halves _ _ h n).trans ?_).symm
  refine congrArg₂ (fun x y : EReal => x + y) (Finset.sum_congr rfl fun r _ => ?_) (Finset.sum_congr rfl fun r _ => ?_)
  · refine (congrArg₂ (fun x y : EReal => x * y) ((hx r k).trans (hs _).symm) (read0 m c t' r n _ ?_)).symm
    show r.val = 2176 * (t'.val % 2) + r.val; omega
  · refine (congrArg₂ (fun x y : EReal => x * y) ((hy r k).trans (hs _).symm) (read0 m c t r n _ ?_)).symm
    show 2176 + r.val = 2176 * (t.val % 2) + r.val; omega

theorem block (ht : t.val % 2 = 1) (k n : Fin 1024) (h : Fin 2048) (hh : h.val = 1024 * (t.val / 2) + k.val) :
    (outsAt0 m c t.val t.isLt).1 (ix3 (0 : Fin 1) k n) = dw (SEG m c) (AU m c) h n := by
  have hN : cfg0.N = 4 := N_0
  have hlt := t.isLt
  have hpos : t.val - 1 < cfg0.N := Nat.lt_of_le_of_lt (Nat.sub_le _ _) t.isLt
  rcases Nat.lt_or_ge t.val 2 with h2 | h2
  · have hp : (outsAt0 m c (t.val - 1) hpos).2 = _ := outs_A m c ⟨t.val - 1, hpos⟩ (by show t.val - 1 = 0; omega)
    rw [outs_B m c t (by omega), hp]
    refine (lift0 _ k n).trans ?_
    show (shapeCast S1024x1024 (addf (shapeCast S1024x1024 (k0_pay1 _ _) _) (k0_pay1 _ _)) _ : FVec Ideal S1024x1024 .f32) (ix2 k n) = _
    rw [shapeCast_self, shapeCast_self]
    refine (congrArg₂ (fun x y : EReal => x + y) (tn_apply _ _ k n) (tn_apply _ _ k n)).trans
      (block_of m c t _ _ (S0 m c) _ ht (by show (t.val - 1) % 2 = 0; omega) (fun r k => read1 m c _ ?_ r k _ ?_) (fun r k => read1 m c _ h2 r k _ ?_)
        k n h fun r => cat_lo _ _ r h k (by omega))
    · show t.val - 1 < 2; omega
    · show r.val = 2176 * ((t.val - 1) % 2) + r.val; omega
    · show 2176 + r.val = 2176 * (t.val % 2) + r.val; omega
  · have hp : (outsAt0 m c (t.val - 1) hpos).2 = _ := outs_C m c ⟨t.val - 1, hpos⟩ (by show t.val - 1 = 2; omega)
    rw [outs_D m c t (by omega), hp]
    refine (lift0 _ k n).trans ?_
    show (shapeCast S1024x1024 (addf (shapeCast S1024x1024 (k0_pay4 _ _) _) (k0_pay4 _ _)) _ : FVec Ideal S1024x1024 .f32) (ix2 k n) = _
    rw [shapeCast_self, shapeCast_self]
    refine (congrArg₂ (fun x y : EReal => x + y) (tn_apply _ _ k n) (tn_apply _ _ k n)).trans
      (block_of m c t _ _ (S1 m c) _ ht (by show (t.val - 1) % 2 = 0; omega) (fun r k => read2 m c _ ?_ r k _ ?_) (fun r k => read2 m c _ h2 r k _ ?_)
        k n h fun r => cat_hi _ _ r h k (by omega))
    · show 2 ≤ t.val - 1; omega
    · show r.val = 2176 * ((t.val - 1) % 2) + r.val; omega
    · show 2176 + r.val = 2176 * (t.val % 2) + r.val; omega

theorem G3_apply (h : Fin 2048) (n : Fin 1024) : Value.G3 m c (ix3 (0 : Fin 1) h n) = dw (SEG m c) (AU m c) h n := by
  have hN : cfg0.N = 4 := N_0
  have hpt : Value.pt3Of (ix3 (0 : Fin 1) h n) = 2 * (h.val / 1024) + 1 := by
    show 2 * (2 * (0 / 1 - 0) + 1 * (h.val / 1024 - 0) + 1 * (n.val / 1024 - 0)) + 1 = _
    have := n.isLt; omega
  have hlt : Value.pt3Of (ix3 (0 : Fin 1) h n) < cfg0.N := by rw [hpt, hN]; omega
  unfold Value.G3
  rw [dif_pos hlt, ← Value.outsAt0_sweep m c _ hlt]
  have hl : Value.loc3Of (ix3 (0 : Fin 1) h n) = ix3 (0 : Fin 1) (⟨h.val % 1024, Nat.mod_lt _ (by decide)⟩ : Fin 1024) n := funext fun a => Fin.ext (by
    match a with
    | ⟨0, _⟩ => rfl
    | ⟨1, _⟩ => rfl
    | ⟨2, _⟩ => exact Nat.mod_eq_of_lt n.isLt)
  rw [hl]
  refine block m c ⟨Value.pt3Of (ix3 (0 : Fin 1) h n), hlt⟩ ?_ _ n h ?_
  · show Value.pt3Of (ix3 (0 : Fin 1) h n) % 2 = 1; rw [hpt]; omega
  · show h.val = 1024 * (Value.pt3Of (ix3 (0 : Fin 1) h n) / 2) + h.val % 1024; rw [hpt]; omega

end Run

theorem ref_dw (a a' b : S4352x1024.Idx → EReal) (h : Fin 2048) (n : Fin 1024) :
    Cert.Reference7Ideal.Read.val_main_v9 (F := Ideal) a a' b (ix3 (0 : Fin 1) h n)
      = dw (Cert.Reference7Ideal.Read.val_main_v1 (F := Ideal) a a') b h n := by
  rw [Cert.Reference7Ideal.Read.val_main_v9_apply, Cert.Reference7Ideal.Read.val_main_v8_apply,
    Cert.Reference7Ideal.Read.val_main_v7_apply, Cert.Reference7Ideal.Read.val_main_v6_apply]
  refine (Cert.Reference7Ideal.Read.val_main_v5_apply a a' b _).trans (Finset.sum_congr rfl fun r _ => ?_)
  refine congrArg₂ (fun x y : EReal => x * y) (congrArg (Cert.Reference7Ideal.Read.val_main_v1 (F := Ideal) a a') (funext fun x => ?_))
    (congrArg b (funext fun x => ?_))
  · match x with
    | ⟨0, _⟩ => rfl
    | ⟨1, _⟩ => rfl
  · match x with
    | ⟨0, _⟩ => rfl
    | ⟨1, _⟩ => rfl

theorem same (m : (ℓ : Loc nD τ sig) → Buf (Elt Ideal) ℓ) (c : Dev nD) :
    Value.G3 m c = Cert.Reference7Ideal.Read.val_main_v9 (F := Ideal) (S0 m c) (S1 m c) (AU m c) :=
  funext fun i : S1x2048x1024.Idx => by
    obtain ⟨h, n, rfl⟩ : ∃ (h : Fin 2048) (n : Fin 1024), i = (ix3 (0 : Fin 1) h n : S1x2048x1024.Idx) :=
      ⟨i 1, i 2, (eq_ix3 i).trans (congrArg (fun z : Fin 1 => (ix3 z (i 1) (i 2) : S1x2048x1024.Idx)) (Subsingleton.elim (α := Fin 1) (i 0) 0))⟩
    exact (G3_apply m c h n).trans (ref_dw (S0 m c) (S1 m c) (AU m c) h n).symm

theorem ref_frame : Cert.quiescent_Reference7Ideal (hReference7Ideal := Cert.Reference7Ideal.Gen.facts) :=
  fun m ρ _ => (θ_run _ _ _).mono (fun r h => ⟨fun c => (h c).2, sem_eq_zero_of_no_sems rfl r.2⟩)
    (Cert.Reference7Ideal.Value.run (F := Ideal) m ρ)

theorem algebraic : Cert.algebraic_Kernel7Ideal_Reference7Ideal (hKernel7Ideal := Cert.Kernel7Ideal.Gen.facts)
    (hReference7Ideal := Cert.Reference7Ideal.Gen.facts) := by
  intro m g m' g' h hm
  refine ⟨fun c => Cert.Reference7Ideal.Read.val_main_v9 (F := Ideal) (S0 m c) (S1 m c) (AU m c), ?_, ?_⟩
  · exact (θ_run _ _ _).mono (fun r hr c => ⟨(hr c).1.trans (same m c), (hr c).2⟩) (Cert.Kernel7Ideal.Value.run (F := Ideal) m g)
  · refine (θ_run _ _ _).mono (fun r hr c => ?_) (Cert.Reference7Ideal.Value.run (F := Ideal) m' g')
    obtain ⟨h0, h1, h2⟩ := hm c
    refine ⟨(hr c).1.trans ((Cert.Reference7Ideal.Read.val_main_v9_eq _ _ _).trans ?_), (hr c).2⟩
    rw [h0, h1, h2]

end Cert.DwIn

end
-- ==== Proof.DwIn3.lean ====
/-
  The gradient of the input projection's columns for the convolved channels: two output blocks, each accumulated over two
  stretches of 2176 tokens, are the reference's sums over the 4352 tokens.
-/
module

public import proofs.«01_k».proof.Defs
public import proofs.«01_k».proof.Proof.Kit
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

namespace Cert.DwIn3

open Idealize.ShloMosaic hiding ix2 ix3 eq_ix2 eq_ix3
open Cert.Kernel8Ideal Cert.Kernel8Ideal.Gen Idealize.ShloMosaic.TcCoe Idealize.SL.Sem
open Idealize.ShloMosaic.ValueIdx Idealize.ShloMosaic.Pipeline
open scoped BigOperators

/-- A stretch's product of the transposed gradient with the input. -/
theorem tn_apply (a b : Vec Ideal S2176x1024 .bf16) (k n : Fin 1024) :
    k0_pay1 a b (ix2 k n) = ∑ r : Fin 2176, a (ix2 r k) * b (ix2 r n) := by
  unfold k0_pay1
  refine (Ideal.matmul_apply₁_of dot_S2176x1024_S2176x1024_S1024x1024_0_0_1_1_n_n (a := 0) rfl (K := 2176) rfl a b _ (ix2 k n)
    (fun r => ix2 r k) (fun r => ix2 r n) ?_ ?_).trans ?_
  · intro r; funext a; fin_cases a <;> rfl
  · intro r; funext a; fin_cases a <;> rfl
  · show Ideal.ofBits .f32 0x00000000#32 + _ = _
    rw [Ideal.ofBits_zero_f32, zero_add]

theorem lift0 (v : Vec Ideal S1024x1024 .f32) (k n : Fin 1024) : k0_pay7 v (ix3 (0 : Fin 1) k n) = v (ix2 k n) :=
  shapeCast_apply (truncf (F := Ideal) .bf16 (v : FVec Ideal S1024x1024 .f32) bitsLt_bf16_f32) shapeCasts_S1024x1024_S1x1024x1024 (ix3 (0 : Fin 1) k n) (ix2 k n) (by
    rewrite [Shape.rowMajor_val_three, Shape.rowMajor_val_two]
    show k.val * 1024 + n.val = (0 * 1024 + k.val) * 1024 + n.val
    omega)

/-- A row and a column of the weight's gradient. -/
def dw (a : S4352x2048.Idx → EReal) (b : S4352x1024.Idx → EReal) (h : Fin 2048) (n : Fin 1024) : EReal :=
  ∑ r : Fin 4352, a (ix2 r h) * b (ix2 r n)

theorem dw_halves (a : S4352x2048.Idx → EReal) (b : S4352x1024.Idx → EReal) (h : Fin 2048) (n : Fin 1024) :
    dw a b h n = ∑ r : Fin 2176, a (ix2 (⟨r.val, by omega⟩ : Fin 4352) h) * b (ix2 (⟨r.val, by omega⟩ : Fin 4352) n)
      + ∑ r : Fin 2176, a (ix2 (⟨2176 + r.val, by omega⟩ : Fin 4352) h) * b (ix2 (⟨2176 + r.val, by omega⟩ : Fin 4352) n) := by
  unfold dw
  exact Fin.sum_univ_add (a := 2176) (b := 2176) (fun r : Fin 4352 => a (ix2 r h) * b (ix2 r n))

section Run

variable (m : (ℓ : Loc nD τ sig) → Buf (Elt Ideal) ℓ) (c : Dev nD) (t : Fin cfg0.N)

abbrev SEG : S4352x2048.Idx → EReal := m ((c : Thread nD τ).loc main_arg0)
abbrev AU : S4352x1024.Idx → EReal := m ((c : Thread nD τ).loc main_arg1)

theorem outs_A (h : t.val % 2 = 0) : (outsAt0 m c t.val t.isLt).2 = k0_pay1 (iblk m c 1 t) (iblk m c 0 t) := by
  have hN : cfg0.N = 4 := N_0
  have := t.isLt
  rcases Nat.lt_or_ge t.val 2 with h2 | h2
  · have e : (outsAt0 m c t.val t.isLt).2 = k0_pay2 (iblk m c 1 t) (iblk m c 0 t) := by
      rw [outsAt0_A m c t (by omega) (by omega) (by omega) (by omega) (by omega)]; frame_out
    exact e.trans (shapeCast_self _ _)
  · have e : (outsAt0 m c t.val t.isLt).2 = k0_pay5 (iblk m c 1 t) (iblk m c 0 t) := by
      rw [outsAt0_C m c t (by omega) (by omega) (by omega) (by omega) (by omega)]; frame_out
    exact e.trans (shapeCast_self _ _)

theorem outs_B (h : t.val % 2 = 1) : (outsAt0 m c t.val t.isLt).1 = k0_pay7 (k0_pay3 (iblk m c 1 t) (iblk m c 0 t)
    (outsAt0 m c (t.val - 1) (Nat.lt_of_le_of_lt (Nat.sub_le _ _) t.isLt)).2) := by
  have hN : cfg0.N = 4 := N_0
  have := t.isLt
  rcases Nat.lt_or_ge t.val 2 with h2 | h2
  · have e : (outsAt0 m c t.val t.isLt).1 = k0_pay7 (k0_pay3 (iblk m c 1 t) (iblk m c 0 t)
        (outsAt0 m c (t.val - 1) (Nat.lt_of_le_of_lt (Nat.sub_le _ _) t.isLt)).2) := by
      rw [outsAt0_B m c t (by omega) (by omega) (by omega) (by omega) (by omega)]; frame_out
      exact congrArg (fun z => k0_pay7 (k0_pay3 _ _ z)) ((Memref.isWhole_whole _).read_unread _)
    exact e
  · have e : (outsAt0 m c t.val t.isLt).1 = k0_pay7 (k0_pay6 (iblk m c 1 t) (iblk m c 0 t)
        (outsAt0 m c (t.val - 1) (Nat.lt_of_le_of_lt (Nat.sub_le _ _) t.isLt)).2) := by
      rw [outsAt0_D m c t (by omega) (by omega) (by omega) (by omega) (by omega)]; frame_out
      exact congrArg (fun z => k0_pay7 (k0_pay6 _ _ z)) ((Memref.isWhole_whole _).read_unread _)
    exact e

theorem idx : ∀ t : Fin cfg0.N, (win0_0.index t 0 = t.val % 2 ∧ win0_0.index t 1 = 0)
    ∧ (win0_1.index t 0 = t.val % 2 ∧ win0_1.index t 1 = t.val / 2) :=
  (by decide +kernel : ∀ t : Fin grid0.N, (win0_0.index t 0 = t.val % 2 ∧ win0_0.index t 1 = 0)
    ∧ (win0_1.index t 0 = t.val % 2 ∧ win0_1.index t 1 = t.val / 2))

theorem read0 (r : Fin 2176) (k : Fin 1024) (n : Fin 4352) (hn : n.val = 2176 * (t.val % 2) + r.val) :
    (iblk m c 0 t : Vec Ideal S2176x1024 .bf16) (ix2 r k) = AU m c (ix2 n k) := by
  obtain ⟨⟨e0, e1⟩, -⟩ := idx t
  unfold iblk
  rw [View.read_apply]
  refine (congrFun (V_main_arg1 m c) _).trans (congrArg (AU m c) (funext fun a => Fin.ext ?_))
  match a with
  | ⟨0, _⟩ => show win0_0.index t 0 * 2176 + 1 * r.val = n.val; rw [e0]; omega
  | ⟨1, _⟩ => show win0_0.index t 1 * 1024 + 1 * k.val = k.val; rw [e1]; omega

theorem read1 (r : Fin 2176) (k : Fin 1024) (n : Fin 4352) (h : Fin 2048) (hn : n.val = 2176 * (t.val % 2) + r.val)
    (hh : h.val = 1024 * (t.val / 2) + k.val) :
    (iblk m c 1 t : Vec Ideal S2176x1024 .bf16) (ix2 r k) = SEG m c (ix2 n h) := by
  obtain ⟨-, e0, e1⟩ := idx t
  unfold iblk
  rw [View.read_apply]
  refine (congrFun (V_main_arg0 m c) _).trans (congrArg (SEG m c) (funext fun a => Fin.ext ?_))
  match a with
  | ⟨0, _⟩ => show win0_1.index t 0 * 2176 + 1 * r.val = n.val; rw [e0]; omega
  | ⟨1, _⟩ => show win0_1.index t 1 * 1024 + 1 * k.val = h.val; rw [e1]; omega

/-- The block a run of two points leaves. -/
theorem block (ht : t.val % 2 = 1) (k n : Fin 1024) (h : Fin 2048) (hh : h.val = 1024 * (t.val / 2) + k.val) :
    (outsAt0 m c t.val t.isLt).1 (ix3 (0 : Fin 1) k n) = dw (SEG m c) (AU m c) h n := by
  have hp : (outsAt0 m c (t.val - 1) (Nat.lt_of_le_of_lt (Nat.sub_le _ _) t.isLt)).2 = _ :=
    outs_A m c ⟨t.val - 1, Nat.lt_of_le_of_lt (Nat.sub_le _ _) t.isLt⟩ (by show (t.val - 1) % 2 = 0; omega)
  rw [outs_B m c t ht, hp]
  refine (lift0 _ k n).trans ?_
  show (shapeCast S1024x1024 (addf (k0_pay1 _ _) (k0_pay1 _ _)) _ : FVec Ideal S1024x1024 .f32) (ix2 k n) = _
  rw [shapeCast_self]
  refine (congrArg₂ (fun x y : EReal => x + y) (tn_apply _ _ k n) (tn_apply _ _ k n)).trans ((dw_halves _ _ h n).trans ?_).symm
  refine congrArg₂ (fun x y : EReal => x + y) (Finset.sum_congr rfl fun r _ => ?_) (Finset.sum_congr rfl fun r _ => ?_)
  · refine (congrArg₂ (fun x y : EReal => x * y) (read1 m c _ r k _ h ?_ ?_) (read0 m c _ r n _ ?_)).symm
    · show r.val = 2176 * ((t.val - 1) % 2) + r.val; omega
    · show h.val = 1024 * ((t.val - 1) / 2) + k.val; omega
    · show r.val = 2176 * ((t.val - 1) % 2) + r.val; omega
  · refine (congrArg₂ (fun x y : EReal => x * y) (read1 m c _ r k _ h ?_ hh) (read0 m c _ r n _ ?_)).symm
    · show 2176 + r.val = 2176 * (t.val % 2) + r.val; omega
    · show 2176 + r.val = 2176 * (t.val % 2) + r.val; omega

theorem G2_apply (h : Fin 2048) (n : Fin 1024) : Value.G2 m c (ix3 (0 : Fin 1) h n) = dw (SEG m c) (AU m c) h n := by
  have hN : cfg0.N = 4 := N_0
  have hpt : Value.pt2Of (ix3 (0 : Fin 1) h n) = 2 * (h.val / 1024) + 1 := by
    show 2 * (2 * (0 / 1 - 0) + 1 * (h.val / 1024 - 0) + 1 * (n.val / 1024 - 0)) + 1 = _
    have := n.isLt; omega
  have hlt : Value.pt2Of (ix3 (0 : Fin 1) h n) < cfg0.N := by rw [hpt, hN]; omega
  unfold Value.G2
  rw [dif_pos hlt, ← Value.outsAt0_sweep m c _ hlt]
  have hl : Value.loc2Of (ix3 (0 : Fin 1) h n) = ix3 (0 : Fin 1) (⟨h.val % 1024, Nat.mod_lt _ (by decide)⟩ : Fin 1024) n := funext fun a => Fin.ext (by
    match a with
    | ⟨0, _⟩ => rfl
    | ⟨1, _⟩ => rfl
    | ⟨2, _⟩ => exact Nat.mod_eq_of_lt n.isLt)
  rw [hl]
  refine block m c ⟨Value.pt2Of (ix3 (0 : Fin 1) h n), hlt⟩ ?_ _ n h ?_
  · show Value.pt2Of (ix3 (0 : Fin 1) h n) % 2 = 1; rw [hpt]; omega
  · show h.val = 1024 * (Value.pt2Of (ix3 (0 : Fin 1) h n) / 2) + h.val % 1024; rw [hpt]; omega

end Run

theorem ref_dw (a : S4352x2048.Idx → EReal) (b : S4352x1024.Idx → EReal) (h : Fin 2048) (n : Fin 1024) :
    Cert.Reference8Ideal.Read.val_main_v8 (F := Ideal) a b (ix3 (0 : Fin 1) h n) = dw a b h n := by
  rw [Cert.Reference8Ideal.Read.val_main_v8_apply, Cert.Reference8Ideal.Read.val_main_v7_apply,
    Cert.Reference8Ideal.Read.val_main_v6_apply, Cert.Reference8Ideal.Read.val_main_v5_apply]
  refine (Cert.Reference8Ideal.Read.val_main_v4_apply a b _).trans (Finset.sum_congr rfl fun r _ => ?_)
  refine congrArg₂ (fun x y : EReal => x * y) (congrArg a (funext fun x => ?_)) (congrArg b (funext fun x => ?_))
  · match x with
    | ⟨0, _⟩ => rfl
    | ⟨1, _⟩ => rfl
  · match x with
    | ⟨0, _⟩ => rfl
    | ⟨1, _⟩ => rfl

theorem same (m : (ℓ : Loc nD τ sig) → Buf (Elt Ideal) ℓ) (c : Dev nD) :
    Value.G2 m c = Cert.Reference8Ideal.Read.val_main_v8 (F := Ideal) (SEG m c) (AU m c) :=
  funext fun i : S1x2048x1024.Idx => by
    obtain ⟨h, n, rfl⟩ : ∃ (h : Fin 2048) (n : Fin 1024), i = (ix3 (0 : Fin 1) h n : S1x2048x1024.Idx) :=
      ⟨i 1, i 2, (eq_ix3 i).trans (congrArg (fun z : Fin 1 => (ix3 z (i 1) (i 2) : S1x2048x1024.Idx)) (Subsingleton.elim (α := Fin 1) (i 0) 0))⟩
    exact (G2_apply m c h n).trans (ref_dw (SEG m c) (AU m c) h n).symm

theorem ref_frame : Cert.quiescent_Reference8Ideal (hReference8Ideal := Cert.Reference8Ideal.Gen.facts) :=
  fun m ρ _ => (θ_run _ _ _).mono (fun r h => ⟨fun c => (h c).2, sem_eq_zero_of_no_sems rfl r.2⟩)
    (Cert.Reference8Ideal.Value.run (F := Ideal) m ρ)

theorem algebraic : Cert.algebraic_Kernel8Ideal_Reference8Ideal (hKernel8Ideal := Cert.Kernel8Ideal.Gen.facts)
    (hReference8Ideal := Cert.Reference8Ideal.Gen.facts) := by
  intro m g m' g' h hm
  refine ⟨fun c => Cert.Reference8Ideal.Read.val_main_v8 (F := Ideal) (SEG m c) (AU m c), ?_, ?_⟩
  · exact (θ_run _ _ _).mono (fun r hr c => ⟨(hr c).1.trans (same m c), (hr c).2⟩) (Cert.Kernel8Ideal.Value.run (F := Ideal) m g)
  · refine (θ_run _ _ _).mono (fun r hr c => ?_) (Cert.Reference8Ideal.Value.run (F := Ideal) m' g')
    obtain ⟨h0, h1⟩ := hm c
    refine ⟨(hr c).1.trans ((Cert.Reference8Ideal.Read.val_main_v8_eq _ _).trans ?_), (hr c).2⟩
    rw [h0, h1]

end Cert.DwIn3

end
-- ==== Proof.DwInDt.lean ====
/-
  The gradient of the input projection's last columns: an output block accumulated over two stretches of 2176 tokens is the
  reference's sum over the 4352 tokens.
-/
module

public import proofs.«01_k».proof.Defs
public import proofs.«01_k».proof.Proof.Kit
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

namespace Cert.DwInDt

open Idealize.ShloMosaic hiding ix2 ix3 eq_ix2 eq_ix3
open Cert.Kernel9Ideal Cert.Kernel9Ideal.Gen Idealize.ShloMosaic.TcCoe Idealize.SL.Sem
open Idealize.ShloMosaic.ValueIdx Idealize.ShloMosaic.Pipeline
open scoped BigOperators

/-- A stretch's product of the transposed activations with the gradient. -/
theorem pay1_apply (a : Vec Ideal S2176x128 .bf16) (b : Vec Ideal S2176x1024 .bf16) (k : Fin 128) (n : Fin 1024) :
    k0_pay1 a b (ix2 k n) = ∑ r : Fin 2176, a (ix2 r k) * b (ix2 r n) := by
  unfold k0_pay1
  refine (Ideal.matmul_apply₁_of dot_S2176x128_S2176x1024_S128x1024_0_0_1_1_n_n (a := 0) rfl (K := 2176) rfl a b _ (ix2 k n)
    (fun r => ix2 r k) (fun r => ix2 r n) ?_ ?_).trans ?_
  · intro r; funext a; fin_cases a <;> rfl
  · intro r; funext a; fin_cases a <;> rfl
  · show Ideal.ofBits .f32 0x00000000#32 + _ = _
    rw [Ideal.ofBits_zero_f32, zero_add]

section Run

variable (m : (ℓ : Loc nD τ sig) → Buf (Elt Ideal) ℓ) (c : Dev nD) (t : Fin cfg0.N)

theorem outs_A (h : t.val % 2 = 0) :
    (outsAt0 m c t.val t.isLt).2 = k0_pay2 (iblk m c 0 t) (iblk m c 1 t) := by
  rw [outsAt0_A m c t h (by omega) (by omega)]; frame_out

theorem outs_B (h : t.val % 2 = 1) :
    (outsAt0 m c t.val t.isLt).1 = k0_pay4 (k0_pay3 (iblk m c 0 t) (iblk m c 1 t)
      (outsAt0 m c (t.val - 1) (Nat.lt_of_le_of_lt (Nat.sub_le _ _) t.isLt)).2) := by
  rw [outsAt0_B m c t (by omega) h h]; frame_out
  exact congrArg (fun z => k0_pay4 (k0_pay3 _ _ z)) ((Memref.isWhole_whole _).read_unread _)

theorem idx : ∀ t : Fin cfg0.N, (win0_0.index t 0 = t.val % 2 ∧ win0_0.index t 1 = t.val / 2)
    ∧ (win0_1.index t 0 = t.val % 2 ∧ win0_1.index t 1 = 0) :=
  (by decide +kernel : ∀ t : Fin grid0.N, (win0_0.index t 0 = t.val % 2 ∧ win0_0.index t 1 = t.val / 2)
    ∧ (win0_1.index t 0 = t.val % 2 ∧ win0_1.index t 1 = 0))

abbrev A0 : S4352x128.Idx → EReal := m ((c : Thread nD τ).loc main_arg0)
abbrev A1 : S4352x1024.Idx → EReal := m ((c : Thread nD τ).loc main_arg1)

theorem read0 (r : Fin 2176) (k : Fin 128) (n : Fin 4352) (h : Fin 128) (hn : n.val = 2176 * (t.val % 2) + r.val)
    (hh : h.val = 128 * (t.val / 2) + k.val) :
    (iblk m c 0 t : Vec Ideal S2176x128 .bf16) (ix2 r k) = A0 m c (ix2 n h) := by
  obtain ⟨⟨e0, e1⟩, -⟩ := idx t
  unfold iblk
  rw [View.read_apply]
  refine (congrFun (V_main_arg0 m c) _).trans (congrArg (A0 m c) (funext fun a => Fin.ext ?_))
  match a with
  | ⟨0, _⟩ => show win0_0.index t 0 * 2176 + 1 * r.val = n.val; rw [e0]; omega
  | ⟨1, _⟩ => show win0_0.index t 1 * 128 + 1 * k.val = h.val; rw [e1]; omega

theorem read1 (r : Fin 2176) (k : Fin 1024) (n : Fin 4352) (hn : n.val = 2176 * (t.val % 2) + r.val) :
    (iblk m c 1 t : Vec Ideal S2176x1024 .bf16) (ix2 r k) = A1 m c (ix2 n k) := by
  obtain ⟨-, e0, e1⟩ := idx t
  unfold iblk
  rw [View.read_apply]
  refine (congrFun (V_main_arg1 m c) _).trans (congrArg (A1 m c) (funext fun a => Fin.ext ?_))
  match a with
  | ⟨0, _⟩ => show win0_1.index t 0 * 2176 + 1 * r.val = n.val; rw [e0]; omega
  | ⟨1, _⟩ => show win0_1.index t 1 * 1024 + 1 * k.val = k.val; rw [e1]; omega

end Run

variable (m : (ℓ : Loc nD τ sig) → Buf (Elt Ideal) ℓ) (c : Dev nD)

/-- A row and a column of the weight's gradient. -/
def dw (a : S4352x128.Idx → EReal) (b : S4352x1024.Idx → EReal) (h : Fin 128) (n : Fin 1024) : EReal :=
  ∑ r : Fin 4352, a (ix2 r h) * b (ix2 r n)

theorem dw_halves (a : S4352x128.Idx → EReal) (b : S4352x1024.Idx → EReal) (h : Fin 128) (n : Fin 1024) :
    dw a b h n = ∑ r : Fin 2176, a (ix2 (⟨r.val, by omega⟩ : Fin 4352) h) * b (ix2 (⟨r.val, by omega⟩ : Fin 4352) n)
      + ∑ r : Fin 2176, a (ix2 (⟨2176 + r.val, by omega⟩ : Fin 4352) h) * b (ix2 (⟨2176 + r.val, by omega⟩ : Fin 4352) n) := by
  unfold dw
  exact Fin.sum_univ_add (a := 2176) (b := 2176) (fun r : Fin 4352 => a (ix2 r h) * b (ix2 r n))

/-- The block a run of two points leaves. -/
theorem block (t : Fin cfg0.N) (ht : t.val % 2 = 1) (k : Fin 128) (n : Fin 1024) (h : Fin 128) (hh : h.val = 128 * (t.val / 2) + k.val) :
    (outsAt0 m c t.val t.isLt).1 (ix2 k n) = dw (A0 m c) (A1 m c) h n := by
  have hp : (outsAt0 m c (t.val - 1) (Nat.lt_of_le_of_lt (Nat.sub_le _ _) t.isLt)).2 = _ :=
    outs_A m c ⟨t.val - 1, Nat.lt_of_le_of_lt (Nat.sub_le _ _) t.isLt⟩ (by show (t.val - 1) % 2 = 0; omega)
  rw [outs_B m c t ht, hp]
  show (shapeCast S128x1024 (addf (shapeCast S128x1024 (k0_pay1 _ _) _) (k0_pay1 _ _)) _ : FVec Ideal S128x1024 .f32) (ix2 k n) = _
  rw [shapeCast_self, shapeCast_self]
  refine (congrArg₂ (· + ·) (pay1_apply _ _ k n) (pay1_apply _ _ k n)).trans ((dw_halves _ _ h n).trans ?_).symm
  refine congrArg₂ (· + ·) (Finset.sum_congr rfl fun r _ => ?_) (Finset.sum_congr rfl fun r _ => ?_)
  · refine (congrArg₂ (fun x y : EReal => x * y) (read0 m c _ r k _ h ?_ ?_) (read1 m c _ r n _ ?_)).symm
    · show r.val = 2176 * ((t.val - 1) % 2) + r.val; omega
    · show h.val = 128 * ((t.val - 1) / 2) + k.val; omega
    · show r.val = 2176 * ((t.val - 1) % 2) + r.val; omega
  · refine (congrArg₂ (fun x y : EReal => x * y) (read0 m c _ r k _ h ?_ hh) (read1 m c _ r n _ ?_)).symm
    · show 2176 + r.val = 2176 * (t.val % 2) + r.val; omega
    · show 2176 + r.val = 2176 * (t.val % 2) + r.val; omega

theorem G2_apply (k : Fin 128) (n : Fin 1024) : Value.G2 m c (ix2 k n) = dw (A0 m c) (A1 m c) k n := by
  have hN : cfg0.N = 2 := N_0
  have hpt : Value.pt2Of (ix2 k n) = 1 := by
    show 2 * (1 * (k.val / 128 - 0) + 1 * (n.val / 1024 - 0)) + 1 = _
    have := n.isLt; have := k.isLt; omega
  have hlt : Value.pt2Of (ix2 k n) < cfg0.N := by rw [hpt, hN]; omega
  unfold Value.G2
  rw [dif_pos hlt, ← Value.outsAt0_sweep m c _ hlt]
  have hl : Value.loc2Of (ix2 k n) = ix2 (⟨k.val % 128, Nat.mod_lt _ (by decide)⟩ : Fin 128) n := funext fun a => Fin.ext (by
    match a with
    | ⟨0, _⟩ => rfl
    | ⟨1, _⟩ => exact Nat.mod_eq_of_lt n.isLt)
  rw [hl]
  refine block m c ⟨Value.pt2Of (ix2 k n), hlt⟩ ?_ _ n k ?_
  · show Value.pt2Of (ix2 k n) % 2 = 1; rw [hpt]
  · show k.val = 128 * (Value.pt2Of (ix2 k n) / 2) + k.val % 128; rw [hpt]; have := k.isLt; omega

theorem ref_dw (a : S4352x128.Idx → EReal) (b : S4352x1024.Idx → EReal) (k : Fin 128) (n : Fin 1024) :
    Cert.Reference9Ideal.Read.val_main_v7 (F := Ideal) a b (ix2 k n) = dw a b k n := by
  rw [Cert.Reference9Ideal.Read.val_main_v7_apply]
  rw [Cert.Reference9Ideal.Read.val_main_v6_apply, Cert.Reference9Ideal.Read.val_main_v5_apply]
  refine (Cert.Reference9Ideal.Read.val_main_v4_apply _ _ _).trans (Finset.sum_congr rfl fun r _ => ?_)
  refine congrArg₂ (fun x y : EReal => x * y) (congrArg a (funext fun x => ?_)) (congrArg b (funext fun x => ?_))
  · match x with
    | ⟨0, _⟩ => rfl
    | ⟨1, _⟩ => rfl
  · match x with
    | ⟨0, _⟩ => rfl
    | ⟨1, _⟩ => rfl

theorem same : Value.G2 m c = Cert.Reference9Ideal.Read.val_main_v7 (F := Ideal) (A0 m c) (A1 m c) :=
  funext fun i : S128x1024.Idx => (congrArg (Value.G2 m c) (eq_ix2 i)).trans ((G2_apply m c (i 0) (i 1)).trans
    ((ref_dw (A0 m c) (A1 m c) (i 0) (i 1)).symm.trans (congrArg (Cert.Reference9Ideal.Read.val_main_v7 (F := Ideal) (A0 m c) (A1 m c)) (eq_ix2 i).symm)))

theorem ref_frame : Cert.quiescent_Reference9Ideal (hReference9Ideal := Cert.Reference9Ideal.Gen.facts) :=
  fun m ρ _ => (θ_run _ _ _).mono (fun r h => ⟨fun c => (h c).2, sem_eq_zero_of_no_sems rfl r.2⟩)
    (Cert.Reference9Ideal.Value.run (F := Ideal) m ρ)

theorem algebraic : Cert.algebraic_Kernel9Ideal_Reference9Ideal (hKernel9Ideal := Cert.Kernel9Ideal.Gen.facts)
    (hReference9Ideal := Cert.Reference9Ideal.Gen.facts) := by
  intro m g m' g' h hm
  refine ⟨fun c => Cert.Reference9Ideal.Read.val_main_v7 (F := Ideal) (A0 m c) (A1 m c), ?_, ?_⟩
  · exact (θ_run _ _ _).mono (fun r hr c => ⟨(hr c).1.trans (same m c), (hr c).2⟩) (Cert.Kernel9Ideal.Value.run (F := Ideal) m g)
  · refine (θ_run _ _ _).mono (fun r hr c => ?_) (Cert.Reference9Ideal.Value.run (F := Ideal) m' g')
    obtain ⟨h0, h1⟩ := hm c
    refine ⟨(hr c).1.trans ((Cert.Reference9Ideal.Read.val_main_v7_eq _ _).trans ?_), (hr c).2⟩
    rw [h0, h1]

end Cert.DwInDt

end
-- ==== Proof.NormRow.lean ====
/-
  One row of the root-mean-square normalisation and its gradient, over the extended reals: the gradient as a kernel writes
  it, `r · (g - x̂ · mean (g · x̂))`, and as the derivative taken operation by operation leaves it. Also how a block's rows
  and columns are summed and spread.
-/
module

public import proofs.«01_k».proof.Proof.Kit
public import Idealize.ShloMosaic.Lib.ValueLayout

@[expose] public section

noncomputable section

namespace Cert.NormRow

open Idealize.ShloMosaic Idealize.ShloMosaic.ValueIdx Cert.Kit
open scoped BigOperators

/-! ## Real rows -/

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exists_row {ι : Type} {f : ι → EReal} (h : ∀ i, IsReal (f i)) : ∃ g : ι → ℝ, f = fun i => (g i : EReal) :=
  ⟨fun i => (h i).choose, funext fun i => (h i).choose_spec⟩

/-! ## The constants -/

/-- The width, `1024`. -/
abbrev cN : EReal := Ideal.ofBits .f32 0x44800000#32
/-- The constant added to the mean square. -/
abbrev cE : EReal := Ideal.ofBits .f32 0x358637BD#32
/-- `-1/2`. -/
abbrev cH : EReal := Ideal.ofBits .f32 0xBF000000#32

theorem cN_eq : cN = ((1024 : ℝ) : EReal) := by
  simp [cN, Ideal.ofBits, Ideal.ieee]
  rw [← EReal.coe_mul]; norm_num

theorem cH_eq : cH = ((-(1 / 2) : ℝ) : EReal) := by
  simp [cH, Ideal.ofBits, Ideal.ieee]
  rw [← EReal.coe_mul]; norm_num

theorem cE_pos : ∃ e : ℝ, 0 < e ∧ cE = (e : EReal) := by
  refine ⟨_, ?_, (by simp [cE, Ideal.ofBits, Ideal.ieee]; rfl)⟩
  positivity

theorem div_cN (x : ℝ) : Ideal.div (x : EReal) cN = ((x / 1024 : ℝ) : EReal) := by
  rw [cN_eq, Ideal.div_coe (by norm_num), ← EReal.coe_mul]
  congr 1; ring

/-! ## A row -/

section Row

variable (h g : Fin 1024 → EReal)

/-- The mean square and the constant. -/
def ms : EReal := Ideal.div (∑ k, h k * h k) cN + cE
/-- The reciprocal root. -/
def rstd : EReal := Ideal.rsqrt (ms h)
/-- The normalised row. -/
def xhat (k : Fin 1024) : EReal := h k * rstd h
/-- The gradient as a kernel writes it. -/
def back (k : Fin 1024) : EReal := rstd h * (g k - xhat h k * Ideal.div (∑ j, g j * xhat h j) cN)
/-- The share of the gradient that comes through the mean square, operation by operation. -/
def through : EReal := Ideal.div ((∑ j, h j * g j) * (cH * Ideal.div (rstd h) (ms h))) cN

variable {h g}

theorem ms_real (hh : ∀ k, IsReal (h k)) : ∃ s : ℝ, 0 < s ∧ ms h = (s : EReal) := by
  obtain ⟨f, rfl⟩ := exists_row hh
  obtain ⟨e, he, hE⟩ := cE_pos
  refine ⟨(∑ k, f k * f k) / 1024 + e, ?_, ?_⟩
  · have : 0 ≤ ∑ k, f k * f k := Finset.sum_nonneg fun k _ => mul_self_nonneg _
    positivity
  · unfold ms
    simp only [← EReal.coe_mul]
    rw [← coe_sum, div_cN, hE, ← EReal.coe_add]

theorem rstd_eq {s : ℝ} (hs : 0 < s) (e : ms h = (s : EReal)) : rstd h = (((Real.sqrt s)⁻¹ : ℝ) : EReal) := by
  unfold rstd
  rw [e, Ideal.rsqrt_coe, if_neg (not_lt.mpr hs.le), if_neg hs.ne']

theorem isReal_rstd (hh : ∀ k, IsReal (h k)) : IsReal (rstd h) := by
  obtain ⟨s, hs, e⟩ := ms_real hh
  exact ⟨_, rstd_eq hs e⟩

theorem isReal_xhat (hh : ∀ k, IsReal (h k)) (k : Fin 1024) : IsReal (xhat h k) := (hh k).mul (isReal_rstd hh)

theorem isReal_div_cN {x : EReal} (hx : IsReal x) : IsReal (Ideal.div x cN) := by
  obtain ⟨a, rfl⟩ := hx
  exact ⟨_, div_cN a⟩

theorem isReal_back (hh : ∀ k, IsReal (h k)) (hg : ∀ k, IsReal (g k)) (k : Fin 1024) : IsReal (back h g k) :=
  (isReal_rstd hh).mul (IsReal.sub (hg k) ((isReal_xhat hh k).mul
    (isReal_div_cN (isReal_sum _ _ fun j => (hg j).mul (isReal_xhat hh j)))))

/-- The two forms of the gradient agree on real rows: `r / (r⁻²) = r³`. -/
theorem back_eq (hh : ∀ k, IsReal (h k)) (hg : ∀ k, IsReal (g k)) {x : EReal} (hx : IsReal x) (k : Fin 1024) :
    x + back h g k = x + g k * rstd h + h k * through h g + through h g * h k := by
  obtain ⟨s, hs, e⟩ := ms_real hh
  have er := rstd_eq hs e
  have hq : Real.sqrt s * Real.sqrt s = s := Real.mul_self_sqrt hs.le
  have hp : Real.sqrt s ≠ 0 := (Real.sqrt_pos.mpr hs).ne'
  obtain ⟨f, rfl⟩ := exists_row hh
  obtain ⟨u, rfl⟩ := exists_row hg
  obtain ⟨y, rfl⟩ := hx
  unfold back through xhat
  rw [e, er, cH_eq, Ideal.div_coe hs.ne']
  simp only [← EReal.coe_mul]
  rw [← coe_sum, ← coe_sum]
  simp only [← EReal.coe_mul, div_cN, ← EReal.coe_sub, ← EReal.coe_add]
  congr 1
  have e1 : ∑ j, u j * (f j * (Real.sqrt s)⁻¹) = (∑ j, f j * u j) * (Real.sqrt s)⁻¹ := by
    rw [Finset.sum_mul]
    exact Finset.sum_congr rfl fun j _ => by ring
  rw [e1]
  generalize ∑ j, f j * u j = S
  generalize Real.sqrt s = q at hq hp
  subst hq
  field_simp
  ring

end Row

/-! ## Rows and columns of a block -/

section Block

variable {a b : ℕ}

theorem rowSum_apply (v : FVec Ideal (⟨2, ![a, b]⟩ : Shape) .f32) (acc : BitVec FTy.f32.bits)
    (h : (⟨2, ![a, b]⟩ : Shape).Reduces [1] ⟨1, ![a]⟩) (hφ : FKind.Formats .f32) (hacc : acc = FKind.add.neutral .f32 hφ)
    (i : (⟨1, ![a]⟩ : Shape).Idx) :
    multiReduction (F := Ideal) .add [1] ⟨1, ![a]⟩ v acc h hφ hacc i = ∑ k : Fin b, v (ix2 (i 0) k) := by
  refine (Ideal.multiReduction_add_single v acc h hφ hacc i).trans (Finset.sum_congr rfl fun k _ => congrArg v (funext fun x => ?_))
  match x with
  | ⟨0, _⟩ => rfl
  | ⟨1, _⟩ => rfl

theorem colSum_apply (v : FVec Ideal (⟨2, ![a, b]⟩ : Shape) .f32) (acc : BitVec FTy.f32.bits)
    (h : (⟨2, ![a, b]⟩ : Shape).Reduces [0] ⟨1, ![b]⟩) (hφ : FKind.Formats .f32) (hacc : acc = FKind.add.neutral .f32 hφ)
    (i : (⟨1, ![b]⟩ : Shape).Idx) :
    multiReduction (F := Ideal) .add [0] ⟨1, ![b]⟩ v acc h hφ hacc i = ∑ r : Fin a, v (ix2 r (i 0)) := by
  refine (Ideal.multiReduction_add_single v acc h hφ hacc i).trans (Finset.sum_congr rfl fun k _ => congrArg v (funext fun x => ?_))
  match x with
  | ⟨0, _⟩ => rfl
  | ⟨1, _⟩ => rfl

/-- A column of numbers, one per row, as a block of one column. -/
theorem asColumn_apply {α : Type} (v : (⟨1, ![a]⟩ : Shape).Idx → α) (h : (⟨1, ![a]⟩ : Shape).ShapeCasts ⟨2, ![a, 1]⟩) (r : Fin a) (z : Fin 1) :
    shapeCast ⟨2, ![a, 1]⟩ v h (ix2 r z) = v (ix1 r) :=
  shapeCast_apply v h _ _ (by
    rewrite [Shape.rowMajor_val_one, Shape.rowMajor_val_two]
    show r.val = r.val * 1 + z.val; omega)

/-- A column spread over the lanes. -/
theorem spread_apply {α : Type} (ha : a ≠ 1) (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) :=
  broadcastTo_apply v h _ _ fun x => by
    match x with
    | ⟨0, _⟩ => show r.val = if a = 1 then 0 else r.val; rw [if_neg ha]
    | ⟨1, _⟩ => rfl

end Block

end Cert.NormRow

end
-- ==== Proof.NormBwdBlock.lean ====
/-
  What one block of 512 tokens computes in the feed-forward norm's backward kernel, entry by entry.
-/
module

public import proofs.«01_k».proof.Proof.NormRow
public import proofs.«01_k».proof.Proof.Gen.Kernel3Ideal.Skeleton

@[expose] public section

set_option maxRecDepth 16384

noncomputable section

namespace Cert.NormBwd

open Cert.Kernel3Ideal Cert.Kernel3Ideal.Gen Idealize.ShloMosaic
open Idealize.ShloMosaic.ValueIdx Cert.Kit Cert.NormRow
open scoped BigOperators

/-- Row `r` of a block. -/
abbrev row (v : S512x1024.Idx → EReal) (r : Fin 512) : Fin 1024 → EReal := fun k => v (ix2 r k)
/-- The incoming gradient through the modulation and the norm's weight. -/
abbrev inner (du : S512x1024.Idx → EReal) (sc nw : S1x1024.Idx → EReal) (r : Fin 512) : Fin 1024 → EReal :=
  fun k => du (ix2 r k) * sc (ix2 (0 : Fin 1) k) * nw (ix2 (0 : Fin 1) k)

section Pays

variable (du h1 yl dh2 : Vec Ideal S512x1024 .f32) (g sc nw z : Vec Ideal S1x1024 .f32)

theorem pay4_apply (r : Fin 512) (o : Fin 1) : k0_pay4 h1 (ix2 r o) = rstd (row h1 r) := by
  show Ideal.rsqrt (Ideal.div ((shapeCast S512x1 _ _ : FVec Ideal S512x1 .f32) (ix2 r o)) cN + cE) = _
  unfold rstd ms
  refine congrArg (fun s => Ideal.rsqrt (Ideal.div s cN + cE)) ((asColumn_apply _ _ r o).trans ((rowSum_apply _ _ _ _ _ _).trans ?_))
  refine Finset.sum_congr rfl fun k _ => ?_
  show k0_pay3 h1 _ * k0_pay3 h1 _ = _
  unfold k0_pay3
  rw [shapeCast_self]

theorem pay5_apply (r : Fin 512) (k : Fin 1024) : k0_pay5 h1 (ix2 r k) = xhat (row h1 r) k := by
  unfold xhat
  refine congrArg₂ (fun x y : EReal => x * y) ?_ ((spread_apply (by decide) _ _ r k).trans (pay4_apply h1 r 0))
  unfold k0_pay3
  rw [shapeCast_self]

theorem pay6_eq : k0_pay6 nw = nw := shapeCast_self _ _

theorem pay9_apply (r : Fin 512) (k : Fin 1024) : k0_pay9 du sc (ix2 r k) = du (ix2 r k) * sc (ix2 (0 : Fin 1) k) := by
  refine congrArg₂ (fun x y : EReal => x * y) rfl ((broadcastTo_1b_ab_apply _ _ r k).trans ?_)
  rw [shapeCast_self]

/-- The residual stream's gradient. -/
theorem pay11_apply (r : Fin 512) (k : Fin 1024) :
    k0_pay11 du (k0_pay4 h1) (k0_pay5 h1) (k0_pay6 nw) sc dh2 (ix2 r k)
      = dh2 (ix2 r k) + back (row h1 r) (inner du sc nw r) k := by
  have e45 : ∀ j : Fin 1024, mulf (F := Ideal) (φ := .f32) (k0_pay9 du sc) (broadcastTo S512x1024 (k0_pay6 nw) broadcasts_S1x1024_S512x1024) (ix2 r j)
      = inner du sc nw r j := fun j =>
    congrArg₂ (fun x y : EReal => x * y) (pay9_apply du sc r j) ((broadcastTo_1b_ab_apply _ _ r j).trans (by rw [pay6_eq]))
  refine congrArg₂ (fun x y : EReal => x + y) rfl ?_
  refine congrArg₂ (fun x y : EReal => x * y) ((spread_apply (by decide) _ _ r k).trans (pay4_apply h1 r 0)) ?_
  refine congrArg₂ (fun x y : EReal => x - y) (e45 k) ?_
  refine congrArg₂ (fun x y : EReal => x * y) (pay5_apply h1 r k) ((spread_apply (by decide) _ _ r k).trans ?_)
  refine congrArg (fun s => Ideal.div s cN) ((asColumn_apply _ _ r 0).trans ((rowSum_apply _ _ _ _ _ _).trans ?_))
  exact Finset.sum_congr rfl fun j _ => congrArg₂ (fun x y : EReal => x * y) (e45 j) (pay5_apply h1 r j)

/-- The mixer output's gradient. -/
theorem pay12_apply (r : Fin 512) (k : Fin 1024) :
    k0_pay12 du (k0_pay4 h1) (k0_pay5 h1) (k0_pay6 nw) sc dh2 g (ix2 r k)
      = g (ix2 (0 : Fin 1) k) * (dh2 (ix2 r k) + back (row h1 r) (inner du sc nw r) k) := by
  refine congrArg₂ (fun x y : EReal => x * y) ((broadcastTo_1b_ab_apply _ _ r k).trans ?_) (pay11_apply du h1 dh2 sc nw r k)
  rw [shapeCast_self]

/-! The four rows of column sums. -/

theorem pay7_apply (k : Fin 1024) : k0_pay7 du z (ix2 (0 : Fin 1) k) = z (ix2 (0 : Fin 1) k) + ∑ r : Fin 512, du (ix2 r k) := by
  refine congrArg₂ (fun x y : EReal => x + y) (by rw [shapeCast_self]) ((shapeCast_a_1a_apply _ _ _ _).trans (colSum_apply _ _ _ _ _ _))

theorem pay8_apply (k : Fin 1024) : k0_pay8 du h1 nw z (ix2 (0 : Fin 1) k)
    = z (ix2 (0 : Fin 1) k) + ∑ r : Fin 512, du (ix2 r k) * xhat (row h1 r) k * nw (ix2 (0 : Fin 1) k) := by
  refine congrArg₂ (fun x y : EReal => x + y) (by rw [shapeCast_self]) ((shapeCast_a_1a_apply _ _ _ _).trans
    ((colSum_apply _ _ _ _ _ _).trans (Finset.sum_congr rfl fun r _ => ?_)))
  refine congrArg₂ (fun x y : EReal => x * y) (congrArg₂ (fun x y : EReal => x * y) rfl (pay5_apply h1 r k)) ((broadcastTo_1b_ab_apply _ _ r k).trans ?_)
  rw [pay6_eq]

theorem pay10_apply (k : Fin 1024) : k0_pay10 du (k0_pay5 h1) sc z (ix2 (0 : Fin 1) k)
    = z (ix2 (0 : Fin 1) k) + ∑ r : Fin 512, du (ix2 r k) * sc (ix2 (0 : Fin 1) k) * xhat (row h1 r) k := by
  refine congrArg₂ (fun x y : EReal => x + y) (by rw [shapeCast_self]) ((shapeCast_a_1a_apply _ _ _ _).trans
    ((colSum_apply _ _ _ _ _ _).trans (Finset.sum_congr rfl fun r _ => ?_)))
  exact congrArg₂ (fun x y : EReal => x * y) (pay9_apply du sc r k) (pay5_apply h1 r k)

theorem pay1_apply (k : Fin 1024) :
    k0_pay1 (k0_pay13 z) (k0_pay14 du (k0_pay4 h1) (k0_pay5 h1) (k0_pay6 nw) sc dh2 yl) (ix2 (0 : Fin 1) k)
      = z (ix2 (0 : Fin 1) k) + ∑ r : Fin 512, (dh2 (ix2 r k) + back (row h1 r) (inner du sc nw r) k) * yl (ix2 r k) := by
  refine congrArg₂ (fun x y : EReal => x + y) (congrFun (shapeCast_self _ _) _) ((shapeCast_a_1a_apply _ _ _ _).trans
    ((colSum_apply _ 0x00000000#32 _ (.inl rfl) rfl _).trans (Finset.sum_congr rfl fun r _ => ?_)))
  exact congrArg₂ (fun x y : EReal => x * y) (pay11_apply du h1 dh2 sc nw r k) rfl

end Pays

end Cert.NormBwd

end
-- ==== Proof.RowStore.lean ====
/-
  A buffer written one row at a time: an entry of what the stores leave, and of what a load of one row reads.
-/
module

public import Idealize.ShloMosaic.Lib.Pipeline.ValueKit
public import Idealize.ShloMosaic.Lib.ValueIdx

@[expose] public section

noncomputable section

namespace Cert.RowStore

open Idealize.ShloMosaic hiding ix2 ix3 eq_ix2 eq_ix3
open Idealize.ShloMosaic.ValueIdx Idealize.SL.Sem

variable {a b : ℕ} {Val : EltTy → Type} {sig : RefSig} {κ : Kind} {sp : Space} {e : EltTy}

/-- The array the rows belong to. -/
abbrev Sh (a b : ℕ) : Shape := ⟨2, ![a, b]⟩
/-- Row `o`. -/
abbrev rowR (o : ℕ) (inb : ∀ x, (![o, 0] : Fin 2 → ℕ) x + (![1, b] : Fin 2 → ℕ) x ≤ (Sh a b).size x) : Rect (Sh a b) :=
  Rect.unit (s := Sh a b) ![o, 0] ![1, b] inb

section
variable (o : ℕ) (inb : ∀ x, (![o, 0] : Fin 2 → ℕ) x + (![1, b] : Fin 2 → ℕ) x ≤ (Sh a b).size x) (q : Fin a) (k : Fin b)

theorem emb_row (h : o = q.val) : (rowR o inb).emb (ix2 (0 : Fin 1) k) = ix2 q k := funext fun x => Fin.ext (by
  subst h
  match x with
  | ⟨0, _⟩ => show q.val + 1 * 0 = q.val; omega
  | ⟨1, _⟩ => show 0 + 1 * k.val = k.val; omega)

theorem not_mem_row (h : o ≠ q.val) : (ix2 q k : (Sh a b).Idx) ∉ (rowR o inb).set := fun hm => by
  have := (Rect.mem_set_unit.mp hm) 0
  have h0 : o ≤ q.val ∧ q.val < o + 1 := this
  omega

theorem canon_hit [∀ e, Nonempty (Val e)] (w : (rowR o inb).shape.Idx → Val e) (L : List (View.Piece Val (Sh a b) e)) (h : o = q.val) :
    View.canon (⟨rowR o inb, w⟩ :: L) (ix2 q k) = w (ix2 (0 : Fin 1) k) := by
  rw [← emb_row o inb q k h]; exact View.canon_cons_emb _ w L _

theorem canon_miss [∀ e, Nonempty (Val e)] (w : (rowR o inb).shape.Idx → Val e) (L : List (View.Piece Val (Sh a b) e)) (h : o ≠ q.val) :
    View.canon (⟨rowR o inb, w⟩ :: L) (ix2 q k) = View.canon L (ix2 q k) :=
  View.canon_cons_of_not_mem _ L (not_mem_row o inb q k h)

theorem load_apply [∀ e, Nonempty (Val e)] (v : View sig κ sp (Sh a b) e) (L : List (View.Piece Val (Sh a b) e)) (h : o = q.val) :
    v.readCov L (rowR o inb).toLoadRect (ix2 (0 : Fin 1) k) = View.canon L (ix2 q k) := by
  rw [View.readCov_eq_canon']
  exact congrArg (View.canon L) (emb_row o inb q k h)

theorem ld_row (Z : (Sh a b).Idx → Val e) (h : o = q.val) : View.ld Z (rowR o inb) (ix2 (0 : Fin 1) k) = Z (ix2 q k) :=
  congrArg Z (emb_row o inb q k h)

variable (v : View sig κ sp (Sh a b) e) (f : v.ty.Contents Val)

theorem read_hit (w : (rowR o inb).shape.Idx → Val e) (L : List (View.Piece Val (Sh a b) e)) (h : o = q.val) :
    v.read Val (v.writes Val f (⟨rowR o inb, w⟩ :: L)) (ix2 q k) = w (ix2 (0 : Fin 1) k) := by
  rw [← emb_row o inb q k h]; exact View.read_writes_cons_emb v f _ w L _

theorem read_miss (w : (rowR o inb).shape.Idx → Val e) (L : List (View.Piece Val (Sh a b) e)) (h : o ≠ q.val) :
    v.read Val (v.writes Val f (⟨rowR o inb, w⟩ :: L)) (ix2 q k) = v.read Val (v.writes Val f L) (ix2 q k) := by
  rw [View.writes_cons, View.read_slice_write_of_not_mem (rowR o inb) _ _ _ (by rw [Rect.map_emb_univ]; exact not_mem_row o inb q k h)]

end

/-- Under the rows, a fill of the whole buffer. -/
theorem canon_fill [∀ e, Nonempty (Val e)] (inb : ∀ x, (![0, 0] : Fin 2 → ℕ) x + (![a, b] : Fin 2 → ℕ) x ≤ (Sh a b).size x)
    (Z : (Sh a b).Idx → Val e) (L : List (View.Piece Val (Sh a b) e)) (i : (Sh a b).Idx) :
    View.canon (⟨Rect.unit (s := Sh a b) ![0, 0] ![a, b] inb, Z⟩ :: L) i = Z i := by
  have h : (Rect.unit (s := Sh a b) ![0, 0] ![a, b] inb).emb i = i := funext fun x => Fin.ext (by
    match x with
    | ⟨0, _⟩ => show 0 + 1 * (i 0).val = (i 0).val; omega
    | ⟨1, _⟩ => show 0 + 1 * (i 1).val = (i 1).val; omega)
  refine Eq.trans (congrArg _ h.symm) (View.canon_cons_emb (Rect.unit (s := Sh a b) ![0, 0] ![a, b] inb) Z L i)

end Cert.RowStore

end
-- ==== Proof.NormBwdRun.lean ====
/-
  One grid point of the feed-forward norm's backward kernel: what it leaves in the two result blocks and in the block of
  column sums.
-/
module

public import proofs.«01_k».proof.Proof.NormBwdBlock
public import proofs.«01_k».proof.Proof.RowStore
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.NormBwd

open Idealize.ShloMosaic hiding ix2 ix3 eq_ix2 eq_ix3
open Cert.Kernel3Ideal Cert.Kernel3Ideal.Gen Idealize.ShloMosaic.TcCoe Idealize.SL.Sem
open Idealize.ShloMosaic.ValueIdx Idealize.ShloMosaic.Pipeline Cert.Kit Cert.NormRow
open scoped BigOperators

variable (m : (ℓ : Loc nD τ sig) → Buf (Elt Ideal) ℓ) (c : Dev nD) (t : Fin cfg0.N)

/-- The blocks a point reads. -/
abbrev du : Vec Ideal S512x1024 .f32 := iblk m c 0 t
abbrev h1 : Vec Ideal S512x1024 .f32 := iblk m c 1 t
abbrev yl : Vec Ideal S512x1024 .f32 := iblk m c 2 t
abbrev dh2 : Vec Ideal S512x1024 .f32 := iblk m c 3 t
abbrev vecs : Vec Ideal S8x1024 .f32 := iblk m c 4 t
abbrev vg : Vec Ideal S1x1024 .f32 := View.ld (iblk m c 4 t : Vec Ideal S8x1024 .f32) (Rect.unit (s := S8x1024) ![0, 0] ![1, 1024] inb_S8x1024_S1x1024_0_0)
abbrev vs : Vec Ideal S1x1024 .f32 := View.ld (iblk m c 4 t : Vec Ideal S8x1024 .f32) (Rect.unit (s := S8x1024) ![1, 0] ![1, 1024] inb_S8x1024_S1x1024_1_0)
abbrev vw : Vec Ideal S1x1024 .f32 := View.ld (iblk m c 4 t : Vec Ideal S8x1024 .f32) (Rect.unit (s := S8x1024) ![2, 0] ![1, 1024] inb_S8x1024_S1x1024_2_0)

/-- The residual stream's gradient at a block's entry. -/
def dres (r : Fin 512) (k : Fin 1024) : EReal :=
  dh2 m c t (ix2 r k) + back (row (h1 m c t) r) (inner (du m c t) (vs m c t) (vw m c t) r) k

/-- What a block adds to the column sums. -/
def part (q : Fin 8) (k : Fin 1024) : EReal :=
  match q with
  | 0 => ∑ r : Fin 512, du m c t (ix2 r k)
  | 1 => ∑ r : Fin 512, du m c t (ix2 r k) * xhat (row (h1 m c t) r) k * vw m c t (ix2 (0 : Fin 1) k)
  | 2 => ∑ r : Fin 512, du m c t (ix2 r k) * vs m c t (ix2 (0 : Fin 1) k) * xhat (row (h1 m c t) r) k
  | 3 => ∑ r : Fin 512, dres m c t r k * yl m c t (ix2 r k)
  | _ => 0

theorem outs5_eq : (outsAt0 m c t.val t.isLt).1
    = k0_pay11 (du m c t) (k0_pay4 (h1 m c t)) (k0_pay5 (h1 m c t)) (k0_pay6 (vw m c t)) (vs m c t) (dh2 m c t) := by
  by_cases h : t.val % 8 = 0
  · rw [outsAt0_A m c t h]; frame_out; rfl
  · rw [outsAt0_B m c t h]; frame_out; rfl

theorem outs6_eq : (outsAt0 m c t.val t.isLt).2.1
    = k0_pay12 (du m c t) (k0_pay4 (h1 m c t)) (k0_pay5 (h1 m c t)) (k0_pay6 (vw m c t)) (vs m c t) (dh2 m c t) (vg m c t) := by
  by_cases h : t.val % 8 = 0
  · rw [outsAt0_A m c t h]; frame_out; rfl
  · rw [outsAt0_B m c t h]; frame_out; rfl

theorem outs5 (r : Fin 512) (k : Fin 1024) : (outsAt0 m c t.val t.isLt).1 (ix2 r k) = dres m c t r k := by
  rw [outs5_eq]; exact pay11_apply _ _ _ _ _ r k

theorem outs6 (r : Fin 512) (k : Fin 1024) :
    (outsAt0 m c t.val t.isLt).2.1 (ix2 r k) = vg m c t (ix2 (0 : Fin 1) k) * dres m c t r k := by
  rw [outs6_eq]; exact pay12_apply _ _ _ _ _ _ r k

theorem pay2_apply (i : S8x1024.Idx) : k0_pay2 (F := Ideal) i = 0 := Ideal.ofBits_zero_f32

/-- The first point fills the sums with zeros and adds its own. -/
theorem outs7_A (h : t.val % 8 = 0) (q : Fin 8) (k : Fin 1024) :
    (outsAt0 m c t.val t.isLt).2.2 (ix2 q k) = 0 + part m c t q k := by
  rw [outsAt0_A m c t h]; frame_out
  match q with
  | 0 =>
    refine (RowStore.canon_miss (a := 8) (b := 1024) _ _ 0 k _ _ (by decide)).trans ((RowStore.canon_miss (a := 8) (b := 1024) _ _ 0 k _ _ (by decide)).trans
      ((RowStore.canon_miss (a := 8) (b := 1024) _ _ 0 k _ _ (by decide)).trans ((RowStore.canon_hit (a := 8) (b := 1024) _ _ 0 k _ _ (by decide)).trans
      ((pay7_apply _ _ k).trans (congrArg (· + _) ?_)))))
    exact (RowStore.load_apply (a := 8) (b := 1024) _ _ 0 k _ _ (by decide)).trans ((RowStore.canon_fill _ _ _ _).trans (pay2_apply _))
  | 1 =>
    refine (RowStore.canon_miss (a := 8) (b := 1024) _ _ 1 k _ _ (by decide)).trans ((RowStore.canon_miss (a := 8) (b := 1024) _ _ 1 k _ _ (by decide)).trans
      ((RowStore.canon_hit (a := 8) (b := 1024) _ _ 1 k _ _ (by decide)).trans
      ((pay8_apply _ _ _ _ k).trans (congrArg (· + _) ?_))))
    exact (RowStore.load_apply (a := 8) (b := 1024) _ _ 1 k _ _ (by decide)).trans
      ((RowStore.canon_miss (a := 8) (b := 1024) _ _ 1 k _ _ (by decide)).trans ((RowStore.canon_fill _ _ _ _).trans (pay2_apply _)))
  | 2 =>
    refine (RowStore.canon_miss (a := 8) (b := 1024) _ _ 2 k _ _ (by decide)).trans
      ((RowStore.canon_hit (a := 8) (b := 1024) _ _ 2 k _ _ (by decide)).trans
      ((pay10_apply _ _ _ _ k).trans (congrArg (· + _) ?_)))
    exact (RowStore.load_apply (a := 8) (b := 1024) _ _ 2 k _ _ (by decide)).trans
      ((RowStore.canon_miss (a := 8) (b := 1024) _ _ 2 k _ _ (by decide)).trans ((RowStore.canon_miss (a := 8) (b := 1024) _ _ 2 k _ _ (by decide)).trans
      ((RowStore.canon_fill _ _ _ _).trans (pay2_apply _))))
  | 3 =>
    refine (RowStore.canon_hit (a := 8) (b := 1024) _ _ 3 k _ _ (by decide)).trans
      ((pay1_apply _ _ _ _ _ _ _ k).trans (congrArg (· + _) ?_))
    exact (RowStore.load_apply (a := 8) (b := 1024) _ _ 3 k _ _ (by decide)).trans
      ((RowStore.canon_miss (a := 8) (b := 1024) _ _ 3 k _ _ (by decide)).trans ((RowStore.canon_miss (a := 8) (b := 1024) _ _ 3 k _ _ (by decide)).trans
      ((RowStore.canon_miss (a := 8) (b := 1024) _ _ 3 k _ _ (by decide)).trans ((RowStore.canon_fill _ _ _ _).trans (pay2_apply _)))))
  | ⟨q + 4, hq⟩ =>
    refine (RowStore.canon_miss (a := 8) (b := 1024) _ _ _ k _ _ (by show 3 ≠ q + 4; omega)).trans
      ((RowStore.canon_miss (a := 8) (b := 1024) _ _ _ k _ _ (by show 2 ≠ q + 4; omega)).trans
      ((RowStore.canon_miss (a := 8) (b := 1024) _ _ _ k _ _ (by show 1 ≠ q + 4; omega)).trans
      ((RowStore.canon_miss (a := 8) (b := 1024) _ _ _ k _ _ (by show 0 ≠ q + 4; omega)).trans
      ((RowStore.canon_fill _ _ _ _).trans ((pay2_apply _).trans (add_zero 0).symm)))))

/-- Every other point adds to what the point before it left. -/
theorem outs7_B (h : ¬t.val % 8 = 0) (q : Fin 8) (k : Fin 1024) :
    (outsAt0 m c t.val t.isLt).2.2 (ix2 q k)
      = (outsAt0 m c (t.val - 1) (Nat.lt_of_le_of_lt (Nat.sub_le _ _) t.isLt)).2.2 (ix2 q k) + part m c t q k := by
  rw [outsAt0_B m c t h]; frame_out
  match q with
  | 0 =>
    refine (RowStore.read_miss (a := 8) (b := 1024) _ _ 0 k _ _ _ _ (by decide)).trans ((RowStore.read_miss (a := 8) (b := 1024) _ _ 0 k _ _ _ _ (by decide)).trans
      ((RowStore.read_miss (a := 8) (b := 1024) _ _ 0 k _ _ _ _ (by decide)).trans ((RowStore.read_hit (a := 8) (b := 1024) _ _ 0 k _ _ _ _ (by decide)).trans
      ((pay7_apply _ _ k).trans (congrArg (· + _) (RowStore.ld_row (a := 8) (b := 1024) _ _ 0 k _ (by decide)))))))
  | 1 =>
    refine (RowStore.read_miss (a := 8) (b := 1024) _ _ 1 k _ _ _ _ (by decide)).trans ((RowStore.read_miss (a := 8) (b := 1024) _ _ 1 k _ _ _ _ (by decide)).trans
      ((RowStore.read_hit (a := 8) (b := 1024) _ _ 1 k _ _ _ _ (by decide)).trans
      ((pay8_apply _ _ _ _ k).trans (congrArg (· + _) (RowStore.ld_row (a := 8) (b := 1024) _ _ 1 k _ (by decide))))))
  | 2 =>
    refine (RowStore.read_miss (a := 8) (b := 1024) _ _ 2 k _ _ _ _ (by decide)).trans
      ((RowStore.read_hit (a := 8) (b := 1024) _ _ 2 k _ _ _ _ (by decide)).trans
      ((pay10_apply _ _ _ _ k).trans (congrArg (· + _) (RowStore.ld_row (a := 8) (b := 1024) _ _ 2 k _ (by decide)))))
  | 3 =>
    refine (RowStore.read_hit (a := 8) (b := 1024) _ _ 3 k _ _ _ _ (by decide)).trans
      ((pay1_apply _ _ _ _ _ _ _ k).trans (congrArg (· + _) (RowStore.ld_row (a := 8) (b := 1024) _ _ 3 k _ (by decide))))
  | ⟨q + 4, hq⟩ =>
    refine (RowStore.read_miss (a := 8) (b := 1024) _ _ _ k _ _ _ _ (by show 3 ≠ q + 4; omega)).trans
      ((RowStore.read_miss (a := 8) (b := 1024) _ _ _ k _ _ _ _ (by show 2 ≠ q + 4; omega)).trans
      ((RowStore.read_miss (a := 8) (b := 1024) _ _ _ k _ _ _ _ (by show 1 ≠ q + 4; omega)).trans
      ((RowStore.read_miss (a := 8) (b := 1024) _ _ _ k _ _ _ _ (by show 0 ≠ q + 4; omega)).trans ?_)))
    exact (congrFun (Memref.IsWhole.read_unread (hs0_7 t) _) _).trans (add_zero _).symm

/-- So the sums after point `n` are the parts of the points so far. -/
theorem outs7 (q : Fin 8) (k : Fin 1024) : ∀ (n : ℕ) (hn : n < cfg0.N),
    (outsAt0 m c n hn).2.2 (ix2 q k) = ∑ s : Fin (n + 1), part m c ⟨s.val, Nat.lt_of_lt_of_le s.isLt hn⟩ q k
  | 0, hn => by
    rw [Fin.sum_univ_one]
    exact (outs7_A m c ⟨0, hn⟩ rfl q k).trans (zero_add _)
  | n + 1, hn => by
    have hN : cfg0.N = 8 := N_0
    rw [Fin.sum_univ_castSucc]
    refine (outs7_B m c ⟨n + 1, hn⟩ (by show ¬(n + 1) % 8 = 0; omega) q k).trans (congrArg (· + _) ?_)
    exact outs7 q k n (Nat.lt_of_succ_lt hn)

end Cert.NormBwd

end
-- ==== Proof.NormBwdHost.lean ====
/-
  The feed-forward norm's backward kernel: its three result arrays as functions of the arguments. The residual stream is
  `x + g · y`, so a token's row, the gradient on it and the four column sums are written here of the arguments alone.
-/
module

public import proofs.«01_k».proof.Proof.NormBwdRun

@[expose] public section

set_option maxRecDepth 16384

noncomputable section

namespace Cert.NormBwd

open Idealize.ShloMosaic hiding ix2 ix3 eq_ix2 eq_ix3
open Cert.Kernel3Ideal Cert.Kernel3Ideal.Gen Idealize.ShloMosaic.TcCoe Idealize.SL.Sem
open Idealize.ShloMosaic.ValueIdx Idealize.ShloMosaic.Pipeline Cert.Kit Cert.NormRow
open scoped BigOperators

/-! ## The results, of the arguments -/

section Args

variable (x yl dh du : S4096x1024.Idx → EReal) (g nw sc : S1x1024.Idx → EReal)

/-- One. -/
abbrev cOne : EReal := Ideal.ofBits .f32 0x3F800000#32
/-- The residual stream. -/
def resid (n : Fin 4096) (k : Fin 1024) : EReal := x (ix2 n k) + g (ix2 (0 : Fin 1) k) * yl (ix2 n k)
/-- The gradient on the normalised row. -/
def onNorm (n : Fin 4096) (k : Fin 1024) : EReal :=
  du (ix2 n k) * (cOne + sc (ix2 (0 : Fin 1) k)) * nw (ix2 (0 : Fin 1) k)
/-- The gradient on the residual stream. -/
def onResid (n : Fin 4096) (k : Fin 1024) : EReal :=
  dh (ix2 n k) + back (resid x yl g n) (onNorm du nw sc n) k
/-- What a token adds to the column sums. -/
def term (q : Fin 8) (n : Fin 4096) (k : Fin 1024) : EReal :=
  match q with
  | 0 => du (ix2 n k)
  | 1 => du (ix2 n k) * xhat (resid x yl g n) k * nw (ix2 (0 : Fin 1) k)
  | 2 => du (ix2 n k) * (cOne + sc (ix2 (0 : Fin 1) k)) * xhat (resid x yl g n) k
  | 3 => onResid x yl dh du g nw sc n k * yl (ix2 n k)
  | _ => 0

end Args

/-! ## The arrays the windows read -/

section Run

variable (m : (ℓ : Loc nD τ sig) → Buf (Elt Ideal) ℓ) (c : Dev nD)

abbrev aX : S4096x1024.Idx → EReal := m ((c : Thread nD τ).loc main_arg0)
abbrev aY : S4096x1024.Idx → EReal := m ((c : Thread nD τ).loc main_arg1)
abbrev aG : S1x1024.Idx → EReal := m ((c : Thread nD τ).loc main_arg2)
abbrev aN : S1x1024.Idx → EReal := m ((c : Thread nD τ).loc main_arg3)
abbrev aS : S1x1024.Idx → EReal := m ((c : Thread nD τ).loc main_arg5)
abbrev aH : S4096x1024.Idx → EReal := m ((c : Thread nD τ).loc main_arg6)
abbrev aD : S4096x1024.Idx → EReal := m ((c : Thread nD τ).loc main_arg7)

theorem V_v2 : V m c main_v2 = addf (F := Ideal) (φ := .f32) (aX m c)
    (mulf (F := Ideal) (φ := .f32) (broadcastInDim S4096x1024 ![0, 1] bcast_S1x1024_S4096x1024_0_1 (aG m c)) (aY m c)) := by
  simp only [V, hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

/-- A row of zeros under the three vectors. -/
abbrev zrow : S1x1024.Idx → EReal :=
  broadcastInDim S1x1024 ![] bcast_S_S1x1024 (constant (F := Ideal) S_ .f32 0x00000000#32)
/-- One and the scale. -/
abbrev onePlus : S1x1024.Idx → EReal := addf (F := Ideal) (φ := .f32)
  (broadcastInDim S1x1024 ![] bcast_S_S1x1024 (constant (F := Ideal) S_ .f32 0x3F800000#32)) (aS m c)

theorem V_v6 : V m c main_v6 = concatenate S8x1024 0 [⟨S1x1024, aG m c⟩, ⟨S1x1024, onePlus m c⟩, ⟨S1x1024, aN m c⟩,
      ⟨S1x1024, zrow⟩, ⟨S1x1024, zrow⟩, ⟨S1x1024, zrow⟩, ⟨S1x1024, zrow⟩, ⟨S1x1024, zrow⟩]
    concatenates_S1x1024_S1x1024_S1x1024_S1x1024_S1x1024_S1x1024_S1x1024_S1x1024_S8x1024_d0 := by
  simp only [V, hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem v2_apply (n : Fin 4096) (k : Fin 1024) : V m c main_v2 (ix2 n k) = resid (aX m c) (aY m c) (aG m c) n k := by
  refine (congrFun (V_v2 m c) (ix2 n k)).trans (congrArg (fun z => aX m c (ix2 n k) + z * aY m c (ix2 n k)) ?_)
  exact broadcastInDim_apply _ _ _ _ _ fun a => by
    match a with
    | ⟨0, _⟩ => rfl
    | ⟨1, _⟩ => rfl

theorem v6_row0 (k : Fin 1024) : V m c main_v6 (ix2 (0 : Fin 8) k) = aG m c (ix2 (0 : Fin 1) k) :=
  (congrFun (V_v6 m c) _).trans (concatenate_apply_piece (t := S8x1024) 0 _ _ (ix2 (0 : Fin 8) k) 0 (by show 0 < 8; omega) S1x1024 (aG m c) rfl rfl
    0 rfl (ix2 (0 : Fin 1) k) (fun x hx => by
      match x with
      | ⟨0, _⟩ => exact absurd rfl hx
      | ⟨1, _⟩ => rfl) rfl)

theorem v6_row1 (k : Fin 1024) : V m c main_v6 (ix2 (1 : Fin 8) k) = cOne + aS m c (ix2 (0 : Fin 1) k) :=
  ((congrFun (V_v6 m c) _).trans (concatenate_apply_piece (t := S8x1024) 0 _ _ (ix2 (1 : Fin 8) k) 1 (by show 1 < 8; omega) S1x1024 (onePlus m c) rfl rfl
    1 rfl (ix2 (0 : Fin 1) k) (fun x hx => by
      match x with
      | ⟨0, _⟩ => exact absurd rfl hx
      | ⟨1, _⟩ => rfl) rfl)).trans rfl

theorem v6_row2 (k : Fin 1024) : V m c main_v6 (ix2 (2 : Fin 8) k) = aN m c (ix2 (0 : Fin 1) k) :=
  (congrFun (V_v6 m c) _).trans (concatenate_apply_piece (t := S8x1024) 0 _ _ (ix2 (2 : Fin 8) k) 2 (by show 2 < 8; omega) S1x1024 (aN m c) rfl rfl
    2 rfl (ix2 (0 : Fin 1) k) (fun x hx => by
      match x with
      | ⟨0, _⟩ => exact absurd rfl hx
      | ⟨1, _⟩ => rfl) rfl)

/-! ## The blocks -/

theorem idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0))

theorem osize : ∀ t : Fin cfg0.N, (win0_5.xsize (grid0.coords t) 0 = 512 ∧ win0_5.xsize (grid0.coords t) 1 = 1024)
    ∧ (win0_6.xsize (grid0.coords t) 0 = 512 ∧ win0_6.xsize (grid0.coords t) 1 = 1024)
    ∧ (win0_7.xsize (grid0.coords t) 0 = 8 ∧ win0_7.xsize (grid0.coords t) 1 = 1024) :=
  (by decide +kernel : ∀ t : Fin grid0.N, (win0_5.xsize (grid0.coords t) 0 = 512 ∧ win0_5.xsize (grid0.coords t) 1 = 1024)
    ∧ (win0_6.xsize (grid0.coords t) 0 = 512 ∧ win0_6.xsize (grid0.coords t) 1 = 1024)
    ∧ (win0_7.xsize (grid0.coords t) 0 = 8 ∧ win0_7.xsize (grid0.coords t) 1 = 1024))

section Point

variable (t : Fin cfg0.N) (r : Fin 512) (n : Fin 4096) (hn : n.val = 512 * t.val + r.val)

include hn in
theorem read_du (k : Fin 1024) : du m c t (ix2 r k) = aD m c (ix2 n k) := by
  obtain ⟨⟨e0, e1⟩, -⟩ := idx t
  unfold du iblk
  rw [View.read_apply]
  refine (congrFun (V_main_arg7 m c) _).trans (congrArg (aD m c) (funext fun a => Fin.ext ?_))
  match a with
  | ⟨0, _⟩ => show win0_0.index t 0 * 512 + 1 * r.val = n.val; rw [e0]; omega
  | ⟨1, _⟩ => show win0_0.index t 1 * 1024 + 1 * k.val = k.val; rw [e1]; omega

include hn in
theorem read_h1 (k : Fin 1024) : h1 m c t (ix2 r k) = resid (aX m c) (aY m c) (aG m c) n k := by
  obtain ⟨-, ⟨e0, e1⟩, -⟩ := idx t
  refine Eq.trans ?_ (v2_apply m c n k)
  unfold h1 iblk
  rw [View.read_apply]
  show V m c main_v2 _ = V m c main_v2 _
  refine congrArg (V m c main_v2) (funext fun a => Fin.ext ?_)
  match a with
  | ⟨0, _⟩ => show win0_1.index t 0 * 512 + 1 * r.val = n.val; rw [e0]; omega
  | ⟨1, _⟩ => show win0_1.index t 1 * 1024 + 1 * k.val = k.val; rw [e1]; omega

include hn in
theorem read_yl (k : Fin 1024) : yl m c t (ix2 r k) = aY m c (ix2 n k) := by
  obtain ⟨-, -, ⟨e0, e1⟩, -⟩ := idx t
  unfold yl iblk
  rw [View.read_apply]
  refine (congrFun (V_main_arg1 m c) _).trans (congrArg (aY m c) (funext fun a => Fin.ext ?_))
  match a with
  | ⟨0, _⟩ => show win0_2.index t 0 * 512 + 1 * r.val = n.val; rw [e0]; omega
  | ⟨1, _⟩ => show win0_2.index t 1 * 1024 + 1 * k.val = k.val; rw [e1]; omega

include hn in
theorem read_dh2 (k : Fin 1024) : dh2 m c t (ix2 r k) = aH m c (ix2 n k) := by
  obtain ⟨-, -, -, ⟨e0, e1⟩, -⟩ := idx t
  unfold dh2 iblk
  rw [View.read_apply]
  refine (congrFun (V_main_arg6 m c) _).trans (congrArg (aH m c) (funext fun a => Fin.ext ?_))
  match a with
  | ⟨0, _⟩ => show win0_3.index t 0 * 512 + 1 * r.val = n.val; rw [e0]; omega
  | ⟨1, _⟩ => show win0_3.index t 1 * 1024 + 1 * k.val = k.val; rw [e1]; omega

theorem read_vecs (q : Fin 8) (k : Fin 1024) : vecs m c t (ix2 q k) = V m c main_v6 (ix2 q k) := by
  obtain ⟨-, -, -, -, ⟨e0, e1⟩, -⟩ := idx t
  unfold vecs iblk
  rw [View.read_apply]
  show V m c main_v6 _ = V m c main_v6 _
  refine congrArg (V m c main_v6) (funext fun a => Fin.ext ?_)
  match a with
  | ⟨0, _⟩ => show win0_4.index t 0 * 8 + 1 * q.val = q.val; rw [e0]; omega
  | ⟨1, _⟩ => show win0_4.index t 1 * 1024 + 1 * k.val = k.val; rw [e1]; omega

theorem read_vg (k : Fin 1024) : vg m c t (ix2 (0 : Fin 1) k) = aG m c (ix2 (0 : Fin 1) k) :=
  (RowStore.ld_row (a := 8) (b := 1024) 0 inb_S8x1024_S1x1024_0_0 0 k (vecs m c t) rfl).trans ((read_vecs m c t 0 k).trans (v6_row0 m c k))
theorem read_vs (k : Fin 1024) : vs m c t (ix2 (0 : Fin 1) k) = cOne + aS m c (ix2 (0 : Fin 1) k) :=
  (RowStore.ld_row (a := 8) (b := 1024) 1 inb_S8x1024_S1x1024_1_0 1 k (vecs m c t) rfl).trans ((read_vecs m c t 1 k).trans (v6_row1 m c k))
theorem read_vw (k : Fin 1024) : vw m c t (ix2 (0 : Fin 1) k) = aN m c (ix2 (0 : Fin 1) k) :=
  (RowStore.ld_row (a := 8) (b := 1024) 2 inb_S8x1024_S1x1024_2_0 2 k (vecs m c t) rfl).trans ((read_vecs m c t 2 k).trans (v6_row2 m c k))

include hn in
theorem row_h1 : row (h1 m c t) r = resid (aX m c) (aY m c) (aG m c) n := funext fun k => read_h1 m c t r n hn k

include hn in
theorem inner_eq : inner (du m c t) (vs m c t) (vw m c t) r = onNorm (aD m c) (aN m c) (aS m c) n := funext fun k => by
  show du m c t (ix2 r k) * vs m c t (ix2 (0 : Fin 1) k) * vw m c t (ix2 (0 : Fin 1) k) = _
  rw [read_du m c t r n hn k, read_vs, read_vw]; rfl

include hn in
theorem dres_eq (k : Fin 1024) :
    dres m c t r k = onResid (aX m c) (aY m c) (aH m c) (aD m c) (aG m c) (aN m c) (aS m c) n k := by
  unfold dres onResid
  rw [read_dh2 m c t r n hn k, row_h1 m c t r n hn, inner_eq m c t r n hn]

end Point

abbrev argTerm := term (aX m c) (aY m c) (aH m c) (aD m c) (aG m c) (aN m c) (aS m c)

theorem part_eq (t : Fin cfg0.N) (q : Fin 8) (k : Fin 1024) (f : Fin 512 → Fin 4096) (hf : ∀ r, (f r).val = 512 * t.val + r.val) :
    part m c t q k = ∑ r : Fin 512, argTerm m c q (f r) k := by
  match q with
  | 0 => exact Finset.sum_congr rfl fun r _ => read_du m c t r _ (hf r) k
  | 1 =>
    refine Finset.sum_congr rfl fun r _ => ?_
    rw [read_du m c t r _ (hf r) k, row_h1 m c t r _ (hf r), read_vw]; rfl
  | 2 =>
    refine Finset.sum_congr rfl fun r _ => ?_
    rw [read_du m c t r _ (hf r) k, row_h1 m c t r _ (hf r), read_vs]; rfl
  | 3 =>
    refine Finset.sum_congr rfl fun r _ => ?_
    rw [dres_eq m c t r _ (hf r) k, read_yl m c t r _ (hf r) k]; rfl
  | ⟨q + 4, hq⟩ => exact (Finset.sum_const_zero).symm

/-- A sum over the tokens, a block at a time. -/
theorem sum_tokens (f : Fin 4096 → EReal) :
    ∑ s : Fin 8, ∑ r : Fin 512, f ⟨512 * s.val + r.val, by omega⟩ = ∑ n, f n := by
  rw [← Fintype.sum_prod_type' (f := fun (s : Fin 8) (r : Fin 512) => f ⟨512 * s.val + r.val, by omega⟩)]
  refine Fintype.sum_equiv (finProdFinEquiv (m := 8) (n := 512)) _ _ fun p => congrArg f (Fin.ext ?_)
  show 512 * p.1.val + p.2.val = p.2.val + 512 * p.1.val
  omega

/-! ## The result arrays -/

theorem arr5 : ((dats m 0 c).arrAt 5 cfg0.N : S4096x1024.Idx → EReal)
    = fun i => onResid (aX m c) (aY m c) (aH m c) (aD m c) (aG m c) (aN m c) (aS m c) (i 0) (i 1) := by
  refine (dats m 0 c).arrAt_eq_of_cover 5
    (fun i : S4096x1024.Idx => onResid (aX m c) (aY m c) (aH m c) (aD m c) (aG m c) (aN m c) (aS m c) (i 0) (i 1)) (fun t _ => ?_) fun i => ?_
  · obtain ⟨-, -, -, -, -, ⟨e0, e1⟩, -⟩ := idx t
    rw [Value.flushed5]
    funext y
    rw [View.read_apply]
    obtain ⟨r, k, rfl⟩ : ∃ (r : Fin 512) (k : Fin 1024), y = (ix2 r k : S512x1024.Idx) := ⟨y 0, y 1, eq_ix2 y⟩
    refine (outs5 m c t r k).trans ((dres_eq m c t r _ ?_ k).trans (congrArg _ (Fin.ext ?_)))
    · show win0_5.index t 0 * 512 + 1 * r.val = _; rw [e0]; omega
    · show k.val = win0_5.index t 1 * 1024 + 1 * k.val; rw [e1]; omega
  · have h0 : (i 0 : Nat) < 4096 := (i 0).isLt
    have h1 : (i 1 : Nat) < 1024 := (i 1).isLt
    have hN : cfg0.N = 8 := N_0
    let t : Fin cfg0.N := ⟨(i 0 : Nat) / 512, by omega⟩
    obtain ⟨-, -, -, -, -, ⟨e0, e1⟩, -⟩ := idx t
    obtain ⟨⟨s0, s1⟩, -⟩ := osize t
    have tv : t.val = (i 0 : Nat) / 512 := rfl
    refine ⟨t, flush0_5 t, ?_⟩
    show i ∈ ((View.whole main_v7_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + win0_5.xsize (grid0.coords t) 0
                rw [e0, s0, tv]; omega
    | ⟨1, _⟩ => show win0_5.index t 1 * 1024 ≤ (i 1 : Nat) ∧ (i 1 : Nat) < win0_5.index t 1 * 1024 + win0_5.xsize (grid0.coords t) 1
                rw [e1, s1]; omega

theorem arr6 : ((dats m 0 c).arrAt 6 cfg0.N : S4096x1024.Idx → EReal)
    = fun i => aG m c (ix2 (0 : Fin 1) (i 1)) * onResid (aX m c) (aY m c) (aH m c) (aD m c) (aG m c) (aN m c) (aS m c) (i 0) (i 1) := by
  refine (dats m 0 c).arrAt_eq_of_cover 6
    (fun i : S4096x1024.Idx => aG m c (ix2 (0 : Fin 1) (i 1)) * onResid (aX m c) (aY m c) (aH m c) (aD m c) (aG m c) (aN m c) (aS m c) (i 0) (i 1))
    (fun t _ => ?_) fun i => ?_
  · obtain ⟨-, -, -, -, -, -, ⟨e0, e1⟩, -⟩ := idx t
    rw [Value.flushed6]
    funext y
    rw [View.read_apply]
    obtain ⟨r, k, rfl⟩ : ∃ (r : Fin 512) (k : Fin 1024), y = (ix2 r k : S512x1024.Idx) := ⟨y 0, y 1, eq_ix2 y⟩
    refine (outs6 m c t r k).trans ((congrArg₂ (· * ·) (read_vg m c t k) (dres_eq m c t r _ ?_ k)).trans
      (congrArg (fun k => aG m c (ix2 (0 : Fin 1) k) * onResid (aX m c) (aY m c) (aH m c) (aD m c) (aG m c) (aN m c) (aS m c) _ k) (Fin.ext ?_)))
    · show win0_6.index t 0 * 512 + 1 * r.val = _; rw [e0]; omega
    · show k.val = win0_6.index t 1 * 1024 + 1 * k.val; rw [e1]; omega
  · have h0 : (i 0 : Nat) < 4096 := (i 0).isLt
    have h1 : (i 1 : Nat) < 1024 := (i 1).isLt
    have hN : cfg0.N = 8 := N_0
    let t : Fin cfg0.N := ⟨(i 0 : Nat) / 512, by omega⟩
    obtain ⟨-, -, -, -, -, -, ⟨e0, e1⟩, -⟩ := idx t
    obtain ⟨-, ⟨s0, s1⟩, -⟩ := osize t
    have tv : t.val = (i 0 : Nat) / 512 := rfl
    refine ⟨t, flush0_6 t, ?_⟩
    show i ∈ ((View.whole main_v7_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + win0_6.xsize (grid0.coords t) 0
                rw [e0, s0, tv]; omega
    | ⟨1, _⟩ => show win0_6.index t 1 * 1024 ≤ (i 1 : Nat) ∧ (i 1 : Nat) < win0_6.index t 1 * 1024 + win0_6.xsize (grid0.coords t) 1
                rw [e1, s1]; omega

theorem sums (q : Fin 8) (k : Fin 1024) (hn : 7 < cfg0.N) :
    (outsAt0 m c 7 hn).2.2 (ix2 q k) = ∑ n : Fin 4096, argTerm m c q n k := by
  refine (outs7 m c q k 7 hn).trans (Eq.trans ?_ (sum_tokens fun n => argTerm m c q n k))
  exact Finset.sum_congr rfl fun s _ => part_eq m c _ q k _ fun r => rfl

/-- A column sum. -/
def total (q : Fin 8) (k : Fin 1024) : EReal := ∑ n : Fin 4096, argTerm m c q n k

theorem arr7 : ((dats m 0 c).arrAt 7 cfg0.N : S8x1024.Idx → EReal) = fun i => total m c (i 0) (i 1) := by
  have hN : cfg0.N = 8 := N_0
  refine (dats m 0 c).arrAt_eq_of_cover 7 (fun i : S8x1024.Idx => total m c (i 0) (i 1)) (fun t ht => ?_) fun i => ?_
  · obtain ⟨-, -, -, -, -, -, -, ⟨e0, e1⟩⟩ := idx t
    have h7 : t.val = 7 := by have := (flush0_7 t).mp ht; have := t.isLt; omega
    rw [Value.flushed7]
    funext y
    rw [View.read_apply]
    obtain ⟨q, k, rfl⟩ : ∃ (q : Fin 8) (k : Fin 1024), y = (ix2 q k : S8x1024.Idx) := ⟨y 0, y 1, eq_ix2 y⟩
    obtain ⟨tv, tl⟩ := t
    dsimp only at h7
    subst h7
    refine (sums m c q k tl).trans ?_
    refine congrArg₂ (total m c) (Fin.ext ?_) (Fin.ext ?_)
    · show q.val = win0_7.index ⟨7, tl⟩ 0 * 8 + 1 * q.val; rw [e0]; omega
    · show k.val = win0_7.index ⟨7, tl⟩ 1 * 1024 + 1 * k.val; rw [e1]; omega
  · have h0 : (i 0 : Nat) < 8 := (i 0).isLt
    have h1 : (i 1 : Nat) < 1024 := (i 1).isLt
    let t : Fin cfg0.N := ⟨7, by omega⟩
    obtain ⟨-, -, -, -, -, -, -, ⟨e0, e1⟩⟩ := idx t
    obtain ⟨-, -, ⟨s0, s1⟩⟩ := osize t
    refine ⟨t, (flush0_7 t).mpr rfl, ?_⟩
    show i ∈ ((View.whole main_v7_2).slice (win0_7.rect t)).set
    rw [View.set_slice_whole, Rect.mem_set_unit]
    intro a
    match a with
    | ⟨0, _⟩ => show win0_7.index t 0 * 8 ≤ (i 0 : Nat) ∧ (i 0 : Nat) < win0_7.index t 0 * 8 + win0_7.xsize (grid0.coords t) 0
                rw [e0, s0]; omega
    | ⟨1, _⟩ => show win0_7.index t 1 * 1024 ≤ (i 1 : Nat) ∧ (i 1 : Nat) < win0_7.index t 1 * 1024 + win0_7.xsize (grid0.coords t) 1
                rw [e1, s1]; omega

end Run

end Cert.NormBwd

end
-- ==== Proof.NormBwd.lean ====
/-
  The feed-forward norm's backward kernel against the gradient of the norm, modulation and gated residual taken operation
  by operation: on finite arguments the three results are the same arrays.
-/
module

public import proofs.«01_k».proof.Proof.NormBwdHost
public import proofs.«01_k».proof.Proof.Gen.Reference3Ideal.Read
public import Idealize.ShloMosaic.Lib.Quiescent
public import Idealize.ShloMosaic.Lib.Claim
public import proofs.«01_k».proof.Defs

@[expose] public section

set_option maxRecDepth 16384

noncomputable section

namespace Cert.NormBwd

open Idealize.ShloMosaic hiding ix2 ix3 eq_ix2 eq_ix3
open Cert.Kernel3Ideal Cert.Kernel3Ideal.Gen Idealize.ShloMosaic.TcCoe Idealize.SL.Sem
open Idealize.ShloMosaic.ValueIdx Idealize.ShloMosaic.Pipeline Cert.Kit Cert.NormRow
open scoped BigOperators

/-! ## The reference, read at an index -/

section Ref

open Cert.Reference3Ideal.Read

variable (x yl : Cert.Reference3Ideal.S4096x1024.Idx → EReal) (g nw sc : Cert.Reference3Ideal.S1x1024.Idx → EReal)
  (dh du : Cert.Reference3Ideal.S4096x1024.Idx → EReal)

theorem ref_resid (n : Fin 4096) (k : Fin 1024) : val_main_v2 (F := Ideal) x yl g (ix2 n k) = resid x yl g n k := by
  rw [val_main_v2_apply, val_main_v1_apply, val_main_v0_apply]
  refine congrArg (fun z => x (ix2 n k) + g z * yl (ix2 n k)) (funext fun a => ?_)
  match a with
  | ⟨0, _⟩ => rfl
  | ⟨1, _⟩ => rfl

theorem ref_sq (n : Fin 4096) : val_main_v9 (F := Ideal) x yl g (ix2 n (0 : Fin 1)) = ms (resid x yl g n) := by
  rw [val_main_v9_apply, val_main_v7_apply, val_main_v5_apply, val_main_v4_apply, val_main_v6_apply, val_main_v8_apply]
  refine congrArg (fun z => Ideal.div z cN + cE) ((congrArg₂ (· + ·) Ideal.ofBits_zero_f32 rfl).trans ((zero_add _).trans ?_))
  refine Finset.sum_congr rfl fun k _ => ?_
  have e : idx_main_v4 (idx_main_v5 (ix2 n (0 : Fin 1))) k = ix2 n k := funext fun a => by
    match a with
    | ⟨0, _⟩ => rfl
    | ⟨1, _⟩ => rfl
  rw [e, val_main_v3_apply, ref_resid]; rfl

theorem ref_rstd (n : Fin 4096) : val_main_v10 (F := Ideal) x yl g (ix2 n (0 : Fin 1)) = rstd (resid x yl g n) := by
  rw [val_main_v10_apply, ref_sq]; rfl

theorem ref_xhat (n : Fin 4096) (k : Fin 1024) : val_main_v15 (F := Ideal) x yl g (ix2 n k) = xhat (resid x yl g n) k := by
  rw [val_main_v15_apply, val_main_v14_apply, ref_resid]
  have e : idx_main_v14 (ix2 n k) = ix2 n (0 : Fin 1) := funext fun a => by
    match a with
    | ⟨0, _⟩ => rfl
    | ⟨1, _⟩ => rfl
  rw [e, ref_rstd]; rfl

theorem row0 (k : Fin 1024) (i : Cert.Reference3Ideal.S1x1024.Idx) (h : (i 1).val = k.val) : i = ix2 (0 : Fin 1) k := funext fun a => by
  match a with
  | ⟨0, _⟩ => exact Subsingleton.elim (α := Fin 1) _ _
  | ⟨1, _⟩ => exact Fin.ext h

theorem ref_scale (k : Fin 1024) : val_main_v19 (F := Ideal) sc (ix2 (0 : Fin 1) k) = cOne + sc (ix2 (0 : Fin 1) k) := by
  rw [val_main_v19_apply, val_main_v18_apply]; rfl

theorem ref_du (n : Fin 4096) (k : Fin 1024) : val_main_v24 (F := Ideal) du (ix2 n k) = du (ix2 n k) := by
  rw [val_main_v24_apply]
  refine congrArg du (funext fun a => Fin.ext ?_)
  have hk := k.isLt
  match a with
  | ⟨0, _⟩ => show (n.val * 1024 + k.val) / 1024 = n.val; omega
  | ⟨1, _⟩ => show (n.val * 1024 + k.val) % 1024 = k.val; omega

theorem ref_mod (n : Fin 4096) (k : Fin 1024) :
    val_main_v31 (F := Ideal) sc du (ix2 n k) = du (ix2 n k) * (cOne + sc (ix2 (0 : Fin 1) k)) := by
  rw [val_main_v31_apply, ref_du, val_main_v30_apply, row0 k (idx_main_v30 (ix2 n k)) rfl, ref_scale]; rfl

theorem ref_onNorm (n : Fin 4096) (k : Fin 1024) : val_main_v36 (F := Ideal) nw sc du (ix2 n k) = onNorm du nw sc n k := by
  rw [val_main_v36_apply, ref_mod, val_main_v35_apply, row0 k (idx_main_v35 (ix2 n k)) rfl]; rfl

theorem ref_through (n : Fin 4096) (k : Fin 1024) :
    val_main_v47 (F := Ideal) x yl g nw sc du (ix2 n k) = through (resid x yl g n) (onNorm du nw sc n) := by
  rw [val_main_v47_apply, val_main_v46_apply]
  refine (congrArg₂ (· + ·) Ideal.ofBits_zero_f32 (Fin.sum_univ_one _)).trans ((zero_add _).trans ?_)
  have e : idx_main_v46 (idx_main_v47 (ix2 n k)) (0 : Fin 1) = ix2 n (0 : Fin 1) := funext fun a => by
    match a with
    | ⟨0, _⟩ => rfl
    | ⟨1, _⟩ => rfl
  rw [e, val_main_v45_apply, val_main_v43_apply, val_main_v44_apply, val_main_v13_apply, val_main_v12_apply, val_main_v11_apply,
    ref_sq, ref_rstd, val_main_v39_apply, val_main_v38_apply]
  refine congrArg (fun z => Ideal.div (z * (cH * Ideal.div (rstd (resid x yl g n)) (ms (resid x yl g n)))) cN)
    ((congrArg₂ (· + ·) Ideal.ofBits_zero_f32 rfl).trans ((zero_add _).trans ?_))
  refine Finset.sum_congr rfl fun j _ => ?_
  have e : idx_main_v38 (idx_main_v39 (ix2 n (0 : Fin 1))) j = ix2 n j := funext fun a => by
    match a with
    | ⟨0, _⟩ => exact Fin.ext (by show n.val * 1 + 0 = n.val; omega)
    | ⟨1, _⟩ => rfl
  rw [e, val_main_v37_apply, ref_resid, ref_onNorm]; rfl

theorem ref_parts (n : Fin 4096) (k : Fin 1024) : val_main_v51 (F := Ideal) x yl g nw sc dh du (ix2 n k)
    = dh (ix2 n k) + onNorm du nw sc n k * rstd (resid x yl g n)
      + resid x yl g n k * through (resid x yl g n) (onNorm du nw sc n) + through (resid x yl g n) (onNorm du nw sc n) * resid x yl g n k := by
  have e : idx_main_v40 (ix2 n k) = ix2 n (0 : Fin 1) := funext fun a => by
    match a with
    | ⟨0, _⟩ => rfl
    | ⟨1, _⟩ => rfl
  rw [val_main_v51_apply, val_main_v49_apply, val_main_v42_apply, val_main_v41_apply, val_main_v40_apply, e, val_main_v48_apply, val_main_v50_apply,
    ref_through, ref_resid, ref_rstd, ref_onNorm]
  rfl

section Real

variable (hx : ∀ i, IsReal (x i)) (hy : ∀ i, IsReal (yl i)) (hg : ∀ i, IsReal (g i)) (hn : ∀ i, IsReal (nw i))
  (hs : ∀ i, IsReal (sc i)) (hh : ∀ i, IsReal (dh i)) (hd : ∀ i, IsReal (du i))

include hx hy hg in
theorem isReal_resid (n : Fin 4096) (k : Fin 1024) : IsReal (resid x yl g n k) := (hx _).add ((hg _).mul (hy _))

include hn hs hd in
theorem isReal_onNorm (n : Fin 4096) (k : Fin 1024) : IsReal (onNorm du nw sc n k) :=
  ((hd _).mul (IsReal.add ⟨1, Ideal.ofBits_one_f32⟩ (hs _))).mul (hn _)

include hx hy hg hn hs hh hd in
theorem ref_v51 (n : Fin 4096) (k : Fin 1024) :
    val_main_v51 (F := Ideal) x yl g nw sc dh du (ix2 n k) = onResid x yl dh du g nw sc n k :=
  (ref_parts x yl g nw sc dh du n k).trans
    (back_eq (isReal_resid x yl g hx hy hg n) (isReal_onNorm nw sc du hn hs hd n) (hh _) k).symm

include hx hy hg hn hs hh hd in
theorem ref_v52 (n : Fin 4096) (k : Fin 1024) :
    val_main_v52 (F := Ideal) x yl g nw sc dh du (ix2 n k) = onResid x yl dh du g nw sc n k := by
  rw [val_main_v52_apply]
  have e : idx_main_v52 (ix2 n k) = ix2 n k := funext fun a => Fin.ext (by
    have hk := k.isLt
    match a with
    | ⟨0, _⟩ => show (n.val * 1024 + k.val) / 1024 = n.val; omega
    | ⟨1, _⟩ => show (n.val * 1024 + k.val) % 1024 = k.val; omega)
  rw [e]; exact ref_v51 x yl g nw sc dh du hx hy hg hn hs hh hd n k

include hx hy hg hn hs hh hd in
theorem ref_v58 (n : Fin 4096) (k : Fin 1024) : val_main_v58 (F := Ideal) x yl g nw sc dh du (ix2 n k)
    = g (ix2 (0 : Fin 1) k) * onResid x yl dh du g nw sc n k := by
  rw [val_main_v58_apply, val_main_v54_apply, val_main_v53_apply, row0 k (idx_main_v53 (ix2 n k)) rfl,
    ref_v52 x yl g nw sc dh du hx hy hg hn hs hh hd]
  rfl

/-- A column sum, read at the tokens. -/
theorem col (k : Fin 1024) (z : EReal) (hz : z = 0) (f : Fin 4096 → EReal) (F' : Fin 4096 → EReal) (h : ∀ n, f n = F' n) :
    z + ∑ n, f n = ∑ n, F' n := by
  rw [hz, zero_add]; exact Finset.sum_congr rfl fun n _ => h n

theorem at_token (k : Fin 1024) (n : Fin 4096) (i : Cert.Reference3Ideal.S4096x1024.Idx) (h0 : (i 0).val = n.val) (h1 : (i 1).val = k.val) :
    i = ix2 n k := funext fun a => by
  match a with
  | ⟨0, _⟩ => exact Fin.ext h0
  | ⟨1, _⟩ => exact Fin.ext h1

theorem ref_row0 (k : Fin 1024) : val_main_v26 (F := Ideal) du (ix2 (0 : Fin 1) k) = ∑ n : Fin 4096, term x yl dh du g nw sc 0 n k := by
  rw [val_main_v26_apply, val_main_v25_apply]
  refine col k _ Ideal.ofBits_zero_f32 _ _ fun n => ?_
  rw [at_token k n (idx_main_v25 (idx_main_v26 (ix2 (0 : Fin 1) k)) n) rfl (by show 0 * 1024 + k.val = k.val; omega)]; rfl

theorem ref_row1 (k : Fin 1024) :
    val_main_v29 (F := Ideal) x yl g nw du (ix2 (0 : Fin 1) k) = ∑ n : Fin 4096, term x yl dh du g nw sc 1 n k := by
  rw [val_main_v29_apply, val_main_v28_apply]
  refine col k _ Ideal.ofBits_zero_f32 _ _ fun n => ?_
  rw [at_token k n (idx_main_v28 (idx_main_v29 (ix2 (0 : Fin 1) k)) n) rfl (by show 0 * 1024 + k.val = k.val; omega),
    val_main_v27_apply, val_main_v17_apply, ref_xhat, ref_du, val_main_v16_apply, row0 k (idx_main_v16 (ix2 n k)) rfl]
  exact (mul_comm _ _).trans (mul_assoc _ _ _).symm

theorem ref_row2 (k : Fin 1024) :
    val_main_v34 (F := Ideal) x yl g sc du (ix2 (0 : Fin 1) k) = ∑ n : Fin 4096, term x yl dh du g nw sc 2 n k := by
  rw [val_main_v34_apply, val_main_v33_apply]
  refine col k _ Ideal.ofBits_zero_f32 _ _ fun n => ?_
  rw [at_token k n (idx_main_v33 (idx_main_v34 (ix2 (0 : Fin 1) k)) n) rfl (by show 0 * 1024 + k.val = k.val; omega),
    val_main_v32_apply, ref_xhat, ref_mod]
  exact mul_comm _ _

include hx hy hg hn hs hh hd in
theorem ref_row3 (k : Fin 1024) :
    val_main_v57 (F := Ideal) x yl g nw sc dh du (ix2 (0 : Fin 1) k) = ∑ n : Fin 4096, term x yl dh du g nw sc 3 n k := by
  rw [val_main_v57_apply, val_main_v56_apply]
  refine col k _ Ideal.ofBits_zero_f32 _ _ fun n => ?_
  rw [at_token k n (idx_main_v56 (idx_main_v57 (ix2 (0 : Fin 1) k)) n) rfl (by show 0 * 1024 + k.val = k.val; omega),
    val_main_v55_apply, ref_v52 x yl g nw sc dh du hx hy hg hn hs hh hd]
  rfl

include hx hy hg hn hs hh hd in
theorem ref_v60 (q : Fin 8) (k : Fin 1024) :
    val_main_v60 (F := Ideal) x yl g nw sc dh du (ix2 q k) = ∑ n : Fin 4096, term x yl dh du g nw sc q n k := by
  unfold val_main_v60
  match q with
  | 0 =>
    refine (concatenate_apply_piece (t := Cert.Reference3Ideal.S8x1024) 0 _ _ (ix2 (0 : Fin 8) k) 0 (by show 0 < 5; omega)
      Cert.Reference3Ideal.S1x1024 (val_main_v26 (F := Ideal) du) rfl rfl 0 rfl (ix2 (0 : Fin 1) k) (fun x hx => ?_) rfl).trans
      (ref_row0 x yl g nw sc dh du k)
    match x with
    | ⟨0, _⟩ => exact absurd rfl hx
    | ⟨1, _⟩ => rfl
  | 1 =>
    refine (concatenate_apply_piece (t := Cert.Reference3Ideal.S8x1024) 0 _ _ (ix2 (1 : Fin 8) k) 1 (by show 1 < 5; omega)
      Cert.Reference3Ideal.S1x1024 (val_main_v29 (F := Ideal) x yl g nw du) rfl rfl 1 rfl (ix2 (0 : Fin 1) k) (fun x hx => ?_) rfl).trans
      (ref_row1 x yl g nw sc dh du k)
    match x with
    | ⟨0, _⟩ => exact absurd rfl hx
    | ⟨1, _⟩ => rfl
  | 2 =>
    refine (concatenate_apply_piece (t := Cert.Reference3Ideal.S8x1024) 0 _ _ (ix2 (2 : Fin 8) k) 2 (by show 2 < 5; omega)
      Cert.Reference3Ideal.S1x1024 (val_main_v34 (F := Ideal) x yl g sc du) rfl rfl 2 rfl (ix2 (0 : Fin 1) k) (fun x hx => ?_) rfl).trans
      (ref_row2 x yl g nw sc dh du k)
    match x with
    | ⟨0, _⟩ => exact absurd rfl hx
    | ⟨1, _⟩ => rfl
  | 3 =>
    refine (concatenate_apply_piece (t := Cert.Reference3Ideal.S8x1024) 0 _ _ (ix2 (3 : Fin 8) k) 3 (by show 3 < 5; omega)
      Cert.Reference3Ideal.S1x1024 (val_main_v57 (F := Ideal) x yl g nw sc dh du) rfl rfl 3 rfl (ix2 (0 : Fin 1) k) (fun x hx => ?_) rfl).trans
      (ref_row3 x yl g nw sc dh du hx hy hg hn hs hh hd k)
    match x with
    | ⟨0, _⟩ => exact absurd rfl hx
    | ⟨1, _⟩ => rfl
  | ⟨q + 4, hq⟩ =>
    refine (concatenate_apply_piece (t := Cert.Reference3Ideal.S8x1024) 0 _ _ (ix2 (⟨q + 4, hq⟩ : Fin 8) k) 4 (by show 4 < 5; omega)
      Cert.Reference3Ideal.S4x1024 (val_main_v59 (F := Ideal)) rfl rfl 4 rfl (ix2 (⟨q, by omega⟩ : Fin 4) k) (fun x hx => ?_)
      (by show 4 + q = q + 4; omega)).trans ?_
    · match x with
      | ⟨0, _⟩ => exact absurd rfl hx
      | ⟨1, _⟩ => rfl
    · rw [val_main_v59_apply]
      exact Ideal.ofBits_zero_f32.trans (Finset.sum_const_zero).symm

end Real

end Ref

/-! ## The claims -/

theorem hPre : Cert.Pre_finite3.Facts := ⟨by decide, by decide⟩

section Both

variable (m : (ℓ : Loc nD τ sig) → Buf (Elt Ideal) ℓ)
variable (h : Cert.Pre_Kernel3Ideal_finite3 (hPre_finite3 := hPre) m) (c : Dev nD)

include h in
theorem reals : (∀ i, IsReal (aX m c i)) ∧ (∀ i, IsReal (aY m c i)) ∧ (∀ i, IsReal (aG m c i)) ∧ (∀ i, IsReal (aN m c i))
    ∧ (∀ i, IsReal (aS m c i)) ∧ (∀ i, IsReal (aH m c i)) ∧ ∀ i, IsReal (aD m c i) :=
  ⟨fun i => isReal_of_lt (congrFun (h c).1 i), fun i => isReal_of_lt (congrFun (h c).2.1 i),
    fun i => isReal_of_lt (congrFun (h c).2.2.1 i), fun i => isReal_of_lt (congrFun (h c).2.2.2.1 i),
    fun i => isReal_of_lt (congrFun (h c).2.2.2.2.2.1 i), fun i => isReal_of_lt (congrFun (h c).2.2.2.2.2.2.1 i),
    fun i => isReal_of_lt (congrFun (h c).2.2.2.2.2.2.2 i)⟩

open Cert.Reference3Ideal.Read

include h in
theorem same5 : (dats m 0 c).arrAt 5 cfg0.N
    = val_main_v51 (F := Ideal) (aX m c) (aY m c) (aG m c) (aN m c) (aS m c) (aH m c) (aD m c) := by
  obtain ⟨hx, hy, hg, hn, hs, hh, hd⟩ := reals m h c
  exact (arr5 m c).trans (funext fun i : S4096x1024.Idx => (ref_v51 _ _ _ _ _ _ _ hx hy hg hn hs hh hd (i 0) (i 1)).symm.trans
    (congrArg (val_main_v51 (F := Ideal) (aX m c) (aY m c) (aG m c) (aN m c) (aS m c) (aH m c) (aD m c)) (eq_ix2 i).symm))

include h in
theorem same6 : (dats m 0 c).arrAt 6 cfg0.N
    = val_main_v58 (F := Ideal) (aX m c) (aY m c) (aG m c) (aN m c) (aS m c) (aH m c) (aD m c) := by
  obtain ⟨hx, hy, hg, hn, hs, hh, hd⟩ := reals m h c
  exact (arr6 m c).trans (funext fun i : S4096x1024.Idx => (ref_v58 _ _ _ _ _ _ _ hx hy hg hn hs hh hd (i 0) (i 1)).symm.trans
    (congrArg (val_main_v58 (F := Ideal) (aX m c) (aY m c) (aG m c) (aN m c) (aS m c) (aH m c) (aD m c)) (eq_ix2 i).symm))

include h in
theorem same7 : (dats m 0 c).arrAt 7 cfg0.N
    = val_main_v60 (F := Ideal) (aX m c) (aY m c) (aG m c) (aN m c) (aS m c) (aH m c) (aD m c) := by
  obtain ⟨hx, hy, hg, hn, hs, hh, hd⟩ := reals m h c
  exact (arr7 m c).trans (funext fun i : S8x1024.Idx => (ref_v60 _ _ _ _ _ _ _ hx hy hg hn hs hh hd (i 0) (i 1)).symm.trans
    (congrArg (val_main_v60 (F := Ideal) (aX m c) (aY m c) (aG m c) (aN m c) (aS m c) (aH m c) (aD m c)) (eq_ix2 i).symm))

end Both

theorem ref_frame : Cert.quiescent_Reference3Ideal (hReference3Ideal := Cert.Reference3Ideal.Gen.facts) := fun m ρ _ =>
  (θ_run _ _ _).mono (fun r h => ⟨fun c => (h c).2.2.2, sem_eq_zero_of_no_sems rfl r.2⟩)
    (Cert.Reference3Ideal.Value.run (F := Ideal) m ρ)

open Cert.Reference3Ideal.Read in
theorem algebraic : Cert.algebraic_Kernel3Ideal_Reference3Ideal_pre_finite3 (hKernel3Ideal := Cert.Kernel3Ideal.Gen.facts)
    (hReference3Ideal := Cert.Reference3Ideal.Gen.facts) (hPre_finite3 := hPre) := by
  intro m g m' g' h hm
  refine ⟨fun c => val_main_v51 (F := Ideal) (aX m c) (aY m c) (aG m c) (aN m c) (aS m c) (aH m c) (aD m c),
    fun c => val_main_v58 (F := Ideal) (aX m c) (aY m c) (aG m c) (aN m c) (aS m c) (aH m c) (aD m c),
    fun c => val_main_v60 (F := Ideal) (aX m c) (aY m c) (aG m c) (aN m c) (aS m c) (aH m c) (aD m c), ?_, ?_⟩
  · exact (θ_run _ _ _).mono (fun r hr c => ⟨(hr c).1.trans (same5 m h c), (hr c).2.1.trans (same6 m h c),
      (hr c).2.2.1.trans (same7 m h c), (hr c).2.2.2⟩) (Cert.Kernel3Ideal.Value.run_blocks (F := Ideal) m g)
  · refine (θ_run _ _ _).mono (fun r hr c => ?_) (Cert.Reference3Ideal.Value.run (F := Ideal) m' g')
    obtain ⟨h0, h1, h2, h3, h4, h5, h6, h7⟩ := hm c
    refine ⟨(hr c).1.trans ((val_main_v51_eq m' c).trans ?_), (hr c).2.1.trans ((val_main_v58_eq m' c).trans ?_),
      (hr c).2.2.1.trans ((val_main_v60_eq m' c).trans ?_), (hr c).2.2.2⟩
    · rw [h0, h1, h2, h3, h5, h6, h7]
    · rw [h0, h1, h2, h3, h5, h6, h7]
    · rw [h0, h1, h2, h3, h5, h6, h7]

end Cert.NormBwd

end
-- ==== Proof.DuLatPoint.lean ====
/-
  One grid point of the layer's input-gradient kernel, case by case: what its stores leave, from what its buffers hold.
-/
module

public import proofs.«01_k».proof.Proof.Gen.Kernel10Ideal.Frame
public import proofs.«01_k».proof.Proof.Gen.Kernel10Ideal.Skeleton
public import proofs.«01_k».proof.Proof.RowStore
public import Idealize.ShloMosaic.Lib.Pipeline.ValueKit

@[expose] public section

set_option maxRecDepth 16384

noncomputable section

namespace Cert.DuLat

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Rows `512 n … 512 n + 511` of the sum kept across the grid. -/
def blk (n : Fin 8) (v : Vec F S4096x1024 .f32) : Vec F S512x1024 .f32 :=
  fun y => v (fun | 0 => ⟨512 * n.val + (y 0).val, by have := (y 0).isLt; change _ < 512 at this; have := n.isLt; show _ < 4096; omega⟩ | 1 => y 1)

/-- `v'` is `v` with rows `512 n … 512 n + 511` replaced by `p`. -/
def Upd (n : Fin 8) (v v' : Vec F S4096x1024 .f32) (p : Vec F S512x1024 .f32) : Prop :=
  blk n v' = p ∧ ∀ n' : Fin 8, n' ≠ n → blk n' v' = blk n' v

theorem emb_blk (n : Fin 8) (off : Fin 2 → ℕ) (h : off = ![512 * n.val, 0]) (inb) (y : S512x1024.Idx) :
    (Rect.unit (s := S4096x1024) off S512x1024.size inb).emb y
      = (fun | 0 => ⟨512 * n.val + (y 0).val, by have := (y 0).isLt; change _ < 512 at this; have := n.isLt; show _ < 4096; omega⟩ | 1 => y 1) := by
  subst h
  funext x
  match x with
  | ⟨0, _⟩ => exact Fin.ext (show 512 * n.val + 1 * (y 0).val = _ by rw [Nat.one_mul])
  | ⟨1, _⟩ => exact Fin.ext (show 0 + 1 * (y 1).val = (y 1).val by omega)

theorem ld_blk (n : Fin 8) (off : Fin 2 → ℕ) (h : off = ![512 * n.val, 0]) (inb) (v : Vec F S4096x1024 .f32) :
    View.ld v (Rect.unit (s := S4096x1024) off S512x1024.size inb) = blk n v :=
  funext fun y => congrArg v (emb_blk n off h inb y)

variable {κ : Kind} {sp : Space}

theorem blk_hit (w : View sig κ sp S4096x1024 .f32) (f : w.ty.Contents (Elt F)) (n : Fin 8) (off : Fin 2 → ℕ) (h : off = ![512 * n.val, 0]) (inb)
    (p : Vec F S512x1024 .f32) (L : List (View.Piece (Elt F) S4096x1024 .f32)) :
    blk n (w.read (Elt F) (w.writes (Elt F) f (⟨Rect.unit (s := S4096x1024) off S512x1024.size inb, p⟩ :: L))) = p := by
  funext y
  unfold blk
  rw [← emb_blk n off h inb y]
  exact View.read_writes_cons_emb w f (Rect.unit (s := S4096x1024) off S512x1024.size inb) p L y

theorem blk_miss (w : View sig κ sp S4096x1024 .f32) (f : w.ty.Contents (Elt F)) (n n' : Fin 8) (hn : n' ≠ n) (off : Fin 2 → ℕ) (h : off = ![512 * n.val, 0]) (inb)
    (p : Vec F S512x1024 .f32) (L : List (View.Piece (Elt F) S4096x1024 .f32)) :
    blk n' (w.read (Elt F) (w.writes (Elt F) f (⟨Rect.unit (s := S4096x1024) off S512x1024.size inb, p⟩ :: L)))
      = blk n' (w.read (Elt F) (w.writes (Elt F) f L)) := by
  funext y
  unfold blk
  rw [View.writes_cons, View.read_slice_write_of_not_mem (Rect.unit (s := S4096x1024) off S512x1024.size inb) _ _ _ (by
    rw [Rect.map_emb_univ]
    intro hm
    have h0 := (Rect.mem_set_unit.mp hm) 0
    subst h
    have h1 : 512 * n.val ≤ 512 * n'.val + (y 0).val ∧ 512 * n'.val + (y 0).val < 512 * n.val + 512 := h0
    have hy := (y 0).isLt; change _ < 512 at hy
    exact hn (Fin.ext (by omega)))]

theorem blk_cov (w : View sig κ sp S4096x1024 .f32) (n : Fin 8) (off off' : Fin 2 → ℕ) (h : off = ![512 * n.val, 0]) (h' : off' = ![512 * n.val, 0]) (inb) (inb')
    (p : Vec F S512x1024 .f32) (L : List (View.Piece (Elt F) S4096x1024 .f32)) :
    w.readCov (⟨Rect.unit (s := S4096x1024) off S512x1024.size inb, p⟩ :: L) (Rect.unit (s := S4096x1024) off' S512x1024.size inb').toLoadRect = p := by
  subst h; subst h'
  rw [View.readCov_eq_canon']
  funext y
  exact View.canon_cons_emb (Rect.unit (s := S4096x1024) ![512 * n.val, 0] S512x1024.size inb) p L y

theorem whole_hit (w : View sig κ sp S8x1024 .f32) (f : w.ty.Contents (Elt F)) (inb) (p : Vec F S8x1024 .f32) :
    w.read (Elt F) (w.writes (Elt F) f [⟨Rect.unit (s := S8x1024) ![0, 0] S8x1024.size inb, p⟩]) = p := by
  funext y
  have e : (Rect.unit (s := S8x1024) ![0, 0] S8x1024.size inb).emb y = y := funext fun x => Fin.ext (by
    match x with
    | ⟨0, _⟩ => show 0 + 1 * (y 0).val = (y 0).val; omega
    | ⟨1, _⟩ => show 0 + 1 * (y 1).val = (y 1).val; omega)
  refine Eq.trans ?_ (View.read_writes_cons_emb w f (Rect.unit (s := S8x1024) ![0, 0] S8x1024.size inb) p [] y)
  rw [e]

theorem out_hit (w : View sig κ sp S512x1024 .f32) (f : w.ty.Contents (Elt F)) (inb) (p : Vec F S512x1024 .f32) :
    w.read (Elt F) (w.writes (Elt F) f [⟨Rect.unit (s := S512x1024) ![0, 0] S512x1024.size inb, p⟩]) = p := by
  funext y
  have e : (Rect.unit (s := S512x1024) ![0, 0] S512x1024.size inb).emb y = y := funext fun x => Fin.ext (by
    match x with
    | ⟨0, _⟩ => show 0 + 1 * (y 0).val = (y 0).val; omega
    | ⟨1, _⟩ => show 0 + 1 * (y 1).val = (y 1).val; omega)
  refine Eq.trans ?_ (View.read_writes_cons_emb w f (Rect.unit (s := S512x1024) ![0, 0] S512x1024.size inb) p [] y)
  rw [e]

end Cert.DuLat

end
-- ==== Proof.DuLatRunA.lean ====
/-
  One grid point of the layer's input-gradient kernel, case by case: what its stores leave, from what its buffers hold.
-/
module

public import proofs.«01_k».proof.Proof.Gen.Kernel10Ideal.Frame
public import proofs.«01_k».proof.Proof.Gen.Kernel10Ideal.Skeleton
public import proofs.«01_k».proof.Proof.RowStore
public import proofs.«01_k».proof.Proof.DuLatPoint
public import Idealize.ShloMosaic.Lib.Pipeline.ValueKit

@[expose] public section

set_option maxRecDepth 16384

noncomputable section

namespace Cert.DuLat

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
theorem run_A (c : Dev nD) (i : grid0.Coords) (n : Fin 8) (hn : n.val = (i 1).val) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S512x128 .bf16) (harg9 : arg9.IsWhole) (arg10 : Memref sig .tc .vmem S1x2048x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S512x1024 .f32) (harg13 : arg13.IsWhole) (arg14 : Memref sig .tc .vmem S8x1024 .f32) (harg14 : arg14.IsWhole) (arg15 : Memref sig .tc .vmem S512x1024 .f32) (harg15 : arg15.IsWhole) (arg16 : Memref sig .tc .vmem S512x1024 .f32) (harg16 : arg16.IsWhole) (arg17 : Memref sig .tc .vmem S8x1024 .f32) (harg17 : arg17.IsWhole) (arg18 : Memref sig .tc .vmem S4096x1024 .f32) (harg18 : arg18.IsWhole)
    (hc1 : k0_cond1 i = 1#1) (hc2 : k0_cond2 i = 1#1) (hc3 : k0_cond3 i = 1#1) (hc4 : ¬k0_cond4 i = 1#1) (hc5 : ¬k0_cond5 i = 1#1) (hc6 : ¬k0_cond6 i = 1#1) (hc7 : ¬k0_cond7 i = 1#1) (x9 : Vec F S512x128 .bf16) (x12 : Vec F S1x128x1024 .bf16) (x2 : Vec F S512x1024 .bf16) (x3 : Vec F S512x1024 .bf16) (x10 : Vec F S1x2048x1024 .bf16) (v17 : Vec F S8x1024 .f32) (v18 : Vec F S4096x1024 .f32) (E : Set ℕ) (K : PUnit → sProp 𝕄) :
    iprop(owns (c : Thread nD τ) arg9 fullShare x9 ∗ owns (c : Thread nD τ) arg12 fullShare x12 ∗ owns (c : Thread nD τ) arg2 fullShare x2 ∗ owns (c : Thread nD τ) arg3 fullShare x3 ∗ owns (c : Thread nD τ) arg10 fullShare x10 ∗ owns (c : Thread nD τ) arg17 fullShare v17 ∗ owns (c : Thread nD τ) arg18 fullShare v18
        ∗ (iprop(owns (c : Thread nD τ) arg9 fullShare x9 ∗ owns (c : Thread nD τ) arg12 fullShare x12 ∗ owns (c : Thread nD τ) arg2 fullShare x2 ∗ owns (c : Thread nD τ) arg3 fullShare x3 ∗ owns (c : Thread nD τ) arg10 fullShare x10 ∗ owns (c : Thread nD τ) arg17 fullShare (k0_pay1 (F := F)) ∗ (∃ v, ⌜Upd n v18 v (k0_pay3 x2 x3 (View.ld x10 (Rect.unit (s := S1x2048x1024) ![0, 0, 0] S1x1024x1024.size inb_S1x2048x1024_S1x1024x1024_0_0_0)) (View.ld x10 (Rect.unit (s := S1x2048x1024) ![0, 1024, 0] S1x1024x1024.size inb_S1x2048x1024_S1x1024x1024_0_1024_0)) (k0_pay2 x9 x12))⌝ ∗ owns (c : Thread nD τ) arg18 fullShare v)) -∗ K ⟨⟩))
      ⊢ wp frame (wpE (defs₀ (F := F)) Variants.none c none) E (cc0_du_lat i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_du_lat_eq_skeleton]; unfold cc0_du_lat_skel

  unfold owns
  iintro ⟨⟨%f9, %hf9, H9⟩, ⟨%f12, %hf12, H12⟩, ⟨%f2, %hf2, H2⟩, ⟨%f3, %hf3, H3⟩, ⟨%f10, %hf10, H10⟩, ⟨%f17, %hf17, H17⟩, ⟨%f18, %hf18, H18⟩, Hk⟩
  obtain rfl := harg9.eq_unread hf9; obtain rfl := harg12.eq_unread hf12; obtain rfl := harg2.eq_unread hf2; obtain rfl := harg3.eq_unread hf3; obtain rfl := harg10.eq_unread hf10; obtain rfl := harg17.eq_unread hf17; obtain rfl := harg18.eq_unread hf18
  sl_exec (disch := first | sl_exact hc1 | sl_exact hc2 | sl_exact hc3 | sl_exact hc4 | sl_exact hc5 | sl_exact hc6 | sl_exact hc7)
  sl_step
  iapply Hk
  isplitl [H9]
  · iexists _; isplitr; swap; · iexact H9
    ipureintro; exact hf9
  isplitl [H12]
  · iexists _; isplitr; swap; · iexact H12
    ipureintro; exact hf12
  isplitl [H2]
  · iexists _; isplitr; swap; · iexact H2
    ipureintro; exact hf2
  isplitl [H3]
  · iexists _; isplitr; swap; · iexact H3
    ipureintro; exact hf3
  isplitl [H10]
  · iexists _; isplitr; swap; · iexact H10
    ipureintro; exact hf10
  isplitl [H17]
  · iexists _; isplitr; swap; · iexact H17
    ipureintro
    exact whole_hit arg17.view _ _ _
  iexists _
  isplitr
  swap
  · iexists _; isplitr; swap; · iexact H18
    ipureintro; rfl
  ipureintro
  refine ⟨(blk_hit arg18.view _ n _ ((k0_off2_eq i).trans (hn ▸ rfl)) _ _ _).trans ?_, fun q hq => (blk_miss arg18.view _ n q hq _ ((k0_off2_eq i).trans (hn ▸ rfl)) _ _ _).trans ((blk_miss arg18.view _ n q hq _ ((k0_off1_eq i).trans (hn ▸ rfl)) _ _ _).trans (congrArg (blk q) (harg18.read_unread v18)))⟩
  have e : run_A.sl.v35 c i arg9 harg9 arg12 harg12 arg18 hc2 hc3 x9 x12 = k0_pay2 x9 x12 := by
    unfold run_A.sl.v35 run_A.sl.H18_1
    refine (blk_cov arg18.view n _ _ ((k0_off1_eq i).trans (hn ▸ rfl)) ((k0_off2_eq i).trans (hn ▸ rfl)) _ _ _ _).trans ?_
    simp only [View.readAt_eq_ld, Memref.IsWhole.read_unread]
    simp (disch := decide) only [View.ld_unit_lit']
  rw [e]
  simp only [View.readAt_eq_ld, Memref.IsWhole.read_unread]
  simp (disch := decide) only [View.ld_unit_lit']

end Cert.DuLat

end
-- ==== Proof.DuLatRunB.lean ====
/-
  One grid point of the layer's input-gradient kernel, case by case: what its stores leave, from what its buffers hold.
-/
module

public import proofs.«01_k».proof.Proof.Gen.Kernel10Ideal.Frame
public import proofs.«01_k».proof.Proof.Gen.Kernel10Ideal.Skeleton
public import proofs.«01_k».proof.Proof.RowStore
public import proofs.«01_k».proof.Proof.DuLatPoint
public import Idealize.ShloMosaic.Lib.Pipeline.ValueKit

@[expose] public section

set_option maxRecDepth 16384

noncomputable section

namespace Cert.DuLat

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
theorem run_B (c : Dev nD) (i : grid0.Coords) (n : Fin 8) (hn : n.val = (i 1).val) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S512x128 .bf16) (harg9 : arg9.IsWhole) (arg10 : Memref sig .tc .vmem S1x2048x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S512x1024 .f32) (harg13 : arg13.IsWhole) (arg14 : Memref sig .tc .vmem S8x1024 .f32) (harg14 : arg14.IsWhole) (arg15 : Memref sig .tc .vmem S512x1024 .f32) (harg15 : arg15.IsWhole) (arg16 : Memref sig .tc .vmem S512x1024 .f32) (harg16 : arg16.IsWhole) (arg17 : Memref sig .tc .vmem S8x1024 .f32) (harg17 : arg17.IsWhole) (arg18 : Memref sig .tc .vmem S4096x1024 .f32) (harg18 : arg18.IsWhole)
    (hc1 : ¬k0_cond1 i = 1#1) (hc2 : k0_cond2 i = 1#1) (hc3 : k0_cond3 i = 1#1) (hc4 : ¬k0_cond4 i = 1#1) (hc5 : ¬k0_cond5 i = 1#1) (hc6 : ¬k0_cond6 i = 1#1) (hc7 : ¬k0_cond7 i = 1#1) (x9 : Vec F S512x128 .bf16) (x12 : Vec F S1x128x1024 .bf16) (x2 : Vec F S512x1024 .bf16) (x3 : Vec F S512x1024 .bf16) (x10 : Vec F S1x2048x1024 .bf16) (v18 : Vec F S4096x1024 .f32) (E : Set ℕ) (K : PUnit → sProp 𝕄) :
    iprop(owns (c : Thread nD τ) arg9 fullShare x9 ∗ owns (c : Thread nD τ) arg12 fullShare x12 ∗ owns (c : Thread nD τ) arg2 fullShare x2 ∗ owns (c : Thread nD τ) arg3 fullShare x3 ∗ owns (c : Thread nD τ) arg10 fullShare x10 ∗ owns (c : Thread nD τ) arg18 fullShare v18
        ∗ (iprop(owns (c : Thread nD τ) arg9 fullShare x9 ∗ owns (c : Thread nD τ) arg12 fullShare x12 ∗ owns (c : Thread nD τ) arg2 fullShare x2 ∗ owns (c : Thread nD τ) arg3 fullShare x3 ∗ owns (c : Thread nD τ) arg10 fullShare x10 ∗ (∃ v, ⌜Upd n v18 v (k0_pay3 x2 x3 (View.ld x10 (Rect.unit (s := S1x2048x1024) ![0, 0, 0] S1x1024x1024.size inb_S1x2048x1024_S1x1024x1024_0_0_0)) (View.ld x10 (Rect.unit (s := S1x2048x1024) ![0, 1024, 0] S1x1024x1024.size inb_S1x2048x1024_S1x1024x1024_0_1024_0)) (k0_pay2 x9 x12))⌝ ∗ owns (c : Thread nD τ) arg18 fullShare v)) -∗ K ⟨⟩))
      ⊢ wp frame (wpE (defs₀ (F := F)) Variants.none c none) E (cc0_du_lat i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_du_lat_eq_skeleton]; unfold cc0_du_lat_skel

  unfold owns
  iintro ⟨⟨%f9, %hf9, H9⟩, ⟨%f12, %hf12, H12⟩, ⟨%f2, %hf2, H2⟩, ⟨%f3, %hf3, H3⟩, ⟨%f10, %hf10, H10⟩, ⟨%f18, %hf18, H18⟩, Hk⟩
  obtain rfl := harg9.eq_unread hf9; obtain rfl := harg12.eq_unread hf12; obtain rfl := harg2.eq_unread hf2; obtain rfl := harg3.eq_unread hf3; obtain rfl := harg10.eq_unread hf10; obtain rfl := harg18.eq_unread hf18
  sl_exec (disch := first | sl_exact hc1 | sl_exact hc2 | sl_exact hc3 | sl_exact hc4 | sl_exact hc5 | sl_exact hc6 | sl_exact hc7)
  sl_step
  iapply Hk
  isplitl [H9]
  · iexists _; isplitr; swap; · iexact H9
    ipureintro; exact hf9
  isplitl [H12]
  · iexists _; isplitr; swap; · iexact H12
    ipureintro; exact hf12
  isplitl [H2]
  · iexists _; isplitr; swap; · iexact H2
    ipureintro; exact hf2
  isplitl [H3]
  · iexists _; isplitr; swap; · iexact H3
    ipureintro; exact hf3
  isplitl [H10]
  · iexists _; isplitr; swap; · iexact H10
    ipureintro; exact hf10
  iexists _
  isplitr
  swap
  · iexists _; isplitr; swap; · iexact H18
    ipureintro; rfl
  ipureintro
  refine ⟨(blk_hit arg18.view _ n _ ((k0_off2_eq i).trans (hn ▸ rfl)) _ _ _).trans ?_, fun q hq => (blk_miss arg18.view _ n q hq _ ((k0_off2_eq i).trans (hn ▸ rfl)) _ _ _).trans ((blk_miss arg18.view _ n q hq _ ((k0_off1_eq i).trans (hn ▸ rfl)) _ _ _).trans (congrArg (blk q) (harg18.read_unread v18)))⟩
  have e : run_B.sl.v35 c i arg9 harg9 arg12 harg12 arg18 hc2 hc3 x9 x12 = k0_pay2 x9 x12 := by
    unfold run_B.sl.v35 run_B.sl.H18_1
    refine (blk_cov arg18.view n _ _ ((k0_off1_eq i).trans (hn ▸ rfl)) ((k0_off2_eq i).trans (hn ▸ rfl)) _ _ _ _).trans ?_
    simp only [View.readAt_eq_ld, Memref.IsWhole.read_unread]
    simp (disch := decide) only [View.ld_unit_lit']
  rw [e]
  simp only [View.readAt_eq_ld, Memref.IsWhole.read_unread]
  simp (disch := decide) only [View.ld_unit_lit']

end Cert.DuLat

end
-- ==== Proof.DuLatRunC.lean ====
/-
  One grid point of the layer's input-gradient kernel, case by case: what its stores leave, from what its buffers hold.
-/
module

public import proofs.«01_k».proof.Proof.Gen.Kernel10Ideal.Frame
public import proofs.«01_k».proof.Proof.Gen.Kernel10Ideal.Skeleton
public import proofs.«01_k».proof.Proof.RowStore
public import proofs.«01_k».proof.Proof.DuLatPoint
public import Idealize.ShloMosaic.Lib.Pipeline.ValueKit

@[expose] public section

set_option maxRecDepth 16384

noncomputable section

namespace Cert.DuLat

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
theorem run_C (c : Dev nD) (i : grid0.Coords) (n : Fin 8) (hn : n.val = (i 1).val) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S512x128 .bf16) (harg9 : arg9.IsWhole) (arg10 : Memref sig .tc .vmem S1x2048x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S512x1024 .f32) (harg13 : arg13.IsWhole) (arg14 : Memref sig .tc .vmem S8x1024 .f32) (harg14 : arg14.IsWhole) (arg15 : Memref sig .tc .vmem S512x1024 .f32) (harg15 : arg15.IsWhole) (arg16 : Memref sig .tc .vmem S512x1024 .f32) (harg16 : arg16.IsWhole) (arg17 : Memref sig .tc .vmem S8x1024 .f32) (harg17 : arg17.IsWhole) (arg18 : Memref sig .tc .vmem S4096x1024 .f32) (harg18 : arg18.IsWhole)
    (hc1 : ¬k0_cond1 i = 1#1) (hc2 : ¬k0_cond2 i = 1#1) (hc3 : ¬k0_cond3 i = 1#1) (hc4 : k0_cond4 i = 1#1) (hc5 : ¬k0_cond5 i = 1#1) (hc6 : ¬k0_cond6 i = 1#1) (hc7 : ¬k0_cond7 i = 1#1) (x4 : Vec F S512x1024 .bf16) (x5 : Vec F S512x1024 .bf16) (x10 : Vec F S1x2048x1024 .bf16) (x11 : Vec F S1x128x1024 .bf16) (v18 : Vec F S4096x1024 .f32) (E : Set ℕ) (K : PUnit → sProp 𝕄) :
    iprop(owns (c : Thread nD τ) arg4 fullShare x4 ∗ owns (c : Thread nD τ) arg5 fullShare x5 ∗ owns (c : Thread nD τ) arg10 fullShare x10 ∗ owns (c : Thread nD τ) arg11 fullShare x11 ∗ owns (c : Thread nD τ) arg18 fullShare v18
        ∗ (iprop(owns (c : Thread nD τ) arg4 fullShare x4 ∗ owns (c : Thread nD τ) arg5 fullShare x5 ∗ owns (c : Thread nD τ) arg10 fullShare x10 ∗ owns (c : Thread nD τ) arg11 fullShare x11 ∗ (∃ v, ⌜Upd n v18 v (k0_pay4 x4 x5 (View.ld x10 (Rect.unit (s := S1x2048x1024) ![0, 0, 0] S1x1024x1024.size inb_S1x2048x1024_S1x1024x1024_0_0_0)) (View.ld x10 (Rect.unit (s := S1x2048x1024) ![0, 1024, 0] S1x1024x1024.size inb_S1x2048x1024_S1x1024x1024_0_1024_0)) x11 (blk n v18))⌝ ∗ owns (c : Thread nD τ) arg18 fullShare v)) -∗ K ⟨⟩))
      ⊢ wp frame (wpE (defs₀ (F := F)) Variants.none c none) E (cc0_du_lat i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_du_lat_eq_skeleton]; unfold cc0_du_lat_skel

  unfold owns
  iintro ⟨⟨%f4, %hf4, H4⟩, ⟨%f5, %hf5, H5⟩, ⟨%f10, %hf10, H10⟩, ⟨%f11, %hf11, H11⟩, ⟨%f18, %hf18, H18⟩, Hk⟩
  obtain rfl := harg4.eq_unread hf4; obtain rfl := harg5.eq_unread hf5; obtain rfl := harg10.eq_unread hf10; obtain rfl := harg11.eq_unread hf11; obtain rfl := harg18.eq_unread hf18
  sl_exec (disch := first | sl_exact hc1 | sl_exact hc2 | sl_exact hc3 | sl_exact hc4 | sl_exact hc5 | sl_exact hc6 | sl_exact hc7)
  sl_step
  iapply Hk
  isplitl [H4]
  · iexists _; isplitr; swap; · iexact H4
    ipureintro; exact hf4
  isplitl [H5]
  · iexists _; isplitr; swap; · iexact H5
    ipureintro; exact hf5
  isplitl [H10]
  · iexists _; isplitr; swap; · iexact H10
    ipureintro; exact hf10
  isplitl [H11]
  · iexists _; isplitr; swap; · iexact H11
    ipureintro; exact hf11
  iexists _
  isplitr
  swap
  · iexists _; isplitr; swap; · iexact H18
    ipureintro; rfl
  ipureintro
  refine ⟨(blk_hit arg18.view _ n _ ((k0_off3_eq i).trans (hn ▸ rfl)) _ _ _).trans ?_, fun q hq => (blk_miss arg18.view _ n q hq _ ((k0_off3_eq i).trans (hn ▸ rfl)) _ _ _).trans (congrArg (blk q) (harg18.read_unread v18))⟩
  simp only [View.readAt_eq_ld, Memref.IsWhole.read_unread, ld_blk n _ ((k0_off3_eq i).trans (hn ▸ rfl))]
  simp (disch := decide) only [View.ld_unit_lit']

end Cert.DuLat

end
-- ==== Proof.DuLatRunD.lean ====
/-
  One grid point of the layer's input-gradient kernel, case by case: what its stores leave, from what its buffers hold.
-/
module

public import proofs.«01_k».proof.Proof.Gen.Kernel10Ideal.Frame
public import proofs.«01_k».proof.Proof.Gen.Kernel10Ideal.Skeleton
public import proofs.«01_k».proof.Proof.RowStore
public import proofs.«01_k».proof.Proof.DuLatPoint
public import Idealize.ShloMosaic.Lib.Pipeline.ValueKit

@[expose] public section

set_option maxRecDepth 16384

noncomputable section

namespace Cert.DuLat

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
theorem run_D (c : Dev nD) (i : grid0.Coords) (n : Fin 8) (hn : n.val = (i 1).val) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S512x128 .bf16) (harg9 : arg9.IsWhole) (arg10 : Memref sig .tc .vmem S1x2048x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S512x1024 .f32) (harg13 : arg13.IsWhole) (arg14 : Memref sig .tc .vmem S8x1024 .f32) (harg14 : arg14.IsWhole) (arg15 : Memref sig .tc .vmem S512x1024 .f32) (harg15 : arg15.IsWhole) (arg16 : Memref sig .tc .vmem S512x1024 .f32) (harg16 : arg16.IsWhole) (arg17 : Memref sig .tc .vmem S8x1024 .f32) (harg17 : arg17.IsWhole) (arg18 : Memref sig .tc .vmem S4096x1024 .f32) (harg18 : arg18.IsWhole)
    (hc1 : ¬k0_cond1 i = 1#1) (hc2 : ¬k0_cond2 i = 1#1) (hc3 : ¬k0_cond3 i = 1#1) (hc4 : ¬k0_cond4 i = 1#1) (hc5 : k0_cond5 i = 1#1) (hc6 : ¬k0_cond6 i = 1#1) (hc7 : ¬k0_cond7 i = 1#1) (x6 : Vec F S512x1024 .bf16) (x7 : Vec F S512x1024 .bf16) (x10 : Vec F S1x2048x1024 .bf16) (x11 : Vec F S1x128x1024 .bf16) (v18 : Vec F S4096x1024 .f32) (E : Set ℕ) (K : PUnit → sProp 𝕄) :
    iprop(owns (c : Thread nD τ) arg6 fullShare x6 ∗ owns (c : Thread nD τ) arg7 fullShare x7 ∗ owns (c : Thread nD τ) arg10 fullShare x10 ∗ owns (c : Thread nD τ) arg11 fullShare x11 ∗ owns (c : Thread nD τ) arg18 fullShare v18
        ∗ (iprop(owns (c : Thread nD τ) arg6 fullShare x6 ∗ owns (c : Thread nD τ) arg7 fullShare x7 ∗ owns (c : Thread nD τ) arg10 fullShare x10 ∗ owns (c : Thread nD τ) arg11 fullShare x11 ∗ (∃ v, ⌜Upd n v18 v (k0_pay5 x6 x7 (View.ld x10 (Rect.unit (s := S1x2048x1024) ![0, 0, 0] S1x1024x1024.size inb_S1x2048x1024_S1x1024x1024_0_0_0)) (View.ld x10 (Rect.unit (s := S1x2048x1024) ![0, 1024, 0] S1x1024x1024.size inb_S1x2048x1024_S1x1024x1024_0_1024_0)) x11 (blk n v18))⌝ ∗ owns (c : Thread nD τ) arg18 fullShare v)) -∗ K ⟨⟩))
      ⊢ wp frame (wpE (defs₀ (F := F)) Variants.none c none) E (cc0_du_lat i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_du_lat_eq_skeleton]; unfold cc0_du_lat_skel

  unfold owns
  iintro ⟨⟨%f6, %hf6, H6⟩, ⟨%f7, %hf7, H7⟩, ⟨%f10, %hf10, H10⟩, ⟨%f11, %hf11, H11⟩, ⟨%f18, %hf18, H18⟩, Hk⟩
  obtain rfl := harg6.eq_unread hf6; obtain rfl := harg7.eq_unread hf7; obtain rfl := harg10.eq_unread hf10; obtain rfl := harg11.eq_unread hf11; obtain rfl := harg18.eq_unread hf18
  sl_exec (disch := first | sl_exact hc1 | sl_exact hc2 | sl_exact hc3 | sl_exact hc4 | sl_exact hc5 | sl_exact hc6 | sl_exact hc7)
  sl_step
  iapply Hk
  isplitl [H6]
  · iexists _; isplitr; swap; · iexact H6
    ipureintro; exact hf6
  isplitl [H7]
  · iexists _; isplitr; swap; · iexact H7
    ipureintro; exact hf7
  isplitl [H10]
  · iexists _; isplitr; swap; · iexact H10
    ipureintro; exact hf10
  isplitl [H11]
  · iexists _; isplitr; swap; · iexact H11
    ipureintro; exact hf11
  iexists _
  isplitr
  swap
  · iexists _; isplitr; swap; · iexact H18
    ipureintro; rfl
  ipureintro
  refine ⟨(blk_hit arg18.view _ n _ ((k0_off4_eq i).trans (hn ▸ rfl)) _ _ _).trans ?_, fun q hq => (blk_miss arg18.view _ n q hq _ ((k0_off4_eq i).trans (hn ▸ rfl)) _ _ _).trans (congrArg (blk q) (harg18.read_unread v18))⟩
  simp only [View.readAt_eq_ld, Memref.IsWhole.read_unread, ld_blk n _ ((k0_off4_eq i).trans (hn ▸ rfl))]
  simp (disch := decide) only [View.ld_unit_lit']

end Cert.DuLat

end
-- ==== Proof.DuLatRunE.lean ====
/-
  One grid point of the layer's input-gradient kernel, case by case: what its stores leave, from what its buffers hold.
-/
module

public import proofs.«01_k».proof.Proof.Gen.Kernel10Ideal.Frame
public import proofs.«01_k».proof.Proof.Gen.Kernel10Ideal.Skeleton
public import proofs.«01_k».proof.Proof.RowStore
public import proofs.«01_k».proof.Proof.DuLatPoint
public import Idealize.ShloMosaic.Lib.Pipeline.ValueKit

@[expose] public section

set_option maxRecDepth 16384

noncomputable section

namespace Cert.DuLat

open Cert.Kernel10Ideal Cert.Kernel10Ideal.Gen
open Idealize.ShloMosaic hiding ix2 ix3 eq_ix2 eq_ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable {κ : Kind} {sp : Space}

open Idealize.ShloMosaic.ValueIdx

/-- What a block adds to the three rows of column sums. -/
def accRow (du x : Vec F S512x1024 .f32) (mods acc : Vec F S8x1024 .f32) (q : Fin 8) (k : Fin 1024) : F .f32 :=
  match q with
  | 0 => k0_pay12 du (View.ld acc (Rect.unit (s := S8x1024) ![0, 0] S1x1024.size inb_S8x1024_S1x1024_0_0)) (ix2 (0 : Fin 1) k)
  | 1 => k0_pay13 du x (View.ld mods (Rect.unit (s := S8x1024) ![1, 0] S1x1024.size inb_S8x1024_S1x1024_1_0)) (View.ld acc (Rect.unit (s := S8x1024) ![1, 0] S1x1024.size inb_S8x1024_S1x1024_1_0)) (ix2 (0 : Fin 1) k)
  | 2 => k0_pay7 (k0_pay10 x) (k0_pay14 du (View.ld mods (Rect.unit (s := S8x1024) ![0, 0] S1x1024.size inb_S8x1024_S1x1024_0_0))) (k0_pay15 (View.ld acc (Rect.unit (s := S8x1024) ![2, 0] S1x1024.size inb_S8x1024_S1x1024_2_0))) (ix2 (0 : Fin 1) k)
  | _ => acc (ix2 q k)

/-- The column sums after a block. -/
def accStep (du x : Vec F S512x1024 .f32) (mods acc : Vec F S8x1024 .f32) : Vec F S8x1024 .f32 :=
  fun y => accRow du x mods acc (y 0) (y 1)

/-- The residual stream's gradient on a block. -/
def dxStep (du x : Vec F S512x1024 .f32) (mods : Vec F S8x1024 .f32) (dres : Vec F S512x1024 .f32) : Vec F S512x1024 .f32 :=
  k0_pay8 (k0_pay9 x) (k0_pay10 x) (k0_pay11 (View.ld mods (Rect.unit (s := S8x1024) ![1, 0] S1x1024.size inb_S8x1024_S1x1024_1_0))) (k0_pay14 du (View.ld mods (Rect.unit (s := S8x1024) ![0, 0] S1x1024.size inb_S8x1024_S1x1024_0_0))) dres

theorem acc_stored (w : View sig κ sp S8x1024 .f32) (f : w.ty.Contents (Elt F)) (acc : Vec F S8x1024 .f32) (hf : w.read (Elt F) f = acc)
    (du x : Vec F S512x1024 .f32) (mods : Vec F S8x1024 .f32) :
    w.read (Elt F) (w.writes (Elt F) f
      [⟨(Rect.unit (s := S8x1024) ![2, 0] S1x1024.size inb_S8x1024_S1x1024_2_0), k0_pay7 (k0_pay10 x) (k0_pay14 du (View.ld mods (Rect.unit (s := S8x1024) ![0, 0] S1x1024.size inb_S8x1024_S1x1024_0_0))) (k0_pay15 (View.ld acc (Rect.unit (s := S8x1024) ![2, 0] S1x1024.size inb_S8x1024_S1x1024_2_0)))⟩,
        ⟨(Rect.unit (s := S8x1024) ![1, 0] S1x1024.size inb_S8x1024_S1x1024_1_0), k0_pay13 du x (View.ld mods (Rect.unit (s := S8x1024) ![1, 0] S1x1024.size inb_S8x1024_S1x1024_1_0)) (View.ld acc (Rect.unit (s := S8x1024) ![1, 0] S1x1024.size inb_S8x1024_S1x1024_1_0))⟩,
        ⟨(Rect.unit (s := S8x1024) ![0, 0] S1x1024.size inb_S8x1024_S1x1024_0_0), k0_pay12 du (View.ld acc (Rect.unit (s := S8x1024) ![0, 0] S1x1024.size inb_S8x1024_S1x1024_0_0))⟩]) = accStep du x mods acc := by
  funext y
  obtain ⟨q, k, rfl⟩ : ∃ (q : Fin 8) (k : Fin 1024), y = ix2 q k := ⟨y 0, y 1, eq_ix2 y⟩
  match q with
  | 0 =>
    exact (RowStore.read_miss (a := 8) (b := 1024) _ _ 0 k _ _ _ _ (by decide)).trans ((RowStore.read_miss (a := 8) (b := 1024) _ _ 0 k _ _ _ _ (by decide)).trans
      (RowStore.read_hit (a := 8) (b := 1024) _ _ 0 k _ _ _ _ (by decide)))
  | 1 =>
    exact (RowStore.read_miss (a := 8) (b := 1024) _ _ 1 k _ _ _ _ (by decide)).trans (RowStore.read_hit (a := 8) (b := 1024) _ _ 1 k _ _ _ _ (by decide))
  | 2 => exact RowStore.read_hit (a := 8) (b := 1024) _ _ 2 k _ _ _ _ (by decide)
  | ⟨q + 3, hq⟩ =>
    refine (RowStore.read_miss (a := 8) (b := 1024) _ _ _ k _ _ _ _ (by show 2 ≠ q + 3; omega)).trans
      ((RowStore.read_miss (a := 8) (b := 1024) _ _ _ k _ _ _ _ (by show 1 ≠ q + 3; omega)).trans
      ((RowStore.read_miss (a := 8) (b := 1024) _ _ _ k _ _ _ _ (by show 0 ≠ q + 3; omega)).trans ?_))
    exact congrFun hf _

set_option maxHeartbeats 1000000 in
theorem run_E (c : Dev nD) (i : grid0.Coords) (n : Fin 8) (hn : n.val = (i 1).val) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S512x128 .bf16) (harg9 : arg9.IsWhole) (arg10 : Memref sig .tc .vmem S1x2048x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S512x1024 .f32) (harg13 : arg13.IsWhole) (arg14 : Memref sig .tc .vmem S8x1024 .f32) (harg14 : arg14.IsWhole) (arg15 : Memref sig .tc .vmem S512x1024 .f32) (harg15 : arg15.IsWhole) (arg16 : Memref sig .tc .vmem S512x1024 .f32) (harg16 : arg16.IsWhole) (arg17 : Memref sig .tc .vmem S8x1024 .f32) (harg17 : arg17.IsWhole) (arg18 : Memref sig .tc .vmem S4096x1024 .f32) (harg18 : arg18.IsWhole)
    (hc1 : ¬k0_cond1 i = 1#1) (hc2 : ¬k0_cond2 i = 1#1) (hc3 : ¬k0_cond3 i = 1#1) (hc4 : ¬k0_cond4 i = 1#1) (hc5 : ¬k0_cond5 i = 1#1) (hc6 : k0_cond6 i = 1#1) (hc7 : k0_cond7 i = 1#1) (x8 : Vec F S512x2048 .bf16) (x10 : Vec F S1x2048x1024 .bf16) (x11 : Vec F S1x128x1024 .bf16) (x13 : Vec F S512x1024 .f32) (x14 : Vec F S8x1024 .f32) (x15 : Vec F S512x1024 .f32) (v16 : Vec F S512x1024 .f32) (v17 : Vec F S8x1024 .f32) (v18 : Vec F S4096x1024 .f32) (E : Set ℕ) (K : PUnit → sProp 𝕄) :
    iprop(owns (c : Thread nD τ) arg8 fullShare x8 ∗ owns (c : Thread nD τ) arg10 fullShare x10 ∗ owns (c : Thread nD τ) arg11 fullShare x11 ∗ owns (c : Thread nD τ) arg13 fullShare x13 ∗ owns (c : Thread nD τ) arg14 fullShare x14 ∗ owns (c : Thread nD τ) arg15 fullShare x15 ∗ owns (c : Thread nD τ) arg16 fullShare v16 ∗ owns (c : Thread nD τ) arg17 fullShare v17 ∗ owns (c : Thread nD τ) arg18 fullShare v18
        ∗ (iprop(owns (c : Thread nD τ) arg8 fullShare x8 ∗ owns (c : Thread nD τ) arg10 fullShare x10 ∗ owns (c : Thread nD τ) arg11 fullShare x11 ∗ owns (c : Thread nD τ) arg13 fullShare x13 ∗ owns (c : Thread nD τ) arg14 fullShare x14 ∗ owns (c : Thread nD τ) arg15 fullShare x15 ∗ owns (c : Thread nD τ) arg16 fullShare (dxStep (k0_pay6 (View.ld x8 (Rect.unit (s := S512x2048) ![0, 0] S512x1024.size inb_S512x2048_S512x1024_0_0)) (View.ld x8 (Rect.unit (s := S512x2048) ![0, 1024] S512x1024.size inb_S512x2048_S512x1024_0_1024)) (View.ld x10 (Rect.unit (s := S1x2048x1024) ![0, 0, 0] S1x1024x1024.size inb_S1x2048x1024_S1x1024x1024_0_0_0)) (View.ld x10 (Rect.unit (s := S1x2048x1024) ![0, 1024, 0] S1x1024x1024.size inb_S1x2048x1024_S1x1024x1024_0_1024_0)) x11 (blk n v18)) x13 x14 x15) ∗ owns (c : Thread nD τ) arg17 fullShare (accStep (k0_pay6 (View.ld x8 (Rect.unit (s := S512x2048) ![0, 0] S512x1024.size inb_S512x2048_S512x1024_0_0)) (View.ld x8 (Rect.unit (s := S512x2048) ![0, 1024] S512x1024.size inb_S512x2048_S512x1024_0_1024)) (View.ld x10 (Rect.unit (s := S1x2048x1024) ![0, 0, 0] S1x1024x1024.size inb_S1x2048x1024_S1x1024x1024_0_0_0)) (View.ld x10 (Rect.unit (s := S1x2048x1024) ![0, 1024, 0] S1x1024x1024.size inb_S1x2048x1024_S1x1024x1024_0_1024_0)) x11 (blk n v18)) x13 x14 v17) ∗ (∃ v, ⌜Upd n v18 v (k0_pay6 (View.ld x8 (Rect.unit (s := S512x2048) ![0, 0] S512x1024.size inb_S512x2048_S512x1024_0_0)) (View.ld x8 (Rect.unit (s := S512x2048) ![0, 1024] S512x1024.size inb_S512x2048_S512x1024_0_1024)) (View.ld x10 (Rect.unit (s := S1x2048x1024) ![0, 0, 0] S1x1024x1024.size inb_S1x2048x1024_S1x1024x1024_0_0_0)) (View.ld x10 (Rect.unit (s := S1x2048x1024) ![0, 1024, 0] S1x1024x1024.size inb_S1x2048x1024_S1x1024x1024_0_1024_0)) x11 (blk n v18))⌝ ∗ owns (c : Thread nD τ) arg18 fullShare v)) -∗ K ⟨⟩))
      ⊢ wp frame (wpE (defs₀ (F := F)) Variants.none c none) E (cc0_du_lat i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_du_lat_eq_skeleton]; unfold cc0_du_lat_skel
  simp only [k0_part1_eq_skeleton]
  unfold owns
  iintro ⟨⟨%f8, %hf8, H8⟩, ⟨%f10, %hf10, H10⟩, ⟨%f11, %hf11, H11⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  obtain rfl := harg8.eq_unread hf8; obtain rfl := harg10.eq_unread hf10; obtain rfl := harg11.eq_unread hf11; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc1 | sl_exact hc2 | sl_exact hc3 | sl_exact hc4 | sl_exact hc5 | sl_exact hc6 | sl_exact hc7)
  sl_step
  have e26 : run_E.sl.v26 c i arg8 harg8 arg10 harg10 arg11 harg11 arg18 harg18 hc6 hc7 x8 x10 x11 v18 = (k0_pay6 (View.ld x8 (Rect.unit (s := S512x2048) ![0, 0] S512x1024.size inb_S512x2048_S512x1024_0_0)) (View.ld x8 (Rect.unit (s := S512x2048) ![0, 1024] S512x1024.size inb_S512x2048_S512x1024_0_1024)) (View.ld x10 (Rect.unit (s := S1x2048x1024) ![0, 0, 0] S1x1024x1024.size inb_S1x2048x1024_S1x1024x1024_0_0_0)) (View.ld x10 (Rect.unit (s := S1x2048x1024) ![0, 1024, 0] S1x1024x1024.size inb_S1x2048x1024_S1x1024x1024_0_1024_0)) x11 (blk n v18)) := by
    unfold run_E.sl.v26 run_E.sl.H18_1
    refine (blk_cov arg18.view n _ _ ((k0_off5_eq i).trans (hn ▸ rfl)) ((k0_off6_eq i).trans (hn ▸ rfl)) _ _ _ _).trans ?_
    simp only [View.readAt_eq_ld, Memref.IsWhole.read_unread, ld_blk n _ ((k0_off5_eq i).trans (hn ▸ rfl))]
    simp (disch := decide) only [View.ld_unit_lit']
  have e46 : run_E.sl.v46 c arg17 harg17 v17 = View.ld v17 (Rect.unit (s := S8x1024) ![1, 0] S1x1024.size inb_S8x1024_S1x1024_1_0) := by
    unfold run_E.sl.v46; simp only [View.readAt_eq_ld, Memref.IsWhole.read_unread]
  have er : run_E.sl.r c arg13 harg13 x13 = k0_pay9 x13 := by
    unfold run_E.sl.r; simp only [View.readAt_eq_ld, Memref.IsWhole.read_unread]; simp (disch := decide) only [View.ld_unit_lit']
  have er1 : run_E.sl.r_1 c arg13 harg13 x13 = k0_pay10 x13 := by
    unfold run_E.sl.r_1; simp only [View.readAt_eq_ld, Memref.IsWhole.read_unread]; simp (disch := decide) only [View.ld_unit_lit']
  have er2 : run_E.sl.r_2 c arg14 harg14 x14 = k0_pay11 (View.ld x14 (Rect.unit (s := S8x1024) ![1, 0] S1x1024.size inb_S8x1024_S1x1024_1_0)) := by
    unfold run_E.sl.r_2; simp only [View.readAt_eq_ld, Memref.IsWhole.read_unread]
  have er3 : run_E.sl.r_3 c i arg8 harg8 arg10 harg10 arg11 harg11 arg14 harg14 arg18 harg18 hc6 hc7 x8 x10 x11 x14 v18 = k0_pay14 (k0_pay6 (View.ld x8 (Rect.unit (s := S512x2048) ![0, 0] S512x1024.size inb_S512x2048_S512x1024_0_0)) (View.ld x8 (Rect.unit (s := S512x2048) ![0, 1024] S512x1024.size inb_S512x2048_S512x1024_0_1024)) (View.ld x10 (Rect.unit (s := S1x2048x1024) ![0, 0, 0] S1x1024x1024.size inb_S1x2048x1024_S1x1024x1024_0_0_0)) (View.ld x10 (Rect.unit (s := S1x2048x1024) ![0, 1024, 0] S1x1024x1024.size inb_S1x2048x1024_S1x1024x1024_0_1024_0)) x11 (blk n v18)) (View.ld x14 (Rect.unit (s := S8x1024) ![0, 0] S1x1024.size inb_S8x1024_S1x1024_0_0)) := by
    unfold run_E.sl.r_3; rw [e26]; simp only [View.readAt_eq_ld, Memref.IsWhole.read_unread]
  have er4 : run_E.sl.r_4 c arg17 harg17 v17 = k0_pay15 (View.ld v17 (Rect.unit (s := S8x1024) ![2, 0] S1x1024.size inb_S8x1024_S1x1024_2_0)) := by
    unfold run_E.sl.r_4 run_E.sl.v59; simp only [View.readAt_eq_ld, Memref.IsWhole.read_unread]
  rw [e26, e46, er, er1, er2, er3, er4]
  generalize hB : (k0_pay6 (View.ld x8 (Rect.unit (s := S512x2048) ![0, 0] S512x1024.size inb_S512x2048_S512x1024_0_0)) (View.ld x8 (Rect.unit (s := S512x2048) ![0, 1024] S512x1024.size inb_S512x2048_S512x1024_0_1024)) (View.ld x10 (Rect.unit (s := S1x2048x1024) ![0, 0, 0] S1x1024x1024.size inb_S1x2048x1024_S1x1024x1024_0_0_0)) (View.ld x10 (Rect.unit (s := S1x2048x1024) ![0, 1024, 0] S1x1024x1024.size inb_S1x2048x1024_S1x1024x1024_0_1024_0)) x11 (blk n v18)) = du
  iapply Hk
  isplitl [H8]
  · iexists _; isplitr; swap; · iexact H8
    ipureintro; exact hf8
  isplitl [H10]
  · iexists _; isplitr; swap; · iexact H10
    ipureintro; exact hf10
  isplitl [H11]
  · iexists _; isplitr; swap; · iexact H11
    ipureintro; exact hf11
  isplitl [H13]
  · iexists _; isplitr; swap; · iexact H13
    ipureintro; exact hf13
  isplitl [H14]
  · iexists _; isplitr; swap; · iexact H14
    ipureintro; exact hf14
  isplitl [H15]
  · iexists _; isplitr; swap; · iexact H15
    ipureintro; exact hf15
  isplitl [H16]
  · iexists _; isplitr; swap; · iexact H16
    ipureintro
    refine (out_hit arg16.view _ _ _).trans ?_
    simp only [View.readAt_eq_ld, Memref.IsWhole.read_unread]
    simp (disch := decide) only [View.ld_unit_lit']
    try rfl
  isplitl [H17]
  · iexists _; isplitr; swap; · iexact H17
    ipureintro
    refine Eq.trans ?_ (acc_stored arg17.view (harg17.unread v17) v17 (harg17.read_unread v17) du x13 x14)
    simp only [View.readAt_eq_ld, Memref.IsWhole.read_unread]
    simp (disch := decide) only [View.ld_unit_lit']
    try rfl
  iexists _
  isplitr
  swap
  · iexists _; isplitr; swap; · iexact H18
    ipureintro; rfl
  ipureintro
  unfold run_E.sl.H18_1
  refine ⟨(blk_hit arg18.view _ n _ ((k0_off5_eq i).trans (hn ▸ rfl)) _ _ _).trans ?_, fun q hq => (blk_miss arg18.view _ n q hq _ ((k0_off5_eq i).trans (hn ▸ rfl)) _ _ _).trans (congrArg (blk q) (harg18.read_unread v18))⟩
  rw [← hB]
  simp only [View.readAt_eq_ld, Memref.IsWhole.read_unread, ld_blk n _ ((k0_off5_eq i).trans (hn ▸ rfl))]
  simp (disch := decide) only [View.ld_unit_lit']

end Cert.DuLat

end
-- ==== Proof.DuLatFrame.lean ====
/-
  The layer's input-gradient kernel, point by point: what its accumulator buffer, its outputs and its scratch rows hold
  after each of the 32 points, the proof data, the body obligation, the run and the frames.
-/
module

public import proofs.«01_k».proof.Proof.DuLatRunA
public import proofs.«01_k».proof.Proof.DuLatRunB
public import proofs.«01_k».proof.Proof.DuLatRunC
public import proofs.«01_k».proof.Proof.DuLatRunD
public import proofs.«01_k».proof.Proof.DuLatRunE
public import proofs.«01_k».proof.Proof.Gen.Kernel10Ideal.Points
public import proofs.«01_k».proof.Proof.Gen.Kernel10Ideal.Launch
public import Idealize.ShloMosaic.Lib.Pipeline.TableIdle
public import Idealize.ShloMosaic.Lib.Claim

@[expose] public section

set_option maxRecDepth 16384

noncomputable section

namespace Cert.DuLat

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point `n` of the grid. -/
def pt (n : ℕ) : Fin cfg0.N := ⟨n % 32, lt_of_lt_of_eq (Nat.mod_lt _ (by decide)) (show 32 = cfg0.N from N_0.symm)⟩

theorem pt_val (t : Fin cfg0.N) : pt t.val = t :=
  Fin.ext (Nat.mod_eq_of_lt (lt_of_lt_of_eq t.isLt (show cfg0.N = 32 from N_0)))

theorem lt32 (t : Fin cfg0.N) : t.val < 32 := lt_of_lt_of_eq t.isLt (show cfg0.N = 32 from N_0)

/-- The two halves of the main slab at a point. -/
def loAt (c : Dev nD) (t : Fin cfg0.N) : Vec F S1x1024x1024 .bf16 :=
  View.ld (iblk m c 8 t : Vec F S1x2048x1024 .bf16) (Rect.unit (s := S1x2048x1024) ![0, 0, 0] S1x1024x1024.size inb_S1x2048x1024_S1x1024x1024_0_0_0)
def hiAt (c : Dev nD) (t : Fin cfg0.N) : Vec F S1x1024x1024 .bf16 :=
  View.ld (iblk m c 8 t : Vec F S1x2048x1024 .bf16) (Rect.unit (s := S1x2048x1024) ![0, 1024, 0] S1x1024x1024.size inb_S1x2048x1024_S1x1024x1024_0_1024_0)

/-- What row block `r` of the scratch holds after point `8 k + r`. -/
def P0 (c : Dev nD) (r : Fin 8) : Vec F S512x1024 .f32 :=
  k0_pay3 (X0_0 m c (pt r.val) : Vec F S512x1024 .bf16) (X0_1 m c (pt r.val) : Vec F S512x1024 .bf16) (loAt m c (pt r.val)) (hiAt m c (pt r.val)) (k0_pay2 (X0_7 m c (pt r.val) : Vec F S512x128 .bf16) (iblk m c 10 (pt r.val) : Vec F S1x128x1024 .bf16))
def P1 (c : Dev nD) (r : Fin 8) : Vec F S512x1024 .f32 :=
  k0_pay4 (X0_2 m c (pt (8 + r.val)) : Vec F S512x1024 .bf16) (X0_3 m c (pt (8 + r.val)) : Vec F S512x1024 .bf16) (loAt m c (pt (8 + r.val))) (hiAt m c (pt (8 + r.val))) (iblk m c 9 (pt (8 + r.val)) : Vec F S1x128x1024 .bf16) (P0 m c r)
def P2 (c : Dev nD) (r : Fin 8) : Vec F S512x1024 .f32 :=
  k0_pay5 (X0_4 m c (pt (16 + r.val)) : Vec F S512x1024 .bf16) (X0_5 m c (pt (16 + r.val)) : Vec F S512x1024 .bf16) (loAt m c (pt (16 + r.val))) (hiAt m c (pt (16 + r.val))) (iblk m c 9 (pt (16 + r.val)) : Vec F S1x128x1024 .bf16) (P1 m c r)
def P3 (c : Dev nD) (r : Fin 8) : Vec F S512x1024 .f32 :=
  k0_pay6 (View.ld (X0_6 m c (pt (24 + r.val)) : Vec F S512x2048 .bf16) (Rect.unit (s := S512x2048) ![0, 0] S512x1024.size inb_S512x2048_S512x1024_0_0)) (View.ld (X0_6 m c (pt (24 + r.val)) : Vec F S512x2048 .bf16) (Rect.unit (s := S512x2048) ![0, 1024] S512x1024.size inb_S512x2048_S512x1024_0_1024)) (loAt m c (pt (24 + r.val))) (hiAt m c (pt (24 + r.val))) (iblk m c 9 (pt (24 + r.val)) : Vec F S1x128x1024 .bf16) (P2 m c r)

/-- The row blocks of the scratch written before point `n` hold their partial products. -/
def Good (c : Dev nD) (n : ℕ) (v : Vec F S4096x1024 .f32) : Prop :=
  ∀ r : Fin 8, ((n + 7 - r.val) / 8 = 1 → blk r v = P0 m c r) ∧ ((n + 7 - r.val) / 8 = 2 → blk r v = P1 m c r)
    ∧ ((n + 7 - r.val) / 8 = 3 → blk r v = P2 m c r)

theorem good_zero (c : Dev nD) (v : Vec F S4096x1024 .f32) : Good m c 0 v := fun r => by
  have := r.isLt
  exact ⟨fun h => absurd h (by omega), fun h => absurd h (by omega), fun h => absurd h (by omega)⟩

/-- One point more. -/
theorem good_step (c : Dev nD) (n : ℕ) (q : Fin 8) (hq : n % 8 = q.val) (v v' : Vec F S4096x1024 .f32) (p : Vec F S512x1024 .f32)
    (hU : Upd q v v' p) (hg : Good m c n v) (h0 : n / 8 = 0 → p = P0 m c q) (h1 : n / 8 = 1 → p = P1 m c q) (h2 : n / 8 = 2 → p = P2 m c q) :
    Good m c (n + 1) v' := fun r => by
  have hr := r.isLt
  have hq8 := q.isLt
  by_cases h : r = q
  · subst h
    rw [hU.1]
    exact ⟨fun h => h0 (by omega), fun h => h1 (by omega), fun h => h2 (by omega)⟩
  · have hne : r.val ≠ q.val := fun e => h (Fin.ext e)
    have e : (n + 1 + 7 - r.val) / 8 = (n + 7 - r.val) / 8 := by omega
    rw [hU.2 r h, e]
    exact hg r

/-- The accumulator after `k` of the last eight points. -/
def accN (c : Dev nD) : ℕ → Vec F S8x1024 .f32
  | 0 => k0_pay1 (F := F)
  | k + 1 => accStep (P3 m c ⟨k % 8, Nat.mod_lt _ (by decide)⟩) (iblk m c 11 (pt (24 + k)) : Vec F S512x1024 .f32) (iblk m c 12 (pt (24 + k)) : Vec F S8x1024 .f32) (accN c k)

/-- The residual gradient's block of row block `r`. -/
def dxN (c : Dev nD) (r : Fin 8) : Vec F S512x1024 .f32 :=
  dxStep (P3 m c r) (iblk m c 11 (pt (24 + r.val)) : Vec F S512x1024 .f32) (iblk m c 12 (pt (24 + r.val)) : Vec F S8x1024 .f32) (iblk m c 13 (pt (24 + r.val)) : Vec F S512x1024 .f32)

/-- The row block of a point. -/
def row (t : Fin cfg0.N) : Fin 8 := ⟨t.val % 8, Nat.mod_lt _ (by decide)⟩

theorem row_val : ∀ t : Fin cfg0.N, (row t).val = (grid0.coords t 1).val := by decide +kernel
theorem c1_iff : ∀ t : Fin cfg0.N, k0_cond1 (grid0.coords t) = 1#1 ↔ t.val = 0 := by decide +kernel
theorem c2_iff : ∀ t : Fin cfg0.N, k0_cond2 (grid0.coords t) = 1#1 ↔ t.val < 8 := by decide +kernel
theorem c3_iff : ∀ t : Fin cfg0.N, k0_cond3 (grid0.coords t) = 1#1 ↔ t.val < 8 := by decide +kernel
theorem c4_iff : ∀ t : Fin cfg0.N, k0_cond4 (grid0.coords t) = 1#1 ↔ 8 ≤ t.val ∧ t.val < 16 := by decide +kernel
theorem c5_iff : ∀ t : Fin cfg0.N, k0_cond5 (grid0.coords t) = 1#1 ↔ 16 ≤ t.val ∧ t.val < 24 := by decide +kernel
theorem c6_iff : ∀ t : Fin cfg0.N, k0_cond6 (grid0.coords t) = 1#1 ↔ 24 ≤ t.val := by decide +kernel
theorem c7_iff : ∀ t : Fin cfg0.N, k0_cond7 (grid0.coords t) = 1#1 ↔ 24 ≤ t.val := by decide +kernel
theorem idle14 : ∀ t : Fin cfg0.N, t.val < 24 → cfg0.idle 14 (grid0.coords t) = true := by decide +kernel
theorem live14 : ∀ t : Fin cfg0.N, 24 ≤ t.val → cfg0.idle 14 (grid0.coords t) = false := by decide +kernel
theorem noflush14 : ∀ t : Fin cfg0.N, t.val < 24 → (cfg0.win 14).flush t = false := by decide +kernel
theorem idle15 : ∀ t : Fin cfg0.N, t.val ≠ 0 → t.val < 24 → cfg0.idle 15 (grid0.coords t) = true := by decide +kernel
theorem live15 : ∀ t : Fin cfg0.N, t.val = 0 ∨ 24 ≤ t.val → cfg0.idle 15 (grid0.coords t) = false := by decide +kernel
theorem noflush15 : ∀ t : Fin cfg0.N, t.val < 24 → (cfg0.win 15).flush t = false := by decide +kernel
theorem fresh15 : ∀ t : Fin cfg0.N, t.val ≠ 0 → cfg0.fresh 15 t.val = false := by decide +kernel

/-- The scratch operand. -/
abbrev scM : Memref sig .tc .vmem S4096x1024 .f32 := Memref.whole cc0_scratch0

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The invariant before point `n`. -/
def PhiS (c : Dev nD) (n : ℕ) (_ : n ≤ cfg0.N) : sProp 𝕄 :=
  iprop(iprop((∃ v, ⌜Good m c n v⌝ ∗ owns (c : Thread nD τ) scM fullShare v)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => X0_6 m c t
    | ⟨7, _⟩ => X0_7 m c t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => dxN m c (row t)
    | ⟨15, _⟩ => accN m c (t.val - 23)
    | ⟨n + 16, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = dxN m c (row t) := by dsimp only [dats]
theorem after0_15 (c : Dev nD) (t : Fin cfg0.N) : (dats m 0 c).after 15 t = accN m c (t.val - 23) := by dsimp only [dats]

theorem before0_0 (c : Dev nD) (t : Fin cfg0.N) (d) : (dats m 0 c).before 0 t d = X0_0 m c t := before0_0_of m (dats m 0 c) (A_eq m c 0) (after0_0 m c) t d
theorem before0_1 (c : Dev nD) (t : Fin cfg0.N) (d) : (dats m 0 c).before 1 t d = X0_1 m c t := before0_1_of m (dats m 0 c) (A_eq m c 1) (after0_1 m c) t d
theorem before0_2 (c : Dev nD) (t : Fin cfg0.N) (d) : (dats m 0 c).before 2 t d = X0_2 m c t := before0_2_of m (dats m 0 c) (A_eq m c 2) (after0_2 m c) t d
theorem before0_3 (c : Dev nD) (t : Fin cfg0.N) (d) : (dats m 0 c).before 3 t d = X0_3 m c t := before0_3_of m (dats m 0 c) (A_eq m c 3) (after0_3 m c) t d
theorem before0_4 (c : Dev nD) (t : Fin cfg0.N) (d) : (dats m 0 c).before 4 t d = X0_4 m c t := before0_4_of m (dats m 0 c) (A_eq m c 4) (after0_4 m c) t d
theorem before0_5 (c : Dev nD) (t : Fin cfg0.N) (d) : (dats m 0 c).before 5 t d = X0_5 m c t := before0_5_of m (dats m 0 c) (A_eq m c 5) (after0_5 m c) t d
theorem before0_6 (c : Dev nD) (t : Fin cfg0.N) (d) : (dats m 0 c).before 6 t d = X0_6 m c t := before0_6_of m (dats m 0 c) (A_eq m c 6) (after0_6 m c) t d
theorem before0_7 (c : Dev nD) (t : Fin cfg0.N) (d) : (dats m 0 c).before 7 t d = X0_7 m c t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_12 (c : Dev nD) (t : Fin cfg0.N) (d) : (dats m 0 c).before 12 t d = iblk m c 12 t := before0_12_of m (dats m 0 c) (A_eq m c 12) (after0_12 m c) t d
theorem before0_13 (c : Dev nD) (t : Fin cfg0.N) (d) : (dats m 0 c).before 13 t d = iblk m c 13 t := before0_13_of m (dats m 0 c) (A_eq m c 13) (after0_13 m c) t d

/-- The accumulator's buffer before a point of the last eight. -/
theorem before0_15 (c : Dev nD) (t : Fin cfg0.N) (ht : 24 ≤ t.val) (d) : (dats m 0 c).before 15 t d = accN m c (t.val - 24) := by
  have h := Pipeline.Dat.before_out_traj (dats m 0 c) 15 rfl (fun _ _ => rfl) (fun t h0 hi _ => by
    rw [after0_15, after0_15]
    have : t.val < 24 := by
      by_contra hc
      rw [live15 t (Or.inr (by omega))] at hi
      exact Bool.false_ne_true hi
    exact congrArg (accN m c) (by show t.val - 23 = t.val - 1 - 23; omega)) t.val t rfl d
  rw [fresh15 t (by omega)] at h
  rw [if_neg Bool.false_ne_true, after0_15] at h
  exact h.trans (congrArg (accN m c) (by show t.val - 1 - 23 = t.val - 24; omega))

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

theorem leaves0_0 (c : Dev nD) (t : Fin cfg0.N) : (dats m 0 c).leavesExact 0 t = owns (c : Thread nD τ) (st0_0 t) fullShare (X0_0 m c t) := by
  rw [show (dats m 0 c).leavesExact 0 t = owns (c : Thread nD τ) (st0_0 t) fullShare ((dats m 0 c).after 0 t) from by
    unfold Dat.leavesExact; rw [show cfg0.idle 0 (grid0.coords t) = false from rfl], after0_0]

theorem leaves0_1 (c : Dev nD) (t : Fin cfg0.N) : (dats m 0 c).leavesExact 1 t = owns (c : Thread nD τ) (st0_1 t) fullShare (X0_1 m c t) := by
  rw [show (dats m 0 c).leavesExact 1 t = owns (c : Thread nD τ) (st0_1 t) fullShare ((dats m 0 c).after 1 t) from by
    unfold Dat.leavesExact; rw [show cfg0.idle 1 (grid0.coords t) = false from rfl], after0_1]

theorem leaves0_2 (c : Dev nD) (t : Fin cfg0.N) : (dats m 0 c).leavesExact 2 t = owns (c : Thread nD τ) (st0_2 t) fullShare (X0_2 m c t) := by
  rw [show (dats m 0 c).leavesExact 2 t = owns (c : Thread nD τ) (st0_2 t) fullShare ((dats m 0 c).after 2 t) from by
    unfold Dat.leavesExact; rw [show cfg0.idle 2 (grid0.coords t) = false from rfl], after0_2]

theorem leaves0_3 (c : Dev nD) (t : Fin cfg0.N) : (dats m 0 c).leavesExact 3 t = owns (c : Thread nD τ) (st0_3 t) fullShare (X0_3 m c t) := by
  rw [show (dats m 0 c).leavesExact 3 t = owns (c : Thread nD τ) (st0_3 t) fullShare ((dats m 0 c).after 3 t) from by
    unfold Dat.leavesExact; rw [show cfg0.idle 3 (grid0.coords t) = false from rfl], after0_3]

theorem leaves0_4 (c : Dev nD) (t : Fin cfg0.N) : (dats m 0 c).leavesExact 4 t = owns (c : Thread nD τ) (st0_4 t) fullShare (X0_4 m c t) := by
  rw [show (dats m 0 c).leavesExact 4 t = owns (c : Thread nD τ) (st0_4 t) fullShare ((dats m 0 c).after 4 t) from by
    unfold Dat.leavesExact; rw [show cfg0.idle 4 (grid0.coords t) = false from rfl], after0_4]

theorem leaves0_5 (c : Dev nD) (t : Fin cfg0.N) : (dats m 0 c).leavesExact 5 t = owns (c : Thread nD τ) (st0_5 t) fullShare (X0_5 m c t) := by
  rw [show (dats m 0 c).leavesExact 5 t = owns (c : Thread nD τ) (st0_5 t) fullShare ((dats m 0 c).after 5 t) from by
    unfold Dat.leavesExact; rw [show cfg0.idle 5 (grid0.coords t) = false from rfl], after0_5]

theorem leaves0_6 (c : Dev nD) (t : Fin cfg0.N) : (dats m 0 c).leavesExact 6 t = owns (c : Thread nD τ) (st0_6 t) fullShare (X0_6 m c t) := by
  rw [show (dats m 0 c).leavesExact 6 t = owns (c : Thread nD τ) (st0_6 t) fullShare ((dats m 0 c).after 6 t) from by
    unfold Dat.leavesExact; rw [show cfg0.idle 6 (grid0.coords t) = false from rfl], after0_6]

theorem leaves0_7 (c : Dev nD) (t : Fin cfg0.N) : (dats m 0 c).leavesExact 7 t = owns (c : Thread nD τ) (st0_7 t) fullShare (X0_7 m c t) := by
  rw [show (dats m 0 c).leavesExact 7 t = owns (c : Thread nD τ) (st0_7 t) fullShare ((dats m 0 c).after 7 t) from by
    unfold Dat.leavesExact; rw [show cfg0.idle 7 (grid0.coords t) = false from rfl], after0_7]

theorem leaves0_8 (c : Dev nD) (t : Fin cfg0.N) : (dats m 0 c).leavesExact 8 t = owns (c : Thread nD τ) (st0_8 t) fullShare (iblk m c 8 t) := by
  rw [show (dats m 0 c).leavesExact 8 t = owns (c : Thread nD τ) (st0_8 t) fullShare ((dats m 0 c).after 8 t) from by
    unfold Dat.leavesExact; rw [show cfg0.idle 8 (grid0.coords t) = false from rfl], after0_8]

theorem leaves0_9 (c : Dev nD) (t : Fin cfg0.N) : (dats m 0 c).leavesExact 9 t = owns (c : Thread nD τ) (st0_9 t) fullShare (iblk m c 9 t) := by
  rw [show (dats m 0 c).leavesExact 9 t = owns (c : Thread nD τ) (st0_9 t) fullShare ((dats m 0 c).after 9 t) from by
    unfold Dat.leavesExact; rw [show cfg0.idle 9 (grid0.coords t) = false from rfl], after0_9]

theorem leaves0_10 (c : Dev nD) (t : Fin cfg0.N) : (dats m 0 c).leavesExact 10 t = owns (c : Thread nD τ) (st0_10 t) fullShare (iblk m c 10 t) := by
  rw [show (dats m 0 c).leavesExact 10 t = owns (c : Thread nD τ) (st0_10 t) fullShare ((dats m 0 c).after 10 t) from by
    unfold Dat.leavesExact; rw [show cfg0.idle 10 (grid0.coords t) = false from rfl], after0_10]

theorem leaves0_11 (c : Dev nD) (t : Fin cfg0.N) : (dats m 0 c).leavesExact 11 t = owns (c : Thread nD τ) (st0_11 t) fullShare (iblk m c 11 t) := by
  rw [show (dats m 0 c).leavesExact 11 t = owns (c : Thread nD τ) (st0_11 t) fullShare ((dats m 0 c).after 11 t) from by
    unfold Dat.leavesExact; rw [show cfg0.idle 11 (grid0.coords t) = false from rfl], after0_11]

theorem leaves0_12 (c : Dev nD) (t : Fin cfg0.N) : (dats m 0 c).leavesExact 12 t = owns (c : Thread nD τ) (st0_12 t) fullShare (iblk m c 12 t) := by
  rw [show (dats m 0 c).leavesExact 12 t = owns (c : Thread nD τ) (st0_12 t) fullShare ((dats m 0 c).after 12 t) from by
    unfold Dat.leavesExact; rw [show cfg0.idle 12 (grid0.coords t) = false from rfl], after0_12]

theorem leaves0_13 (c : Dev nD) (t : Fin cfg0.N) : (dats m 0 c).leavesExact 13 t = owns (c : Thread nD τ) (st0_13 t) fullShare (iblk m c 13 t) := by
  rw [show (dats m 0 c).leavesExact 13 t = owns (c : Thread nD τ) (st0_13 t) fullShare ((dats m 0 c).after 13 t) from by
    unfold Dat.leavesExact; rw [show cfg0.idle 13 (grid0.coords t) = false from rfl], after0_13]

theorem body_A (c : Dev nD) (t : Fin cfg0.N) (ht : t.val = 0) :
    bodyPre m c t ⊢ wp frame (wpE (defs₀ (F := F)) Variants.none c none) Set.univ (bodyAt0 t) (fun _ => bodyPost m c t) := by
  have hpt := pt_val t
  unfold bodyPre bodyPost bodyAt0
  simp only [before0_0, before0_1, before0_2, before0_3, before0_4, before0_5, before0_6, before0_7, before0_8, before0_9, before0_10, before0_11, before0_12, before0_13, leaves0_0, leaves0_1, leaves0_2, leaves0_3, leaves0_4, leaves0_5, leaves0_6, leaves0_7, leaves0_8, leaves0_9, leaves0_10, leaves0_11, leaves0_12, leaves0_13]
  rw [show (dats m 0 c).owesAt () t.succ = (dats m 0 c).owesAt () t.castSucc from rfl]
  rw [show (dats m 0 c).Φ t.succ = PhiS m c (t.val + 1) t.isLt from rfl, PhiS_castSucc m c t]
  rw [Dat.leavesExact_idle (dats m 0 c) 14 t (idle14 t (by omega)) (noflush14 t (by omega))]
  rw [show (dats m 0 c).leavesExact 15 t = owns (c : Thread nD τ) (st0_15 t) fullShare ((dats m 0 c).after 15 t) from by
    unfold Dat.leavesExact; rw [live15 t (Or.inl ht)], after0_15]
  unfold PhiS
  iintro ⟨⟨⟨%v, %hv, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_A c (grid0.coords t) (row t) (row_val t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) scM (Memref.isWhole_whole _) ((c1_iff t).mpr (by omega)) ((c2_iff t).mpr (by omega)) ((c3_iff t).mpr (by omega)) (fun h => by have := (c4_iff t).mp h; omega) (fun h => by have := (c5_iff t).mp h; omega) (fun h => by have := (c6_iff t).mp h; omega) (fun h => by have := (c7_iff t).mp h; omega) (X0_7 m c t : Vec F S512x128 .bf16) (iblk m c 10 t : Vec F S1x128x1024 .bf16) (X0_0 m c t : Vec F S512x1024 .bf16) (X0_1 m c t : Vec F S512x1024 .bf16) (iblk m c 8 t : Vec F S1x2048x1024 .bf16) _ v Set.univ _)
  isplitl [H7]; · iexact H7
  isplitl [H10]; · iexact H10
  isplitl [H0]; · iexact H0
  isplitl [H1]; · iexact H1
  isplitl [H8]; · iexact H8
  isplitl [H15]; · iexact H15
  isplitl [HS]; · iexact HS
  iintro ⟨H7, H10, H0, H1, H8, H15, ⟨%v2, %hU, HS⟩⟩
  have hr : (row t).val = t.val := Nat.mod_eq_of_lt (by omega)
  isplitl [HS Hg]
  · isplitl [HS]
    · iexists v2
      isplitr
      swap; · iexact HS
      ipureintro
      exact good_step m c t.val (row t) rfl v v2 _ hU hv (fun _ => by unfold P0 loAt hiAt; rw [hr, hpt]; rfl) (fun h => absurd h (by omega)) (fun h => absurd h (by omega))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  rw [show accN m c (t.val - 23) = k0_pay1 (F := F) from by rw [show t.val - 23 = 0 from by omega]; rfl]
  iexact H15

theorem body_B (c : Dev nD) (t : Fin cfg0.N) (h0 : t.val ≠ 0) (ht : t.val < 8) :
    bodyPre m c t ⊢ wp frame (wpE (defs₀ (F := F)) Variants.none c none) Set.univ (bodyAt0 t) (fun _ => bodyPost m c t) := by
  have hpt := pt_val t
  unfold bodyPre bodyPost bodyAt0
  simp only [before0_0, before0_1, before0_2, before0_3, before0_4, before0_5, before0_6, before0_7, before0_8, before0_9, before0_10, before0_11, before0_12, before0_13, leaves0_0, leaves0_1, leaves0_2, leaves0_3, leaves0_4, leaves0_5, leaves0_6, leaves0_7, leaves0_8, leaves0_9, leaves0_10, leaves0_11, leaves0_12, leaves0_13]
  rw [show (dats m 0 c).owesAt () t.succ = (dats m 0 c).owesAt () t.castSucc from rfl]
  rw [show (dats m 0 c).Φ t.succ = PhiS m c (t.val + 1) t.isLt from rfl, PhiS_castSucc m c t]
  rw [Dat.leavesExact_idle (dats m 0 c) 14 t (idle14 t (by omega)) (noflush14 t (by omega))]
  rw [Dat.leavesExact_idle (dats m 0 c) 15 t (idle15 t (by omega) (by omega)) (noflush15 t (by omega))]
  unfold PhiS
  iintro ⟨⟨⟨%v, %hv, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_B c (grid0.coords t) (row t) (row_val t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) scM (Memref.isWhole_whole _) (fun h => by have := (c1_iff t).mp h; omega) ((c2_iff t).mpr (by omega)) ((c3_iff t).mpr (by omega)) (fun h => by have := (c4_iff t).mp h; omega) (fun h => by have := (c5_iff t).mp h; omega) (fun h => by have := (c6_iff t).mp h; omega) (fun h => by have := (c7_iff t).mp h; omega) (X0_7 m c t : Vec F S512x128 .bf16) (iblk m c 10 t : Vec F S1x128x1024 .bf16) (X0_0 m c t : Vec F S512x1024 .bf16) (X0_1 m c t : Vec F S512x1024 .bf16) (iblk m c 8 t : Vec F S1x2048x1024 .bf16) v Set.univ _)
  isplitl [H7]; · iexact H7
  isplitl [H10]; · iexact H10
  isplitl [H0]; · iexact H0
  isplitl [H1]; · iexact H1
  isplitl [H8]; · iexact H8
  isplitl [HS]; · iexact HS
  iintro ⟨H7, H10, H0, H1, H8, ⟨%v2, %hU, HS⟩⟩
  have hr : (row t).val = t.val := Nat.mod_eq_of_lt (by omega)
  isplitl [HS Hg]
  · isplitl [HS]
    · iexists v2
      isplitr
      swap; · iexact HS
      ipureintro
      exact good_step m c t.val (row t) rfl v v2 _ hU hv (fun _ => by unfold P0 loAt hiAt; rw [hr, hpt]; rfl) (fun h => absurd h (by omega)) (fun h => absurd h (by omega))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iexists _; iexact H15

theorem body_C (c : Dev nD) (t : Fin cfg0.N) (h8 : 8 ≤ t.val) (ht : t.val < 16) :
    bodyPre m c t ⊢ wp frame (wpE (defs₀ (F := F)) Variants.none c none) Set.univ (bodyAt0 t) (fun _ => bodyPost m c t) := by
  have hpt := pt_val t
  unfold bodyPre bodyPost bodyAt0
  simp only [before0_0, before0_1, before0_2, before0_3, before0_4, before0_5, before0_6, before0_7, before0_8, before0_9, before0_10, before0_11, before0_12, before0_13, leaves0_0, leaves0_1, leaves0_2, leaves0_3, leaves0_4, leaves0_5, leaves0_6, leaves0_7, leaves0_8, leaves0_9, leaves0_10, leaves0_11, leaves0_12, leaves0_13]
  rw [show (dats m 0 c).owesAt () t.succ = (dats m 0 c).owesAt () t.castSucc from rfl]
  rw [show (dats m 0 c).Φ t.succ = PhiS m c (t.val + 1) t.isLt from rfl, PhiS_castSucc m c t]
  rw [Dat.leavesExact_idle (dats m 0 c) 14 t (idle14 t (by omega)) (noflush14 t (by omega))]
  rw [Dat.leavesExact_idle (dats m 0 c) 15 t (idle15 t (by omega) (by omega)) (noflush15 t (by omega))]
  unfold PhiS
  iintro ⟨⟨⟨%v, %hv, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_C c (grid0.coords t) (row t) (row_val t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) scM (Memref.isWhole_whole _) (fun h => by have := (c1_iff t).mp h; omega) (fun h => by have := (c2_iff t).mp h; omega) (fun h => by have := (c3_iff t).mp h; omega) ((c4_iff t).mpr (by omega)) (fun h => by have := (c5_iff t).mp h; omega) (fun h => by have := (c6_iff t).mp h; omega) (fun h => by have := (c7_iff t).mp h; omega) (X0_2 m c t : Vec F S512x1024 .bf16) (X0_3 m c t : Vec F S512x1024 .bf16) (iblk m c 8 t : Vec F S1x2048x1024 .bf16) (iblk m c 9 t : Vec F S1x128x1024 .bf16) v Set.univ _)
  isplitl [H2]; · iexact H2
  isplitl [H3]; · iexact H3
  isplitl [H8]; · iexact H8
  isplitl [H9]; · iexact H9
  isplitl [HS]; · iexact HS
  iintro ⟨H2, H3, H8, H9, ⟨%v2, %hU, HS⟩⟩
  have hr : 8 + (row t).val = t.val := by have : (row t).val = t.val % 8 := rfl; omega
  isplitl [HS Hg]
  · isplitl [HS]
    · iexists v2
      isplitr
      swap; · iexact HS
      ipureintro
      exact good_step m c t.val (row t) rfl v v2 _ hU hv (fun h => absurd h (by omega)) (fun _ => by unfold P1 loAt hiAt; rw [hr, hpt, (hv (row t)).1 (by have : (row t).val = t.val % 8 := rfl; omega)]; rfl) (fun h => absurd h (by omega))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iexists _; iexact H15

theorem body_D (c : Dev nD) (t : Fin cfg0.N) (h16 : 16 ≤ t.val) (ht : t.val < 24) :
    bodyPre m c t ⊢ wp frame (wpE (defs₀ (F := F)) Variants.none c none) Set.univ (bodyAt0 t) (fun _ => bodyPost m c t) := by
  have hpt := pt_val t
  unfold bodyPre bodyPost bodyAt0
  simp only [before0_0, before0_1, before0_2, before0_3, before0_4, before0_5, before0_6, before0_7, before0_8, before0_9, before0_10, before0_11, before0_12, before0_13, leaves0_0, leaves0_1, leaves0_2, leaves0_3, leaves0_4, leaves0_5, leaves0_6, leaves0_7, leaves0_8, leaves0_9, leaves0_10, leaves0_11, leaves0_12, leaves0_13]
  rw [show (dats m 0 c).owesAt () t.succ = (dats m 0 c).owesAt () t.castSucc from rfl]
  rw [show (dats m 0 c).Φ t.succ = PhiS m c (t.val + 1) t.isLt from rfl, PhiS_castSucc m c t]
  rw [Dat.leavesExact_idle (dats m 0 c) 14 t (idle14 t (by omega)) (noflush14 t (by omega))]
  rw [Dat.leavesExact_idle (dats m 0 c) 15 t (idle15 t (by omega) (by omega)) (noflush15 t (by omega))]
  unfold PhiS
  iintro ⟨⟨⟨%v, %hv, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_D c (grid0.coords t) (row t) (row_val t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) scM (Memref.isWhole_whole _) (fun h => by have := (c1_iff t).mp h; omega) (fun h => by have := (c2_iff t).mp h; omega) (fun h => by have := (c3_iff t).mp h; omega) (fun h => by have := (c4_iff t).mp h; omega) ((c5_iff t).mpr (by omega)) (fun h => by have := (c6_iff t).mp h; omega) (fun h => by have := (c7_iff t).mp h; omega) (X0_4 m c t : Vec F S512x1024 .bf16) (X0_5 m c t : Vec F S512x1024 .bf16) (iblk m c 8 t : Vec F S1x2048x1024 .bf16) (iblk m c 9 t : Vec F S1x128x1024 .bf16) v Set.univ _)
  isplitl [H4]; · iexact H4
  isplitl [H5]; · iexact H5
  isplitl [H8]; · iexact H8
  isplitl [H9]; · iexact H9
  isplitl [HS]; · iexact HS
  iintro ⟨H4, H5, H8, H9, ⟨%v2, %hU, HS⟩⟩
  have hr : 16 + (row t).val = t.val := by have : (row t).val = t.val % 8 := rfl; omega
  isplitl [HS Hg]
  · isplitl [HS]
    · iexists v2
      isplitr
      swap; · iexact HS
      ipureintro
      exact good_step m c t.val (row t) rfl v v2 _ hU hv (fun h => absurd h (by omega)) (fun h => absurd h (by omega)) (fun _ => by unfold P2 loAt hiAt; rw [hr, hpt, (hv (row t)).2.1 (by have : (row t).val = t.val % 8 := rfl; omega)]; rfl)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iexists _; iexact H15

theorem P3_at (c : Dev nD) (t : Fin cfg0.N) (r : Fin 8) (hr : 24 + r.val = t.val) (v : Vec F S4096x1024 .f32) (hp : blk r v = P2 m c r) :
    P3 m c r = (k0_pay6 (View.ld (X0_6 m c t : Vec F S512x2048 .bf16) (Rect.unit (s := S512x2048) ![0, 0] S512x1024.size inb_S512x2048_S512x1024_0_0)) (View.ld (X0_6 m c t : Vec F S512x2048 .bf16) (Rect.unit (s := S512x2048) ![0, 1024] S512x1024.size inb_S512x2048_S512x1024_0_1024)) (View.ld (iblk m c 8 t : Vec F S1x2048x1024 .bf16) (Rect.unit (s := S1x2048x1024) ![0, 0, 0] S1x1024x1024.size inb_S1x2048x1024_S1x1024x1024_0_0_0)) (View.ld (iblk m c 8 t : Vec F S1x2048x1024 .bf16) (Rect.unit (s := S1x2048x1024) ![0, 1024, 0] S1x1024x1024.size inb_S1x2048x1024_S1x1024x1024_0_1024_0)) (iblk m c 9 t : Vec F S1x128x1024 .bf16) (blk r v)) := by
  unfold P3 loAt hiAt; rw [hr, pt_val t, hp]

theorem dxN_at (c : Dev nD) (t : Fin cfg0.N) (r : Fin 8) (hr : 24 + r.val = t.val) (v : Vec F S4096x1024 .f32) (hp : blk r v = P2 m c r) :
    dxN m c r = dxStep (k0_pay6 (View.ld (X0_6 m c t : Vec F S512x2048 .bf16) (Rect.unit (s := S512x2048) ![0, 0] S512x1024.size inb_S512x2048_S512x1024_0_0)) (View.ld (X0_6 m c t : Vec F S512x2048 .bf16) (Rect.unit (s := S512x2048) ![0, 1024] S512x1024.size inb_S512x2048_S512x1024_0_1024)) (View.ld (iblk m c 8 t : Vec F S1x2048x1024 .bf16) (Rect.unit (s := S1x2048x1024) ![0, 0, 0] S1x1024x1024.size inb_S1x2048x1024_S1x1024x1024_0_0_0)) (View.ld (iblk m c 8 t : Vec F S1x2048x1024 .bf16) (Rect.unit (s := S1x2048x1024) ![0, 1024, 0] S1x1024x1024.size inb_S1x2048x1024_S1x1024x1024_0_1024_0)) (iblk m c 9 t : Vec F S1x128x1024 .bf16) (blk r v)) (iblk m c 11 t : Vec F S512x1024 .f32) (iblk m c 12 t : Vec F S8x1024 .f32) (iblk m c 13 t : Vec F S512x1024 .f32) := by
  unfold dxN; rw [P3_at m c t r hr v hp, hr, pt_val t]

theorem accN_at (c : Dev nD) (t : Fin cfg0.N) (r : Fin 8) (hr : 24 + r.val = t.val) (v : Vec F S4096x1024 .f32) (hp : blk r v = P2 m c r) :
    accN m c (t.val - 23) = accStep (k0_pay6 (View.ld (X0_6 m c t : Vec F S512x2048 .bf16) (Rect.unit (s := S512x2048) ![0, 0] S512x1024.size inb_S512x2048_S512x1024_0_0)) (View.ld (X0_6 m c t : Vec F S512x2048 .bf16) (Rect.unit (s := S512x2048) ![0, 1024] S512x1024.size inb_S512x2048_S512x1024_0_1024)) (View.ld (iblk m c 8 t : Vec F S1x2048x1024 .bf16) (Rect.unit (s := S1x2048x1024) ![0, 0, 0] S1x1024x1024.size inb_S1x2048x1024_S1x1024x1024_0_0_0)) (View.ld (iblk m c 8 t : Vec F S1x2048x1024 .bf16) (Rect.unit (s := S1x2048x1024) ![0, 1024, 0] S1x1024x1024.size inb_S1x2048x1024_S1x1024x1024_0_1024_0)) (iblk m c 9 t : Vec F S1x128x1024 .bf16) (blk r v)) (iblk m c 11 t : Vec F S512x1024 .f32) (iblk m c 12 t : Vec F S8x1024 .f32) (accN m c (t.val - 24)) := by
  rw [← P3_at m c t r hr v hp]
  have e : t.val - 23 = (t.val - 24) + 1 := by have := r.isLt; omega
  rw [e]
  show accStep (P3 m c ⟨(t.val - 24) % 8, _⟩) (iblk m c 11 (pt (24 + (t.val - 24)))) (iblk m c 12 (pt (24 + (t.val - 24)))) (accN m c (t.val - 24)) = _
  have e1 : (⟨(t.val - 24) % 8, Nat.mod_lt _ (by decide)⟩ : Fin 8) = r := Fin.ext (by show (t.val - 24) % 8 = r.val; have := r.isLt; omega)
  have e2 : 24 + (t.val - 24) = t.val := by omega
  rw [e1, e2, pt_val t]

theorem body_E (c : Dev nD) (t : Fin cfg0.N) (ht : 24 ≤ t.val) :
    bodyPre m c t ⊢ wp frame (wpE (defs₀ (F := F)) Variants.none c none) Set.univ (bodyAt0 t) (fun _ => bodyPost m c t) := by
  have hpt := pt_val t
  unfold bodyPre bodyPost bodyAt0
  simp only [before0_0, before0_1, before0_2, before0_3, before0_4, before0_5, before0_6, before0_7, before0_8, before0_9, before0_10, before0_11, before0_12, before0_13, leaves0_0, leaves0_1, leaves0_2, leaves0_3, leaves0_4, leaves0_5, leaves0_6, leaves0_7, leaves0_8, leaves0_9, leaves0_10, leaves0_11, leaves0_12, leaves0_13]
  rw [show (dats m 0 c).owesAt () t.succ = (dats m 0 c).owesAt () t.castSucc from rfl]
  rw [show (dats m 0 c).Φ t.succ = PhiS m c (t.val + 1) t.isLt from rfl, PhiS_castSucc m c t]
  simp only [before0_15 m c t ht]
  rw [show (dats m 0 c).leavesExact 14 t = owns (c : Thread nD τ) (st0_14 t) fullShare ((dats m 0 c).after 14 t) from by
    unfold Dat.leavesExact; rw [live14 t ht], after0_14]
  rw [show (dats m 0 c).leavesExact 15 t = owns (c : Thread nD τ) (st0_15 t) fullShare ((dats m 0 c).after 15 t) from by
    unfold Dat.leavesExact; rw [live15 t (Or.inr ht)], after0_15]
  unfold PhiS
  iintro ⟨⟨⟨%v, %hv, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_E c (grid0.coords t) (row t) (row_val t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) scM (Memref.isWhole_whole _) (fun h => by have := (c1_iff t).mp h; omega) (fun h => by have := (c2_iff t).mp h; omega) (fun h => by have := (c3_iff t).mp h; omega) (fun h => by have := (c4_iff t).mp h; omega) (fun h => by have := (c5_iff t).mp h; omega) ((c6_iff t).mpr (by omega)) ((c7_iff t).mpr (by omega)) (X0_6 m c t : Vec F S512x2048 .bf16) (iblk m c 8 t : Vec F S1x2048x1024 .bf16) (iblk m c 9 t : Vec F S1x128x1024 .bf16) (iblk m c 11 t : Vec F S512x1024 .f32) (iblk m c 12 t : Vec F S8x1024 .f32) (iblk m c 13 t : Vec F S512x1024 .f32) _ (accN m c (t.val - 24)) v Set.univ _)
  isplitl [H6]; · iexact H6
  isplitl [H8]; · iexact H8
  isplitl [H9]; · iexact H9
  isplitl [H11]; · iexact H11
  isplitl [H12]; · iexact H12
  isplitl [H13]; · iexact H13
  isplitl [H14]; · iexact H14
  isplitl [H15]; · iexact H15
  isplitl [HS]; · iexact HS
  iintro ⟨H6, H8, H9, H11, H12, H13, H14, H15, ⟨%v2, %hU, HS⟩⟩
  have hr : 24 + (row t).val = t.val := by have : (row t).val = t.val % 8 := rfl; have := lt32 t; omega
  have hp : blk (row t) v = P2 m c (row t) := (hv (row t)).2.2 (by have : (row t).val = t.val % 8 := rfl; have := lt32 t; omega)
  isplitl [HS Hg]
  · isplitl [HS]
    · iexists v2
      isplitr
      swap; · iexact HS
      ipureintro
      exact good_step m c t.val (row t) rfl v v2 _ hU hv (fun h => absurd h (by omega)) (fun h => absurd h (by omega)) (fun h => absurd h (by omega))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · rw [dxN_at m c t (row t) hr v hp]
    iexact H14
  rw [accN_at m c t (row t) hr v hp]
  iexact H15

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact body_A m c t h0
  by_cases h8 : t.val < 8
  · exact body_B m c t h0 h8
  by_cases h16 : t.val < 16
  · exact body_C m c t (by omega) h16
  by_cases h24 : t.val < 24
  · exact body_D m c t (by omega) h24
  exact body_E m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨%d, HS⟩, Hg⟩
  isplitl [HS]
  · iexists d
    isplitr
    swap; · iexact HS
    ipureintro; exact good_zero m c d
  iexact Hg

theorem hout (c : Dev nD) : (dats m 0 c).Φ (Fin.last cfg0.N) ⊢ Pipeline.ΦA spec0 c := by
  rw [show (dats m 0 c).Φ (Fin.last cfg0.N) = PhiS m c cfg0.N (le_refl _) from rfl, PhiA_eq]
  unfold PhiS
  iintro ⟨⟨%d, %hd, HS⟩, Hg⟩
  isplitl [HS]
  · iexists d; iexact HS
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_main_quiescent m ρ))

end Cert.DuLat

end
-- ==== Proof.DuLatBlock.lean ====
/-
  What one block of 512 tokens computes in the layer's input-gradient kernel, entry by entry: the products against the
  slabs, and the norm's gradient on the finished rows.
-/
module

public import proofs.«01_k».proof.Proof.NormRow
public import proofs.«01_k».proof.Proof.Gen.Kernel10Ideal.Skeleton
public import Idealize.ShloMosaic.Lib.Pipeline.ValueKit

@[expose] public section

set_option maxRecDepth 16384

noncomputable section

namespace Cert.DuLat

open Idealize.ShloMosaic hiding ix2 ix3 eq_ix2 eq_ix3
open Cert.Kernel10Ideal Cert.Kernel10Ideal.Gen
open Idealize.ShloMosaic.ValueIdx Cert.Kit Cert.NormRow
open scoped BigOperators

/-! ## The products -/

theorem zeros : (constant S512x1024 .f32 0x00000000#32 : FVec Ideal S512x1024 .f32) = fun _ => 0 :=
  funext fun _ => Ideal.ofBits_zero_f32

theorem big_apply (l : FVec Ideal S512x1024 .bf16) (w : FVec Ideal S1x1024x1024 .bf16) (r : Fin 512) (d : Fin 1024) :
    matmul dot_S512x1024_S1024x1024_S512x1024_1_0_0_1_n_n none l (shapeCast S1024x1024 w shapeCasts_S1x1024x1024_S1024x1024)
      (constant S512x1024 .f32 0x00000000#32) (ix2 r d) = ∑ k : Fin 1024, l (ix2 r k) * w (ix3 (0 : Fin 1) k d) := by
  rw [zeros]
  refine (Ideal.matmul_plain_apply none l _ (fun _ => 0) r d).trans ((zero_add _).trans (Finset.sum_congr rfl fun k _ => ?_))
  refine congrArg (fun z : EReal => l (ix2 r k) * z) (shapeCast_apply w shapeCasts_S1x1024x1024_S1024x1024 (ix2 k d) (ix3 (0 : Fin 1) k d) ?_)
  rewrite [Shape.rowMajor_val_three, Shape.rowMajor_val_two]
  show (0 * 1024 + k.val) * 1024 + d.val = k.val * 1024 + d.val
  omega

theorem small_apply (l : FVec Ideal S512x128 .bf16) (w : FVec Ideal S1x128x1024 .bf16) (r : Fin 512) (d : Fin 1024) :
    matmul dot_S512x128_S128x1024_S512x1024_1_0_0_1_n_n none l (shapeCast S128x1024 w shapeCasts_S1x128x1024_S128x1024)
      (constant S512x1024 .f32 0x00000000#32) (ix2 r d) = ∑ k : Fin 128, l (ix2 r k) * w (ix3 (0 : Fin 1) k d) := by
  rw [zeros]
  refine (Ideal.matmul_plain_apply none l _ (fun _ => 0) r d).trans ((zero_add _).trans (Finset.sum_congr rfl fun k _ => ?_))
  refine congrArg (fun z : EReal => l (ix2 r k) * z) (shapeCast_apply w shapeCasts_S1x128x1024_S128x1024 (ix2 k d) (ix3 (0 : Fin 1) k d) ?_)
  rewrite [Shape.rowMajor_val_three, Shape.rowMajor_val_two]
  show (0 * 128 + k.val) * 1024 + d.val = k.val * 1024 + d.val
  omega

/-- The first columns of a block. -/
theorem head_apply (l : FVec Ideal S512x1024 .bf16) (r : Fin 512) (k : Fin 128) :
    extractStridedSlice S512x128 ![0, 0] l slices_S512x1024_o0_0_S512x128 (ix2 r k) = l (ix2 r (⟨k.val, by omega⟩ : Fin 1024)) :=
  extractStridedSlice_apply _ _ _ _ _ fun a => by
    match a with
    | ⟨0, _⟩ => show r.val = 0 + r.val; omega
    | ⟨1, _⟩ => show k.val = 0 + k.val; omega

section Pays

variable (a b : Vec Ideal S512x1024 .bf16) (lo hi : Vec Ideal S1x1024x1024 .bf16) (u : Vec Ideal S512x128 .bf16) (tl : Vec Ideal S1x128x1024 .bf16)
  (p : Vec Ideal S512x1024 .f32) (r : Fin 512) (d : Fin 1024)

theorem pay2_apply : k0_pay2 u tl (ix2 r d) = ∑ k : Fin 128, u (ix2 r k) * tl (ix3 (0 : Fin 1) k d) := by
  unfold k0_pay2
  rw [shapeCast_self]
  exact small_apply u tl r d

theorem pay3_apply : k0_pay3 a b lo hi p (ix2 r d) = p (ix2 r d)
    + (∑ k : Fin 1024, a (ix2 r k) * lo (ix3 (0 : Fin 1) k d) + ∑ k : Fin 1024, b (ix2 r k) * hi (ix3 (0 : Fin 1) k d)) := by
  unfold k0_pay3
  rw [shapeCast_self]
  exact congrArg₂ (fun x y : EReal => x + y) rfl (congrArg₂ (fun x y : EReal => x + y) (big_apply a lo r d) (big_apply b hi r d))

theorem pay4_apply : k0_pay4 a b lo hi tl p (ix2 r d) = p (ix2 r d)
    + ((∑ k : Fin 1024, a (ix2 r k) * lo (ix3 (0 : Fin 1) k d) + ∑ k : Fin 1024, b (ix2 r k) * hi (ix3 (0 : Fin 1) k d))
      + ∑ k : Fin 128, a (ix2 r (⟨k.val, by omega⟩ : Fin 1024)) * tl (ix3 (0 : Fin 1) k d)) := by
  unfold k0_pay4
  rw [shapeCast_self]
  refine congrArg₂ (fun x y : EReal => x + y) rfl (congrArg₂ (fun x y : EReal => x + y)
    (congrArg₂ (fun x y : EReal => x + y) (big_apply a lo r d) (big_apply b hi r d)) ((small_apply _ tl r d).trans ?_))
  exact Finset.sum_congr rfl fun k _ => congrArg (fun z : EReal => z * tl (ix3 (0 : Fin 1) k d)) (head_apply a r k)

theorem pay5_apply : k0_pay5 a b lo hi tl p (ix2 r d) = p (ix2 r d)
    + ((∑ k : Fin 1024, a (ix2 r k) * lo (ix3 (0 : Fin 1) k d) + ∑ k : Fin 1024, b (ix2 r k) * hi (ix3 (0 : Fin 1) k d))
      + ∑ k : Fin 128, a (ix2 r (⟨k.val, by omega⟩ : Fin 1024)) * tl (ix3 (0 : Fin 1) k d)) := pay4_apply a b lo hi tl p r d

theorem pay6_apply : k0_pay6 a b lo hi tl p (ix2 r d) = p (ix2 r d)
    + ((∑ k : Fin 1024, a (ix2 r k) * lo (ix3 (0 : Fin 1) k d) + ∑ k : Fin 1024, b (ix2 r k) * hi (ix3 (0 : Fin 1) k d))
      + ∑ k : Fin 128, a (ix2 r (⟨k.val, by omega⟩ : Fin 1024)) * tl (ix3 (0 : Fin 1) k d)) := pay4_apply a b lo hi tl p r d

end Pays

/-! ## The norm's gradient -/

/-- Row `r` of a block. -/
abbrev line (v : S512x1024.Idx → EReal) (r : Fin 512) : Fin 1024 → EReal := fun k => v (ix2 r k)
/-- The gradient through the modulation and the norm's weight. -/
abbrev inner (du : S512x1024.Idx → EReal) (sc nw : S1x1024.Idx → EReal) (r : Fin 512) : Fin 1024 → EReal :=
  fun k => du (ix2 r k) * sc (ix2 (0 : Fin 1) k) * nw (ix2 (0 : Fin 1) k)

section Norm

variable (du x dres : Vec Ideal S512x1024 .f32) (sc nw z : Vec Ideal S1x1024 .f32)

theorem pay9_apply (r : Fin 512) (o : Fin 1) : k0_pay9 x (ix2 r o) = rstd (line x r) := by
  show Ideal.rsqrt (Ideal.div ((shapeCast S512x1 _ _ : FVec Ideal S512x1 .f32) (ix2 r o)) cN + cE) = _
  unfold rstd ms
  exact congrArg (fun s => Ideal.rsqrt (Ideal.div s cN + cE)) ((asColumn_apply _ _ r o).trans (rowSum_apply _ _ _ _ _ _))

theorem pay10_apply (r : Fin 512) (k : Fin 1024) : k0_pay10 x (ix2 r k) = xhat (line x r) k := by
  unfold xhat
  exact congrArg₂ (fun x y : EReal => x * y) rfl ((spread_apply (by decide) _ _ r k).trans (pay9_apply x r 0))

theorem pay11_eq : k0_pay11 nw = nw := shapeCast_self _ _
theorem pay15_eq : k0_pay15 z = z := shapeCast_self _ _

theorem pay14_apply (r : Fin 512) (k : Fin 1024) : k0_pay14 du sc (ix2 r k) = du (ix2 r k) * sc (ix2 (0 : Fin 1) k) := by
  refine congrArg₂ (fun x y : EReal => x * y) rfl ((broadcastTo_1b_ab_apply _ _ r k).trans ?_)
  rw [shapeCast_self]

theorem pay8_apply (r : Fin 512) (k : Fin 1024) :
    k0_pay8 (k0_pay9 x) (k0_pay10 x) (k0_pay11 nw) (k0_pay14 du sc) dres (ix2 r k)
      = dres (ix2 r k) + back (line x r) (inner du sc nw r) k := by
  have e45 : ∀ j : Fin 1024, mulf (F := Ideal) (φ := .f32) (k0_pay14 du sc) (broadcastTo S512x1024 (k0_pay11 nw) broadcasts_S1x1024_S512x1024) (ix2 r j)
      = inner du sc nw r j := fun j =>
    congrArg₂ (fun x y : EReal => x * y) (pay14_apply du sc r j) ((broadcastTo_1b_ab_apply _ _ r j).trans (by rw [pay11_eq]))
  refine congrArg₂ (fun x y : EReal => x + y) rfl ?_
  refine congrArg₂ (fun x y : EReal => x * y) ((spread_apply (by decide) _ _ r k).trans (pay9_apply x r 0)) ?_
  refine congrArg₂ (fun x y : EReal => x - y) (e45 k) ?_
  refine congrArg₂ (fun x y : EReal => x * y) (pay10_apply x r k) ((spread_apply (by decide) _ _ r k).trans ?_)
  refine congrArg (fun s => Ideal.div s cN) ((asColumn_apply _ _ r 0).trans ((rowSum_apply _ _ _ _ _ _).trans ?_))
  exact Finset.sum_congr rfl fun j _ => congrArg₂ (fun x y : EReal => x * y) (e45 j) (pay10_apply x r j)

theorem pay12_apply (k : Fin 1024) : k0_pay12 du z (ix2 (0 : Fin 1) k) = z (ix2 (0 : Fin 1) k) + ∑ r : Fin 512, du (ix2 r k) := by
  refine congrArg₂ (fun x y : EReal => x + y) (by rw [shapeCast_self]) ((shapeCast_a_1a_apply _ _ _ _).trans (colSum_apply _ _ _ _ _ _))

theorem pay13_apply (k : Fin 1024) : k0_pay13 du x nw z (ix2 (0 : Fin 1) k)
    = z (ix2 (0 : Fin 1) k) + ∑ r : Fin 512, du (ix2 r k) * xhat (line x r) k * nw (ix2 (0 : Fin 1) k) := by
  refine congrArg₂ (fun x y : EReal => x + y) (by rw [shapeCast_self]) ((shapeCast_a_1a_apply _ _ _ _).trans
    ((colSum_apply _ _ _ _ _ _).trans (Finset.sum_congr rfl fun r _ => ?_)))
  refine congrArg₂ (fun x y : EReal => x * y) (congrArg₂ (fun x y : EReal => x * y) rfl (pay10_apply x r k)) ((broadcastTo_1b_ab_apply _ _ r k).trans ?_)
  rw [pay11_eq]

theorem pay7_apply (k : Fin 1024) : k0_pay7 (k0_pay10 x) (k0_pay14 du sc) (k0_pay15 z) (ix2 (0 : Fin 1) k)
    = z (ix2 (0 : Fin 1) k) + ∑ r : Fin 512, du (ix2 r k) * sc (ix2 (0 : Fin 1) k) * xhat (line x r) k := by
  refine congrArg₂ (fun x y : EReal => x + y) (congrFun (shapeCast_self _ _) _) ((shapeCast_a_1a_apply _ _ _ _).trans
    ((colSum_apply _ 0x00000000#32 _ (.inl rfl) rfl _).trans (Finset.sum_congr rfl fun r _ => ?_)))
  exact congrArg₂ (fun x y : EReal => x * y) (pay14_apply du sc r k) (pay10_apply x r k)

end Norm

end Cert.DuLat

end
-- ==== Proof.DuLatSum.lean ====
/-
  A row of 8224 products taken in the pieces the layer's input-gradient kernel takes it in: four stretches of 2048, each
  against a slab of the weight padded below, the rows the padding displaced in a second slab of 128, and a last stretch
  of 32. Sums of an additive commutative monoid and products by zero only: it holds at the infinities too.
-/
module

public import proofs.«01_k».proof.Proof.NormRow

@[expose] public section

noncomputable section

namespace Cert.DuLat

open Finset
open scoped BigOperators

/-- Slab `j`: the weight's rows from `2048 j`, the first `8 j` of them cleared. -/
def mainW (W : ℕ → EReal) (j p : ℕ) : EReal := if 8 * j ≤ p then W (2048 * j + p) else 0
/-- Under slab `j`: the first rows of the next stretch. -/
def tailW (W : ℕ → EReal) (j q : ℕ) : EReal := if q < 8 * (j + 1) then W (2048 * (j + 1) + q) else 0

theorem cut_sum (n k : ℕ) (h : n ≤ k) (f g : ℕ → EReal) (hf : ∀ q, q < n → f q = g q) (hz : ∀ q, n ≤ q → g q = 0) :
    ∑ q ∈ range n, f q = ∑ q ∈ range k, g q := by
  obtain ⟨j, rfl⟩ := Nat.exists_eq_add_of_le h
  rw [sum_range_add g n j, sum_eq_zero (s := range j) fun q _ => hz _ (Nat.le_add_right _ _), add_zero]
  exact sum_congr rfl fun q hq => hf q (mem_range.mp hq)

/-- A stretch, from its slab's two halves and the displaced rows. -/
theorem stretch (s W : ℕ → EReal) (e : ℕ) (he : e ≤ 128) :
    (∑ p ∈ range 1024, s p * (if e ≤ p then W p else 0) + ∑ p ∈ range 1024, s (1024 + p) * (if e ≤ 1024 + p then W (1024 + p) else 0))
      + ∑ q ∈ range 128, s q * (if q < e then W q else 0) = ∑ p ∈ range 2048, s p * W p := by
  rw [← sum_range_add (fun p => s p * (if e ≤ p then W p else 0)) 1024 1024,
    cut_sum 128 2048 (by omega) _ (fun q => s q * (if q < e then W q else 0)) (fun _ _ => rfl)
      (fun q hq => by rw [if_neg (by omega), mul_zero]), ← sum_add_distrib]
  refine sum_congr rfl fun p _ => ?_
  by_cases h : e ≤ p
  · rw [if_pos h, if_neg (by omega), mul_zero, add_zero]
  · rw [if_neg h, if_pos (by omega), mul_zero, zero_add]

theorem fold (ct W z : ℕ → EReal) (hz : ∀ q, q < 32 → z q = ct (8192 + q)) :
    (((∑ q : Fin 128, z q.val * tailW W 3 q.val
        + (∑ k : Fin 1024, ct k.val * mainW W 0 k.val + ∑ k : Fin 1024, ct (1024 + k.val) * mainW W 0 (1024 + k.val)))
      + ((∑ k : Fin 1024, ct (2048 + k.val) * mainW W 1 k.val + ∑ k : Fin 1024, ct (3072 + k.val) * mainW W 1 (1024 + k.val))
        + ∑ q : Fin 128, ct (2048 + q.val) * tailW W 0 q.val))
      + ((∑ k : Fin 1024, ct (4096 + k.val) * mainW W 2 k.val + ∑ k : Fin 1024, ct (5120 + k.val) * mainW W 2 (1024 + k.val))
        + ∑ q : Fin 128, ct (4096 + q.val) * tailW W 1 q.val))
      + ((∑ k : Fin 1024, ct (6144 + k.val) * mainW W 3 k.val + ∑ k : Fin 1024, ct (7168 + k.val) * mainW W 3 (1024 + k.val))
        + ∑ q : Fin 128, ct (6144 + q.val) * tailW W 2 q.val)
      = ∑ q : Fin 8224, ct q.val * W q.val := by
  have s0 := stretch ct W 0 (by omega)
  have s1 := stretch (fun p => ct (2048 + p)) (fun p => W (2048 + p)) 8 (by omega)
  have s2 := stretch (fun p => ct (4096 + p)) (fun p => W (4096 + p)) 16 (by omega)
  have s3 := stretch (fun p => ct (6144 + p)) (fun p => W (6144 + p)) 24 (by omega)
  rw [sum_eq_zero (s := range 128) fun q _ => by rw [if_neg (by omega), mul_zero], add_zero] at s0
  have s4 : ∑ q ∈ range 128, z q * tailW W 3 q = ∑ q ∈ range 32, ct (8192 + q) * W (8192 + q) :=
    (cut_sum 32 128 (by omega) _ _ (fun q hq => by unfold tailW; rw [hz q hq, if_pos (by omega)])
      (fun q hq => by unfold tailW; rw [if_neg (by omega), mul_zero])).symm
  have e : ∑ q : Fin 8224, ct q.val * W q.val = (((∑ p ∈ range 2048, ct p * W p + ∑ p ∈ range 2048, ct (2048 + p) * W (2048 + p))
      + ∑ p ∈ range 2048, ct (4096 + p) * W (4096 + p)) + ∑ p ∈ range 2048, ct (6144 + p) * W (6144 + p))
      + ∑ q ∈ range 32, ct (8192 + q) * W (8192 + q) := by
    rw [Fin.sum_univ_eq_sum_range (fun q => ct q * W q) 8224, sum_range_add (fun q => ct q * W q) 8192 32,
      sum_range_add (fun q => ct q * W q) 6144 2048, sum_range_add (fun q => ct q * W q) 4096 2048,
      sum_range_add (fun q => ct q * W q) 2048 2048]
  rw [e, ← s0, ← s1, ← s2, ← s3, ← s4]
  rw [Fin.sum_univ_eq_sum_range (fun q => z q * tailW W 3 q) 128, Fin.sum_univ_eq_sum_range (fun k => ct k * mainW W 0 k) 1024,
    Fin.sum_univ_eq_sum_range (fun k => ct (1024 + k) * mainW W 0 (1024 + k)) 1024,
    Fin.sum_univ_eq_sum_range (fun k => ct (2048 + k) * mainW W 1 k) 1024,
    Fin.sum_univ_eq_sum_range (fun k => ct (3072 + k) * mainW W 1 (1024 + k)) 1024,
    Fin.sum_univ_eq_sum_range (fun k => ct (2048 + k) * tailW W 0 k) 128,
    Fin.sum_univ_eq_sum_range (fun k => ct (4096 + k) * mainW W 2 k) 1024,
    Fin.sum_univ_eq_sum_range (fun k => ct (5120 + k) * mainW W 2 (1024 + k)) 1024,
    Fin.sum_univ_eq_sum_range (fun k => ct (4096 + k) * tailW W 1 k) 128,
    Fin.sum_univ_eq_sum_range (fun k => ct (6144 + k) * mainW W 3 k) 1024,
    Fin.sum_univ_eq_sum_range (fun k => ct (7168 + k) * mainW W 3 (1024 + k)) 1024,
    Fin.sum_univ_eq_sum_range (fun k => ct (6144 + k) * tailW W 2 k) 128]
  have m0 : ∀ p, mainW W 0 p = if 0 ≤ p then W p else 0 := fun p => by
    unfold mainW; simp only [Nat.mul_zero, Nat.zero_add]
  have a1 : ∀ k, 3072 + k = 2048 + (1024 + k) := fun k => by omega
  have a2 : ∀ k, 5120 + k = 4096 + (1024 + k) := fun k => by omega
  have a3 : ∀ k, 7168 + k = 6144 + (1024 + k) := fun k => by omega
  simp only [m0, a1, a2, a3]
  have m1 : ∀ p, mainW W 1 p = if 8 ≤ p then W (2048 + p) else 0 := fun p => rfl
  have m2 : ∀ p, mainW W 2 p = if 16 ≤ p then W (4096 + p) else 0 := fun p => rfl
  have m3 : ∀ p, mainW W 3 p = if 24 ≤ p then W (6144 + p) else 0 := fun p => rfl
  have t0 : ∀ p, tailW W 0 p = if p < 8 then W (2048 + p) else 0 := fun p => rfl
  have t1 : ∀ p, tailW W 1 p = if p < 16 then W (4096 + p) else 0 := fun p => rfl
  have t2 : ∀ p, tailW W 2 p = if p < 24 then W (6144 + p) else 0 := fun p => rfl
  simp only [m1, m2, m3, t0, t1, t2]
  abel

end Cert.DuLat

end
-- ==== Proof.DuLatHost.lean ====
/-
  The layer's input-gradient kernel: what its host lays out for it. The input projection's weight, transposed, in four
  padded slabs and the rows the padding displaced, and the norm's weight and modulation stacked in rows.
-/
module

public import proofs.«01_k».proof.Proof.DuLatSum
public import proofs.«01_k».proof.Proof.Gen.Kernel10Ideal.Frame
public import Idealize.ShloMosaic.Lib.Pipeline.ValueKit
public import Idealize.ShloMosaic.Lib.KernelVsHost

@[expose] public section

set_option maxRecDepth 16384

noncomputable section

namespace Cert.DuLat

open Idealize.ShloMosaic hiding ix2 ix3 eq_ix2 eq_ix3
open Cert.Kernel10Ideal Cert.Kernel10Ideal.Gen Idealize.ShloMosaic.TcCoe Idealize.SL.Sem
open Idealize.ShloMosaic.ValueIdx Idealize.ShloMosaic.Pipeline Cert.Kit Cert.NormRow
open scoped BigOperators

/-! ## A padded slab -/

theorem pad_at (lo hi base : ℕ) (y : S2056x1024.Idx → EReal) (v : S_.Idx → EReal) (hv : ∀ i, v i = 0)
    (hp : S2056x1024.Pads (![lo, 0] : Fin 2 → ℕ) ![hi, 0] ![0, 0] S2176x1024) (f : ℕ → EReal) (d : Fin 1024)
    (hy : ∀ q : Fin 2056, y (ix2 q d) = f (base + q.val)) (p : Fin 2176) :
    pad S2176x1024 ![lo, 0] ![hi, 0] ![0, 0] y v hp h_S_ (ix2 p d) = if lo ≤ p.val ∧ p.val < lo + 2056 then f (base + (p.val - lo)) else 0 := by
  by_cases h : lo ≤ p.val ∧ p.val < lo + 2056
  · rw [if_pos h]
    refine (pad_apply_of_inside (![lo, 0] : Fin 2 → ℕ) ![hi, 0] ![0, 0] y v hp h_S_ (ix2 p d)
      (ix2 (⟨p.val - lo, by omega⟩ : Fin 2056) d) (fun a => ?_)).trans (hy _)
    match a with
    | ⟨0, _⟩ => show p.val = lo + (p.val - lo) * (0 + 1); omega
    | ⟨1, _⟩ => show d.val = 0 + d.val * (0 + 1); omega
  · rw [if_neg h]
    refine (pad_apply_of_not_inside (![lo, 0] : Fin 2 → ℕ) ![hi, 0] ![0, 0] y v hp h_S_ (ix2 p d) 0 (fun hc => h ?_)).trans (hv _)
    obtain ⟨h1, h2, h3⟩ := hc
    have h1' : lo ≤ p.val := h1
    have h3' : (p.val - lo) / (0 + 1) < 2056 := h3
    rw [Nat.zero_add, Nat.div_one] at h3'
    omega

theorem main_at (j hi : ℕ) (y : S2056x1024.Idx → EReal) (v : S_.Idx → EReal) (hv : ∀ i, v i = 0)
    (hp : S2056x1024.Pads (![8 * j, 0] : Fin 2 → ℕ) ![hi, 0] ![0, 0] S2176x1024) (f : ℕ → EReal) (d : Fin 1024)
    (hy : ∀ q : Fin 2056, y (ix2 q d) = f (2056 * j + q.val)) (p : Fin 2048) :
    broadcastInDim S1x2048x1024 ![1, 2] bcast_S2048x1024_S1x2048x1024_1_2
      (extractStridedSlice S2048x1024 ![0, 0] (pad S2176x1024 ![8 * j, 0] ![hi, 0] ![0, 0] y v hp h_S_) slices_S2176x1024_S2048x1024_0_0)
      (ix3 (0 : Fin 1) p d) = mainW f j p.val := by
  refine (broadcastInDim_apply _ _ _ _ (ix2 p d) fun a => ?_).trans ?_
  · match a with
    | ⟨0, _⟩ => rfl
    | ⟨1, _⟩ => rfl
  refine (extractStridedSlice_apply _ _ _ _ (ix2 (⟨p.val, by omega⟩ : Fin 2176) d) fun a => ?_).trans ?_
  · match a with
    | ⟨0, _⟩ => show p.val = 0 + p.val; omega
    | ⟨1, _⟩ => show d.val = 0 + d.val; omega
  refine (pad_at (8 * j) hi (2056 * j) y v hv hp f d hy _).trans ?_
  unfold mainW
  have hp := p.isLt
  by_cases h : 8 * j ≤ p.val
  · rw [if_pos h, if_pos ⟨h, by show p.val < _; omega⟩]
    exact congrArg f (by show 2056 * j + (p.val - 8 * j) = 2048 * j + p.val; omega)
  · rw [if_neg h, if_neg fun hc => h hc.1]

theorem tail_at (j hi : ℕ) (hj : j < 4) (y : S2056x1024.Idx → EReal) (v : S_.Idx → EReal) (hv : ∀ i, v i = 0)
    (hp : S2056x1024.Pads (![8 * j, 0] : Fin 2 → ℕ) ![hi, 0] ![0, 0] S2176x1024) (f : ℕ → EReal) (d : Fin 1024)
    (hy : ∀ q : Fin 2056, y (ix2 q d) = f (2056 * j + q.val)) (p : Fin 128) :
    broadcastInDim S1x128x1024 ![1, 2] bcast_S128x1024_S1x128x1024_1_2
      (extractStridedSlice S128x1024 ![2048, 0] (pad S2176x1024 ![8 * j, 0] ![hi, 0] ![0, 0] y v hp h_S_) slices_S2176x1024_S128x1024_2048_0)
      (ix3 (0 : Fin 1) p d) = tailW f j p.val := by
  refine (broadcastInDim_apply _ _ _ _ (ix2 p d) fun a => ?_).trans ?_
  · match a with
    | ⟨0, _⟩ => rfl
    | ⟨1, _⟩ => rfl
  refine (extractStridedSlice_apply _ _ _ _ (ix2 (⟨2048 + p.val, by omega⟩ : Fin 2176) d) fun a => ?_).trans ?_
  · match a with
    | ⟨0, _⟩ => show 2048 + p.val = 2048 + p.val; omega
    | ⟨1, _⟩ => show d.val = 0 + d.val; omega
  refine (pad_at (8 * j) hi (2056 * j) y v hv hp f d hy _).trans ?_
  unfold tailW
  have hp := p.isLt
  by_cases h : p.val < 8 * (j + 1)
  · rw [if_pos h, if_pos ⟨by show 8 * j ≤ 2048 + p.val; omega, by show 2048 + p.val < _; omega⟩]
    exact congrArg f (by show 2056 * j + (2048 + p.val - 8 * j) = 2048 * (j + 1) + p.val; omega)
  · rw [if_neg h, if_neg fun hc => h (by have : 2048 + p.val < 8 * j + 2056 := hc.2; omega)]

/-! ## The arrays -/

section Run

variable (m : (ℓ : Loc nD τ sig) → Buf (Elt Ideal) ℓ) (c : Dev nD)

abbrev aW : S1024x8224.Idx → EReal := m ((c : Thread nD τ).loc main_arg8)
abbrev aN : S1x1024.Idx → EReal := m ((c : Thread nD τ).loc main_arg10)
abbrev aS : S1x1024.Idx → EReal := m ((c : Thread nD τ).loc main_arg12)

/-- Row `d` of the weight, at any number. -/
def wx (d : Fin 1024) (q : ℕ) : EReal := if h : q < 8224 then aW m c (ix2 d ⟨q, h⟩) else 0

/-- The weight, transposed. -/
abbrev wT : S8224x1024.Idx → EReal :=
  truncf (F := Ideal) .bf16 (transpose S8224x1024 [1, 0] (aW m c) transposes_S1024x8224_S8224x1024_1_0 : FVec Ideal S8224x1024 .f32) bitsLt_bf16_f32
/-- The padding value. -/
abbrev pz : S_.Idx → EReal := sitofp (F := Ideal) .bf16 (constantI S_ 32 0#32)

theorem pz_eq (i : S_.Idx) : pz i = 0 := by
  show ((((0#32 : BitVec 32).toInt : ℤ) : ℝ) : EReal) = 0
  simp

theorem cut_at (base : ℕ) (hb : base + 2056 ≤ 8224) (hs : S8224x1024.Slices ![base, 0] S2056x1024) (d : Fin 1024) (q : Fin 2056) :
    extractStridedSlice S2056x1024 ![base, 0] (wT m c) hs (ix2 q d) = wx m c d (base + q.val) := by
  refine (extractStridedSlice_apply _ _ _ _ (ix2 (⟨base + q.val, by omega⟩ : Fin 8224) d) fun a => ?_).trans ?_
  · match a with
    | ⟨0, _⟩ => rfl
    | ⟨1, _⟩ => show d.val = 0 + d.val; omega
  unfold wx
  rw [dif_pos (show base + q.val < 8224 by omega)]
  refine transpose_apply [1, 0] (aW m c) transposes_S1024x8224_S8224x1024_1_0 _ (ix2 d (⟨base + q.val, by omega⟩ : Fin 8224)) fun b => ?_
  match b with
  | ⟨0, _⟩ => rfl
  | ⟨1, _⟩ => rfl

/-- Padded slab 0. -/
abbrev pd0 : S2176x1024.Idx → EReal := pad S2176x1024 ![0, 0] ![120, 0] ![0, 0]
  (extractStridedSlice S2056x1024 ![0, 0] (wT m c) slices_S8224x1024_S2056x1024_0_0) pz pads_S2056x1024_S2176x1024_01200_000 h_S_
/-- Padded slab 1. -/
abbrev pd1 : S2176x1024.Idx → EReal := pad S2176x1024 ![8, 0] ![112, 0] ![0, 0]
  (extractStridedSlice S2056x1024 ![2056, 0] (wT m c) slices_S8224x1024_S2056x1024_2056_0) pz pads_S2056x1024_S2176x1024_81120_000 h_S_
/-- Padded slab 2. -/
abbrev pd2 : S2176x1024.Idx → EReal := pad S2176x1024 ![16, 0] ![104, 0] ![0, 0]
  (extractStridedSlice S2056x1024 ![4112, 0] (wT m c) slices_S8224x1024_S2056x1024_4112_0) pz pads_S2056x1024_S2176x1024_161040_000 h_S_
/-- Padded slab 3. -/
abbrev pd3 : S2176x1024.Idx → EReal := pad S2176x1024 ![24, 0] ![96, 0] ![0, 0]
  (extractStridedSlice S2056x1024 ![6168, 0] (wT m c) slices_S8224x1024_S2056x1024_6168_0) pz pads_S2056x1024_S2176x1024_24960_000 h_S_
abbrev mn0 : S1x2048x1024.Idx → EReal := broadcastInDim S1x2048x1024 ![1, 2] bcast_S2048x1024_S1x2048x1024_1_2
  (extractStridedSlice S2048x1024 ![0, 0] (pd0 m c) slices_S2176x1024_S2048x1024_0_0)
abbrev mn1 : S1x2048x1024.Idx → EReal := broadcastInDim S1x2048x1024 ![1, 2] bcast_S2048x1024_S1x2048x1024_1_2
  (extractStridedSlice S2048x1024 ![0, 0] (pd1 m c) slices_S2176x1024_S2048x1024_0_0)
abbrev mn2 : S1x2048x1024.Idx → EReal := broadcastInDim S1x2048x1024 ![1, 2] bcast_S2048x1024_S1x2048x1024_1_2
  (extractStridedSlice S2048x1024 ![0, 0] (pd2 m c) slices_S2176x1024_S2048x1024_0_0)
abbrev mn3 : S1x2048x1024.Idx → EReal := broadcastInDim S1x2048x1024 ![1, 2] bcast_S2048x1024_S1x2048x1024_1_2
  (extractStridedSlice S2048x1024 ![0, 0] (pd3 m c) slices_S2176x1024_S2048x1024_0_0)
abbrev tl0 : S1x128x1024.Idx → EReal := broadcastInDim S1x128x1024 ![1, 2] bcast_S128x1024_S1x128x1024_1_2
  (extractStridedSlice S128x1024 ![2048, 0] (pd0 m c) slices_S2176x1024_S128x1024_2048_0)
abbrev tl1 : S1x128x1024.Idx → EReal := broadcastInDim S1x128x1024 ![1, 2] bcast_S128x1024_S1x128x1024_1_2
  (extractStridedSlice S128x1024 ![2048, 0] (pd1 m c) slices_S2176x1024_S128x1024_2048_0)
abbrev tl2 : S1x128x1024.Idx → EReal := broadcastInDim S1x128x1024 ![1, 2] bcast_S128x1024_S1x128x1024_1_2
  (extractStridedSlice S128x1024 ![2048, 0] (pd2 m c) slices_S2176x1024_S128x1024_2048_0)
abbrev tl3 : S1x128x1024.Idx → EReal := broadcastInDim S1x128x1024 ![1, 2] bcast_S128x1024_S1x128x1024_1_2
  (extractStridedSlice S128x1024 ![2048, 0] (pd3 m c) slices_S2176x1024_S128x1024_2048_0)

theorem V_v22 : V m c main_v22 = concatenate S4x2048x1024 0 [⟨S1x2048x1024, mn0 m c⟩, ⟨S1x2048x1024, mn1 m c⟩, ⟨S1x2048x1024, mn2 m c⟩, ⟨S1x2048x1024, mn3 m c⟩]
    concatenates_S1x2048x1024_S1x2048x1024_S1x2048x1024_S1x2048x1024_S4x2048x1024_d0 := by
  simp only [V, hostOps0, hostOps0_1, hostOps0_2, hostOps0_3, hostOps0_4, hostOps0_5, hostOps0_6, hostOps0_7, hostOps0_8,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem v22_apply (j : Fin 4) (p : Fin 2048) (d : Fin 1024) : V m c main_v22 (ix3 j p d) = mainW (wx m c d) j.val p.val := by
  refine (congrFun (V_v22 m c) _).trans ?_
  match j with
  | 0 =>
    refine (concatenate_apply_piece (t := S4x2048x1024) 0 _ _ (ix3 (0 : Fin 4) p d) 0 (by show 0 < 4; omega) S1x2048x1024 (mn0 m c) rfl rfl
      0 rfl (ix3 (0 : Fin 1) p d) (fun x hx => ?_) rfl).trans (main_at 0 120 _ pz pz_eq _ (wx m c d) d (fun q => cut_at m c 0 (by omega) _ d q) p)
    match x with
    | ⟨0, _⟩ => exact absurd rfl hx
    | ⟨1, _⟩ => rfl
    | ⟨2, _⟩ => rfl
  | 1 =>
    refine (concatenate_apply_piece (t := S4x2048x1024) 0 _ _ (ix3 (1 : Fin 4) p d) 1 (by show 1 < 4; omega) S1x2048x1024 (mn1 m c) rfl rfl
      1 rfl (ix3 (0 : Fin 1) p d) (fun x hx => ?_) rfl).trans (main_at 1 112 _ pz pz_eq _ (wx m c d) d (fun q => cut_at m c 2056 (by omega) _ d q) p)
    match x with
    | ⟨0, _⟩ => exact absurd rfl hx
    | ⟨1, _⟩ => rfl
    | ⟨2, _⟩ => rfl
  | 2 =>
    refine (concatenate_apply_piece (t := S4x2048x1024) 0 _ _ (ix3 (2 : Fin 4) p d) 2 (by show 2 < 4; omega) S1x2048x1024 (mn2 m c) rfl rfl
      2 rfl (ix3 (0 : Fin 1) p d) (fun x hx => ?_) rfl).trans (main_at 2 104 _ pz pz_eq _ (wx m c d) d (fun q => cut_at m c 4112 (by omega) _ d q) p)
    match x with
    | ⟨0, _⟩ => exact absurd rfl hx
    | ⟨1, _⟩ => rfl
    | ⟨2, _⟩ => rfl
  | 3 =>
    refine (concatenate_apply_piece (t := S4x2048x1024) 0 _ _ (ix3 (3 : Fin 4) p d) 3 (by show 3 < 4; omega) S1x2048x1024 (mn3 m c) rfl rfl
      3 rfl (ix3 (0 : Fin 1) p d) (fun x hx => ?_) rfl).trans (main_at 3 96 _ pz pz_eq _ (wx m c d) d (fun q => cut_at m c 6168 (by omega) _ d q) p)
    match x with
    | ⟨0, _⟩ => exact absurd rfl hx
    | ⟨1, _⟩ => rfl
    | ⟨2, _⟩ => rfl

theorem V_v31 : V m c main_v31 = concatenate S4x128x1024 0 [⟨S1x128x1024, tl0 m c⟩, ⟨S1x128x1024, tl1 m c⟩, ⟨S1x128x1024, tl2 m c⟩, ⟨S1x128x1024, tl3 m c⟩]
    concatenates_S1x128x1024_S1x128x1024_S1x128x1024_S1x128x1024_S4x128x1024_d0 := by
  simp only [V, hostOps0, hostOps0_1, hostOps0_2, hostOps0_3, hostOps0_4, hostOps0_5, hostOps0_6, hostOps0_7, hostOps0_8,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem v31_apply (j : Fin 4) (p : Fin 128) (d : Fin 1024) : V m c main_v31 (ix3 j p d) = tailW (wx m c d) j.val p.val := by
  refine (congrFun (V_v31 m c) _).trans ?_
  match j with
  | 0 =>
    refine (concatenate_apply_piece (t := S4x128x1024) 0 _ _ (ix3 (0 : Fin 4) p d) 0 (by show 0 < 4; omega) S1x128x1024 (tl0 m c) rfl rfl
      0 rfl (ix3 (0 : Fin 1) p d) (fun x hx => ?_) rfl).trans (tail_at 0 120 (by omega) _ pz pz_eq _ (wx m c d) d (fun q => cut_at m c 0 (by omega) _ d q) p)
    match x with
    | ⟨0, _⟩ => exact absurd rfl hx
    | ⟨1, _⟩ => rfl
    | ⟨2, _⟩ => rfl
  | 1 =>
    refine (concatenate_apply_piece (t := S4x128x1024) 0 _ _ (ix3 (1 : Fin 4) p d) 1 (by show 1 < 4; omega) S1x128x1024 (tl1 m c) rfl rfl
      1 rfl (ix3 (0 : Fin 1) p d) (fun x hx => ?_) rfl).trans (tail_at 1 112 (by omega) _ pz pz_eq _ (wx m c d) d (fun q => cut_at m c 2056 (by omega) _ d q) p)
    match x with
    | ⟨0, _⟩ => exact absurd rfl hx
    | ⟨1, _⟩ => rfl
    | ⟨2, _⟩ => rfl
  | 2 =>
    refine (concatenate_apply_piece (t := S4x128x1024) 0 _ _ (ix3 (2 : Fin 4) p d) 2 (by show 2 < 4; omega) S1x128x1024 (tl2 m c) rfl rfl
      2 rfl (ix3 (0 : Fin 1) p d) (fun x hx => ?_) rfl).trans (tail_at 2 104 (by omega) _ pz pz_eq _ (wx m c d) d (fun q => cut_at m c 4112 (by omega) _ d q) p)
    match x with
    | ⟨0, _⟩ => exact absurd rfl hx
    | ⟨1, _⟩ => rfl
    | ⟨2, _⟩ => rfl
  | 3 =>
    refine (concatenate_apply_piece (t := S4x128x1024) 0 _ _ (ix3 (3 : Fin 4) p d) 3 (by show 3 < 4; omega) S1x128x1024 (tl3 m c) rfl rfl
      3 rfl (ix3 (0 : Fin 1) p d) (fun x hx => ?_) rfl).trans (tail_at 3 96 (by omega) _ pz pz_eq _ (wx m c d) d (fun q => cut_at m c 6168 (by omega) _ d q) p)
    match x with
    | ⟨0, _⟩ => exact absurd rfl hx
    | ⟨1, _⟩ => rfl
    | ⟨2, _⟩ => rfl

/-- A row of zeros under the two vectors. -/
abbrev zrow : S1x1024.Idx → EReal :=
  broadcastInDim S1x1024 ![] bcast_S_S1x1024 (constant (F := Ideal) S_ .f32 0x00000000#32)
/-- One and the scale. -/
abbrev onePlus : S1x1024.Idx → EReal := addf (F := Ideal) (φ := .f32)
  (broadcastInDim S1x1024 ![] bcast_S_S1x1024 (constant (F := Ideal) S_ .f32 0x3F800000#32)) (aS m c)
/-- One. -/
abbrev cOne : EReal := Ideal.ofBits .f32 0x3F800000#32

theorem V_v3 : V m c main_v3 = concatenate S8x1024 0 [⟨S1x1024, onePlus m c⟩, ⟨S1x1024, aN m c⟩, ⟨S1x1024, zrow⟩,
      ⟨S1x1024, zrow⟩, ⟨S1x1024, zrow⟩, ⟨S1x1024, zrow⟩, ⟨S1x1024, zrow⟩, ⟨S1x1024, zrow⟩]
    concatenates_S1x1024_S1x1024_S1x1024_S1x1024_S1x1024_S1x1024_S1x1024_S1x1024_S8x1024_d0 := by
  simp only [V, hostOps0, hostOps0_1, hostOps0_2, hostOps0_3, hostOps0_4, hostOps0_5, hostOps0_6, hostOps0_7, hostOps0_8,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem v3_row0 (k : Fin 1024) : V m c main_v3 (ix2 (0 : Fin 8) k) = cOne + aS m c (ix2 (0 : Fin 1) k) :=
  ((congrFun (V_v3 m c) _).trans (concatenate_apply_piece (t := S8x1024) 0 _ _ (ix2 (0 : Fin 8) k) 0 (by show 0 < 8; omega) S1x1024 (onePlus m c) rfl rfl
    0 rfl (ix2 (0 : Fin 1) k) (fun x hx => by
      match x with
      | ⟨0, _⟩ => exact absurd rfl hx
      | ⟨1, _⟩ => rfl) rfl)).trans rfl

theorem v3_row1 (k : Fin 1024) : V m c main_v3 (ix2 (1 : Fin 8) k) = aN m c (ix2 (0 : Fin 1) k) :=
  (congrFun (V_v3 m c) _).trans (concatenate_apply_piece (t := S8x1024) 0 _ _ (ix2 (1 : Fin 8) k) 1 (by show 1 < 8; omega) S1x1024 (aN m c) rfl rfl
    1 rfl (ix2 (0 : Fin 1) k) (fun x hx => by
      match x with
      | ⟨0, _⟩ => exact absurd rfl hx
      | ⟨1, _⟩ => rfl) rfl)

end Run

end Cert.DuLat

end
-- ==== Proof.DuLatRead.lean ====
/-
  The layer's input-gradient kernel: the blocks its windows read, the finished gradient rows, and its two result arrays
  as functions of the arguments.
-/
module

public import proofs.«01_k».proof.Proof.DuLatFrame
public import proofs.«01_k».proof.Proof.DuLatBlock
public import proofs.«01_k».proof.Proof.DuLatHost
public import proofs.«01_k».proof.Proof.RowStore

@[expose] public section

set_option maxRecDepth 16384

noncomputable section

namespace Cert.DuLat

open Idealize.ShloMosaic hiding ix2 ix3 eq_ix2 eq_ix3
open Cert.Kernel10Ideal Cert.Kernel10Ideal.Gen Idealize.ShloMosaic.TcCoe Idealize.SL.Sem
open Idealize.ShloMosaic.ValueIdx Idealize.ShloMosaic.Pipeline Cert.Kit Cert.NormRow
open scoped BigOperators

/-! ## The results, of the gradient on the normalised rows -/

section Args

variable (du : Fin 4096 → Fin 1024 → EReal) (x : S4096x1024.Idx → EReal) (nw sc : S1x1024.Idx → EReal)

/-- A token's row. -/
abbrev tok (n : Fin 4096) : Fin 1024 → EReal := fun k => x (ix2 n k)
/-- The gradient on the normalised row. -/
def onNorm (n : Fin 4096) (k : Fin 1024) : EReal := du n k * (cOne + sc (ix2 (0 : Fin 1) k)) * nw (ix2 (0 : Fin 1) k)
/-- What a token adds to the column sums. -/
def term (q : Fin 8) (n : Fin 4096) (k : Fin 1024) : EReal :=
  match q with
  | 0 => du n k
  | 1 => du n k * xhat (tok x n) k * nw (ix2 (0 : Fin 1) k)
  | 2 => du n k * (cOne + sc (ix2 (0 : Fin 1) k)) * xhat (tok x n) k
  | _ => 0

end Args

section Run

variable (m : (ℓ : Loc nD τ sig) → Buf (Elt Ideal) ℓ) (c : Dev nD)

abbrev a0 : S4352x1024.Idx → EReal := m ((c : Thread nD τ).loc main_arg0)
abbrev a1 : S4352x1024.Idx → EReal := m ((c : Thread nD τ).loc main_arg1)
abbrev a2 : S4352x1024.Idx → EReal := m ((c : Thread nD τ).loc main_arg2)
abbrev a3 : S4352x1024.Idx → EReal := m ((c : Thread nD τ).loc main_arg3)
abbrev a4 : S4352x1024.Idx → EReal := m ((c : Thread nD τ).loc main_arg4)
abbrev a5 : S4352x1024.Idx → EReal := m ((c : Thread nD τ).loc main_arg5)
abbrev a6 : S4352x2048.Idx → EReal := m ((c : Thread nD τ).loc main_arg6)
abbrev a7 : S4352x128.Idx → EReal := m ((c : Thread nD τ).loc main_arg7)
abbrev aX : S4096x1024.Idx → EReal := m ((c : Thread nD τ).loc main_arg9)
abbrev aH : S4096x1024.Idx → EReal := m ((c : Thread nD τ).loc main_arg13)

/-- A row of a matrix, at any number. -/
def ext {a b : ℕ} (A : (⟨2, ![a, b]⟩ : Shape).Idx → EReal) (n : Fin a) (q : ℕ) : EReal := if h : q < b then A (ix2 n ⟨q, h⟩) else 0

theorem ext_fin {a b : ℕ} (A : (⟨2, ![a, b]⟩ : Shape).Idx → EReal) (n : Fin a) (q : Fin b) : ext A n q.val = A (ix2 n q) := by
  unfold ext; rw [dif_pos q.isLt]

/-- A token among the padded rows. -/
abbrev up (n : Fin 4096) : Fin 4352 := ⟨n.val, by omega⟩

/-- The eight gradients side by side. -/
def ctN (n : Fin 4096) (q : ℕ) : EReal :=
  if q < 1024 then ext (a0 m c) (up n) q
  else if q < 2048 then ext (a1 m c) (up n) (q - 1024)
  else if q < 3072 then ext (a2 m c) (up n) (q - 2048)
  else if q < 4096 then ext (a3 m c) (up n) (q - 3072)
  else if q < 5120 then ext (a4 m c) (up n) (q - 4096)
  else if q < 6144 then ext (a5 m c) (up n) (q - 5120)
  else if q < 8192 then ext (a6 m c) (up n) (q - 6144)
  else ext (a7 m c) (up n) (q - 8192)

theorem ct0 (n : Fin 4096) (k : Fin 1024) : ctN m c n (k.val) = a0 m c (ix2 (up n) k) := by
  have hk := k.isLt
  unfold ctN
  rw [if_pos (by omega)]
  exact ext_fin _ _ k
theorem ct1 (n : Fin 4096) (k : Fin 1024) : ctN m c n (1024 + k.val) = a1 m c (ix2 (up n) k) := by
  have hk := k.isLt
  unfold ctN
  rw [if_neg (by omega), if_pos (by omega), Nat.add_sub_cancel_left]
  exact ext_fin _ _ k
theorem ct2 (n : Fin 4096) (k : Fin 1024) : ctN m c n (2048 + k.val) = a2 m c (ix2 (up n) k) := by
  have hk := k.isLt
  unfold ctN
  rw [if_neg (by omega), if_neg (by omega), if_pos (by omega), Nat.add_sub_cancel_left]
  exact ext_fin _ _ k
theorem ct3 (n : Fin 4096) (k : Fin 1024) : ctN m c n (3072 + k.val) = a3 m c (ix2 (up n) k) := by
  have hk := k.isLt
  unfold ctN
  rw [if_neg (by omega), if_neg (by omega), if_neg (by omega), if_pos (by omega), Nat.add_sub_cancel_left]
  exact ext_fin _ _ k
theorem ct4 (n : Fin 4096) (k : Fin 1024) : ctN m c n (4096 + k.val) = a4 m c (ix2 (up n) k) := by
  have hk := k.isLt
  unfold ctN
  rw [if_neg (by omega), if_neg (by omega), if_neg (by omega), if_neg (by omega), if_pos (by omega), Nat.add_sub_cancel_left]
  exact ext_fin _ _ k
theorem ct5 (n : Fin 4096) (k : Fin 1024) : ctN m c n (5120 + k.val) = a5 m c (ix2 (up n) k) := by
  have hk := k.isLt
  unfold ctN
  rw [if_neg (by omega), if_neg (by omega), if_neg (by omega), if_neg (by omega), if_neg (by omega), if_pos (by omega), Nat.add_sub_cancel_left]
  exact ext_fin _ _ k
theorem ct6 (n : Fin 4096) (k : Fin 2048) : ctN m c n (6144 + k.val) = a6 m c (ix2 (up n) k) := by
  have hk := k.isLt
  unfold ctN
  rw [if_neg (by omega), if_neg (by omega), if_neg (by omega), if_neg (by omega), if_neg (by omega), if_neg (by omega), if_pos (by omega), Nat.add_sub_cancel_left]
  exact ext_fin _ _ k
theorem ct7 (n : Fin 4096) (k : Fin 128) : ctN m c n (8192 + k.val) = a7 m c (ix2 (up n) k) := by
  have hk := k.isLt
  unfold ctN
  rw [if_neg (by omega), if_neg (by omega), if_neg (by omega), if_neg (by omega), if_neg (by omega), if_neg (by omega), if_neg (by omega), Nat.add_sub_cancel_left]
  exact ext_fin _ _ k
theorem ct7' (n : Fin 4096) (q : ℕ) (hq : q < 32) : ext (a7 m c) (up n) q = ctN m c n (8192 + q) :=
  (ext_fin (a7 m c) (up n) (⟨q, by omega⟩ : Fin 128)).trans (ct7 m c n ⟨q, by omega⟩).symm

/-- The gradient on the normalised and modulated rows. -/
def dy (n : Fin 4096) (d : Fin 1024) : EReal := ∑ q : Fin 8224, ctN m c n q.val * wx m c d q.val

/-! ## The blocks -/

theorem idx0 : ∀ t : Fin cfg0.N, (t.val < 8 → win0_0.index t 0 = t.val) ∧ win0_0.index t 1 = 0 :=
  (by decide +kernel : ∀ t : Fin grid0.N, (t.val < 8 → win0_0.index t 0 = t.val) ∧ win0_0.index t 1 = 0)
theorem idx1 : ∀ t : Fin cfg0.N, (t.val < 8 → win0_1.index t 0 = t.val) ∧ win0_1.index t 1 = 0 :=
  (by decide +kernel : ∀ t : Fin grid0.N, (t.val < 8 → win0_1.index t 0 = t.val) ∧ win0_1.index t 1 = 0)
theorem idx2 : ∀ t : Fin cfg0.N, (8 ≤ t.val → t.val < 16 → win0_2.index t 0 = t.val - 8) ∧ win0_2.index t 1 = 0 :=
  (by decide +kernel : ∀ t : Fin grid0.N, (8 ≤ t.val → t.val < 16 → win0_2.index t 0 = t.val - 8) ∧ win0_2.index t 1 = 0)
theorem idx3 : ∀ t : Fin cfg0.N, (8 ≤ t.val → t.val < 16 → win0_3.index t 0 = t.val - 8) ∧ win0_3.index t 1 = 0 :=
  (by decide +kernel : ∀ t : Fin grid0.N, (8 ≤ t.val → t.val < 16 → win0_3.index t 0 = t.val - 8) ∧ win0_3.index t 1 = 0)
theorem idx4 : ∀ t : Fin cfg0.N, (16 ≤ t.val → t.val < 24 → win0_4.index t 0 = t.val - 16) ∧ win0_4.index t 1 = 0 :=
  (by decide +kernel : ∀ t : Fin grid0.N, (16 ≤ t.val → t.val < 24 → win0_4.index t 0 = t.val - 16) ∧ win0_4.index t 1 = 0)
theorem idx5 : ∀ t : Fin cfg0.N, (16 ≤ t.val → t.val < 24 → win0_5.index t 0 = t.val - 16) ∧ win0_5.index t 1 = 0 :=
  (by decide +kernel : ∀ t : Fin grid0.N, (16 ≤ t.val → t.val < 24 → win0_5.index t 0 = t.val - 16) ∧ win0_5.index t 1 = 0)
theorem idx6 : ∀ t : Fin cfg0.N, (24 ≤ t.val → win0_6.index t 0 = t.val - 24) ∧ win0_6.index t 1 = 0 :=
  (by decide +kernel : ∀ t : Fin grid0.N, (24 ≤ t.val → win0_6.index t 0 = t.val - 24) ∧ win0_6.index t 1 = 0)
theorem idx7 : ∀ t : Fin cfg0.N, (t.val < 8 → win0_7.index t 0 = t.val) ∧ win0_7.index t 1 = 0 :=
  (by decide +kernel : ∀ t : Fin grid0.N, (t.val < 8 → win0_7.index t 0 = t.val) ∧ win0_7.index t 1 = 0)
theorem idx11 : ∀ t : Fin cfg0.N, (24 ≤ t.val → win0_11.index t 0 = t.val - 24) ∧ win0_11.index t 1 = 0 :=
  (by decide +kernel : ∀ t : Fin grid0.N, (24 ≤ t.val → win0_11.index t 0 = t.val - 24) ∧ win0_11.index t 1 = 0)
theorem idx13 : ∀ t : Fin cfg0.N, (24 ≤ t.val → win0_13.index t 0 = t.val - 24) ∧ win0_13.index t 1 = 0 :=
  (by decide +kernel : ∀ t : Fin grid0.N, (24 ≤ t.val → win0_13.index t 0 = t.val - 24) ∧ win0_13.index t 1 = 0)
theorem idx14 : ∀ t : Fin cfg0.N, (24 ≤ t.val → win0_14.index t 0 = t.val - 24) ∧ win0_14.index t 1 = 0 :=
  (by decide +kernel : ∀ t : Fin grid0.N, (24 ≤ t.val → win0_14.index t 0 = t.val - 24) ∧ win0_14.index t 1 = 0)
theorem idx8 : ∀ t : Fin cfg0.N, win0_8.index t 0 = t.val / 8 ∧ win0_8.index t 1 = 0 ∧ win0_8.index t 2 = 0 :=
  (by decide +kernel : ∀ t : Fin grid0.N, win0_8.index t 0 = t.val / 8 ∧ win0_8.index t 1 = 0 ∧ win0_8.index t 2 = 0)
theorem idx9 : ∀ t : Fin cfg0.N, win0_9.index t 0 = t.val / 8 - 1 ∧ win0_9.index t 1 = 0 ∧ win0_9.index t 2 = 0 :=
  (by decide +kernel : ∀ t : Fin grid0.N, win0_9.index t 0 = t.val / 8 - 1 ∧ win0_9.index t 1 = 0 ∧ win0_9.index t 2 = 0)
theorem idx10 : ∀ t : Fin cfg0.N, win0_10.index t 0 = 3 ∧ win0_10.index t 1 = 0 ∧ win0_10.index t 2 = 0 :=
  (by decide +kernel : ∀ t : Fin grid0.N, win0_10.index t 0 = 3 ∧ win0_10.index t 1 = 0 ∧ win0_10.index t 2 = 0)
theorem idx12 : ∀ t : Fin cfg0.N, win0_12.index t 0 = 0 ∧ win0_12.index t 1 = 0 :=
  (by decide +kernel : ∀ t : Fin grid0.N, win0_12.index t 0 = 0 ∧ win0_12.index t 1 = 0)
theorem idx15 : ∀ t : Fin cfg0.N, win0_15.index t 0 = 0 ∧ win0_15.index t 1 = 0 :=
  (by decide +kernel : ∀ t : Fin grid0.N, win0_15.index t 0 = 0 ∧ win0_15.index t 1 = 0)
theorem osize : ∀ t : Fin cfg0.N, (win0_14.xsize (grid0.coords t) 0 = 512 ∧ win0_14.xsize (grid0.coords t) 1 = 1024)
    ∧ (win0_15.xsize (grid0.coords t) 0 = 8 ∧ win0_15.xsize (grid0.coords t) 1 = 1024) :=
  (by decide +kernel : ∀ t : Fin grid0.N, (win0_14.xsize (grid0.coords t) 0 = 512 ∧ win0_14.xsize (grid0.coords t) 1 = 1024)
    ∧ (win0_15.xsize (grid0.coords t) 0 = 8 ∧ win0_15.xsize (grid0.coords t) 1 = 1024))

theorem pt_v (n : ℕ) (h : n < 32) : (pt n).val = n := Nat.mod_eq_of_lt h

section Point

variable (t : Fin cfg0.N)

theorem read0 (h : t.val < 8) (r : Fin 512) (n : Fin 4096) (hn : n.val = 512 * t.val + r.val) (k : Fin 1024) :
    (X0_0 m c t : S512x1024.Idx → EReal) (ix2 r k) = a0 m c (ix2 (up n) k) := by
  obtain ⟨e, e1⟩ := idx0 t
  have e0 := e h
  unfold X0_0 Pipeline.Window.fill
  rw [dif_pos (moved0_0 t _)]
  unfold iblk
  rw [View.read_apply]
  refine (congrFun (V_main_arg0 m c) _).trans (congrArg (a0 m c) (funext fun a => Fin.ext ?_))
  match a with
  | ⟨0, _⟩ => show win0_0.index t 0 * 512 + 1 * r.val = n.val; rw [e0]; omega
  | ⟨1, _⟩ => show win0_0.index t 1 * 1024 + 1 * k.val = k.val; rw [e1]; omega

theorem read1 (h : t.val < 8) (r : Fin 512) (n : Fin 4096) (hn : n.val = 512 * t.val + r.val) (k : Fin 1024) :
    (X0_1 m c t : S512x1024.Idx → EReal) (ix2 r k) = a1 m c (ix2 (up n) k) := by
  obtain ⟨e, e1⟩ := idx1 t
  have e0 := e h
  unfold X0_1 Pipeline.Window.fill
  rw [dif_pos (moved0_1 t _)]
  unfold iblk
  rw [View.read_apply]
  refine (congrFun (V_main_arg1 m c) _).trans (congrArg (a1 m c) (funext fun a => Fin.ext ?_))
  match a with
  | ⟨0, _⟩ => show win0_1.index t 0 * 512 + 1 * r.val = n.val; rw [e0]; omega
  | ⟨1, _⟩ => show win0_1.index t 1 * 1024 + 1 * k.val = k.val; rw [e1]; omega

theorem read2 (h : 8 ≤ t.val) (h2 : t.val < 16) (r : Fin 512) (n : Fin 4096) (hn : n.val = 512 * (t.val - 8) + r.val) (k : Fin 1024) :
    (X0_2 m c t : S512x1024.Idx → EReal) (ix2 r k) = a2 m c (ix2 (up n) k) := by
  obtain ⟨e, e1⟩ := idx2 t
  have e0 := e h h2
  unfold X0_2 Pipeline.Window.fill
  rw [dif_pos (moved0_2 t _)]
  unfold iblk
  rw [View.read_apply]
  refine (congrFun (V_main_arg2 m c) _).trans (congrArg (a2 m c) (funext fun a => Fin.ext ?_))
  match a with
  | ⟨0, _⟩ => show win0_2.index t 0 * 512 + 1 * r.val = n.val; rw [e0]; omega
  | ⟨1, _⟩ => show win0_2.index t 1 * 1024 + 1 * k.val = k.val; rw [e1]; omega

theorem read3 (h : 8 ≤ t.val) (h2 : t.val < 16) (r : Fin 512) (n : Fin 4096) (hn : n.val = 512 * (t.val - 8) + r.val) (k : Fin 1024) :
    (X0_3 m c t : S512x1024.Idx → EReal) (ix2 r k) = a3 m c (ix2 (up n) k) := by
  obtain ⟨e, e1⟩ := idx3 t
  have e0 := e h h2
  unfold X0_3 Pipeline.Window.fill
  rw [dif_pos (moved0_3 t _)]
  unfold iblk
  rw [View.read_apply]
  refine (congrFun (V_main_arg3 m c) _).trans (congrArg (a3 m c) (funext fun a => Fin.ext ?_))
  match a with
  | ⟨0, _⟩ => show win0_3.index t 0 * 512 + 1 * r.val = n.val; rw [e0]; omega
  | ⟨1, _⟩ => show win0_3.index t 1 * 1024 + 1 * k.val = k.val; rw [e1]; omega

theorem read4 (h : 16 ≤ t.val) (h2 : t.val < 24) (r : Fin 512) (n : Fin 4096) (hn : n.val = 512 * (t.val - 16) + r.val) (k : Fin 1024) :
    (X0_4 m c t : S512x1024.Idx → EReal) (ix2 r k) = a4 m c (ix2 (up n) k) := by
  obtain ⟨e, e1⟩ := idx4 t
  have e0 := e h h2
  unfold X0_4 Pipeline.Window.fill
  rw [dif_pos (moved0_4 t _)]
  unfold iblk
  rw [View.read_apply]
  refine (congrFun (V_main_arg4 m c) _).trans (congrArg (a4 m c) (funext fun a => Fin.ext ?_))
  match a with
  | ⟨0, _⟩ => show win0_4.index t 0 * 512 + 1 * r.val = n.val; rw [e0]; omega
  | ⟨1, _⟩ => show win0_4.index t 1 * 1024 + 1 * k.val = k.val; rw [e1]; omega

theorem read5 (h : 16 ≤ t.val) (h2 : t.val < 24) (r : Fin 512) (n : Fin 4096) (hn : n.val = 512 * (t.val - 16) + r.val) (k : Fin 1024) :
    (X0_5 m c t : S512x1024.Idx → EReal) (ix2 r k) = a5 m c (ix2 (up n) k) := by
  obtain ⟨e, e1⟩ := idx5 t
  have e0 := e h h2
  unfold X0_5 Pipeline.Window.fill
  rw [dif_pos (moved0_5 t _)]
  unfold iblk
  rw [View.read_apply]
  refine (congrFun (V_main_arg5 m c) _).trans (congrArg (a5 m c) (funext fun a => Fin.ext ?_))
  match a with
  | ⟨0, _⟩ => show win0_5.index t 0 * 512 + 1 * r.val = n.val; rw [e0]; omega
  | ⟨1, _⟩ => show win0_5.index t 1 * 1024 + 1 * k.val = k.val; rw [e1]; omega

theorem read6 (h : 24 ≤ t.val) (r : Fin 512) (n : Fin 4096) (hn : n.val = 512 * (t.val - 24) + r.val) (k : Fin 2048) :
    (X0_6 m c t : S512x2048.Idx → EReal) (ix2 r k) = a6 m c (ix2 (up n) k) := by
  obtain ⟨e, e1⟩ := idx6 t
  have e0 := e h
  unfold X0_6 Pipeline.Window.fill
  rw [dif_pos (moved0_6 t _)]
  unfold iblk
  rw [View.read_apply]
  refine (congrFun (V_main_arg6 m c) _).trans (congrArg (a6 m c) (funext fun a => Fin.ext ?_))
  match a with
  | ⟨0, _⟩ => show win0_6.index t 0 * 512 + 1 * r.val = n.val; rw [e0]; omega
  | ⟨1, _⟩ => show win0_6.index t 1 * 2048 + 1 * k.val = k.val; rw [e1]; omega

theorem read7 (h : t.val < 8) (r : Fin 512) (n : Fin 4096) (hn : n.val = 512 * t.val + r.val) (k : Fin 128) :
    (X0_7 m c t : S512x128.Idx → EReal) (ix2 r k) = a7 m c (ix2 (up n) k) := by
  obtain ⟨e, e1⟩ := idx7 t
  have e0 := e h
  unfold X0_7 Pipeline.Window.fill
  rw [dif_pos (moved0_7 t _)]
  unfold iblk
  rw [View.read_apply]
  refine (congrFun (V_main_arg7 m c) _).trans (congrArg (a7 m c) (funext fun a => Fin.ext ?_))
  match a with
  | ⟨0, _⟩ => show win0_7.index t 0 * 512 + 1 * r.val = n.val; rw [e0]; omega
  | ⟨1, _⟩ => show win0_7.index t 1 * 128 + 1 * k.val = k.val; rw [e1]; omega

theorem read_lo (j : Fin 4) (hj : j.val = t.val / 8) (k d : Fin 1024) :
    (loAt m c t : S1x1024x1024.Idx → EReal) (ix3 (0 : Fin 1) k d) = mainW (wx m c d) j.val (k.val) := by
  obtain ⟨e0, e1, e2⟩ := idx8 t
  refine Eq.trans ?_ (v22_apply m c j (⟨k.val, by omega⟩ : Fin 2048) d)
  unfold loAt iblk
  show ((cfg0.win 8).blk t).view.read (Elt Ideal) (V m c main_v22) _ = _
  rw [View.read_apply]
  show V m c main_v22 _ = V m c main_v22 _
  refine congrArg (V m c main_v22) (funext fun a => Fin.ext ?_)
  match a with
  | ⟨0, _⟩ => show win0_8.index t 0 * 1 + 1 * (0 + 1 * 0) = j.val; rw [e0]; omega
  | ⟨1, _⟩ => show win0_8.index t 1 * 2048 + 1 * (0 + 1 * k.val) = k.val; rw [e1]; omega
  | ⟨2, _⟩ => show win0_8.index t 2 * 1024 + 1 * (0 + 1 * d.val) = d.val; rw [e2]; omega

theorem read_hi (j : Fin 4) (hj : j.val = t.val / 8) (k d : Fin 1024) :
    (hiAt m c t : S1x1024x1024.Idx → EReal) (ix3 (0 : Fin 1) k d) = mainW (wx m c d) j.val (1024 + k.val) := by
  obtain ⟨e0, e1, e2⟩ := idx8 t
  refine Eq.trans ?_ (v22_apply m c j (⟨1024 + k.val, by omega⟩ : Fin 2048) d)
  unfold hiAt iblk
  show ((cfg0.win 8).blk t).view.read (Elt Ideal) (V m c main_v22) _ = _
  rw [View.read_apply]
  show V m c main_v22 _ = V m c main_v22 _
  refine congrArg (V m c main_v22) (funext fun a => Fin.ext ?_)
  match a with
  | ⟨0, _⟩ => show win0_8.index t 0 * 1 + 1 * (0 + 1 * 0) = j.val; rw [e0]; omega
  | ⟨1, _⟩ => show win0_8.index t 1 * 2048 + 1 * (1024 + 1 * k.val) = 1024 + k.val; rw [e1]; omega
  | ⟨2, _⟩ => show win0_8.index t 2 * 1024 + 1 * (0 + 1 * d.val) = d.val; rw [e2]; omega

theorem read9 (j : Fin 4) (hj : j.val = t.val / 8 - 1) (k : Fin 128) (d : Fin 1024) :
    (iblk m c 9 t : S1x128x1024.Idx → EReal) (ix3 (0 : Fin 1) k d) = tailW (wx m c d) j.val k.val := by
  obtain ⟨e0, e1, e2⟩ := idx9 t
  refine Eq.trans ?_ (v31_apply m c j k d)
  unfold iblk
  rw [View.read_apply]
  show V m c main_v31 _ = V m c main_v31 _
  refine congrArg (V m c main_v31) (funext fun a => Fin.ext ?_)
  match a with
  | ⟨0, _⟩ => show win0_9.index t 0 * 1 + 1 * 0 = j.val; rw [e0]; omega
  | ⟨1, _⟩ => show win0_9.index t 1 * 128 + 1 * k.val = k.val; rw [e1]; omega
  | ⟨2, _⟩ => show win0_9.index t 2 * 1024 + 1 * d.val = d.val; rw [e2]; omega

theorem read10 (j : Fin 4) (hj : j.val = 3) (k : Fin 128) (d : Fin 1024) :
    (iblk m c 10 t : S1x128x1024.Idx → EReal) (ix3 (0 : Fin 1) k d) = tailW (wx m c d) j.val k.val := by
  obtain ⟨e0, e1, e2⟩ := idx10 t
  refine Eq.trans ?_ (v31_apply m c j k d)
  unfold iblk
  rw [View.read_apply]
  show V m c main_v31 _ = V m c main_v31 _
  refine congrArg (V m c main_v31) (funext fun a => Fin.ext ?_)
  match a with
  | ⟨0, _⟩ => show win0_10.index t 0 * 1 + 1 * 0 = j.val; rw [e0]; omega
  | ⟨1, _⟩ => show win0_10.index t 1 * 128 + 1 * k.val = k.val; rw [e1]; omega
  | ⟨2, _⟩ => show win0_10.index t 2 * 1024 + 1 * d.val = d.val; rw [e2]; omega

theorem read11 (h : 24 ≤ t.val) (r : Fin 512) (n : Fin 4096) (hn : n.val = 512 * (t.val - 24) + r.val) (k : Fin 1024) :
    (iblk m c 11 t : S512x1024.Idx → EReal) (ix2 r k) = aX m c (ix2 n k) := by
  obtain ⟨e, e1⟩ := idx11 t
  have e0 := e h
  unfold iblk
  rw [View.read_apply]
  refine (congrFun (V_main_arg9 m c) _).trans (congrArg (aX m c) (funext fun a => Fin.ext ?_))
  match a with
  | ⟨0, _⟩ => show win0_11.index t 0 * 512 + 1 * r.val = n.val; rw [e0]; omega
  | ⟨1, _⟩ => show win0_11.index t 1 * 1024 + 1 * k.val = k.val; rw [e1]; omega

theorem read13 (h : 24 ≤ t.val) (r : Fin 512) (n : Fin 4096) (hn : n.val = 512 * (t.val - 24) + r.val) (k : Fin 1024) :
    (iblk m c 13 t : S512x1024.Idx → EReal) (ix2 r k) = aH m c (ix2 n k) := by
  obtain ⟨e, e1⟩ := idx13 t
  have e0 := e h
  unfold iblk
  rw [View.read_apply]
  refine (congrFun (V_main_arg13 m c) _).trans (congrArg (aH m c) (funext fun a => Fin.ext ?_))
  match a with
  | ⟨0, _⟩ => show win0_13.index t 0 * 512 + 1 * r.val = n.val; rw [e0]; omega
  | ⟨1, _⟩ => show win0_13.index t 1 * 1024 + 1 * k.val = k.val; rw [e1]; omega

theorem read12 (q : Fin 8) (k : Fin 1024) : (iblk m c 12 t : S8x1024.Idx → EReal) (ix2 q k) = V m c main_v3 (ix2 q k) := by
  obtain ⟨e0, e1⟩ := idx12 t
  unfold iblk
  rw [View.read_apply]
  show V m c main_v3 _ = V m c main_v3 _
  refine congrArg (V m c main_v3) (funext fun a => Fin.ext ?_)
  match a with
  | ⟨0, _⟩ => show win0_12.index t 0 * 8 + 1 * q.val = q.val; rw [e0]; omega
  | ⟨1, _⟩ => show win0_12.index t 1 * 1024 + 1 * k.val = k.val; rw [e1]; omega

end Point

/-! ## The finished gradient rows -/

section Rows

variable (r : Fin 8) (y : Fin 512) (n : Fin 4096) (hn : n.val = 512 * r.val + y.val) (d : Fin 1024)

include hn in
theorem P0_apply : P0 m c r (ix2 y d) = ∑ q : Fin 128, ext (a7 m c) (up n) q.val * tailW (wx m c d) 3 q.val
    + (∑ k : Fin 1024, ctN m c n k.val * mainW (wx m c d) 0 k.val + ∑ k : Fin 1024, ctN m c n (1024 + k.val) * mainW (wx m c d) 0 (1024 + k.val)) := by
  have hr := r.isLt
  have hp := pt_v r.val (by omega)
  refine (pay3_apply _ _ _ _ _ y d).trans (congrArg₂ (fun a b : EReal => a + b) ((pay2_apply _ _ y d).trans ?_) (congrArg₂ (fun a b : EReal => a + b) ?_ ?_))
  · refine Finset.sum_congr rfl fun k _ => congrArg₂ (fun a b : EReal => a * b) ?_ (read10 m c _ 3 rfl k d)
    exact (read7 m c _ (by omega) y n (by omega) k).trans (ext_fin (a7 m c) (up n) k).symm
  · exact Finset.sum_congr rfl fun k _ => congrArg₂ (fun a b : EReal => a * b)
      ((read0 m c _ (by omega) y n (by omega) k).trans (ct0 m c n k).symm) (read_lo m c _ 0 (by show 0 = _; omega) k d)
  · exact Finset.sum_congr rfl fun k _ => congrArg₂ (fun a b : EReal => a * b)
      ((read1 m c _ (by omega) y n (by omega) k).trans (ct1 m c n k).symm) (read_hi m c _ 0 (by show 0 = _; omega) k d)

include hn in
theorem P1_apply : P1 m c r (ix2 y d) = P0 m c r (ix2 y d)
    + ((∑ k : Fin 1024, ctN m c n (2048 + k.val) * mainW (wx m c d) 1 k.val + ∑ k : Fin 1024, ctN m c n (3072 + k.val) * mainW (wx m c d) 1 (1024 + k.val))
      + ∑ q : Fin 128, ctN m c n (2048 + q.val) * tailW (wx m c d) 0 q.val) := by
  have hr := r.isLt
  have hp := pt_v (8 + r.val) (by omega)
  refine (pay4_apply _ _ _ _ _ _ y d).trans (congrArg₂ (fun a b : EReal => a + b) rfl (congrArg₂ (fun a b : EReal => a + b)
    (congrArg₂ (fun a b : EReal => a + b) ?_ ?_) ?_))
  · exact Finset.sum_congr rfl fun k _ => congrArg₂ (fun a b : EReal => a * b)
      ((read2 m c _ (by omega) (by omega) y n (by omega) k).trans (ct2 m c n k).symm) (read_lo m c _ 1 (by show 1 = _; omega) k d)
  · exact Finset.sum_congr rfl fun k _ => congrArg₂ (fun a b : EReal => a * b)
      ((read3 m c _ (by omega) (by omega) y n (by omega) k).trans (ct3 m c n k).symm) (read_hi m c _ 1 (by show 1 = _; omega) k d)
  · exact Finset.sum_congr rfl fun k _ => congrArg₂ (fun a b : EReal => a * b)
      ((read2 m c _ (by omega) (by omega) y n (by omega) (⟨k.val, by omega⟩ : Fin 1024)).trans (ct2 m c n ⟨k.val, by omega⟩).symm)
      (read9 m c _ 0 (by show 0 = _; omega) k d)

include hn in
theorem P2_apply : P2 m c r (ix2 y d) = P1 m c r (ix2 y d)
    + ((∑ k : Fin 1024, ctN m c n (4096 + k.val) * mainW (wx m c d) 2 k.val + ∑ k : Fin 1024, ctN m c n (5120 + k.val) * mainW (wx m c d) 2 (1024 + k.val))
      + ∑ q : Fin 128, ctN m c n (4096 + q.val) * tailW (wx m c d) 1 q.val) := by
  have hr := r.isLt
  have hp := pt_v (16 + r.val) (by omega)
  refine (pay5_apply _ _ _ _ _ _ y d).trans (congrArg₂ (fun a b : EReal => a + b) rfl (congrArg₂ (fun a b : EReal => a + b)
    (congrArg₂ (fun a b : EReal => a + b) ?_ ?_) ?_))
  · exact Finset.sum_congr rfl fun k _ => congrArg₂ (fun a b : EReal => a * b)
      ((read4 m c _ (by omega) (by omega) y n (by omega) k).trans (ct4 m c n k).symm) (read_lo m c _ 2 (by show 2 = _; omega) k d)
  · exact Finset.sum_congr rfl fun k _ => congrArg₂ (fun a b : EReal => a * b)
      ((read5 m c _ (by omega) (by omega) y n (by omega) k).trans (ct5 m c n k).symm) (read_hi m c _ 2 (by show 2 = _; omega) k d)
  · exact Finset.sum_congr rfl fun k _ => congrArg₂ (fun a b : EReal => a * b)
      ((read4 m c _ (by omega) (by omega) y n (by omega) (⟨k.val, by omega⟩ : Fin 1024)).trans (ct4 m c n ⟨k.val, by omega⟩).symm)
      (read9 m c _ 1 (by show 1 = _; omega) k d)

include hn in
theorem half_lo (k : Fin 1024) : View.ld (X0_6 m c (pt (24 + r.val)) : Vec Ideal S512x2048 .bf16)
    (Rect.unit (s := S512x2048) ![0, 0] S512x1024.size inb_S512x2048_S512x1024_0_0) (ix2 y k) = ctN m c n (6144 + k.val) := by
  have hr := r.isLt
  have hp := pt_v (24 + r.val) (by omega)
  refine Eq.trans (congrArg (X0_6 m c (pt (24 + r.val)) : S512x2048.Idx → EReal) (funext fun a => Fin.ext ?_))
    ((read6 m c _ (by omega) y n (by omega) (⟨k.val, by omega⟩ : Fin 2048)).trans (ct6 m c n ⟨k.val, by omega⟩).symm)
  match a with
  | ⟨0, _⟩ => show 0 + 1 * y.val = y.val; omega
  | ⟨1, _⟩ => show 0 + 1 * k.val = k.val; omega

include hn in
theorem half_hi (k : Fin 1024) : View.ld (X0_6 m c (pt (24 + r.val)) : Vec Ideal S512x2048 .bf16)
    (Rect.unit (s := S512x2048) ![0, 1024] S512x1024.size inb_S512x2048_S512x1024_0_1024) (ix2 y k) = ctN m c n (7168 + k.val) := by
  have hr := r.isLt
  have hp := pt_v (24 + r.val) (by omega)
  refine Eq.trans (congrArg (X0_6 m c (pt (24 + r.val)) : S512x2048.Idx → EReal) (funext fun a => Fin.ext ?_))
    ((read6 m c _ (by omega) y n (by omega) (⟨1024 + k.val, by omega⟩ : Fin 2048)).trans ((ct6 m c n ⟨1024 + k.val, by omega⟩).symm.trans
      (congrArg (ctN m c n) (by show 6144 + (1024 + k.val) = 7168 + k.val; omega))))
  match a with
  | ⟨0, _⟩ => show 0 + 1 * y.val = y.val; omega
  | ⟨1, _⟩ => show 1024 + 1 * k.val = 1024 + k.val; omega

include hn in
theorem P3_apply : P3 m c r (ix2 y d) = P2 m c r (ix2 y d)
    + ((∑ k : Fin 1024, ctN m c n (6144 + k.val) * mainW (wx m c d) 3 k.val + ∑ k : Fin 1024, ctN m c n (7168 + k.val) * mainW (wx m c d) 3 (1024 + k.val))
      + ∑ q : Fin 128, ctN m c n (6144 + q.val) * tailW (wx m c d) 2 q.val) := by
  have hr := r.isLt
  have hp := pt_v (24 + r.val) (by omega)
  refine (pay6_apply _ _ _ _ _ _ y d).trans (congrArg₂ (fun a b : EReal => a + b) rfl (congrArg₂ (fun a b : EReal => a + b)
    (congrArg₂ (fun a b : EReal => a + b) ?_ ?_) ?_))
  · exact Finset.sum_congr rfl fun k _ => congrArg₂ (fun a b : EReal => a * b)
      (half_lo m c r y n hn k) (read_lo m c _ 3 (by show 3 = _; omega) k d)
  · exact Finset.sum_congr rfl fun k _ => congrArg₂ (fun a b : EReal => a * b)
      (half_hi m c r y n hn k) (read_hi m c _ 3 (by show 3 = _; omega) k d)
  · exact Finset.sum_congr rfl fun k _ => congrArg₂ (fun a b : EReal => a * b)
      (half_lo m c r y n hn ⟨k.val, by omega⟩)
      (read9 m c _ 2 (by show 2 = _; omega) k d)

include hn in
/-- After the fourth visit a row holds the whole product. -/
theorem P3_eq : P3 m c r (ix2 y d) = dy m c n d := by
  rw [P3_apply m c r y n hn d, P2_apply m c r y n hn d, P1_apply m c r y n hn d, P0_apply m c r y n hn d]
  exact fold (ctN m c n) (wx m c d) (ext (a7 m c) (up n)) fun q hq => ct7' m c n q hq

/-! ## The norm's gradient -/

theorem row0_ld (t : Fin cfg0.N) (k : Fin 1024) :
    View.ld (iblk m c 12 t : Vec Ideal S8x1024 .f32) (Rect.unit (s := S8x1024) ![0, 0] S1x1024.size inb_S8x1024_S1x1024_0_0) (ix2 (0 : Fin 1) k)
      = cOne + aS m c (ix2 (0 : Fin 1) k) :=
  (RowStore.ld_row (a := 8) (b := 1024) 0 inb_S8x1024_S1x1024_0_0 0 k (iblk m c 12 t : S8x1024.Idx → EReal) rfl).trans ((read12 m c t 0 k).trans (v3_row0 m c k))
theorem row1_ld (t : Fin cfg0.N) (k : Fin 1024) :
    View.ld (iblk m c 12 t : Vec Ideal S8x1024 .f32) (Rect.unit (s := S8x1024) ![1, 0] S1x1024.size inb_S8x1024_S1x1024_1_0) (ix2 (0 : Fin 1) k)
      = aN m c (ix2 (0 : Fin 1) k) :=
  (RowStore.ld_row (a := 8) (b := 1024) 1 inb_S8x1024_S1x1024_1_0 1 k (iblk m c 12 t : S8x1024.Idx → EReal) rfl).trans ((read12 m c t 1 k).trans (v3_row1 m c k))

include hn in
theorem line_x : line (iblk m c 11 (pt (24 + r.val)) : S512x1024.Idx → EReal) y = tok (aX m c) n := funext fun k => by
  have hr := r.isLt
  have hp := pt_v (24 + r.val) (by omega)
  exact read11 m c _ (by omega) y n (by omega) k

include hn in
theorem inner_eq : inner (P3 m c r) (View.ld (iblk m c 12 (pt (24 + r.val)) : Vec Ideal S8x1024 .f32) (Rect.unit (s := S8x1024) ![0, 0] S1x1024.size inb_S8x1024_S1x1024_0_0))
    (View.ld (iblk m c 12 (pt (24 + r.val)) : Vec Ideal S8x1024 .f32) (Rect.unit (s := S8x1024) ![1, 0] S1x1024.size inb_S8x1024_S1x1024_1_0)) y
    = onNorm (dy m c) (aN m c) (aS m c) n := funext fun k =>
  congrArg₂ (fun a b : EReal => a * b) (congrArg₂ (fun a b : EReal => a * b) (P3_eq m c r y n hn k) (row0_ld m c _ k)) (row1_ld m c _ k)

include hn in
theorem dx_eq : dxN m c r (ix2 y d) = aH m c (ix2 n d) + back (tok (aX m c) n) (onNorm (dy m c) (aN m c) (aS m c) n) d := by
  have hr := r.isLt
  have hp := pt_v (24 + r.val) (by omega)
  unfold dxN dxStep
  refine (pay8_apply _ _ _ _ _ y d).trans ?_
  rw [line_x m c r y n hn, inner_eq m c r y n hn]
  exact congrArg (fun z : EReal => z + _) (read13 m c _ (by omega) y n (by omega) d)

end Rows

/-! ## The column sums -/

/-- Token `y` of block `s`. -/
abbrev tk (s : ℕ) (y : Fin 512) : Fin 4096 := ⟨512 * (s % 8) + y.val, by omega⟩

/-- What a block adds. -/
def part (s : ℕ) (q : Fin 8) (k : Fin 1024) : EReal := ∑ y : Fin 512, term (dy m c) (aX m c) (aN m c) (aS m c) q (tk s y) k

theorem acc_step (s : ℕ) (hs : s < 8) (acc : Vec Ideal S8x1024 .f32) (q : Fin 8) (k : Fin 1024) :
    accStep (P3 m c ⟨s % 8, Nat.mod_lt _ (by decide)⟩) (iblk m c 11 (pt (24 + s))) (iblk m c 12 (pt (24 + s))) acc (ix2 q k)
      = acc (ix2 q k) + part m c s q k := by
  have hm : s % 8 = s := Nat.mod_eq_of_lt hs
  have P : ∀ y : Fin 512, P3 m c ⟨s % 8, Nat.mod_lt _ (by decide)⟩ (ix2 y k) = dy m c (tk s y) k := fun y => P3_eq m c _ y (tk s y) rfl k
  have L : ∀ y : Fin 512, line (iblk m c 11 (pt (24 + s)) : S512x1024.Idx → EReal) y = tok (aX m c) (tk s y) := fun y => by
    have h := line_x m c ⟨s % 8, Nat.mod_lt _ (by decide)⟩ y (tk s y) rfl
    rw [show (24 + (⟨s % 8, Nat.mod_lt _ (by decide)⟩ : Fin 8).val) = 24 + s from by show 24 + s % 8 = 24 + s; omega] at h
    exact h
  show accRow _ _ _ acc q k = _
  unfold part
  match q with
  | 0 =>
    refine (pay12_apply _ _ k).trans (congrArg₂ (fun a b : EReal => a + b) (RowStore.ld_row (a := 8) (b := 1024) 0 inb_S8x1024_S1x1024_0_0 0 k acc rfl) ?_)
    exact Finset.sum_congr rfl fun y _ => P y
  | 1 =>
    refine (pay13_apply _ _ _ _ k).trans (congrArg₂ (fun a b : EReal => a + b) (RowStore.ld_row (a := 8) (b := 1024) 1 inb_S8x1024_S1x1024_1_0 1 k acc rfl) ?_)
    refine Finset.sum_congr rfl fun y _ => ?_
    rw [L y]
    exact congrArg₂ (fun a b : EReal => a * b) (congrArg (fun z : EReal => z * _) (P y)) (row1_ld m c _ k)
  | 2 =>
    refine (pay7_apply _ _ _ _ k).trans (congrArg₂ (fun a b : EReal => a + b) (RowStore.ld_row (a := 8) (b := 1024) 2 inb_S8x1024_S1x1024_2_0 2 k acc rfl) ?_)
    refine Finset.sum_congr rfl fun y _ => ?_
    rw [L y]
    exact congrArg (fun z : EReal => z * _) (congrArg₂ (fun a b : EReal => a * b) (P y) (row0_ld m c _ k))
  | ⟨q + 3, hq⟩ => exact ((congrArg (fun z : EReal => acc _ + z) (Finset.sum_const_zero (s := (Finset.univ : Finset (Fin 512))))).trans (add_zero _)).symm

theorem acc_sum (q : Fin 8) (k : Fin 1024) : ∀ K : ℕ, K ≤ 8 → accN m c K (ix2 q k) = ∑ s ∈ Finset.range K, part m c s q k
  | 0, _ => Ideal.ofBits_zero_f32.trans (Finset.sum_range_zero _).symm
  | K + 1, h => by
    rw [Finset.sum_range_succ, ← acc_sum q k K (by omega)]
    exact acc_step m c K (by omega) (accN m c K) q k

/-- A sum over the tokens, a block at a time. -/
theorem sum_tokens (f : Fin 4096 → EReal) : ∑ s ∈ Finset.range 8, ∑ y : Fin 512, f (tk s y) = ∑ n, f n := by
  rw [← Fin.sum_univ_eq_sum_range (fun s => ∑ y : Fin 512, f (tk s y)) 8, ← Fintype.sum_prod_type' (f := fun (s : Fin 8) (y : Fin 512) => f (tk s.val y))]
  refine Fintype.sum_equiv (finProdFinEquiv (m := 8) (n := 512)) _ _ fun p => congrArg f (Fin.ext ?_)
  show 512 * (p.1.val % 8) + p.2.val = p.2.val + 512 * p.1.val
  have := p.1.isLt
  omega

/-- A column sum. -/
def total (q : Fin 8) (k : Fin 1024) : EReal := ∑ n : Fin 4096, term (dy m c) (aX m c) (aN m c) (aS m c) q n k

theorem acc_total (q : Fin 8) (k : Fin 1024) : accN m c 8 (ix2 q k) = total m c q k :=
  (acc_sum m c q k 8 (le_refl _)).trans (sum_tokens fun n => term (dy m c) (aX m c) (aN m c) (aS m c) q n k)

/-- The gradient on the layer's input. -/
def dxT (n : Fin 4096) (d : Fin 1024) : EReal := aH m c (ix2 n d) + back (tok (aX m c) n) (onNorm (dy m c) (aN m c) (aS m c) n) d

/-! ## The result arrays -/

theorem flushed14 (t : Fin cfg0.N) : (dats m 0 c).flushed 14 t = (cfg0.win 14).cut (grid0.coords t) (dxN m c (row t)) := by
  show (cfg0.win 14).cut (grid0.coords t) ((dats m 0 c).after 14 t) = _
  rw [after0_14]
theorem flushed15 (t : Fin cfg0.N) : (dats m 0 c).flushed 15 t = (cfg0.win 15).cut (grid0.coords t) (accN m c (t.val - 23)) := by
  show (cfg0.win 15).cut (grid0.coords t) ((dats m 0 c).after 15 t) = _
  rw [after0_15]

theorem late14 : ∀ t : Fin cfg0.N, (cfg0.win 14).flush t = true ↔ 24 ≤ t.val :=
  (by decide +kernel : ∀ t : Fin grid0.N, win0_14.flush t = true ↔ 24 ≤ t.val)

theorem arr14 : ((dats m 0 c).arrAt 14 cfg0.N : S4096x1024.Idx → EReal) = fun i => dxT m c (i 0) (i 1) := by
  refine (dats m 0 c).arrAt_eq_of_cover 14 (fun i : S4096x1024.Idx => dxT m c (i 0) (i 1)) (fun t ht => ?_) fun i => ?_
  · obtain ⟨e, e1⟩ := idx14 t
    have h24 := (late14 t).mp ht
    have h32 := lt32 t
    have e0 := e h24
    have hrow : (row t).val = t.val - 24 := by show t.val % 8 = _; omega
    rw [flushed14]
    funext y
    rw [View.read_apply]
    obtain ⟨r, k, rfl⟩ : ∃ (r : Fin 512) (k : Fin 1024), y = (ix2 r k : S512x1024.Idx) := ⟨y 0, y 1, eq_ix2 y⟩
    refine (dx_eq m c (row t) r _ ?_ k).trans (congrArg (dxT m c _) (Fin.ext ?_))
    · show win0_14.index t 0 * 512 + 1 * r.val = _; rw [e0]; omega
    · show k.val = win0_14.index t 1 * 1024 + 1 * k.val; rw [e1]; omega
  · have h0 : (i 0 : Nat) < 4096 := (i 0).isLt
    have h1 : (i 1 : Nat) < 1024 := (i 1).isLt
    have hN : cfg0.N = 32 := N_0
    let t : Fin cfg0.N := ⟨24 + (i 0 : Nat) / 512, by omega⟩
    obtain ⟨e, e1⟩ := idx14 t
    obtain ⟨⟨s0, s1⟩, -⟩ := osize t
    have tv : t.val = 24 + (i 0 : Nat) / 512 := rfl
    have e0 := e (by omega)
    refine ⟨t, (late14 t).mpr (by omega), ?_⟩
    show i ∈ ((View.whole main_v32_0).slice (win0_14.rect t)).set
    rw [View.set_slice_whole, Rect.mem_set_unit]
    intro a
    match a with
    | ⟨0, _⟩ => show win0_14.index t 0 * 512 ≤ (i 0 : Nat) ∧ (i 0 : Nat) < win0_14.index t 0 * 512 + win0_14.xsize (grid0.coords t) 0
                rw [e0, s0, tv]; omega
    | ⟨1, _⟩ => show win0_14.index t 1 * 1024 ≤ (i 1 : Nat) ∧ (i 1 : Nat) < win0_14.index t 1 * 1024 + win0_14.xsize (grid0.coords t) 1
                rw [e1, s1]; omega

theorem arr15 : ((dats m 0 c).arrAt 15 cfg0.N : S8x1024.Idx → EReal) = fun i => total m c (i 0) (i 1) := by
  have hN : cfg0.N = 32 := N_0
  refine (dats m 0 c).arrAt_eq_of_cover 15 (fun i : S8x1024.Idx => total m c (i 0) (i 1)) (fun t ht => ?_) fun i => ?_
  · obtain ⟨e0, e1⟩ := idx15 t
    have h31 : t.val - 23 = 8 := by have := (flush0_15 t).mp ht; have := lt32 t; omega
    rw [flushed15, h31]
    funext y
    rw [View.read_apply]
    obtain ⟨q, k, rfl⟩ : ∃ (q : Fin 8) (k : Fin 1024), y = (ix2 q k : S8x1024.Idx) := ⟨y 0, y 1, eq_ix2 y⟩
    refine (acc_total m c q k).trans (congrArg₂ (total m c) (Fin.ext ?_) (Fin.ext ?_))
    · show q.val = win0_15.index t 0 * 8 + 1 * q.val; rw [e0]; omega
    · show k.val = win0_15.index t 1 * 1024 + 1 * k.val; rw [e1]; omega
  · have h0 : (i 0 : Nat) < 8 := (i 0).isLt
    have h1 : (i 1 : Nat) < 1024 := (i 1).isLt
    let t : Fin cfg0.N := ⟨31, by omega⟩
    obtain ⟨e0, e1⟩ := idx15 t
    obtain ⟨-, ⟨s0, s1⟩⟩ := osize t
    refine ⟨t, (flush0_15 t).mpr rfl, ?_⟩
    show i ∈ ((View.whole main_v32_1).slice (win0_15.rect t)).set
    rw [View.set_slice_whole, Rect.mem_set_unit]
    intro a
    match a with
    | ⟨0, _⟩ => show win0_15.index t 0 * 8 ≤ (i 0 : Nat) ∧ (i 0 : Nat) < win0_15.index t 0 * 8 + win0_15.xsize (grid0.coords t) 0
                rw [e0, s0]; omega
    | ⟨1, _⟩ => show win0_15.index t 1 * 1024 ≤ (i 1 : Nat) ∧ (i 1 : Nat) < win0_15.index t 1 * 1024 + win0_15.xsize (grid0.coords t) 1
                rw [e1, s1]; omega

end Run

end Cert.DuLat

end
-- ==== Proof.DuLatBits.lean ====
/-
  The layer's input-gradient kernel on float bits: the same text as the idealized program, so the same run.
-/
module

public import proofs.«01_k».proof.Proof.DuLatFrame
public import proofs.«01_k».proof.Proof.Gen.Kernel10
public import proofs.«01_k».proof.Defs

@[expose] public section

set_option maxRecDepth 16384
set_option maxHeartbeats 8000000

noncomputable section

namespace Cert.DuLat

open Cert.Kernel10Ideal Idealize.ShloMosaic Idealize.ShloMosaic.TcCoe Idealize.SL.Sem

attribute [local instance] Cert.Kernel10.Gen.facts Cert.Kernel10Ideal.Gen.facts

/-- The two programs are the same. -/
theorem same_main : Cert.Kernel10.main (F := Bits) = Cert.Kernel10Ideal.main (F := Bits) := (rfl)

/-- The body tables at the kernel's label. -/
theorem bodies_kernel (t : Fin grid0.N) (s : (w : Fin 16) → Fin (win0 w).nbuf) :
    Cert.Kernel10.defs₀ (F := Bits) .tc (0 : Fin 1) (t, s) = Cert.Kernel10Ideal.defs₀ (F := Bits) .tc (0 : Fin 1) (t, s) := by
  unfold Cert.Kernel10.defs₀ Cert.Kernel10Ideal.defs₀
  dsimp only [Defs.onTc]
  unfold Cert.Kernel10.cc0_du_lat Cert.Kernel10Ideal.cc0_du_lat
  exact (rfl)

/-- A run carried along an equality of body tables and of programs. -/
theorem carry {D D' : Defs nD τ sig (Elt Bits) (Pipeline.Sig Λ₀ (Fin 1) fun p => (pcfgs (F := Bits) p).Adm)}
    {P P' : Dev nD → Prog (TpuEff nD τ sig (Elt Bits) (Pipeline.Sig Λ₀ (Fin 1) fun p => (pcfgs (F := Bits) p).Adm) .tc) PUnit}
    (e : D = D') (e' : P = P') {s : MemSt nD τ sig (Elt Bits)} {Q : PUnit × MemSt nD τ sig (Elt Bits) → Prop}
    (h : θ_run D' (onTc (τ := τ) P') s Q) : θ_run D (onTc (τ := τ) P) s Q := by
  subst e; subst e'; exact h

/-- The two body tables agree at every label. -/
theorem same_bodies : Cert.Kernel10.defs₀ (F := Bits) = Cert.Kernel10Ideal.defs₀ (F := Bits) := by
  funext p ℓ a
  match p with
  | .tc =>
    match ℓ, a with
    | ⟨0, _⟩, (t, s) => exact bodies_kernel t s
    | ⟨n + 1, h⟩, _ => exact absurd h (Nat.not_lt.2 (Nat.le_add_left _ _))
  | .scScalar _ => exact (rfl)
  | .scVector _ _ => exact (rfl)

theorem same_defs : Cert.Kernel10.defs (F := Bits) = Cert.Kernel10Ideal.defs (F := Bits) :=
  congrArg (Pipeline.defs (Cert.Kernel10.pcfgs (F := Bits))) same_bodies

theorem frame_kernel : Cert.quiescent_Kernel10 (hKernel10 := Cert.Kernel10.Gen.facts) := fun m ρ _ =>
  carry same_defs same_main (frame_run (F := Bits) m ρ)

end Cert.DuLat

end
-- ==== Proof.DuLat.lean ====
/-
  The layer's input-gradient kernel against the gradient of the norm, modulation and input projection taken operation by
  operation: on finite arguments both results are the same arrays.
-/
module

public import proofs.«01_k».proof.Proof.DuLatRead
public import proofs.«01_k».proof.Proof.DuLatBits
public import proofs.«01_k».proof.Proof.Gen.Reference10Ideal.Read
public import Idealize.ShloMosaic.Lib.Quiescent
public import Idealize.ShloMosaic.Lib.Claim
public import proofs.«01_k».proof.Defs

@[expose] public section

set_option maxRecDepth 16384

noncomputable section

namespace Cert.DuLat

open Idealize.ShloMosaic hiding ix2 ix3 eq_ix2 eq_ix3
open Cert.Kernel10Ideal Cert.Kernel10Ideal.Gen Idealize.ShloMosaic.TcCoe Idealize.SL.Sem
open Idealize.ShloMosaic.ValueIdx Idealize.ShloMosaic.Pipeline Cert.Kit Cert.NormRow
open scoped BigOperators

/-! ## The reference's product -/

section Product

open Cert.Reference10Ideal.Read

variable (m : (ℓ : Loc nD τ sig) → Buf (Elt Ideal) ℓ) (c : Dev nD)

/-- The eight pieces the reference lays side by side. -/
abbrev pieces : List (Σ s : Shape, s.Idx → EReal) := [⟨Cert.Reference10Ideal.S4352x1024, a0 m c⟩, ⟨Cert.Reference10Ideal.S4352x1024, a1 m c⟩, ⟨Cert.Reference10Ideal.S4352x1024, a2 m c⟩, ⟨Cert.Reference10Ideal.S4352x1024, a3 m c⟩, ⟨Cert.Reference10Ideal.S4352x1024, a4 m c⟩, ⟨Cert.Reference10Ideal.S4352x1024, a5 m c⟩, ⟨Cert.Reference10Ideal.S4352x2048, a6 m c⟩, ⟨Cert.Reference10Ideal.S4352x32, val_main_v0 (F := Ideal) (a7 m c)⟩]

theorem cat0 (n : Fin 4352) (q : Fin 8224) (k : Fin 1024) (h : q.val = 0 + k.val) :
    val_main_v1 (F := Ideal) (a0 m c) (a1 m c) (a2 m c) (a3 m c) (a4 m c) (a5 m c) (a6 m c) (a7 m c) (ix2 n q) = a0 m c (ix2 n k) := by
  unfold val_main_v1
  exact concatenate_apply_piece (t := Cert.Reference10Ideal.S4352x8224) 1 (pieces m c) _ (ix2 n q) 0 (by show 0 < 8; omega)
    Cert.Reference10Ideal.S4352x1024 (a0 m c) rfl rfl 0 rfl (ix2 n k) (fun x hx => by
      match x, hx with
      | ⟨0, _⟩, _ => rfl
      | ⟨1, _⟩, hx => exact absurd rfl hx) (by show 0 + k.val = q.val; omega)
theorem cat1 (n : Fin 4352) (q : Fin 8224) (k : Fin 1024) (h : q.val = 1024 + k.val) :
    val_main_v1 (F := Ideal) (a0 m c) (a1 m c) (a2 m c) (a3 m c) (a4 m c) (a5 m c) (a6 m c) (a7 m c) (ix2 n q) = a1 m c (ix2 n k) := by
  unfold val_main_v1
  exact concatenate_apply_piece (t := Cert.Reference10Ideal.S4352x8224) 1 (pieces m c) _ (ix2 n q) 1 (by show 1 < 8; omega)
    Cert.Reference10Ideal.S4352x1024 (a1 m c) rfl rfl 1024 rfl (ix2 n k) (fun x hx => by
      match x, hx with
      | ⟨0, _⟩, _ => rfl
      | ⟨1, _⟩, hx => exact absurd rfl hx) (by show 1024 + k.val = q.val; omega)
theorem cat2 (n : Fin 4352) (q : Fin 8224) (k : Fin 1024) (h : q.val = 2048 + k.val) :
    val_main_v1 (F := Ideal) (a0 m c) (a1 m c) (a2 m c) (a3 m c) (a4 m c) (a5 m c) (a6 m c) (a7 m c) (ix2 n q) = a2 m c (ix2 n k) := by
  unfold val_main_v1
  exact concatenate_apply_piece (t := Cert.Reference10Ideal.S4352x8224) 1 (pieces m c) _ (ix2 n q) 2 (by show 2 < 8; omega)
    Cert.Reference10Ideal.S4352x1024 (a2 m c) rfl rfl 2048 rfl (ix2 n k) (fun x hx => by
      match x, hx with
      | ⟨0, _⟩, _ => rfl
      | ⟨1, _⟩, hx => exact absurd rfl hx) (by show 2048 + k.val = q.val; omega)
theorem cat3 (n : Fin 4352) (q : Fin 8224) (k : Fin 1024) (h : q.val = 3072 + k.val) :
    val_main_v1 (F := Ideal) (a0 m c) (a1 m c) (a2 m c) (a3 m c) (a4 m c) (a5 m c) (a6 m c) (a7 m c) (ix2 n q) = a3 m c (ix2 n k) := by
  unfold val_main_v1
  exact concatenate_apply_piece (t := Cert.Reference10Ideal.S4352x8224) 1 (pieces m c) _ (ix2 n q) 3 (by show 3 < 8; omega)
    Cert.Reference10Ideal.S4352x1024 (a3 m c) rfl rfl 3072 rfl (ix2 n k) (fun x hx => by
      match x, hx with
      | ⟨0, _⟩, _ => rfl
      | ⟨1, _⟩, hx => exact absurd rfl hx) (by show 3072 + k.val = q.val; omega)
theorem cat4 (n : Fin 4352) (q : Fin 8224) (k : Fin 1024) (h : q.val = 4096 + k.val) :
    val_main_v1 (F := Ideal) (a0 m c) (a1 m c) (a2 m c) (a3 m c) (a4 m c) (a5 m c) (a6 m c) (a7 m c) (ix2 n q) = a4 m c (ix2 n k) := by
  unfold val_main_v1
  exact concatenate_apply_piece (t := Cert.Reference10Ideal.S4352x8224) 1 (pieces m c) _ (ix2 n q) 4 (by show 4 < 8; omega)
    Cert.Reference10Ideal.S4352x1024 (a4 m c) rfl rfl 4096 rfl (ix2 n k) (fun x hx => by
      match x, hx with
      | ⟨0, _⟩, _ => rfl
      | ⟨1, _⟩, hx => exact absurd rfl hx) (by show 4096 + k.val = q.val; omega)
theorem cat5 (n : Fin 4352) (q : Fin 8224) (k : Fin 1024) (h : q.val = 5120 + k.val) :
    val_main_v1 (F := Ideal) (a0 m c) (a1 m c) (a2 m c) (a3 m c) (a4 m c) (a5 m c) (a6 m c) (a7 m c) (ix2 n q) = a5 m c (ix2 n k) := by
  unfold val_main_v1
  exact concatenate_apply_piece (t := Cert.Reference10Ideal.S4352x8224) 1 (pieces m c) _ (ix2 n q) 5 (by show 5 < 8; omega)
    Cert.Reference10Ideal.S4352x1024 (a5 m c) rfl rfl 5120 rfl (ix2 n k) (fun x hx => by
      match x, hx with
      | ⟨0, _⟩, _ => rfl
      | ⟨1, _⟩, hx => exact absurd rfl hx) (by show 5120 + k.val = q.val; omega)
theorem cat6 (n : Fin 4352) (q : Fin 8224) (k : Fin 2048) (h : q.val = 6144 + k.val) :
    val_main_v1 (F := Ideal) (a0 m c) (a1 m c) (a2 m c) (a3 m c) (a4 m c) (a5 m c) (a6 m c) (a7 m c) (ix2 n q) = a6 m c (ix2 n k) := by
  unfold val_main_v1
  exact concatenate_apply_piece (t := Cert.Reference10Ideal.S4352x8224) 1 (pieces m c) _ (ix2 n q) 6 (by show 6 < 8; omega)
    Cert.Reference10Ideal.S4352x2048 (a6 m c) rfl rfl 6144 rfl (ix2 n k) (fun x hx => by
      match x, hx with
      | ⟨0, _⟩, _ => rfl
      | ⟨1, _⟩, hx => exact absurd rfl hx) (by show 6144 + k.val = q.val; omega)
theorem cat7 (n : Fin 4352) (q : Fin 8224) (k : Fin 32) (h : q.val = 8192 + k.val) :
    val_main_v1 (F := Ideal) (a0 m c) (a1 m c) (a2 m c) (a3 m c) (a4 m c) (a5 m c) (a6 m c) (a7 m c) (ix2 n q) = val_main_v0 (F := Ideal) (a7 m c) (ix2 n k) := by
  unfold val_main_v1
  exact concatenate_apply_piece (t := Cert.Reference10Ideal.S4352x8224) 1 (pieces m c) _ (ix2 n q) 7 (by show 7 < 8; omega)
    Cert.Reference10Ideal.S4352x32 (val_main_v0 (F := Ideal) (a7 m c)) rfl rfl 8192 rfl (ix2 n k) (fun x hx => by
      match x, hx with
      | ⟨0, _⟩, _ => rfl
      | ⟨1, _⟩, hx => exact absurd rfl hx) (by show 8192 + k.val = q.val; omega)

/-- The gradients side by side, in the reference. -/
theorem ref_ct (n : Fin 4096) (q : Fin 8224) : val_main_v3 (F := Ideal) (a0 m c) (a1 m c) (a2 m c) (a3 m c) (a4 m c) (a5 m c) (a6 m c) (a7 m c) (ix2 n q) = ctN m c n q.val := by
  have hq := q.isLt
  rw [val_main_v3_apply, val_main_v2_apply]
  have e : idx_main_v2 (ix2 n q) = ix2 (up n) q := funext fun a => by
    match a with
    | ⟨0, _⟩ => rfl
    | ⟨1, _⟩ => rfl
  rw [e]
  show val_main_v1 (F := Ideal) (a0 m c) (a1 m c) (a2 m c) (a3 m c) (a4 m c) (a5 m c) (a6 m c) (a7 m c) (ix2 (up n) q) = _
  by_cases h0 : q.val < 1024
  · exact (cat0 m c (up n) q (⟨q.val, by omega⟩ : Fin 1024) (by show q.val = 0 + q.val; omega)).trans (ct0 m c n (⟨q.val, by omega⟩ : Fin 1024)).symm
  by_cases h1 : q.val < 2048
  · exact (cat1 m c (up n) q (⟨q.val - 1024, by omega⟩ : Fin 1024) (by show q.val = 1024 + (q.val - 1024); omega)).trans
      ((ct1 m c n (⟨q.val - 1024, by omega⟩ : Fin 1024)).symm.trans (congrArg (ctN m c n) (by show 1024 + (q.val - 1024) = q.val; omega)))
  by_cases h2 : q.val < 3072
  · exact (cat2 m c (up n) q (⟨q.val - 2048, by omega⟩ : Fin 1024) (by show q.val = 2048 + (q.val - 2048); omega)).trans
      ((ct2 m c n (⟨q.val - 2048, by omega⟩ : Fin 1024)).symm.trans (congrArg (ctN m c n) (by show 2048 + (q.val - 2048) = q.val; omega)))
  by_cases h3 : q.val < 4096
  · exact (cat3 m c (up n) q (⟨q.val - 3072, by omega⟩ : Fin 1024) (by show q.val = 3072 + (q.val - 3072); omega)).trans
      ((ct3 m c n (⟨q.val - 3072, by omega⟩ : Fin 1024)).symm.trans (congrArg (ctN m c n) (by show 3072 + (q.val - 3072) = q.val; omega)))
  by_cases h4 : q.val < 5120
  · exact (cat4 m c (up n) q (⟨q.val - 4096, by omega⟩ : Fin 1024) (by show q.val = 4096 + (q.val - 4096); omega)).trans
      ((ct4 m c n (⟨q.val - 4096, by omega⟩ : Fin 1024)).symm.trans (congrArg (ctN m c n) (by show 4096 + (q.val - 4096) = q.val; omega)))
  by_cases h5 : q.val < 6144
  · exact (cat5 m c (up n) q (⟨q.val - 5120, by omega⟩ : Fin 1024) (by show q.val = 5120 + (q.val - 5120); omega)).trans
      ((ct5 m c n (⟨q.val - 5120, by omega⟩ : Fin 1024)).symm.trans (congrArg (ctN m c n) (by show 5120 + (q.val - 5120) = q.val; omega)))
  by_cases h6 : q.val < 8192
  · exact (cat6 m c (up n) q (⟨q.val - 6144, by omega⟩ : Fin 2048) (by show q.val = 6144 + (q.val - 6144); omega)).trans
      ((ct6 m c n (⟨q.val - 6144, by omega⟩ : Fin 2048)).symm.trans (congrArg (ctN m c n) (by show 6144 + (q.val - 6144) = q.val; omega)))
  refine (cat7 m c (up n) q (⟨q.val - 8192, by omega⟩ : Fin 32) (by show q.val = 8192 + (q.val - 8192); omega)).trans
    (Eq.trans ?_ ((ct7 m c n (⟨q.val - 8192, by omega⟩ : Fin 128)).symm.trans (congrArg (ctN m c n) (by show 8192 + (q.val - 8192) = q.val; omega))))
  rw [val_main_v0_apply]
  refine congrArg (a7 m c) (funext fun a => ?_)
  match a with
  | ⟨0, _⟩ => rfl
  | ⟨1, _⟩ => rfl

/-- The gradient on the normalised and modulated rows, in the reference. -/
theorem ref_dy (n : Fin 4096) (d : Fin 1024) : val_main_v26 (F := Ideal) (a0 m c) (a1 m c) (a2 m c) (a3 m c) (a4 m c) (a5 m c) (a6 m c) (a7 m c) (aW m c) (ix2 n d) = dy m c n d := by
  rw [val_main_v26_apply]
  unfold dy
  refine Finset.sum_congr rfl fun q _ => congrArg₂ (fun a b : EReal => a * b) (Eq.trans (congrArg _ (funext fun a => ?_)) (ref_ct m c n q)) ?_
  · match a with
    | ⟨0, _⟩ => rfl
    | ⟨1, _⟩ => rfl
  · unfold wx
    rw [dif_pos q.isLt]
    refine congrArg (aW m c) (funext fun a => ?_)
    match a with
    | ⟨0, _⟩ => rfl
    | ⟨1, _⟩ => rfl

end Product

/-! ## The reference's norm, read at an index -/

section Ref

open Cert.Reference10Ideal.Read

variable (x : Cert.Reference10Ideal.S4096x1024.Idx → EReal) (nw sc : Cert.Reference10Ideal.S1x1024.Idx → EReal)
  (dh : Cert.Reference10Ideal.S4096x1024.Idx → EReal)
  (x0 x1 x2 x3 x4 x5 : Cert.Reference10Ideal.S4352x1024.Idx → EReal) (x6 : Cert.Reference10Ideal.S4352x2048.Idx → EReal)
  (x7 : Cert.Reference10Ideal.S4352x128.Idx → EReal) (x8 : Cert.Reference10Ideal.S1024x8224.Idx → EReal)
  (D : Fin 4096 → Fin 1024 → EReal) (hD : ∀ n k, val_main_v26 (F := Ideal) x0 x1 x2 x3 x4 x5 x6 x7 x8 (ix2 n k) = D n k)

theorem ref_sq (n : Fin 4096) : val_main_v10 (F := Ideal) x (ix2 n (0 : Fin 1)) = ms (tok x n) := by
  rw [val_main_v10_apply, val_main_v8_apply, val_main_v6_apply, val_main_v5_apply, val_main_v7_apply, val_main_v9_apply]
  refine congrArg (fun z => Ideal.div z cN + cE) ((congrArg₂ (· + ·) Ideal.ofBits_zero_f32 rfl).trans ((zero_add _).trans ?_))
  refine Finset.sum_congr rfl fun k _ => ?_
  have e : idx_main_v5 (idx_main_v6 (ix2 n (0 : Fin 1))) k = ix2 n k := funext fun a => by
    match a with
    | ⟨0, _⟩ => rfl
    | ⟨1, _⟩ => rfl
  rw [e, val_main_v4_apply]; rfl

theorem ref_rstd (n : Fin 4096) : val_main_v11 (F := Ideal) x (ix2 n (0 : Fin 1)) = rstd (tok x n) := by
  rw [val_main_v11_apply, ref_sq]; rfl

theorem ref_xhat (n : Fin 4096) (k : Fin 1024) : val_main_v16 (F := Ideal) x (ix2 n k) = xhat (tok x n) k := by
  rw [val_main_v16_apply, val_main_v15_apply]
  have e : idx_main_v15 (ix2 n k) = ix2 n (0 : Fin 1) := funext fun a => by
    match a with
    | ⟨0, _⟩ => rfl
    | ⟨1, _⟩ => rfl
  rw [e, ref_rstd]; rfl

theorem row0 (k : Fin 1024) (i : Cert.Reference10Ideal.S1x1024.Idx) (h : (i 1).val = k.val) : i = ix2 (0 : Fin 1) k := funext fun a => by
  match a with
  | ⟨0, _⟩ => exact Subsingleton.elim (α := Fin 1) _ _
  | ⟨1, _⟩ => exact Fin.ext h

theorem ref_scale (k : Fin 1024) : val_main_v20 (F := Ideal) sc (ix2 (0 : Fin 1) k) = cOne + sc (ix2 (0 : Fin 1) k) := by
  rw [val_main_v20_apply, val_main_v19_apply]; rfl

include hD in
theorem ref_mod (n : Fin 4096) (k : Fin 1024) :
    val_main_v33 (F := Ideal) x0 x1 x2 x3 x4 x5 x6 x7 x8 sc (ix2 n k) = D n k * (cOne + sc (ix2 (0 : Fin 1) k)) := by
  rw [val_main_v33_apply, hD, val_main_v32_apply, row0 k (idx_main_v32 (ix2 n k)) rfl, ref_scale]; rfl

include hD in
theorem ref_onNorm (n : Fin 4096) (k : Fin 1024) :
    val_main_v38 (F := Ideal) x0 x1 x2 x3 x4 x5 x6 x7 x8 nw sc (ix2 n k) = onNorm D nw sc n k := by
  rw [val_main_v38_apply, ref_mod sc x0 x1 x2 x3 x4 x5 x6 x7 x8 D hD, val_main_v37_apply, row0 k (idx_main_v37 (ix2 n k)) rfl]; rfl

include hD in
theorem ref_through (n : Fin 4096) (k : Fin 1024) :
    val_main_v49 (F := Ideal) x0 x1 x2 x3 x4 x5 x6 x7 x8 x nw sc (ix2 n k) = through (tok x n) (onNorm D nw sc n) := by
  rw [val_main_v49_apply, val_main_v48_apply]
  refine (congrArg₂ (· + ·) Ideal.ofBits_zero_f32 (Fin.sum_univ_one _)).trans ((zero_add _).trans ?_)
  have e : idx_main_v48 (idx_main_v49 (ix2 n k)) (0 : Fin 1) = ix2 n (0 : Fin 1) := funext fun a => by
    match a with
    | ⟨0, _⟩ => rfl
    | ⟨1, _⟩ => rfl
  rw [e, val_main_v47_apply, val_main_v45_apply, val_main_v46_apply, val_main_v14_apply, val_main_v13_apply, val_main_v12_apply,
    ref_sq, ref_rstd, val_main_v41_apply, val_main_v40_apply]
  refine congrArg (fun z => Ideal.div (z * (cH * Ideal.div (rstd (tok x n)) (ms (tok x n)))) cN)
    ((congrArg₂ (· + ·) Ideal.ofBits_zero_f32 rfl).trans ((zero_add _).trans ?_))
  refine Finset.sum_congr rfl fun j _ => ?_
  have e : idx_main_v40 (idx_main_v41 (ix2 n (0 : Fin 1))) j = ix2 n j := funext fun a => by
    match a with
    | ⟨0, _⟩ => exact Fin.ext (by show n.val * 1 + 0 = n.val; omega)
    | ⟨1, _⟩ => rfl
  rw [e, val_main_v39_apply, ref_onNorm nw sc x0 x1 x2 x3 x4 x5 x6 x7 x8 D hD]; rfl

include hD in
theorem ref_parts (n : Fin 4096) (k : Fin 1024) : val_main_v53 (F := Ideal) x0 x1 x2 x3 x4 x5 x6 x7 x8 x nw sc dh (ix2 n k)
    = dh (ix2 n k) + onNorm D nw sc n k * rstd (tok x n)
      + tok x n k * through (tok x n) (onNorm D nw sc n) + through (tok x n) (onNorm D nw sc n) * tok x n k := by
  have e : idx_main_v42 (ix2 n k) = ix2 n (0 : Fin 1) := funext fun a => by
    match a with
    | ⟨0, _⟩ => rfl
    | ⟨1, _⟩ => rfl
  rw [val_main_v53_apply, val_main_v51_apply, val_main_v44_apply, val_main_v43_apply, val_main_v42_apply, e, val_main_v50_apply, val_main_v52_apply,
    ref_through x nw sc x0 x1 x2 x3 x4 x5 x6 x7 x8 D hD, ref_rstd, ref_onNorm nw sc x0 x1 x2 x3 x4 x5 x6 x7 x8 D hD]
  rfl

section Real

variable (hx : ∀ i, IsReal (x i)) (hn : ∀ i, IsReal (nw i)) (hs : ∀ i, IsReal (sc i)) (hh : ∀ i, IsReal (dh i)) (hd : ∀ n k, IsReal (D n k))

include hn hs hd in
theorem isReal_onNorm (n : Fin 4096) (k : Fin 1024) : IsReal (onNorm D nw sc n k) :=
  ((hd _ _).mul (IsReal.add ⟨1, Ideal.ofBits_one_f32⟩ (hs _))).mul (hn _)

include hD hx hn hs hh hd in
theorem ref_v53 (n : Fin 4096) (k : Fin 1024) :
    val_main_v53 (F := Ideal) x0 x1 x2 x3 x4 x5 x6 x7 x8 x nw sc dh (ix2 n k) = dh (ix2 n k) + back (tok x n) (onNorm D nw sc n) k :=
  (ref_parts x nw sc dh x0 x1 x2 x3 x4 x5 x6 x7 x8 D hD n k).trans
    (back_eq (fun j => hx _) (isReal_onNorm nw sc D hn hs hd n) (hh _) k).symm

end Real

/-- A column sum, read at the tokens. -/
theorem col (k : Fin 1024) (z : EReal) (hz : z = 0) (f : Fin 4096 → EReal) (F' : Fin 4096 → EReal) (h : ∀ n, f n = F' n) :
    z + ∑ n, f n = ∑ n, F' n := by
  rw [hz, zero_add]; exact Finset.sum_congr rfl fun n _ => h n

theorem at_token (k : Fin 1024) (n : Fin 4096) (i : Cert.Reference10Ideal.S4096x1024.Idx) (h0 : (i 0).val = n.val) (h1 : (i 1).val = k.val) :
    i = ix2 n k := funext fun a => by
  match a with
  | ⟨0, _⟩ => exact Fin.ext h0
  | ⟨1, _⟩ => exact Fin.ext h1

include hD in
theorem ref_row0 (k : Fin 1024) :
    val_main_v28 (F := Ideal) x0 x1 x2 x3 x4 x5 x6 x7 x8 (ix2 (0 : Fin 1) k) = ∑ n : Fin 4096, term D x nw sc 0 n k := by
  rw [val_main_v28_apply, val_main_v27_apply]
  refine col k _ Ideal.ofBits_zero_f32 _ _ fun n => ?_
  rw [at_token k n (idx_main_v27 (idx_main_v28 (ix2 (0 : Fin 1) k)) n) rfl (by show 0 * 1024 + k.val = k.val; omega), hD]; rfl

include hD in
theorem ref_row1 (k : Fin 1024) :
    val_main_v31 (F := Ideal) x0 x1 x2 x3 x4 x5 x6 x7 x8 x nw (ix2 (0 : Fin 1) k) = ∑ n : Fin 4096, term D x nw sc 1 n k := by
  rw [val_main_v31_apply, val_main_v30_apply]
  refine col k _ Ideal.ofBits_zero_f32 _ _ fun n => ?_
  rw [at_token k n (idx_main_v30 (idx_main_v31 (ix2 (0 : Fin 1) k)) n) rfl (by show 0 * 1024 + k.val = k.val; omega),
    val_main_v29_apply, val_main_v18_apply, ref_xhat, hD, val_main_v17_apply, row0 k (idx_main_v17 (ix2 n k)) rfl]
  exact (mul_comm _ _).trans (mul_assoc _ _ _).symm

include hD in
theorem ref_row2 (k : Fin 1024) :
    val_main_v36 (F := Ideal) x0 x1 x2 x3 x4 x5 x6 x7 x8 x sc (ix2 (0 : Fin 1) k) = ∑ n : Fin 4096, term D x nw sc 2 n k := by
  rw [val_main_v36_apply, val_main_v35_apply]
  refine col k _ Ideal.ofBits_zero_f32 _ _ fun n => ?_
  rw [at_token k n (idx_main_v35 (idx_main_v36 (ix2 (0 : Fin 1) k)) n) rfl (by show 0 * 1024 + k.val = k.val; omega),
    val_main_v34_apply, ref_xhat, ref_mod sc x0 x1 x2 x3 x4 x5 x6 x7 x8 D hD]
  exact mul_comm _ _

include hD in
theorem ref_v55 (q : Fin 8) (k : Fin 1024) :
    val_main_v55 (F := Ideal) x0 x1 x2 x3 x4 x5 x6 x7 x8 x nw sc (ix2 q k) = ∑ n : Fin 4096, term D x nw sc q n k := by
  unfold val_main_v55
  match q with
  | 0 =>
    refine (concatenate_apply_piece (t := Cert.Reference10Ideal.S8x1024) 0 _ _ (ix2 (0 : Fin 8) k) 0 (by show 0 < 4; omega)
      Cert.Reference10Ideal.S1x1024 (val_main_v28 (F := Ideal) x0 x1 x2 x3 x4 x5 x6 x7 x8) rfl rfl 0 rfl (ix2 (0 : Fin 1) k) (fun a ha => ?_) rfl).trans
      (ref_row0 x nw sc x0 x1 x2 x3 x4 x5 x6 x7 x8 D hD k)
    match a with
    | ⟨0, _⟩ => exact absurd rfl ha
    | ⟨1, _⟩ => rfl
  | 1 =>
    refine (concatenate_apply_piece (t := Cert.Reference10Ideal.S8x1024) 0 _ _ (ix2 (1 : Fin 8) k) 1 (by show 1 < 4; omega)
      Cert.Reference10Ideal.S1x1024 (val_main_v31 (F := Ideal) x0 x1 x2 x3 x4 x5 x6 x7 x8 x nw) rfl rfl 1 rfl (ix2 (0 : Fin 1) k) (fun a ha => ?_) rfl).trans
      (ref_row1 x nw sc x0 x1 x2 x3 x4 x5 x6 x7 x8 D hD k)
    match a with
    | ⟨0, _⟩ => exact absurd rfl ha
    | ⟨1, _⟩ => rfl
  | 2 =>
    refine (concatenate_apply_piece (t := Cert.Reference10Ideal.S8x1024) 0 _ _ (ix2 (2 : Fin 8) k) 2 (by show 2 < 4; omega)
      Cert.Reference10Ideal.S1x1024 (val_main_v36 (F := Ideal) x0 x1 x2 x3 x4 x5 x6 x7 x8 x sc) rfl rfl 2 rfl (ix2 (0 : Fin 1) k) (fun a ha => ?_) rfl).trans
      (ref_row2 x nw sc x0 x1 x2 x3 x4 x5 x6 x7 x8 D hD k)
    match a with
    | ⟨0, _⟩ => exact absurd rfl ha
    | ⟨1, _⟩ => rfl
  | ⟨q + 3, hq⟩ =>
    refine (concatenate_apply_piece (t := Cert.Reference10Ideal.S8x1024) 0 _ _ (ix2 (⟨q + 3, hq⟩ : Fin 8) k) 3 (by show 3 < 4; omega)
      Cert.Reference10Ideal.S5x1024 (val_main_v54 (F := Ideal)) rfl rfl 3 rfl (ix2 (⟨q, by omega⟩ : Fin 5) k) (fun a ha => ?_)
      (by show 3 + q = q + 3; omega)).trans ?_
    · match a with
      | ⟨0, _⟩ => exact absurd rfl ha
      | ⟨1, _⟩ => rfl
    · rw [val_main_v54_apply]
      exact Ideal.ofBits_zero_f32.trans (Finset.sum_const_zero).symm

end Ref

/-! ## The claims -/

theorem hPre : Cert.Pre_finite10.Facts := ⟨by decide, by decide, by decide, by decide, by decide, by decide, by decide⟩

section Both

variable (m : (ℓ : Loc nD τ sig) → Buf (Elt Ideal) ℓ)
variable (h : Cert.Pre_Kernel10Ideal_finite10 (hPre_finite10 := hPre) m) (c : Dev nD)

theorem isReal_zero : IsReal 0 := ⟨0, rfl⟩

theorem isReal_ext {a b : ℕ} (A : (⟨2, ![a, b]⟩ : Shape).Idx → EReal) (hA : ∀ i, IsReal (A i)) (n : Fin a) (q : ℕ) : IsReal (ext A n q) := by
  unfold ext
  split
  · exact hA _
  · exact isReal_zero

include h in
theorem isReal_ct (n : Fin 4096) (q : ℕ) : IsReal (ctN m c n q) := by
  unfold ctN
  split_ifs
  · exact isReal_ext _ (fun i => isReal_of_lt (congrFun (h c).1 i)) _ _
  · exact isReal_ext _ (fun i => isReal_of_lt (congrFun (h c).2.1 i)) _ _
  · exact isReal_ext _ (fun i => isReal_of_lt (congrFun (h c).2.2.1 i)) _ _
  · exact isReal_ext _ (fun i => isReal_of_lt (congrFun (h c).2.2.2.1 i)) _ _
  · exact isReal_ext _ (fun i => isReal_of_lt (congrFun (h c).2.2.2.2.1 i)) _ _
  · exact isReal_ext _ (fun i => isReal_of_lt (congrFun (h c).2.2.2.2.2.1 i)) _ _
  · exact isReal_ext _ (fun i => isReal_of_lt (congrFun (h c).2.2.2.2.2.2.1 i)) _ _
  · exact isReal_ext _ (fun i => isReal_of_lt (congrFun (h c).2.2.2.2.2.2.2.1 i)) _ _

include h in
theorem isReal_w (d : Fin 1024) (q : ℕ) : IsReal (wx m c d q) := by
  unfold wx
  split
  · exact isReal_of_lt (congrFun (h c).2.2.2.2.2.2.2.2.1 _)
  · exact isReal_zero

include h in
theorem isReal_dy (n : Fin 4096) (d : Fin 1024) : IsReal (dy m c n d) :=
  isReal_sum _ _ fun q => (isReal_ct m h c n _).mul (isReal_w m h c d _)

open Cert.Reference10Ideal.Read

include h in
theorem same14 : (dats m 0 c).arrAt 14 cfg0.N
    = val_main_v53 (F := Ideal) (a0 m c) (a1 m c) (a2 m c) (a3 m c) (a4 m c) (a5 m c) (a6 m c) (a7 m c) (aW m c) (aX m c) (aN m c) (aS m c) (aH m c) :=
  (arr14 m c).trans (funext fun i : S4096x1024.Idx => (ref_v53 (aX m c) (aN m c) (aS m c) (aH m c) (a0 m c) (a1 m c) (a2 m c) (a3 m c) (a4 m c) (a5 m c) (a6 m c) (a7 m c) (aW m c) (dy m c) (ref_dy m c)
    (fun i => isReal_of_lt (congrFun (h c).2.2.2.2.2.2.2.2.2.1 i)) (fun i => isReal_of_lt (congrFun (h c).2.2.2.2.2.2.2.2.2.2.1 i)) (fun i => isReal_of_lt (congrFun (h c).2.2.2.2.2.2.2.2.2.2.2.2.1 i))
    (fun i => isReal_of_lt (congrFun (h c).2.2.2.2.2.2.2.2.2.2.2.2.2 i)) (isReal_dy m h c) (i 0) (i 1)).symm.trans
    (congrArg (val_main_v53 (F := Ideal) (a0 m c) (a1 m c) (a2 m c) (a3 m c) (a4 m c) (a5 m c) (a6 m c) (a7 m c) (aW m c) (aX m c) (aN m c) (aS m c) (aH m c)) (eq_ix2 i).symm))

theorem same15 : (dats m 0 c).arrAt 15 cfg0.N
    = val_main_v55 (F := Ideal) (a0 m c) (a1 m c) (a2 m c) (a3 m c) (a4 m c) (a5 m c) (a6 m c) (a7 m c) (aW m c) (aX m c) (aN m c) (aS m c) :=
  (arr15 m c).trans (funext fun i : S8x1024.Idx => (ref_v55 (aX m c) (aN m c) (aS m c) (a0 m c) (a1 m c) (a2 m c) (a3 m c) (a4 m c) (a5 m c) (a6 m c) (a7 m c) (aW m c) (dy m c) (ref_dy m c)
    (i 0) (i 1)).symm.trans
    (congrArg (val_main_v55 (F := Ideal) (a0 m c) (a1 m c) (a2 m c) (a3 m c) (a4 m c) (a5 m c) (a6 m c) (a7 m c) (aW m c) (aX m c) (aN m c) (aS m c)) (eq_ix2 i).symm))

end Both

theorem frame_ideal : Cert.quiescent_Kernel10Ideal (hKernel10Ideal := Cert.Kernel10Ideal.Gen.facts) := fun m ρ _ => frame_run (F := Ideal) m ρ

theorem ref_frame : Cert.quiescent_Reference10Ideal (hReference10Ideal := Cert.Reference10Ideal.Gen.facts) := fun m ρ _ =>
  (θ_run _ _ _).mono (fun r h => ⟨fun c => (h c).2.2, sem_eq_zero_of_no_sems rfl r.2⟩)
    (Cert.Reference10Ideal.Value.run (F := Ideal) m ρ)

open Cert.Reference10Ideal.Read in
theorem algebraic : Cert.algebraic_Kernel10Ideal_Reference10Ideal_pre_finite10 (hKernel10Ideal := Cert.Kernel10Ideal.Gen.facts)
    (hReference10Ideal := Cert.Reference10Ideal.Gen.facts) (hPre_finite10 := hPre) := by
  intro m g m' g' h hm
  refine ⟨fun c => val_main_v53 (F := Ideal) (a0 m c) (a1 m c) (a2 m c) (a3 m c) (a4 m c) (a5 m c) (a6 m c) (a7 m c) (aW m c) (aX m c) (aN m c) (aS m c) (aH m c),
    fun c => val_main_v55 (F := Ideal) (a0 m c) (a1 m c) (a2 m c) (a3 m c) (a4 m c) (a5 m c) (a6 m c) (a7 m c) (aW m c) (aX m c) (aN m c) (aS m c), ?_, ?_⟩
  · exact (θ_run defs _ _).mono (fun r hr c => ⟨((hr.1 c).1 14).trans (same14 m h c), ((hr.1 c).1 15).trans (same15 m c), hr.2.1 c⟩)
      (θ_run_and (run_main (F := Ideal) m g) (frame_run (F := Ideal) m g))
  · refine (θ_run _ _ _).mono (fun r hr c => ?_) (Cert.Reference10Ideal.Value.run (F := Ideal) m' g')
    obtain ⟨h0, h1, h2, h3, h4, h5, h6, h7, h8, h9, h10, h11, h12, h13⟩ := hm c
    refine ⟨(hr c).1.trans ((val_main_v53_eq m' c).trans ?_), (hr c).2.1.trans ((val_main_v55_eq m' c).trans ?_), (hr c).2.2⟩
    · rw [h0, h1, h2, h3, h4, h5, h6, h7, h8, h9, h10, h12, h13]
    · rw [h0, h1, h2, h3, h4, h5, h6, h7, h8, h9, h10, h12]

end Cert.DuLat

end
-- ==== Proof.LossBlock.lean ====
/-
  What one sub-block of 128 tokens computes in the loss kernel, entry by entry.
-/
module

public import proofs.«01_k».proof.Proof.NormRow
public import proofs.«01_k».proof.Proof.Gen.Kernel5Ideal.Skeleton

@[expose] public section

set_option maxRecDepth 16384

noncomputable section

namespace Cert.Loss

open Cert.Kernel5Ideal Cert.Kernel5Ideal.Gen Idealize.ShloMosaic
open Idealize.ShloMosaic.ValueIdx Cert.Kit Cert.NormRow
open scoped BigOperators

/-- `1/1024`. -/
abbrev cI : EReal := Ideal.ofBits .f32 0x3A800000#32

section Pays

variable (a : Vec Ideal S128x3072 .bf16) (w : Vec Ideal S3072x1024 .bf16) (h t : Vec Ideal S128x1024 .f32) (g f : Vec Ideal S1x1024 .f32)

/-- The feed-forward block's output. -/
def ffn (r : Fin 128) (k : Fin 1024) : EReal := ∑ q : Fin 3072, a (ix2 r q) * w (ix2 q k)
/-- The last residual stream. -/
def last (r : Fin 128) (k : Fin 1024) : EReal := h (ix2 r k) + g (ix2 (0 : Fin 1) k) * ffn a w r k
/-- The gradient on the normalised row. -/
def onRow (r : Fin 128) (k : Fin 1024) : EReal :=
  (xhat (last a w h g r) k * f (ix2 (0 : Fin 1) k) - t (ix2 r k)) * cI * f (ix2 (0 : Fin 1) k)

theorem pay5_apply (r : Fin 128) (k : Fin 1024) : k0_pay5 w a (ix2 r k) = ffn a w r k := by
  show matmul dot_S128x3072_S3072x1024_S128x1024_1_0_0_1_n_n none (shapeCast S128x3072 a shapeCasts_S128x3072_S128x3072 : FVec Ideal S128x3072 .bf16)
    (shapeCast S3072x1024 w shapeCasts_S3072x1024_S3072x1024 : FVec Ideal S3072x1024 .bf16) (constant S128x1024 .f32 0x00000000#32) (ix2 r k) = _
  rw [shapeCast_self, shapeCast_self, show (constant S128x1024 .f32 0x00000000#32 : FVec Ideal S128x1024 .f32) = fun _ => 0 from
    funext fun _ => Ideal.ofBits_zero_f32]
  exact (Ideal.matmul_plain_apply none a w (fun _ => 0) r k).trans (zero_add _)

theorem pay9_apply (r : Fin 128) (k : Fin 1024) : k0_pay9 g w a h (ix2 r k) = last a w h g r k := by
  refine congrArg₂ (fun x y : EReal => x + y) rfl (congrArg₂ (fun x y : EReal => x * y) ((broadcastTo_1b_ab_apply _ _ r k).trans ?_) (pay5_apply a w r k))
  exact congrFun (shapeCast_self _ _) _

theorem pay10_apply (r : Fin 128) (o : Fin 1) : k0_pay10 g w a h (ix2 r o) = rstd (last a w h g r) := by
  show Ideal.rsqrt (Ideal.div ((shapeCast S128x1 _ _ : FVec Ideal S128x1 .f32) (ix2 r o)) cN + cE) = _
  unfold rstd ms
  refine congrArg (fun s => Ideal.rsqrt (Ideal.div s cN + cE)) ((asColumn_apply _ _ r o).trans ((rowSum_apply _ _ _ _ _ _).trans ?_))
  refine Finset.sum_congr rfl fun k _ => ?_
  show k0_pay9 g w a h _ * k0_pay9 g w a h _ = _
  rw [pay9_apply]

theorem pay11_apply (r : Fin 128) (k : Fin 1024) : k0_pay11 (k0_pay9 g w a h) (k0_pay10 g w a h) (ix2 r k) = xhat (last a w h g r) k := by
  unfold xhat
  exact congrArg₂ (fun x y : EReal => x * y) (pay9_apply a w h g r k) ((spread_apply (by decide) _ _ r k).trans (pay10_apply a w h g r 0))

theorem pay13_apply (r : Fin 128) (k : Fin 1024) : k0_pay13 (k0_pay3 f) (k0_pay9 g w a h) (k0_pay10 g w a h) t (ix2 r k)
    = (xhat (last a w h g r) k * f (ix2 (0 : Fin 1) k) - t (ix2 r k)) * cI := by
  refine congrArg₂ (fun x y : EReal => x * y) (congrArg₂ (fun x y : EReal => x - y) (congrArg₂ (fun x y : EReal => x * y)
    (pay11_apply a w h g r k) ((broadcastTo_1b_ab_apply _ _ r k).trans ?_)) rfl) rfl
  exact congrFun (shapeCast_self _ _) _

/-- The gradient on the last residual stream. -/
theorem pay16_apply (r : Fin 128) (k : Fin 1024) : k0_pay16 (k0_pay3 f) (k0_pay9 g w a h) (k0_pay10 g w a h) t (ix2 r k)
    = back (last a w h g r) (onRow a w h t g f r) k := by
  have e : ∀ j : Fin 1024, mulf (F := Ideal) (φ := .f32) (k0_pay13 (k0_pay3 f) (k0_pay9 g w a h) (k0_pay10 g w a h) t)
      (broadcastTo S128x1024 (k0_pay3 f) broadcasts_S1x1024_S128x1024) (ix2 r j) = onRow a w h t g f r j := fun j =>
    congrArg₂ (fun x y : EReal => x * y) (pay13_apply a w h t g f r j) ((broadcastTo_1b_ab_apply _ _ r j).trans (congrFun (shapeCast_self _ _) _))
  refine congrArg₂ (fun x y : EReal => x * y) ((spread_apply (by decide) _ _ r k).trans (pay10_apply a w h g r 0)) ?_
  refine congrArg₂ (fun x y : EReal => x - y) (e k) ?_
  refine congrArg₂ (fun x y : EReal => x * y) (pay11_apply a w h g r k) ((spread_apply (by decide) _ _ r k).trans ?_)
  refine congrArg (fun s => Ideal.div s cN) ((asColumn_apply _ _ r 0).trans ((rowSum_apply _ _ _ _ _ _).trans ?_))
  exact Finset.sum_congr rfl fun j _ => congrArg₂ (fun x y : EReal => x * y) (e j) (pay11_apply a w h g r j)

/-- The gradient on the feed-forward block's output. -/
theorem pay18_apply (r : Fin 128) (k : Fin 1024) :
    k0_pay18 (k0_pay17 (k0_pay2 g) (k0_pay3 f) (k0_pay9 g w a h) (k0_pay10 g w a h) t) (ix2 r k)
    = g (ix2 (0 : Fin 1) k) * back (last a w h g r) (onRow a w h t g f r) k := by
  refine congrArg₂ (fun x y : EReal => x * y) ((broadcastTo_1b_ab_apply _ _ r k).trans ?_) (pay16_apply a w h t g f r k)
  exact congrFun (shapeCast_self _ _) _

end Pays

end Cert.Loss

end
-- ==== Proof.LossRun.lean ====
/-
  One grid point of the loss kernel: what it leaves in its two blocks of 512 tokens, four sub-blocks of 128 at a time.
-/
module

public import proofs.«01_k».proof.Proof.LossBlock
public import proofs.«01_k».proof.Proof.RowStore
public import proofs.«01_k».proof.Proof.Gen.Kernel5Ideal.Value
public import Idealize.ShloMosaic.Lib.Pipeline.ValueKit
public import Idealize.ShloMosaic.Lib.Pointwise

@[expose] public section

set_option maxRecDepth 16384

noncomputable section

namespace Cert.Loss

open Idealize.ShloMosaic hiding ix2 ix3 eq_ix2 eq_ix3
open Cert.Kernel5Ideal Cert.Kernel5Ideal.Gen Idealize.ShloMosaic.TcCoe Idealize.SL.Sem
open Idealize.ShloMosaic.ValueIdx Idealize.ShloMosaic.Pipeline Cert.Kit Cert.NormRow
open scoped BigOperators

/-! ## Blocks of 128 rows -/

section Rows

variable {Val : EltTy → Type} {e : EltTy} {b : ℕ}

/-- The rows from `o` on. -/
abbrev blkR (b o : ℕ) (inb : ∀ x, (![o, 0] : Fin 2 → ℕ) x + (![128, b] : Fin 2 → ℕ) x ≤ (RowStore.Sh 512 b).size x) : Rect (RowStore.Sh 512 b) :=
  Rect.unit (s := RowStore.Sh 512 b) ![o, 0] ![128, b] inb

variable (o : ℕ) (inb : ∀ x, (![o, 0] : Fin 2 → ℕ) x + (![128, b] : Fin 2 → ℕ) x ≤ (RowStore.Sh 512 b).size x)
  (n : Fin 512) (r : Fin 128) (k : Fin b)

theorem emb_blk (h : n.val = o + r.val) : (blkR b o inb).emb (ix2 r k) = ix2 n k := funext fun x => Fin.ext (by
  match x with
  | ⟨0, _⟩ => show o + 1 * r.val = n.val; omega
  | ⟨1, _⟩ => show 0 + 1 * k.val = k.val; omega)

theorem not_mem_blk (h : n.val < o) : (ix2 n k : (RowStore.Sh 512 b).Idx) ∉ (blkR b o inb).set := fun hm => by
  have := (Rect.mem_set_unit.mp hm) 0
  have h0 : o ≤ n.val ∧ n.val < o + 128 := this
  omega

theorem blk_hit [∀ e, Nonempty (Val e)] (w : (blkR b o inb).shape.Idx → Val e) (L : List (View.Piece Val (RowStore.Sh 512 b) e)) (h : n.val = o + r.val) :
    View.canon (⟨blkR b o inb, w⟩ :: L) (ix2 n k) = w (ix2 r k) := by
  rw [← emb_blk o inb n r k h]; exact View.canon_cons_emb _ w L _

theorem blk_miss [∀ e, Nonempty (Val e)] (w : (blkR b o inb).shape.Idx → Val e) (L : List (View.Piece Val (RowStore.Sh 512 b) e)) (h : n.val < o) :
    View.canon (⟨blkR b o inb, w⟩ :: L) (ix2 n k) = View.canon L (ix2 n k) :=
  View.canon_cons_of_not_mem _ L (not_mem_blk o inb n k h)

theorem ld_blk (Z : (RowStore.Sh 512 b).Idx → Val e) (h : n.val = o + r.val) : View.ld Z (blkR b o inb) (ix2 r k) = Z (ix2 n k) :=
  congrArg Z (emb_blk o inb n r k h)

end Rows

variable (m : (ℓ : Loc nD τ sig) → Buf (Elt Ideal) ℓ) (c : Dev nD) (t : Fin cfg0.N)

/-- The blocks a point reads. -/
abbrev act : Vec Ideal S512x3072 .bf16 := iblk m c 0 t
abbrev wd : Vec Ideal S3072x1024 .bf16 := iblk m c 1 t
abbrev h1 : Vec Ideal S512x1024 .f32 := iblk m c 2 t
abbrev tg : Vec Ideal S512x1024 .f32 := iblk m c 3 t
abbrev vecs : Vec Ideal S8x1024 .f32 := iblk m c 4 t
abbrev vg : Vec Ideal S1x1024 .f32 := View.ld (iblk m c 4 t : Vec Ideal S8x1024 .f32) (Rect.unit (s := S8x1024) ![0, 0] ![1, 1024] inb_S8x1024_S1x1024_0_0)
abbrev vf : Vec Ideal S1x1024 .f32 := View.ld (iblk m c 4 t : Vec Ideal S8x1024 .f32) (Rect.unit (s := S8x1024) ![1, 0] ![1, 1024] inb_S8x1024_S1x1024_1_0)

/-- A token's row of the last residual stream. -/
def lastB (n : Fin 512) (k : Fin 1024) : EReal :=
  h1 m c t (ix2 n k) + vg m c t (ix2 (0 : Fin 1) k) * ∑ q : Fin 3072, act m c t (ix2 n q) * wd m c t (ix2 q k)
/-- The gradient on its normalised row. -/
def onRowB (n : Fin 512) (k : Fin 1024) : EReal :=
  (xhat (lastB m c t n) k * vf m c t (ix2 (0 : Fin 1) k) - tg m c t (ix2 n k)) * cI * vf m c t (ix2 (0 : Fin 1) k)

section Sub

variable (o : ℕ) (ia : ∀ x, (![o, 0] : Fin 2 → ℕ) x + (![128, 3072] : Fin 2 → ℕ) x ≤ (RowStore.Sh 512 3072).size x)
  (ib : ∀ x, (![o, 0] : Fin 2 → ℕ) x + (![128, 1024] : Fin 2 → ℕ) x ≤ (RowStore.Sh 512 1024).size x)
  (n : Fin 512) (r : Fin 128) (h : n.val = o + r.val)

/-- A sub-block's reads. -/
abbrev sa : Vec Ideal S128x3072 .bf16 := View.ld (act m c t) (blkR 3072 o ia)
abbrev sh : Vec Ideal S128x1024 .f32 := View.ld (h1 m c t) (blkR 1024 o ib)
abbrev st : Vec Ideal S128x1024 .f32 := View.ld (tg m c t) (blkR 1024 o ib)

/-- What a sub-block stores. -/
abbrev q5 : FVec Ideal S128x1024 .f32 := k0_pay16 (k0_pay3 (vf m c t)) (k0_pay9 (vg m c t) (wd m c t) (sa m c t o ia) (sh m c t o ib))
  (k0_pay10 (vg m c t) (wd m c t) (sa m c t o ia) (sh m c t o ib)) (st m c t o ib)
abbrev q6 : FVec Ideal S128x1024 .bf16 := k0_pay18 (k0_pay17 (k0_pay2 (vg m c t)) (k0_pay3 (vf m c t))
  (k0_pay9 (vg m c t) (wd m c t) (sa m c t o ia) (sh m c t o ib))
  (k0_pay10 (vg m c t) (wd m c t) (sa m c t o ia) (sh m c t o ib)) (st m c t o ib))

include h in
theorem last_eq : last (sa m c t o ia) (wd m c t) (sh m c t o ib) (vg m c t) r = lastB m c t n := funext fun k => by
  refine congrArg₂ (fun x y : EReal => x + y) (ld_blk o ib n r k _ h) (congrArg _ ?_)
  exact Finset.sum_congr rfl fun q _ => congrArg (fun z : EReal => z * wd m c t (ix2 q k)) (ld_blk o ia n r q (act m c t) h)

include h in
theorem onRow_eq : onRow (sa m c t o ia) (wd m c t) (sh m c t o ib) (st m c t o ib) (vg m c t) (vf m c t) r = onRowB m c t n := funext fun k => by
  unfold onRow onRowB
  rw [last_eq m c t o ia ib n r h]
  have e : st m c t o ib (ix2 r k) = tg m c t (ix2 n k) := ld_blk o ib n r k (tg m c t) h
  rw [e]

include h in
theorem q5_apply (k : Fin 1024) : q5 m c t o ia ib (ix2 r k) = back (lastB m c t n) (onRowB m c t n) k := by
  refine (pay16_apply _ _ _ _ _ _ r k).trans ?_
  rw [last_eq m c t o ia ib n r h, onRow_eq m c t o ia ib n r h]

include h in
theorem q6_apply (k : Fin 1024) :
    q6 m c t o ia ib (ix2 r k) = vg m c t (ix2 (0 : Fin 1) k) * back (lastB m c t n) (onRowB m c t n) k := by
  refine (pay18_apply _ _ _ _ _ _ r k).trans ?_
  rw [last_eq m c t o ia ib n r h, onRow_eq m c t o ia ib n r h]

end Sub

/-! The four sub-blocks, last first. -/

theorem outs5_eq : (outsAt0 m c t.val t.isLt).1 = View.canon (Val := Elt Ideal) (s := S512x1024) (e := .f32)
    [⟨blkR 1024 384 inb_S512x1024_S128x1024_384_0, q5 m c t 384 inb_S512x3072_S128x3072_384_0 inb_S512x1024_S128x1024_384_0⟩,
     ⟨blkR 1024 256 inb_S512x1024_S128x1024_256_0, q5 m c t 256 inb_S512x3072_S128x3072_256_0 inb_S512x1024_S128x1024_256_0⟩,
     ⟨blkR 1024 128 inb_S512x1024_S128x1024_128_0, q5 m c t 128 inb_S512x3072_S128x3072_128_0 inb_S512x1024_S128x1024_128_0⟩,
     ⟨blkR 1024 0 inb_S512x1024_S128x1024_0_0, q5 m c t 0 inb_S512x3072_S128x3072_0_0 inb_S512x1024_S128x1024_0_0⟩] := by
  by_cases h : t.val % 8 = 0
  · rw [outsAt0_A m c t h]; frame_out; rfl
  · rw [outsAt0_B m c t h]; frame_out; rfl

theorem outs6_eq : (outsAt0 m c t.val t.isLt).2.1 = View.canon (Val := Elt Ideal) (s := S512x1024) (e := .bf16)
    [⟨blkR 1024 384 inb_S512x1024_S128x1024_384_0, q6 m c t 384 inb_S512x3072_S128x3072_384_0 inb_S512x1024_S128x1024_384_0⟩,
     ⟨blkR 1024 256 inb_S512x1024_S128x1024_256_0, q6 m c t 256 inb_S512x3072_S128x3072_256_0 inb_S512x1024_S128x1024_256_0⟩,
     ⟨blkR 1024 128 inb_S512x1024_S128x1024_128_0, q6 m c t 128 inb_S512x3072_S128x3072_128_0 inb_S512x1024_S128x1024_128_0⟩,
     ⟨blkR 1024 0 inb_S512x1024_S128x1024_0_0, q6 m c t 0 inb_S512x3072_S128x3072_0_0 inb_S512x1024_S128x1024_0_0⟩] := by
  by_cases h : t.val % 8 = 0
  · rw [outsAt0_A m c t h]; frame_out; rfl
  · rw [outsAt0_B m c t h]; frame_out; rfl

/-- An entry of a block stored in four sub-blocks. -/
theorem four {e : EltTy} (w : ∀ (o : ℕ) (ia : ∀ x, (![o, 0] : Fin 2 → ℕ) x + (![128, 3072] : Fin 2 → ℕ) x ≤ (RowStore.Sh 512 3072).size x)
      (ib : ∀ x, (![o, 0] : Fin 2 → ℕ) x + (![128, 1024] : Fin 2 → ℕ) x ≤ (RowStore.Sh 512 1024).size x), S128x1024.Idx → Elt Ideal e)
    (f : Fin 512 → Fin 1024 → Elt Ideal e)
    (hw : ∀ o ia ib (n : Fin 512) (r : Fin 128), n.val = o + r.val → ∀ k, w o ia ib (ix2 r k) = f n k) (n : Fin 512) (k : Fin 1024) :
    View.canon (Val := Elt Ideal) (s := S512x1024) (e := e)
    [⟨blkR 1024 384 inb_S512x1024_S128x1024_384_0, w 384 inb_S512x3072_S128x3072_384_0 inb_S512x1024_S128x1024_384_0⟩,
     ⟨blkR 1024 256 inb_S512x1024_S128x1024_256_0, w 256 inb_S512x3072_S128x3072_256_0 inb_S512x1024_S128x1024_256_0⟩,
     ⟨blkR 1024 128 inb_S512x1024_S128x1024_128_0, w 128 inb_S512x3072_S128x3072_128_0 inb_S512x1024_S128x1024_128_0⟩,
     ⟨blkR 1024 0 inb_S512x1024_S128x1024_0_0, w 0 inb_S512x3072_S128x3072_0_0 inb_S512x1024_S128x1024_0_0⟩] (ix2 n k) = f n k := by
  have hn := n.isLt
  by_cases h3 : 384 ≤ n.val
  · exact (blk_hit (b := 1024) 384 _ n (⟨n.val - 384, by omega⟩ : Fin 128) k _ _ (by show n.val = 384 + (n.val - 384); omega)).trans
      (hw 384 _ _ n _ (by show n.val = 384 + (n.val - 384); omega) k)
  refine (blk_miss (b := 1024) 384 _ n k _ _ (by omega)).trans ?_
  by_cases h2 : 256 ≤ n.val
  · exact (blk_hit (b := 1024) 256 _ n (⟨n.val - 256, by omega⟩ : Fin 128) k _ _ (by show n.val = 256 + (n.val - 256); omega)).trans
      (hw 256 _ _ n _ (by show n.val = 256 + (n.val - 256); omega) k)
  refine (blk_miss (b := 1024) 256 _ n k _ _ (by omega)).trans ?_
  by_cases h1 : 128 ≤ n.val
  · exact (blk_hit (b := 1024) 128 _ n (⟨n.val - 128, by omega⟩ : Fin 128) k _ _ (by show n.val = 128 + (n.val - 128); omega)).trans
      (hw 128 _ _ n _ (by show n.val = 128 + (n.val - 128); omega) k)
  refine (blk_miss (b := 1024) 128 _ n k _ _ (by omega)).trans ?_
  exact (blk_hit (b := 1024) 0 _ n (⟨n.val, by omega⟩ : Fin 128) k _ _ (by show n.val = 0 + n.val; omega)).trans
    (hw 0 _ _ n _ (by show n.val = 0 + n.val; omega) k)

theorem outs5 (n : Fin 512) (k : Fin 1024) :
    (outsAt0 m c t.val t.isLt).1 (ix2 n k) = back (lastB m c t n) (onRowB m c t n) k := by
  have hw : ∀ (o : ℕ) ia ib (n : Fin 512) (r : Fin 128), n.val = o + r.val → ∀ k, q5 m c t o ia ib (ix2 r k) = back (lastB m c t n) (onRowB m c t n) k :=
    fun o ia ib n r h k => q5_apply m c t o ia ib n r h k
  have key := four (e := .f32) (q5 m c t) (fun n k => back (lastB m c t n) (onRowB m c t n) k) hw n k
  rw [outs5_eq]
  exact key

theorem outs6 (n : Fin 512) (k : Fin 1024) : (outsAt0 m c t.val t.isLt).2.1 (ix2 n k)
    = vg m c t (ix2 (0 : Fin 1) k) * back (lastB m c t n) (onRowB m c t n) k := by
  have hw : ∀ (o : ℕ) ia ib (n : Fin 512) (r : Fin 128), n.val = o + r.val → ∀ k,
      q6 m c t o ia ib (ix2 r k) = vg m c t (ix2 (0 : Fin 1) k) * back (lastB m c t n) (onRowB m c t n) k :=
    fun o ia ib n r h k => q6_apply m c t o ia ib n r h k
  have key := four (e := .bf16) (q6 m c t) (fun n k => vg m c t (ix2 (0 : Fin 1) k) * back (lastB m c t n) (onRowB m c t n) k) hw n k
  rw [outs6_eq]
  exact key

end Cert.Loss

end
-- ==== Proof.LossAcc.lean ====
/-
  One grid point of the loss kernel: what it leaves in the block of column sums, three rows written once a sub-block.
-/
module

public import proofs.«01_k».proof.Proof.LossRun

@[expose] public section

set_option maxRecDepth 16384

noncomputable section

namespace Cert.Loss

open Idealize.ShloMosaic hiding ix2 ix3 eq_ix2 eq_ix3
open Cert.Kernel5Ideal Cert.Kernel5Ideal.Gen Idealize.ShloMosaic.TcCoe Idealize.SL.Sem
open Idealize.ShloMosaic.ValueIdx Idealize.ShloMosaic.Pipeline Cert.Kit Cert.NormRow
open scoped BigOperators

/-- `1/2048`. -/
abbrev cJ : EReal := Ideal.ofBits .f32 0x3A000000#32

theorem mul_self_nonneg' (x : EReal) : 0 ≤ x * x := by
  induction x using EReal.rec with
  | bot => simp
  | top => simp
  | coe r => rw [← EReal.coe_mul, EReal.coe_nonneg]; exact mul_self_nonneg r

/-- A sum of squares times a number, square by square. -/
theorem squares_mul {ι : Type} (s : Finset ι) (e : ι → EReal) (z : EReal) :
    (∑ i ∈ s, e i * e i) * z = ∑ i ∈ s, e i * e i * z := by
  classical
  induction s using Finset.induction_on with
  | empty => simp
  | insert a s ha ih =>
    rw [Finset.sum_insert ha, Finset.sum_insert ha, EReal.right_distrib_of_nonneg (mul_self_nonneg' _)
      (Finset.sum_nonneg fun i _ => mul_self_nonneg' _), ih]

section Pays

variable (a : Vec Ideal S128x3072 .bf16) (w : Vec Ideal S3072x1024 .bf16) (h t : Vec Ideal S128x1024 .f32) (g f z : Vec Ideal S1x1024 .f32)

/-- The error. -/
def err (r : Fin 128) (k : Fin 1024) : EReal := xhat (last a w h g r) k * f (ix2 (0 : Fin 1) k) - t (ix2 r k)

theorem pay12_apply (r : Fin 128) (k : Fin 1024) : k0_pay12 (k0_pay3 f) (k0_pay9 g w a h) (k0_pay10 g w a h) t (ix2 r k) = err a w h t g f r k := by
  refine congrArg₂ (fun x y : EReal => x - y) (congrArg₂ (fun x y : EReal => x * y)
    (pay11_apply a w h g r k) ((broadcastTo_1b_ab_apply _ _ r k).trans ?_)) rfl
  exact congrFun (shapeCast_self _ _) _

theorem pay14_apply (k : Fin 1024) : k0_pay14 (k0_pay3 f) (k0_pay9 g w a h) (k0_pay10 g w a h) t z (ix2 (0 : Fin 1) k)
    = z (ix2 (0 : Fin 1) k) + ∑ r : Fin 128, err a w h t g f r k * err a w h t g f r k * cJ := by
  refine (congrArg₂ (fun x y : EReal => x + y * cJ) (congrFun (shapeCast_self _ _) _) ((shapeCast_a_1a_apply _ _ _ _).trans
    ((colSum_apply _ 0x00000000#32 _ (.inl rfl) rfl _).trans (Finset.sum_congr rfl fun r _ => ?_)))).trans (congrArg _ (squares_mul _ (fun r => err a w h t g f r k) _))
  exact congrArg₂ (fun x y : EReal => x * y) (pay12_apply a w h t g f r k) (pay12_apply a w h t g f r k)

theorem pay15_apply (k : Fin 1024) : k0_pay15 (k0_pay3 f) (k0_pay9 g w a h) (k0_pay10 g w a h) t z (ix2 (0 : Fin 1) k)
    = z (ix2 (0 : Fin 1) k) + ∑ r : Fin 128, err a w h t g f r k * cI * xhat (last a w h g r) k := by
  refine congrArg₂ (fun x y : EReal => x + y) (congrFun (shapeCast_self _ _) _) ((shapeCast_a_1a_apply _ _ _ _).trans
    ((colSum_apply _ 0x00000000#32 _ (.inl rfl) rfl _).trans (Finset.sum_congr rfl fun r _ => ?_)))
  exact congrArg₂ (fun x y : EReal => x * y) (pay13_apply a w h t g f r k) (pay11_apply a w h g r k)

theorem pay19_apply (k : Fin 1024) : k0_pay19 (k0_pay5 w a) (k0_pay16 (k0_pay3 f) (k0_pay9 g w a h) (k0_pay10 g w a h) t) z (ix2 (0 : Fin 1) k)
    = z (ix2 (0 : Fin 1) k) + ∑ r : Fin 128, back (last a w h g r) (onRow a w h t g f r) k * ffn a w r k := by
  refine congrArg₂ (fun x y : EReal => x + y) (congrFun (shapeCast_self _ _) _) ((shapeCast_a_1a_apply _ _ _ _).trans
    ((colSum_apply _ 0x00000000#32 _ (.inl rfl) rfl _).trans (Finset.sum_congr rfl fun r _ => ?_)))
  exact congrArg₂ (fun x y : EReal => x * y) (pay16_apply a w h t g f r k) (pay5_apply a w r k)

end Pays

variable (m : (ℓ : Loc nD τ sig) → Buf (Elt Ideal) ℓ) (c : Dev nD) (t : Fin cfg0.N)

/-- What a token adds to the column sums. -/
def termB (q : Fin 8) (n : Fin 512) (k : Fin 1024) : EReal :=
  match q with
  | 0 => back (lastB m c t n) (onRowB m c t n) k * ∑ q : Fin 3072, act m c t (ix2 n q) * wd m c t (ix2 q k)
  | 1 => (xhat (lastB m c t n) k * vf m c t (ix2 (0 : Fin 1) k) - tg m c t (ix2 n k)) * cI * xhat (lastB m c t n) k
  | 2 => (xhat (lastB m c t n) k * vf m c t (ix2 (0 : Fin 1) k) - tg m c t (ix2 n k))
      * (xhat (lastB m c t n) k * vf m c t (ix2 (0 : Fin 1) k) - tg m c t (ix2 n k)) * cJ
  | _ => 0

section Sub

variable (o : ℕ) (ia : ∀ x, (![o, 0] : Fin 2 → ℕ) x + (![128, 3072] : Fin 2 → ℕ) x ≤ (RowStore.Sh 512 3072).size x)
  (ib : ∀ x, (![o, 0] : Fin 2 → ℕ) x + (![128, 1024] : Fin 2 → ℕ) x ≤ (RowStore.Sh 512 1024).size x) (ho : o + 128 ≤ 512)

/-- What a sub-block adds. -/
def part (q : Fin 8) (k : Fin 1024) : EReal := ∑ r : Fin 128, termB m c t q ⟨o + r.val, by omega⟩ k

/-- The three rows a sub-block stores, over the row `z`. -/
abbrev p2 (z : Vec Ideal S1x1024 .f32) : FVec Ideal S1x1024 .f32 := k0_pay14 (k0_pay3 (vf m c t)) (k0_pay9 (vg m c t) (wd m c t) (sa m c t o ia) (sh m c t o ib))
  (k0_pay10 (vg m c t) (wd m c t) (sa m c t o ia) (sh m c t o ib)) (st m c t o ib) z
abbrev p1 (z : Vec Ideal S1x1024 .f32) : FVec Ideal S1x1024 .f32 := k0_pay15 (k0_pay3 (vf m c t)) (k0_pay9 (vg m c t) (wd m c t) (sa m c t o ia) (sh m c t o ib))
  (k0_pay10 (vg m c t) (wd m c t) (sa m c t o ia) (sh m c t o ib)) (st m c t o ib) z
abbrev p0 (z : Vec Ideal S1x1024 .f32) : FVec Ideal S1x1024 .f32 := k0_pay19 (k0_pay5 (wd m c t) (sa m c t o ia)) (q5 m c t o ia ib) z

theorem err_eq (n : Fin 512) (r : Fin 128) (h : n.val = o + r.val) (k : Fin 1024) :
    err (sa m c t o ia) (wd m c t) (sh m c t o ib) (st m c t o ib) (vg m c t) (vf m c t) r k
      = xhat (lastB m c t n) k * vf m c t (ix2 (0 : Fin 1) k) - tg m c t (ix2 n k) := by
  unfold err
  have e : st m c t o ib (ix2 r k) = tg m c t (ix2 n k) := ld_blk o ib n r k (tg m c t) h
  rw [last_eq m c t o ia ib n r h, e]

theorem ffn_eq (n : Fin 512) (r : Fin 128) (h : n.val = o + r.val) (k : Fin 1024) :
    ffn (sa m c t o ia) (wd m c t) r k = ∑ q : Fin 3072, act m c t (ix2 n q) * wd m c t (ix2 q k) :=
  Finset.sum_congr rfl fun q _ => congrArg (fun z : EReal => z * wd m c t (ix2 q k)) (ld_blk o ia n r q (act m c t) h)

theorem p2_apply (z : Vec Ideal S1x1024 .f32) (k : Fin 1024) :
    p2 m c t o ia ib z (ix2 (0 : Fin 1) k) = z (ix2 (0 : Fin 1) k) + part m c t o ho 2 k := by
  refine (pay14_apply _ _ _ _ _ _ z k).trans (congrArg _ (Finset.sum_congr rfl fun r _ => ?_))
  rw [err_eq m c t o ia ib ⟨o + r.val, by omega⟩ r rfl k]; rfl

theorem p1_apply (z : Vec Ideal S1x1024 .f32) (k : Fin 1024) :
    p1 m c t o ia ib z (ix2 (0 : Fin 1) k) = z (ix2 (0 : Fin 1) k) + part m c t o ho 1 k := by
  refine (pay15_apply _ _ _ _ _ _ z k).trans (congrArg _ (Finset.sum_congr rfl fun r _ => ?_))
  rw [err_eq m c t o ia ib ⟨o + r.val, by omega⟩ r rfl k, last_eq m c t o ia ib ⟨o + r.val, by omega⟩ r rfl]; rfl

theorem p0_apply (z : Vec Ideal S1x1024 .f32) (k : Fin 1024) :
    p0 m c t o ia ib z (ix2 (0 : Fin 1) k) = z (ix2 (0 : Fin 1) k) + part m c t o ho 0 k := by
  refine (pay19_apply _ _ _ _ _ _ z k).trans (congrArg _ (Finset.sum_congr rfl fun r _ => ?_))
  rw [last_eq m c t o ia ib ⟨o + r.val, by omega⟩ r rfl, onRow_eq m c t o ia ib ⟨o + r.val, by omega⟩ r rfl,
    ffn_eq m c t o ia ⟨o + r.val, by omega⟩ r rfl k]; rfl

/-- The rows and their rectangles. -/
abbrev Rows := List (View.Piece (Elt Ideal) S8x1024 .f32)
abbrev r0 : Rect S8x1024 := RowStore.rowR (a := 8) (b := 1024) 0 inb_S8x1024_S1x1024_0_0
abbrev r1 : Rect S8x1024 := RowStore.rowR (a := 8) (b := 1024) 1 inb_S8x1024_S1x1024_1_0
abbrev r2 : Rect S8x1024 := RowStore.rowR (a := 8) (b := 1024) 2 inb_S8x1024_S1x1024_2_0

/-- A sub-block's stores over earlier ones. -/
def step2 (L : Rows) : Rows := ⟨r2, p2 m c t o ia ib ((ms0_7 t).view.readCov L r2.toLoadRect)⟩ :: L
def step1 (L : Rows) : Rows := ⟨r1, p1 m c t o ia ib ((ms0_7 t).view.readCov (step2 m c t o ia ib L) r1.toLoadRect)⟩ :: step2 m c t o ia ib L
def step (L : Rows) : Rows := ⟨r0, p0 m c t o ia ib ((ms0_7 t).view.readCov (step1 m c t o ia ib L) r0.toLoadRect)⟩ :: step1 m c t o ia ib L

variable (L : Rows) (k : Fin 1024)

theorem s2_hit : View.canon (step2 m c t o ia ib L) (ix2 (2 : Fin 8) k) = View.canon L (ix2 (2 : Fin 8) k) + part m c t o ho 2 k :=
  (RowStore.canon_hit (a := 8) (b := 1024) 2 _ 2 k _ _ (by decide)).trans ((p2_apply m c t o ia ib ho _ k).trans
    (congrArg (· + _) (RowStore.load_apply (a := 8) (b := 1024) 2 _ 2 k _ _ (by decide))))
theorem s2_miss (q : Fin 8) (h : 2 ≠ q.val) : View.canon (step2 m c t o ia ib L) (ix2 q k) = View.canon L (ix2 q k) :=
  RowStore.canon_miss (a := 8) (b := 1024) 2 _ q k _ _ h
theorem s1_hit : View.canon (step1 m c t o ia ib L) (ix2 (1 : Fin 8) k) = View.canon L (ix2 (1 : Fin 8) k) + part m c t o ho 1 k :=
  (RowStore.canon_hit (a := 8) (b := 1024) 1 _ 1 k _ _ (by decide)).trans ((p1_apply m c t o ia ib ho _ k).trans
    (congrArg (· + _) ((RowStore.load_apply (a := 8) (b := 1024) 1 _ 1 k _ _ (by decide)).trans (s2_miss m c t o ia ib L k 1 (by decide)))))
theorem s1_miss (q : Fin 8) (h : 1 ≠ q.val) : View.canon (step1 m c t o ia ib L) (ix2 q k) = View.canon (step2 m c t o ia ib L) (ix2 q k) :=
  RowStore.canon_miss (a := 8) (b := 1024) 1 _ q k _ _ h
theorem s0_load : (ms0_7 t).view.readCov (step1 m c t o ia ib L) r0.toLoadRect (ix2 (0 : Fin 1) k) = View.canon L (ix2 (0 : Fin 8) k) :=
  (RowStore.load_apply (a := 8) (b := 1024) 0 _ 0 k _ _ (by decide)).trans
    ((s1_miss m c t o ia ib L k 0 (by decide)).trans (s2_miss m c t o ia ib L k 0 (by decide)))
theorem s0_hit : View.canon (step m c t o ia ib L) (ix2 (0 : Fin 8) k) = View.canon L (ix2 (0 : Fin 8) k) + part m c t o ho 0 k :=
  (RowStore.canon_hit (a := 8) (b := 1024) 0 _ 0 k _ _ (by decide)).trans ((p0_apply m c t o ia ib ho _ k).trans
    (congrArg (· + _) (s0_load m c t o ia ib L k)))
theorem s0_miss (q : Fin 8) (h : 0 ≠ q.val) : View.canon (step m c t o ia ib L) (ix2 q k) = View.canon (step1 m c t o ia ib L) (ix2 q k) :=
  RowStore.canon_miss (a := 8) (b := 1024) 0 _ q k _ _ h

theorem step_apply (q : Fin 8) : View.canon (step m c t o ia ib L) (ix2 q k) = View.canon L (ix2 q k) + part m c t o ho q k := by
  match q with
  | 0 => exact s0_hit m c t o ia ib ho L k
  | 1 => exact (s0_miss m c t o ia ib L k 1 (by decide)).trans (s1_hit m c t o ia ib ho L k)
  | 2 => exact (s0_miss m c t o ia ib L k 2 (by decide)).trans ((s1_miss m c t o ia ib L k 2 (by decide)).trans (s2_hit m c t o ia ib ho L k))
  | ⟨q + 3, hq⟩ =>
    refine (s0_miss m c t o ia ib L k _ (by show 0 ≠ q + 3; omega)).trans ((s1_miss m c t o ia ib L k _ (by show 1 ≠ q + 3; omega)).trans
      ((s2_miss m c t o ia ib L k _ (by show 2 ≠ q + 3; omega)).trans ?_))
    rw [show part m c t o ho ⟨q + 3, hq⟩ k = 0 from Finset.sum_const_zero, add_zero]

end Sub

/-- What a point adds. -/
def partB (q : Fin 8) (k : Fin 1024) : EReal := ∑ n : Fin 512, termB m c t q n k

theorem sum_four (f : Fin 512 → EReal) (z : EReal) :
    z + (∑ r : Fin 128, f ⟨0 + r.val, by omega⟩) + (∑ r : Fin 128, f ⟨128 + r.val, by omega⟩) + (∑ r : Fin 128, f ⟨256 + r.val, by omega⟩)
      + (∑ r : Fin 128, f ⟨384 + r.val, by omega⟩) = z + ∑ n, f n := by
  rw [add_assoc, add_assoc, add_assoc]
  congr 1
  have e : ∑ n, f n = ∑ s : Fin 4, ∑ r : Fin 128, f ⟨128 * s.val + r.val, by omega⟩ := by
    rw [← Fintype.sum_prod_type' (f := fun (s : Fin 4) (r : Fin 128) => f ⟨128 * s.val + r.val, by omega⟩)]
    refine (Fintype.sum_equiv (finProdFinEquiv (m := 4) (n := 128)) _ _ fun p => congrArg f (Fin.ext ?_)).symm
    show 128 * p.1.val + p.2.val = p.2.val + 128 * p.1.val
    omega
  rw [e, Fin.sum_univ_four, add_assoc, add_assoc]
  rfl

theorem pay1_apply (i : S8x1024.Idx) : k0_pay1 (F := Ideal) i = 0 := Ideal.ofBits_zero_f32

/-- The stores of the first point. -/
theorem outs7_eqA (h : t.val % 8 = 0) : (outsAt0 m c t.val t.isLt).2.2 = View.canon
    (step m c t 384 inb_S512x3072_S128x3072_384_0 inb_S512x1024_S128x1024_384_0
    (step m c t 256 inb_S512x3072_S128x3072_256_0 inb_S512x1024_S128x1024_256_0
    (step m c t 128 inb_S512x3072_S128x3072_128_0 inb_S512x1024_S128x1024_128_0
    (step m c t 0 inb_S512x3072_S128x3072_0_0 inb_S512x1024_S128x1024_0_0
      [⟨Rect.unit (s := S8x1024) ![0, 0] ![8, 1024] inb_S8x1024_S8x1024_0_0, k0_pay1 (F := Ideal)⟩])))) := by
  rw [outsAt0_A m c t h]; frame_out; rfl

theorem outs7_A (h : t.val % 8 = 0) (q : Fin 8) (k : Fin 1024) :
    (outsAt0 m c t.val t.isLt).2.2 (ix2 q k) = 0 + partB m c t q k := by
  rw [outs7_eqA m c t h]
  rw [step_apply m c t 384 _ _ (by omega), step_apply m c t 256 _ _ (by omega), step_apply m c t 128 _ _ (by omega), step_apply m c t 0 _ _ (by omega)]
  rw [show View.canon (Val := Elt Ideal) (s := S8x1024) (e := .f32) [⟨Rect.unit (s := S8x1024) ![0, 0] ![8, 1024] inb_S8x1024_S8x1024_0_0, k0_pay1 (F := Ideal)⟩] (ix2 q k) = (0 : EReal) from
    (RowStore.canon_fill (a := 8) (b := 1024) _ _ _ _).trans (pay1_apply _)]
  exact sum_four (fun n => termB m c t q n k) 0

section Over

/-- What the point before left, and the rows of it the first sub-block adds to. -/
abbrev prev : Vec Ideal S8x1024 .f32 := (outsAt0 m c (t.val - 1) (Nat.lt_of_le_of_lt (Nat.sub_le _ _) t.isLt)).2.2
abbrev base : Rows :=
  [⟨r0, p0 m c t 0 inb_S512x3072_S128x3072_0_0 inb_S512x1024_S128x1024_0_0 (View.ld (prev m c t) r0)⟩,
   ⟨r1, p1 m c t 0 inb_S512x3072_S128x3072_0_0 inb_S512x1024_S128x1024_0_0 (View.ld (prev m c t) r1)⟩,
   ⟨r2, p2 m c t 0 inb_S512x3072_S128x3072_0_0 inb_S512x1024_S128x1024_0_0 (View.ld (prev m c t) r2)⟩]

theorem base_apply (q : Fin 8) (hq : q.val < 3) (k : Fin 1024) :
    View.canon (base m c t) (ix2 q k) = prev m c t (ix2 q k) + part m c t 0 (by omega) q k := by
  match q, hq with
  | 0, _ =>
    exact (RowStore.canon_hit (a := 8) (b := 1024) 0 _ 0 k _ _ (by decide)).trans ((p0_apply m c t 0 _ _ (by omega) _ k).trans
      (congrArg (· + _) (RowStore.ld_row (a := 8) (b := 1024) 0 _ 0 k (prev m c t) (by decide))))
  | 1, _ =>
    exact (RowStore.canon_miss (a := 8) (b := 1024) 0 _ 1 k _ _ (by decide)).trans ((RowStore.canon_hit (a := 8) (b := 1024) 1 _ 1 k _ _ (by decide)).trans
      ((p1_apply m c t 0 _ _ (by omega) _ k).trans
      (congrArg (· + _) (RowStore.ld_row (a := 8) (b := 1024) 1 _ 1 k (prev m c t) (by decide)))))
  | 2, _ =>
    exact (RowStore.canon_miss (a := 8) (b := 1024) 0 _ 2 k _ _ (by decide)).trans ((RowStore.canon_miss (a := 8) (b := 1024) 1 _ 2 k _ _ (by decide)).trans
      ((RowStore.canon_hit (a := 8) (b := 1024) 2 _ 2 k _ _ (by decide)).trans
      ((p2_apply m c t 0 _ _ (by omega) _ k).trans
      (congrArg (· + _) (RowStore.ld_row (a := 8) (b := 1024) 2 _ 2 k (prev m c t) (by decide))))))
  | ⟨q + 3, _⟩, hq => exact absurd hq (by show ¬q + 3 < 3; omega)

/-- The stores of every other point. -/
abbrev stack : Rows :=
  step m c t 384 inb_S512x3072_S128x3072_384_0 inb_S512x1024_S128x1024_384_0
    (step m c t 256 inb_S512x3072_S128x3072_256_0 inb_S512x1024_S128x1024_256_0
    (step m c t 128 inb_S512x3072_S128x3072_128_0 inb_S512x1024_S128x1024_128_0 (base m c t)))

theorem outs7_eqB (h : ¬t.val % 8 = 0) : (outsAt0 m c t.val t.isLt).2.2
    = (ms0_7 t).view.read (Elt Ideal) ((ms0_7 t).view.writes (Elt Ideal) ((hs0_7 t).unread (prev m c t)) (stack m c t)) := by
  rw [outsAt0_B m c t h]; frame_out; rfl

/-- On the three rows the last stores decide; the others keep what they held. -/
theorem read_step (o : ℕ) (ia : ∀ x, (![o, 0] : Fin 2 → ℕ) x + (![128, 3072] : Fin 2 → ℕ) x ≤ (RowStore.Sh 512 3072).size x)
    (ib : ∀ x, (![o, 0] : Fin 2 → ℕ) x + (![128, 1024] : Fin 2 → ℕ) x ≤ (RowStore.Sh 512 1024).size x) (L : Rows)
    (f : (ms0_7 t).view.ty.Contents (Elt Ideal)) (q : Fin 8) (hq : q.val < 3) (k : Fin 1024) :
    (ms0_7 t).view.read (Elt Ideal) ((ms0_7 t).view.writes (Elt Ideal) f (step m c t o ia ib L)) (ix2 q k)
      = View.canon (step m c t o ia ib L) (ix2 q k) := by
  match q, hq with
  | 0, _ =>
    have e : View.canon (step m c t o ia ib L) (ix2 (0 : Fin 8) k) = p0 m c t o ia ib ((ms0_7 t).view.readCov (step1 m c t o ia ib L) r0.toLoadRect) (ix2 (0 : Fin 1) k) :=
      RowStore.canon_hit (a := 8) (b := 1024) 0 _ 0 k _ _ (by decide)
    rw [e]
    exact RowStore.read_hit (a := 8) (b := 1024) 0 _ 0 k _ f _ _ (by decide)
  | 1, _ =>
    have e : View.canon (step1 m c t o ia ib L) (ix2 (1 : Fin 8) k) = p1 m c t o ia ib ((ms0_7 t).view.readCov (step2 m c t o ia ib L) r1.toLoadRect) (ix2 (0 : Fin 1) k) :=
      RowStore.canon_hit (a := 8) (b := 1024) 1 _ 1 k _ _ (by decide)
    rw [s0_miss m c t o ia ib L k 1 (by decide), e]
    exact (RowStore.read_miss (a := 8) (b := 1024) 0 _ 1 k _ f _ _ (by decide)).trans
      (RowStore.read_hit (a := 8) (b := 1024) 1 _ 1 k _ f _ _ (by decide))
  | 2, _ =>
    have e : View.canon (step2 m c t o ia ib L) (ix2 (2 : Fin 8) k) = p2 m c t o ia ib ((ms0_7 t).view.readCov L r2.toLoadRect) (ix2 (0 : Fin 1) k) :=
      RowStore.canon_hit (a := 8) (b := 1024) 2 _ 2 k _ _ (by decide)
    rw [s0_miss m c t o ia ib L k 2 (by decide), s1_miss m c t o ia ib L k 2 (by decide), e]
    exact (RowStore.read_miss (a := 8) (b := 1024) 0 _ 2 k _ f _ _ (by decide)).trans
      ((RowStore.read_miss (a := 8) (b := 1024) 1 _ 2 k _ f _ _ (by decide)).trans
      (RowStore.read_hit (a := 8) (b := 1024) 2 _ 2 k _ f _ _ (by decide)))
  | ⟨q + 3, _⟩, hq => exact absurd hq (by show ¬q + 3 < 3; omega)

theorem miss3 (w0 w1 w2 : FVec Ideal S1x1024 .f32) (L : Rows)
    (f : (ms0_7 t).view.ty.Contents (Elt Ideal)) (q : Fin 8) (hq : 3 ≤ q.val) (k : Fin 1024) :
    (ms0_7 t).view.read (Elt Ideal) ((ms0_7 t).view.writes (Elt Ideal) f (⟨r0, w0⟩ :: ⟨r1, w1⟩ :: ⟨r2, w2⟩ :: L)) (ix2 q k)
      = (ms0_7 t).view.read (Elt Ideal) ((ms0_7 t).view.writes (Elt Ideal) f L) (ix2 q k) :=
  (RowStore.read_miss (a := 8) (b := 1024) 0 _ q k _ f _ _ (by omega)).trans
    ((RowStore.read_miss (a := 8) (b := 1024) 1 _ q k _ f _ _ (by omega)).trans
    (RowStore.read_miss (a := 8) (b := 1024) 2 _ q k _ f _ _ (by omega)))

/-- Every other point adds to what the point before it left. -/
theorem outs7_B (h : ¬t.val % 8 = 0) (q : Fin 8) (k : Fin 1024) :
    (outsAt0 m c t.val t.isLt).2.2 (ix2 q k) = prev m c t (ix2 q k) + partB m c t q k := by
  rw [outs7_eqB m c t h]
  by_cases hq : q.val < 3
  · rw [read_step m c t _ _ _ _ _ q hq k, step_apply m c t 384 _ _ (by omega), step_apply m c t 256 _ _ (by omega),
      step_apply m c t 128 _ _ (by omega), base_apply m c t q hq k]
    exact sum_four (fun n => termB m c t q n k) _
  · have hq' : 3 ≤ q.val := by omega
    refine (miss3 t _ _ _ _ _ q hq' k).trans ((miss3 t _ _ _ _ _ q hq' k).trans ((miss3 t _ _ _ _ _ q hq' k).trans ((miss3 t _ _ _ _ _ q hq' k).trans ?_)))
    refine (congrFun (Memref.IsWhole.read_unread (hs0_7 t) _) _).trans ?_
    match q, hq' with
    | ⟨q + 3, _⟩, _ => exact ((congrArg (_ + ·) (Finset.sum_const_zero)).trans (add_zero _)).symm

end Over

/-- So the sums after point `n` are the parts of the points so far. -/
theorem outs7 (q : Fin 8) (k : Fin 1024) : ∀ (n : ℕ) (hn : n < cfg0.N),
    (outsAt0 m c n hn).2.2 (ix2 q k) = ∑ s : Fin (n + 1), partB m c ⟨s.val, Nat.lt_of_lt_of_le s.isLt hn⟩ q k
  | 0, hn => by
    rw [Fin.sum_univ_one]
    exact (outs7_A m c ⟨0, hn⟩ rfl q k).trans (zero_add _)
  | n + 1, hn => by
    have hN : cfg0.N = 8 := N_0
    rw [Fin.sum_univ_castSucc]
    refine (outs7_B m c ⟨n + 1, hn⟩ (by show ¬(n + 1) % 8 = 0; omega) q k).trans (congrArg (· + _) ?_)
    exact outs7 q k n (Nat.lt_of_succ_lt hn)

end Cert.Loss

end
-- ==== Proof.LossRead.lean ====
/-
  The loss kernel: what its points read, as functions of the arguments. A token's row of the last residual stream is
  `h + g · (a · w)`, and the loss, its gradients and the terms of the column sums are written here of the arguments alone.
-/
module

public import proofs.«01_k».proof.Proof.LossAcc
public import proofs.«01_k».proof.Proof.SwigluHost

@[expose] public section

set_option maxRecDepth 16384

noncomputable section

namespace Cert.Loss

open Idealize.ShloMosaic hiding ix2 ix3 eq_ix2 eq_ix3
open Cert.Kernel5Ideal Cert.Kernel5Ideal.Gen Idealize.ShloMosaic.TcCoe Idealize.SL.Sem
open Idealize.ShloMosaic.ValueIdx Idealize.ShloMosaic.Pipeline Cert.Kit Cert.NormRow
open Cert.Swiglu (padZero padZero_eq wide_apply slab_apply rowsB_apply hid)
open scoped BigOperators

/-! ## The results, of the arguments -/

section Args

variable (a : S4096x2816.Idx → EReal) (w : S2816x1024.Idx → EReal) (h t : S4096x1024.Idx → EReal) (g f : S1x1024.Idx → EReal)

/-- The feed-forward block's output. -/
def ffnA (n : Fin 4096) (k : Fin 1024) : EReal := ∑ q : Fin 2816, a (ix2 n q) * w (ix2 q k)
/-- The last residual stream. -/
def resid (n : Fin 4096) (k : Fin 1024) : EReal := h (ix2 n k) + g (ix2 (0 : Fin 1) k) * ffnA a w n k
/-- The error of the normalised row. -/
def errA (n : Fin 4096) (k : Fin 1024) : EReal := xhat (resid a w h g n) k * f (ix2 (0 : Fin 1) k) - t (ix2 n k)
/-- The gradient on the normalised row. -/
def onNorm (n : Fin 4096) (k : Fin 1024) : EReal := errA a w h t g f n k * cI * f (ix2 (0 : Fin 1) k)
/-- The gradient on the residual stream. -/
def onResid (n : Fin 4096) (k : Fin 1024) : EReal := back (resid a w h g n) (onNorm a w h t g f n) k
/-- What a token adds to the column sums. -/
def term (q : Fin 8) (n : Fin 4096) (k : Fin 1024) : EReal :=
  match q with
  | 0 => onResid a w h t g f n k * ffnA a w n k
  | 1 => errA a w h t g f n k * cI * xhat (resid a w h g n) k
  | 2 => errA a w h t g f n k * errA a w h t g f n k * cJ
  | _ => 0

end Args

/-! ## The arrays the windows read -/

section Run

variable (m : (ℓ : Loc nD τ sig) → Buf (Elt Ideal) ℓ) (c : Dev nD)

abbrev aA : S4096x2816.Idx → EReal := m ((c : Thread nD τ).loc main_arg0)
abbrev aW : S2816x1024.Idx → EReal := m ((c : Thread nD τ).loc main_arg1)
abbrev aH : S4096x1024.Idx → EReal := m ((c : Thread nD τ).loc main_arg2)
abbrev aT : S4096x1024.Idx → EReal := m ((c : Thread nD τ).loc main_arg3)
abbrev aG : S1x1024.Idx → EReal := m ((c : Thread nD τ).loc main_arg4)
abbrev aF : S1x1024.Idx → EReal := m ((c : Thread nD τ).loc main_arg5)

/-- The padding value of the activation. -/
abbrev padB : S_.Idx → EReal := sitofp (F := Ideal) .bf16 (constantI S_ 32 0#32)

theorem padB_eq (i : S_.Idx) : padB i = 0 := by
  show (((0#32 : BitVec 32).toInt : ℝ) : EReal) = 0
  simp

theorem V_v2 : V m c main_v2 = shapeCast S4096x3072 (pad S4096x4x768 ![0, 0, 0] ![0, 0, 64] ![0, 0, 0]
    (shapeCast S4096x4x704 (aA m c) shapeCasts_S4096x2816_S4096x4x704)
    padB pads_S4096x4x704_S4096x4x768_000_000_0640 h_S_) shapeCasts_S4096x4x768_S4096x3072 := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v8 : V m c main_v8 = shapeCast S3072x1024 (truncf (F := Ideal) .bf16 (pad S4x768x1024 ![0, 0, 0] ![0, 64, 0] ![0, 0, 0]
    (shapeCast S4x704x1024 (aW m c) shapeCasts_S2816x1024_S4x704x1024)
    padZero pads_S4x704x1024_S4x768x1024_000_0640_000 h_S_) bitsLt_bf16_f32) shapeCasts_S4x768x1024_S3072x1024 := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

/-- A row of zeros under the two vectors. -/
abbrev zrow : S1x1024.Idx → EReal :=
  broadcastInDim S1x1024 ![] bcast_S_S1x1024 (constant (F := Ideal) S_ .f32 0x00000000#32)

theorem V_v4 : V m c main_v4 = concatenate S8x1024 0 [⟨S1x1024, aG m c⟩, ⟨S1x1024, aF m c⟩, ⟨S1x1024, zrow⟩,
      ⟨S1x1024, zrow⟩, ⟨S1x1024, zrow⟩, ⟨S1x1024, zrow⟩, ⟨S1x1024, zrow⟩, ⟨S1x1024, zrow⟩]
    concatenates_S1x1024_S1x1024_S1x1024_S1x1024_S1x1024_S1x1024_S1x1024_S1x1024_S8x1024_d0 := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem v2_apply (n : Fin 4096) (q : Fin 3072) : V m c main_v2 (ix2 n q) = pick (fun j => aA m c (ix2 n j)) q :=
  (congrFun (V_v2 m c) (ix2 n q)).trans (wide_apply _ _ padB_eq shapeCasts_S4096x2816_S4096x4x704 pads_S4096x4x704_S4096x4x768_000_000_0640 h_S_
    shapeCasts_S4096x4x768_S4096x3072 n q)

theorem v8_apply (q : Fin 3072) (k : Fin 1024) : V m c main_v8 (ix2 q k) = pick (fun j => aW m c (ix2 j k)) q :=
  (congrFun (V_v8 m c) (ix2 q k)).trans (rowsB_apply _ shapeCasts_S4x768x1024_S3072x1024 (aW m c)
    (fun j k d => slab_apply _ _ padZero_eq shapeCasts_S2816x1024_S4x704x1024 pads_S4x704x1024_S4x768x1024_000_0640_000 h_S_ j k d) q k)

theorem v4_row0 (k : Fin 1024) : V m c main_v4 (ix2 (0 : Fin 8) k) = aG m c (ix2 (0 : Fin 1) k) :=
  (congrFun (V_v4 m c) _).trans (concatenate_apply_piece (t := S8x1024) 0 _ _ (ix2 (0 : Fin 8) k) 0 (by show 0 < 8; omega) S1x1024 (aG m c) rfl rfl
    0 rfl (ix2 (0 : Fin 1) k) (fun x hx => by
      match x with
      | ⟨0, _⟩ => exact absurd rfl hx
      | ⟨1, _⟩ => rfl) rfl)

theorem v4_row1 (k : Fin 1024) : V m c main_v4 (ix2 (1 : Fin 8) k) = aF m c (ix2 (0 : Fin 1) k) :=
  (congrFun (V_v4 m c) _).trans (concatenate_apply_piece (t := S8x1024) 0 _ _ (ix2 (1 : Fin 8) k) 1 (by show 1 < 8; omega) S1x1024 (aF m c) rfl rfl
    1 rfl (ix2 (0 : Fin 1) k) (fun x hx => by
      match x with
      | ⟨0, _⟩ => exact absurd rfl hx
      | ⟨1, _⟩ => rfl) rfl)

/-- A product over the padded columns. -/
theorem sum_pad (x : Fin 2816 → EReal) : ∑ q : Fin 3072, pick x q = ∑ j, x j := by
  rw [← sum_pick x, ← Fintype.sum_prod_type' (f := fun (j : Fin 4) (k : Fin 768) => pick x ⟨768 * j.val + k.val, by omega⟩)]
  refine (Fintype.sum_equiv (finProdFinEquiv (m := 4) (n := 768)) _ _ fun p => congrArg (pick x) (Fin.ext ?_)).symm
  show 768 * p.1.val + p.2.val = p.2.val + 768 * p.1.val
  omega

/-! ## The blocks -/

theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0) :=
  (by decide +kernel : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0))

theorem osize : ∀ t : Fin cfg0.N, (win0_5.xsize (grid0.coords t) 0 = 512 ∧ win0_5.xsize (grid0.coords t) 1 = 1024)
    ∧ (win0_6.xsize (grid0.coords t) 0 = 512 ∧ win0_6.xsize (grid0.coords t) 1 = 1024)
    ∧ (win0_7.xsize (grid0.coords t) 0 = 8 ∧ win0_7.xsize (grid0.coords t) 1 = 1024) :=
  (by decide +kernel : ∀ t : Fin grid0.N, (win0_5.xsize (grid0.coords t) 0 = 512 ∧ win0_5.xsize (grid0.coords t) 1 = 1024)
    ∧ (win0_6.xsize (grid0.coords t) 0 = 512 ∧ win0_6.xsize (grid0.coords t) 1 = 1024)
    ∧ (win0_7.xsize (grid0.coords t) 0 = 8 ∧ win0_7.xsize (grid0.coords t) 1 = 1024))

section Point

variable (t : Fin cfg0.N) (r : Fin 512) (n : Fin 4096) (hn : n.val = 512 * t.val + r.val)

include hn in
theorem read_act (k : Fin 3072) : act m c t (ix2 r k) = V m c main_v2 (ix2 n k) := by
  obtain ⟨⟨e0, e1⟩, -⟩ := idx t
  unfold act iblk
  rw [View.read_apply]
  show V m c main_v2 _ = V m c main_v2 _
  refine congrArg (V m c main_v2) (funext fun a => Fin.ext ?_)
  match a with
  | ⟨0, _⟩ => show win0_0.index t 0 * 512 + 1 * r.val = n.val; rw [e0]; omega
  | ⟨1, _⟩ => show win0_0.index t 1 * 3072 + 1 * k.val = k.val; rw [e1]; omega

theorem read_wd (q : Fin 3072) (k : Fin 1024) : wd m c t (ix2 q k) = V m c main_v8 (ix2 q k) := by
  obtain ⟨-, ⟨e0, e1⟩, -⟩ := idx t
  unfold wd iblk
  rw [View.read_apply]
  show V m c main_v8 _ = V m c main_v8 _
  refine congrArg (V m c main_v8) (funext fun a => Fin.ext ?_)
  match a with
  | ⟨0, _⟩ => show win0_1.index t 0 * 3072 + 1 * q.val = q.val; rw [e0]; omega
  | ⟨1, _⟩ => show win0_1.index t 1 * 1024 + 1 * k.val = k.val; rw [e1]; omega

include hn in
theorem read_h1 (k : Fin 1024) : h1 m c t (ix2 r k) = V m c main_arg2 (ix2 n k) := by
  obtain ⟨-, -, ⟨e0, e1⟩, -⟩ := idx t
  unfold h1 iblk
  rw [View.read_apply]
  show V m c main_arg2 _ = V m c main_arg2 _
  refine congrArg (V m c main_arg2) (funext fun a => Fin.ext ?_)
  match a with
  | ⟨0, _⟩ => show win0_2.index t 0 * 512 + 1 * r.val = n.val; rw [e0]; omega
  | ⟨1, _⟩ => show win0_2.index t 1 * 1024 + 1 * k.val = k.val; rw [e1]; omega

include hn in
theorem read_tg (k : Fin 1024) : tg m c t (ix2 r k) = V m c main_arg3 (ix2 n k) := by
  obtain ⟨-, -, -, ⟨e0, e1⟩, -⟩ := idx t
  unfold tg iblk
  rw [View.read_apply]
  show V m c main_arg3 _ = V m c main_arg3 _
  refine congrArg (V m c main_arg3) (funext fun a => Fin.ext ?_)
  match a with
  | ⟨0, _⟩ => show win0_3.index t 0 * 512 + 1 * r.val = n.val; rw [e0]; omega
  | ⟨1, _⟩ => show win0_3.index t 1 * 1024 + 1 * k.val = k.val; rw [e1]; omega

theorem read_vecs (q : Fin 8) (k : Fin 1024) : vecs m c t (ix2 q k) = V m c main_v4 (ix2 q k) := by
  obtain ⟨-, -, -, -, ⟨e0, e1⟩, -⟩ := idx t
  unfold vecs iblk
  rw [View.read_apply]
  show V m c main_v4 _ = V m c main_v4 _
  refine congrArg (V m c main_v4) (funext fun a => Fin.ext ?_)
  match a with
  | ⟨0, _⟩ => show win0_4.index t 0 * 8 + 1 * q.val = q.val; rw [e0]; omega
  | ⟨1, _⟩ => show win0_4.index t 1 * 1024 + 1 * k.val = k.val; rw [e1]; omega

theorem read_vg (k : Fin 1024) : vg m c t (ix2 (0 : Fin 1) k) = aG m c (ix2 (0 : Fin 1) k) :=
  (RowStore.ld_row (a := 8) (b := 1024) 0 inb_S8x1024_S1x1024_0_0 0 k (vecs m c t) rfl).trans ((read_vecs m c t 0 k).trans (v4_row0 m c k))
theorem read_vf (k : Fin 1024) : vf m c t (ix2 (0 : Fin 1) k) = aF m c (ix2 (0 : Fin 1) k) :=
  (RowStore.ld_row (a := 8) (b := 1024) 1 inb_S8x1024_S1x1024_1_0 1 k (vecs m c t) rfl).trans ((read_vecs m c t 1 k).trans (v4_row1 m c k))

include hn in
theorem read_ffn (k : Fin 1024) : ∑ q : Fin 3072, act m c t (ix2 r q) * wd m c t (ix2 q k) = ffnA (aA m c) (aW m c) n k := by
  refine Eq.trans (Finset.sum_congr rfl fun q _ => ?_) (sum_pad fun j => aA m c (ix2 n j) * aW m c (ix2 j k))
  rw [read_act m c t r n hn q, read_wd m c t q k, v2_apply, v8_apply, pick_mul]

include hn in
theorem read_last : lastB m c t r = resid (aA m c) (aW m c) (aH m c) (aG m c) n := funext fun k => by
  unfold lastB resid
  rw [read_ffn m c t r n hn k, read_h1 m c t r n hn k, read_vg, V_main_arg2]

include hn in
theorem read_err (k : Fin 1024) : xhat (lastB m c t r) k * vf m c t (ix2 (0 : Fin 1) k) - tg m c t (ix2 r k)
    = errA (aA m c) (aW m c) (aH m c) (aT m c) (aG m c) (aF m c) n k := by
  unfold errA
  rw [read_last m c t r n hn, read_vf, read_tg m c t r n hn k, V_main_arg3]

include hn in
theorem read_onRow : onRowB m c t r = onNorm (aA m c) (aW m c) (aH m c) (aT m c) (aG m c) (aF m c) n := funext fun k => by
  unfold onRowB onNorm
  rw [read_err m c t r n hn k, read_vf]

include hn in
theorem dres_eq (k : Fin 1024) : back (lastB m c t r) (onRowB m c t r) k
    = onResid (aA m c) (aW m c) (aH m c) (aT m c) (aG m c) (aF m c) n k := by
  unfold onResid
  rw [read_last m c t r n hn, read_onRow m c t r n hn]

end Point

end Run

end Cert.Loss

end
-- ==== Proof.LossHost.lean ====
/-
  The loss kernel: its three result arrays as functions of the arguments.
-/
module

public import proofs.«01_k».proof.Proof.LossRead

@[expose] public section

set_option maxRecDepth 16384

noncomputable section

namespace Cert.Loss

open Idealize.ShloMosaic hiding ix2 ix3 eq_ix2 eq_ix3
open Cert.Kernel5Ideal Cert.Kernel5Ideal.Gen Idealize.ShloMosaic.TcCoe Idealize.SL.Sem
open Idealize.ShloMosaic.ValueIdx Idealize.ShloMosaic.Pipeline Cert.Kit Cert.NormRow
open Cert.Swiglu (padZero padZero_eq wide_apply slab_apply rowsB_apply hid)
open scoped BigOperators

section Run

variable (m : (ℓ : Loc nD τ sig) → Buf (Elt Ideal) ℓ) (c : Dev nD)

abbrev argTerm := term (aA m c) (aW m c) (aH m c) (aT m c) (aG m c) (aF m c)

section Token

variable (t : Fin cfg0.N) (r : Fin 512) (n : Fin 4096) (hn : n.val = 512 * t.val + r.val) (k : Fin 1024)

theorem termB_0 : termB m c t 0 r k = back (lastB m c t r) (onRowB m c t r) k * (∑ q : Fin 3072, act m c t (ix2 r q) * wd m c t (ix2 q k)) := rfl
theorem termB_1 : termB m c t 1 r k = (xhat (lastB m c t r) k * vf m c t (ix2 (0 : Fin 1) k) - tg m c t (ix2 r k)) * cI * xhat (lastB m c t r) k := rfl
theorem termB_2 : termB m c t 2 r k = (xhat (lastB m c t r) k * vf m c t (ix2 (0 : Fin 1) k) - tg m c t (ix2 r k))
      * (xhat (lastB m c t r) k * vf m c t (ix2 (0 : Fin 1) k) - tg m c t (ix2 r k)) * cJ := rfl
theorem argTerm_0 : argTerm m c 0 n k = onResid (aA m c) (aW m c) (aH m c) (aT m c) (aG m c) (aF m c) n k * ffnA (aA m c) (aW m c) n k := rfl
theorem argTerm_1 : argTerm m c 1 n k = errA (aA m c) (aW m c) (aH m c) (aT m c) (aG m c) (aF m c) n k * cI
    * xhat (resid (aA m c) (aW m c) (aH m c) (aG m c) n) k := rfl
theorem argTerm_2 : argTerm m c 2 n k = errA (aA m c) (aW m c) (aH m c) (aT m c) (aG m c) (aF m c) n k
    * errA (aA m c) (aW m c) (aH m c) (aT m c) (aG m c) (aF m c) n k * cJ := rfl

include hn in
theorem term_0 : termB m c t 0 r k = argTerm m c 0 n k := by
  rw [termB_0, argTerm_0, dres_eq m c t r n hn k, read_ffn m c t r n hn k]
include hn in
theorem term_1 : termB m c t 1 r k = argTerm m c 1 n k := by
  rw [termB_1, argTerm_1, read_err m c t r n hn k, read_last m c t r n hn]
include hn in
theorem term_2 : termB m c t 2 r k = argTerm m c 2 n k := by
  rw [termB_2, argTerm_2, read_err m c t r n hn k]
theorem term_rest (q : ℕ) (hq : q + 3 < 8) : termB m c t ⟨q + 3, hq⟩ r k = argTerm m c ⟨q + 3, hq⟩ n k := by
  have e : termB m c t ⟨q + 3, hq⟩ r k = 0 := rfl
  have e' : argTerm m c ⟨q + 3, hq⟩ n k = 0 := rfl
  rw [e, e']

include hn in
theorem term_eq (q : Fin 8) : termB m c t q r k = argTerm m c q n k := by
  match q with
  | 0 => exact term_0 m c t r n hn k
  | 1 => exact term_1 m c t r n hn k
  | 2 => exact term_2 m c t r n hn k
  | ⟨q + 3, hq⟩ => exact term_rest m c t r n k q hq

end Token

theorem part_eq (t : Fin cfg0.N) (q : Fin 8) (k : Fin 1024) (f : Fin 512 → Fin 4096) (hf : ∀ r, (f r).val = 512 * t.val + r.val) :
    partB m c t q k = ∑ r : Fin 512, argTerm m c q (f r) k :=
  Finset.sum_congr rfl fun r _ => term_eq m c t r (f r) (hf r) k q

/-- A sum over the tokens, a block at a time. -/
theorem sum_tokens (f : Fin 4096 → EReal) :
    ∑ s : Fin 8, ∑ r : Fin 512, f ⟨512 * s.val + r.val, by omega⟩ = ∑ n, f n := by
  rw [← Fintype.sum_prod_type' (f := fun (s : Fin 8) (r : Fin 512) => f ⟨512 * s.val + r.val, by omega⟩)]
  refine Fintype.sum_equiv (finProdFinEquiv (m := 8) (n := 512)) _ _ fun p => congrArg f (Fin.ext ?_)
  show 512 * p.1.val + p.2.val = p.2.val + 512 * p.1.val
  omega

/-! ## The result arrays -/

theorem arr5 : ((dats m 0 c).arrAt 5 cfg0.N : S4096x1024.Idx → EReal)
    = fun i => onResid (aA m c) (aW m c) (aH m c) (aT m c) (aG m c) (aF m c) (i 0) (i 1) := by
  refine (dats m 0 c).arrAt_eq_of_cover 5
    (fun i : S4096x1024.Idx => onResid (aA m c) (aW m c) (aH m c) (aT m c) (aG m c) (aF m c) (i 0) (i 1)) (fun t _ => ?_) fun i => ?_
  · obtain ⟨-, -, -, -, -, ⟨e0, e1⟩, -⟩ := idx t
    rw [Value.flushed5]
    funext y
    rw [View.read_apply]
    obtain ⟨r, k, rfl⟩ : ∃ (r : Fin 512) (k : Fin 1024), y = (ix2 r k : S512x1024.Idx) := ⟨y 0, y 1, eq_ix2 y⟩
    refine (outs5 m c t r k).trans ((dres_eq m c t r _ ?_ k).trans (congrArg _ (Fin.ext ?_)))
    · show win0_5.index t 0 * 512 + 1 * r.val = _; rw [e0]; omega
    · show k.val = win0_5.index t 1 * 1024 + 1 * k.val; rw [e1]; omega
  · have h0 : (i 0 : Nat) < 4096 := (i 0).isLt
    have h1 : (i 1 : Nat) < 1024 := (i 1).isLt
    have hN : cfg0.N = 8 := N_0
    let t : Fin cfg0.N := ⟨(i 0 : Nat) / 512, by omega⟩
    obtain ⟨-, -, -, -, -, ⟨e0, e1⟩, -⟩ := idx t
    obtain ⟨⟨s0, s1⟩, -⟩ := osize t
    have tv : t.val = (i 0 : Nat) / 512 := rfl
    refine ⟨t, flush0_5 t, ?_⟩
    show i ∈ ((View.whole main_v9_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + win0_5.xsize (grid0.coords t) 0
                rw [e0, s0, tv]; omega
    | ⟨1, _⟩ => show win0_5.index t 1 * 1024 ≤ (i 1 : Nat) ∧ (i 1 : Nat) < win0_5.index t 1 * 1024 + win0_5.xsize (grid0.coords t) 1
                rw [e1, s1]; omega

theorem arr6 : ((dats m 0 c).arrAt 6 cfg0.N : S4096x1024.Idx → EReal)
    = fun i => aG m c (ix2 (0 : Fin 1) (i 1)) * onResid (aA m c) (aW m c) (aH m c) (aT m c) (aG m c) (aF m c) (i 0) (i 1) := by
  refine (dats m 0 c).arrAt_eq_of_cover 6
    (fun i : S4096x1024.Idx => aG m c (ix2 (0 : Fin 1) (i 1)) * onResid (aA m c) (aW m c) (aH m c) (aT m c) (aG m c) (aF m c) (i 0) (i 1))
    (fun t _ => ?_) fun i => ?_
  · obtain ⟨-, -, -, -, -, -, ⟨e0, e1⟩, -⟩ := idx t
    rw [Value.flushed6]
    funext y
    rw [View.read_apply]
    obtain ⟨r, k, rfl⟩ : ∃ (r : Fin 512) (k : Fin 1024), y = (ix2 r k : S512x1024.Idx) := ⟨y 0, y 1, eq_ix2 y⟩
    refine (outs6 m c t r k).trans ((congrArg₂ (· * ·) (read_vg m c t k) (dres_eq m c t r _ ?_ k)).trans
      (congrArg (fun k => aG m c (ix2 (0 : Fin 1) k) * onResid (aA m c) (aW m c) (aH m c) (aT m c) (aG m c) (aF m c) _ k) (Fin.ext ?_)))
    · show win0_6.index t 0 * 512 + 1 * r.val = _; rw [e0]; omega
    · show k.val = win0_6.index t 1 * 1024 + 1 * k.val; rw [e1]; omega
  · have h0 : (i 0 : Nat) < 4096 := (i 0).isLt
    have h1 : (i 1 : Nat) < 1024 := (i 1).isLt
    have hN : cfg0.N = 8 := N_0
    let t : Fin cfg0.N := ⟨(i 0 : Nat) / 512, by omega⟩
    obtain ⟨-, -, -, -, -, -, ⟨e0, e1⟩, -⟩ := idx t
    obtain ⟨-, ⟨s0, s1⟩, -⟩ := osize t
    have tv : t.val = (i 0 : Nat) / 512 := rfl
    refine ⟨t, flush0_6 t, ?_⟩
    show i ∈ ((View.whole main_v9_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + win0_6.xsize (grid0.coords t) 0
                rw [e0, s0, tv]; omega
    | ⟨1, _⟩ => show win0_6.index t 1 * 1024 ≤ (i 1 : Nat) ∧ (i 1 : Nat) < win0_6.index t 1 * 1024 + win0_6.xsize (grid0.coords t) 1
                rw [e1, s1]; omega

theorem sums (q : Fin 8) (k : Fin 1024) (hn : 7 < cfg0.N) :
    (outsAt0 m c 7 hn).2.2 (ix2 q k) = ∑ n : Fin 4096, argTerm m c q n k := by
  refine (outs7 m c q k 7 hn).trans (Eq.trans ?_ (sum_tokens fun n => argTerm m c q n k))
  exact Finset.sum_congr rfl fun s _ => part_eq m c _ q k _ fun r => rfl

/-- A column sum. -/
def total (q : Fin 8) (k : Fin 1024) : EReal := ∑ n : Fin 4096, argTerm m c q n k

theorem arr7 : ((dats m 0 c).arrAt 7 cfg0.N : S8x1024.Idx → EReal) = fun i => total m c (i 0) (i 1) := by
  have hN : cfg0.N = 8 := N_0
  refine (dats m 0 c).arrAt_eq_of_cover 7 (fun i : S8x1024.Idx => total m c (i 0) (i 1)) (fun t ht => ?_) fun i => ?_
  · obtain ⟨-, -, -, -, -, -, -, ⟨e0, e1⟩⟩ := idx t
    have h7 : t.val = 7 := by have := (flush0_7 t).mp ht; have := t.isLt; omega
    rw [Value.flushed7]
    funext y
    rw [View.read_apply]
    obtain ⟨q, k, rfl⟩ : ∃ (q : Fin 8) (k : Fin 1024), y = (ix2 q k : S8x1024.Idx) := ⟨y 0, y 1, eq_ix2 y⟩
    obtain ⟨tv, tl⟩ := t
    dsimp only at h7
    subst h7
    refine (sums m c q k tl).trans ?_
    refine congrArg₂ (total m c) (Fin.ext ?_) (Fin.ext ?_)
    · show q.val = win0_7.index ⟨7, tl⟩ 0 * 8 + 1 * q.val; rw [e0]; omega
    · show k.val = win0_7.index ⟨7, tl⟩ 1 * 1024 + 1 * k.val; rw [e1]; omega
  · have h0 : (i 0 : Nat) < 8 := (i 0).isLt
    have h1 : (i 1 : Nat) < 1024 := (i 1).isLt
    let t : Fin cfg0.N := ⟨7, by omega⟩
    obtain ⟨-, -, -, -, -, -, -, ⟨e0, e1⟩⟩ := idx t
    obtain ⟨-, -, ⟨s0, s1⟩⟩ := osize t
    refine ⟨t, (flush0_7 t).mpr rfl, ?_⟩
    show i ∈ ((View.whole main_v9_2).slice (win0_7.rect t)).set
    rw [View.set_slice_whole, Rect.mem_set_unit]
    intro a
    match a with
    | ⟨0, _⟩ => show win0_7.index t 0 * 8 ≤ (i 0 : Nat) ∧ (i 0 : Nat) < win0_7.index t 0 * 8 + win0_7.xsize (grid0.coords t) 0
                rw [e0, s0]; omega
    | ⟨1, _⟩ => show win0_7.index t 1 * 1024 ≤ (i 1 : Nat) ∧ (i 1 : Nat) < win0_7.index t 1 * 1024 + win0_7.xsize (grid0.coords t) 1
                rw [e1, s1]; omega

end Run

end Cert.Loss

end
-- ==== Proof.LossRef.lean ====
/-
  The gradient of the loss taken operation by operation, read at an index: on finite arguments the gradient on the residual
  stream is the kernel's `back`, and the two scalings of the error, `½ · 1 / 1024` times twice the error and the error times
  `1 / 1024`, are one number.
-/
module

public import proofs.«01_k».proof.Proof.LossRead
public import proofs.«01_k».proof.Proof.Gen.Reference5Ideal.Read

@[expose] public section

set_option maxRecDepth 16384

noncomputable section

namespace Cert.Loss

open Idealize.ShloMosaic hiding ix2 ix3 eq_ix2 eq_ix3
open Idealize.ShloMosaic.TcCoe Idealize.SL.Sem
open Idealize.ShloMosaic.ValueIdx Cert.Kit Cert.NormRow
open scoped BigOperators

/-! ## The constants -/

theorem cI_eq : cI = ((1 / 1024 : ℝ) : EReal) := by
  simp [cI, Ideal.ofBits, Ideal.ieee]
  rw [← EReal.coe_mul]; norm_num
theorem cJ_eq : cJ = ((1 / 2048 : ℝ) : EReal) := by
  simp [cJ, Ideal.ofBits, Ideal.ieee]
  rw [← EReal.coe_mul]; norm_num
abbrev cTwo : EReal := Ideal.ofBits .f32 0x40000000#32
abbrev cHalf : EReal := Ideal.ofBits .f32 0x3F000000#32
abbrev cUnit : EReal := Ideal.ofBits .f32 0x3F800000#32
theorem cTwo_eq : cTwo = ((2 : ℝ) : EReal) := by
  simp [cTwo, Ideal.ofBits, Ideal.ieee]
  rw [← EReal.coe_mul]; norm_num
theorem cHalf_eq : cHalf = ((1 / 2 : ℝ) : EReal) := by
  simp [cHalf, Ideal.ofBits, Ideal.ieee]
  rw [← EReal.coe_mul]; norm_num
theorem cUnit_eq : cUnit = ((1 : ℝ) : EReal) := Ideal.ofBits_one_f32

theorem scale (e : EReal) : Ideal.div (cHalf * cUnit) cN * (cTwo * e) = e * cI := by
  rw [cHalf_eq, cUnit_eq, cTwo_eq, cI_eq, ← EReal.coe_mul, div_cN, ← mul_assoc, ← EReal.coe_mul, mul_comm e]
  congr 2
  norm_num

theorem scale_sum (e : EReal) : Ideal.div (cHalf * e) cN = e * cJ := by
  rw [cHalf_eq, cN_eq, cJ_eq, Ideal.div_coe (by norm_num), mul_comm _ e, mul_assoc, ← EReal.coe_mul]
  congr 2
  norm_num

/-! ## The reference, read at an index -/

open Cert.Reference5Ideal.Read

variable (a : Cert.Reference5Ideal.S4096x2816.Idx → EReal) (w : Cert.Reference5Ideal.S2816x1024.Idx → EReal)
  (h t : Cert.Reference5Ideal.S4096x1024.Idx → EReal) (g f : Cert.Reference5Ideal.S1x1024.Idx → EReal)

theorem row0 (k : Fin 1024) (i : Cert.Reference5Ideal.S1x1024.Idx) (h : (i 1).val = k.val) : i = ix2 (0 : Fin 1) k := funext fun a => by
  match a with
  | ⟨0, _⟩ => exact Subsingleton.elim (α := Fin 1) _ _
  | ⟨1, _⟩ => exact Fin.ext h

theorem col0 (n : Fin 4096) (i : Cert.Reference5Ideal.S4096x1.Idx) (h : (i 0).val = n.val) : i = ix2 n (0 : Fin 1) := funext fun a => by
  match a with
  | ⟨0, _⟩ => exact Fin.ext h
  | ⟨1, _⟩ => exact Subsingleton.elim (α := Fin 1) _ _

theorem at_token (k : Fin 1024) (n : Fin 4096) (i : Cert.Reference5Ideal.S4096x1024.Idx) (h0 : (i 0).val = n.val) (h1 : (i 1).val = k.val) :
    i = ix2 n k := funext fun a => by
  match a with
  | ⟨0, _⟩ => exact Fin.ext h0
  | ⟨1, _⟩ => exact Fin.ext h1

theorem ref_ffn (n : Fin 4096) (k : Fin 1024) : val_main_v1 (F := Ideal) a w (ix2 n k) = ffnA a w n k := by
  rw [val_main_v1_apply]
  refine Finset.sum_congr rfl fun q _ => ?_
  rw [val_main_v0_apply]
  refine congrArg₂ (fun x y : EReal => x * y) (congrArg a (funext fun x => ?_)) (congrArg w (funext fun x => ?_))
  · match x with
    | ⟨0, _⟩ => rfl
    | ⟨1, _⟩ => rfl
  · match x with
    | ⟨0, _⟩ => rfl
    | ⟨1, _⟩ => rfl

theorem ref_resid (n : Fin 4096) (k : Fin 1024) : val_main_v4 (F := Ideal) a w h g (ix2 n k) = resid a w h g n k := by
  rw [val_main_v4_apply, val_main_v3_apply, val_main_v2_apply, ref_ffn, row0 k (idx_main_v2 (ix2 n k)) rfl]; rfl

theorem ref_ms (n : Fin 4096) : val_main_v11 (F := Ideal) a w h g (ix2 n (0 : Fin 1)) = ms (resid a w h g n) := by
  rw [val_main_v11_apply, val_main_v9_apply, val_main_v7_apply, val_main_v6_apply, val_main_v8_apply, val_main_v10_apply]
  refine congrArg (fun z => Ideal.div z cN + cE) ((congrArg₂ (· + ·) Ideal.ofBits_zero_f32 rfl).trans ((zero_add _).trans ?_))
  refine Finset.sum_congr rfl fun k _ => ?_
  rw [at_token k n (idx_main_v6 (idx_main_v7 (ix2 n (0 : Fin 1))) k) rfl rfl, val_main_v5_apply, ref_resid]; rfl

theorem ref_rstd (n : Fin 4096) : val_main_v12 (F := Ideal) a w h g (ix2 n (0 : Fin 1)) = rstd (resid a w h g n) := by
  rw [val_main_v12_apply, ref_ms]; rfl

theorem ref_xhat (n : Fin 4096) (k : Fin 1024) : val_main_v17 (F := Ideal) a w h g (ix2 n k) = xhat (resid a w h g n) k := by
  rw [val_main_v17_apply, val_main_v16_apply, ref_resid, col0 n (idx_main_v16 (ix2 n k)) rfl, ref_rstd]; rfl

theorem ref_err (n : Fin 4096) (k : Fin 1024) : val_main_v20 (F := Ideal) a w h t g f (ix2 n k) = errA a w h t g f n k := by
  rw [val_main_v20_apply, val_main_v19_apply, ref_xhat, val_main_v18_apply, row0 k (idx_main_v18 (ix2 n k)) rfl]; rfl

theorem ref_dy (n : Fin 4096) (k : Fin 1024) : val_main_v35 (F := Ideal) a w h t g f (ix2 n k) = errA a w h t g f n k * cI := by
  rw [val_main_v35_apply, val_main_v34_apply, val_main_v33_apply, val_main_v31_apply, val_main_v30_apply, val_main_v29_apply,
    val_main_v32_apply, val_main_v23_apply, val_main_v22_apply, ref_err]
  exact scale _

theorem ref_onNorm (n : Fin 4096) (k : Fin 1024) : val_main_v40 (F := Ideal) a w h t g f (ix2 n k) = onNorm a w h t g f n k := by
  rw [val_main_v40_apply, ref_dy, val_main_v39_apply, row0 k (idx_main_v39 (ix2 n k)) rfl]; rfl

theorem ref_through (n : Fin 4096) (k : Fin 1024) :
    val_main_v50 (F := Ideal) a w h t g f (ix2 n k) = through (resid a w h g n) (onNorm a w h t g f n) := by
  rw [val_main_v50_apply, val_main_v49_apply]
  refine (congrArg₂ (· + ·) Ideal.ofBits_zero_f32 (Fin.sum_univ_one _)).trans ((zero_add _).trans ?_)
  rw [col0 n (idx_main_v49 (idx_main_v50 (ix2 n k)) (0 : Fin 1)) rfl, val_main_v48_apply, val_main_v46_apply, val_main_v47_apply,
    val_main_v15_apply, val_main_v14_apply, val_main_v13_apply, ref_ms, ref_rstd, val_main_v43_apply, val_main_v42_apply]
  refine congrArg (fun z => Ideal.div (z * (cH * Ideal.div (rstd (resid a w h g n)) (ms (resid a w h g n)))) cN)
    ((congrArg₂ (· + ·) Ideal.ofBits_zero_f32 rfl).trans ((zero_add _).trans ?_))
  refine Finset.sum_congr rfl fun j _ => ?_
  rw [at_token j n (idx_main_v42 (idx_main_v43 (ix2 n (0 : Fin 1))) j) (by show n.val * 1 + 0 = n.val; omega) rfl,
    val_main_v41_apply, ref_resid, ref_onNorm]; rfl

theorem ref_parts (n : Fin 4096) (k : Fin 1024) : val_main_v54 (F := Ideal) a w h t g f (ix2 n k)
    = onNorm a w h t g f n k * rstd (resid a w h g n)
      + resid a w h g n k * through (resid a w h g n) (onNorm a w h t g f n)
      + through (resid a w h g n) (onNorm a w h t g f n) * resid a w h g n k := by
  rw [val_main_v54_apply, val_main_v52_apply, val_main_v45_apply, val_main_v44_apply, col0 n (idx_main_v44 (ix2 n k)) rfl,
    val_main_v51_apply, val_main_v53_apply, ref_through, ref_resid, ref_rstd, ref_onNorm]
  rfl

/-! ## The recomputed row -/

theorem ref_resid' (n : Fin 4096) (k : Fin 1024) : val_main_v62 (F := Ideal) a w h g (ix2 n k) = resid a w h g n k := by
  rw [val_main_v62_apply, val_main_v61_apply, val_main_v60_apply, ref_ffn, row0 k (idx_main_v60 (ix2 n k)) rfl]; rfl

theorem ref_ms' (n : Fin 4096) : val_main_v69 (F := Ideal) a w h g (ix2 n (0 : Fin 1)) = ms (resid a w h g n) := by
  rw [val_main_v69_apply, val_main_v67_apply, val_main_v65_apply, val_main_v64_apply, val_main_v66_apply, val_main_v68_apply]
  refine congrArg (fun z => Ideal.div z cN + cE) ((congrArg₂ (· + ·) Ideal.ofBits_zero_f32 rfl).trans ((zero_add _).trans ?_))
  refine Finset.sum_congr rfl fun k _ => ?_
  rw [at_token k n (idx_main_v64 (idx_main_v65 (ix2 n (0 : Fin 1))) k) rfl rfl, val_main_v63_apply, ref_resid']; rfl

theorem ref_err' (n : Fin 4096) (k : Fin 1024) : val_main_v75 (F := Ideal) a w h t g f (ix2 n k) = errA a w h t g f n k := by
  rw [val_main_v75_apply, val_main_v74_apply, val_main_v72_apply, val_main_v71_apply, col0 n (idx_main_v71 (ix2 n k)) rfl,
    val_main_v70_apply, ref_ms', ref_resid', val_main_v73_apply, row0 k (idx_main_v73 (ix2 n k)) rfl]; rfl

section Real

variable (ha : ∀ i, IsReal (a i)) (hw : ∀ i, IsReal (w i)) (hh : ∀ i, IsReal (h i)) (ht : ∀ i, IsReal (t i))
  (hg : ∀ i, IsReal (g i)) (hf : ∀ i, IsReal (f i))

include ha hw hh hg in
theorem isReal_resid (n : Fin 4096) (k : Fin 1024) : IsReal (resid a w h g n k) :=
  (hh _).add ((hg _).mul (isReal_sum _ _ fun q => (ha _).mul (hw _)))

include ha hw hh ht hg hf in
theorem isReal_onNorm (n : Fin 4096) (k : Fin 1024) : IsReal (onNorm a w h t g f n k) :=
  ((IsReal.sub ((isReal_xhat (isReal_resid a w h g ha hw hh hg n) k).mul (hf _)) (ht _)).mul ⟨_, cI_eq⟩).mul (hf _)

include ha hw hh ht hg hf in
theorem ref_v54 (n : Fin 4096) (k : Fin 1024) :
    val_main_v54 (F := Ideal) a w h t g f (ix2 n k) = onResid a w h t g f n k := by
  have e := back_eq (isReal_resid a w h g ha hw hh hg n) (isReal_onNorm a w h t g f ha hw hh ht hg hf n) isReal_zero k
  rw [zero_add, zero_add] at e
  exact (ref_parts a w h t g f n k).trans e.symm

include ha hw hh ht hg hf in
theorem ref_v83 (n : Fin 4096) (k : Fin 1024) : val_main_v83 (F := Ideal) a w h t g f (ix2 n k)
    = g (ix2 (0 : Fin 1) k) * onResid a w h t g f n k := by
  rw [val_main_v83_apply, val_main_v56_apply, val_main_v55_apply, row0 k (idx_main_v55 (ix2 n k)) rfl,
    ref_v54 a w h t g f ha hw hh ht hg hf]
  rfl

/-- A column sum, read at the tokens. -/
theorem col (z : EReal) (hz : z = 0) (f : Fin 4096 → EReal) (F' : Fin 4096 → EReal) (h : ∀ n, f n = F' n) :
    z + ∑ n, f n = ∑ n, F' n := by
  rw [hz, zero_add]; exact Finset.sum_congr rfl fun n _ => h n

include ha hw hh ht hg hf in
theorem ref_row0 (k : Fin 1024) :
    val_main_v59 (F := Ideal) a w h t g f (ix2 (0 : Fin 1) k) = ∑ n : Fin 4096, term a w h t g f 0 n k := by
  rw [val_main_v59_apply, val_main_v58_apply]
  refine col _ Ideal.ofBits_zero_f32 _ _ fun n => ?_
  rw [at_token k n (idx_main_v58 (idx_main_v59 (ix2 (0 : Fin 1) k)) n) rfl (by show 0 * 1024 + k.val = k.val; omega),
    val_main_v57_apply, ref_v54 a w h t g f ha hw hh ht hg hf, ref_ffn]
  rfl

theorem ref_row1 (k : Fin 1024) :
    val_main_v38 (F := Ideal) a w h t g f (ix2 (0 : Fin 1) k) = ∑ n : Fin 4096, term a w h t g f 1 n k := by
  rw [val_main_v38_apply, val_main_v37_apply]
  refine col _ Ideal.ofBits_zero_f32 _ _ fun n => ?_
  rw [at_token k n (idx_main_v37 (idx_main_v38 (ix2 (0 : Fin 1) k)) n) rfl (by show 0 * 1024 + k.val = k.val; omega),
    val_main_v36_apply, ref_xhat, ref_dy]
  exact mul_comm _ _

theorem ref_row2 (k : Fin 1024) :
    val_main_v82 (F := Ideal) a w h t g f (ix2 (0 : Fin 1) k) = ∑ n : Fin 4096, term a w h t g f 2 n k := by
  have e : val_main_v78 (F := Ideal) a w h t g f (ix2 (0 : Fin 1) k) = ∑ n : Fin 4096, errA a w h t g f n k * errA a w h t g f n k := by
    rw [val_main_v78_apply, val_main_v77_apply]
    refine col _ Ideal.ofBits_zero_f32 _ _ fun n => ?_
    rw [at_token k n (idx_main_v77 (idx_main_v78 (ix2 (0 : Fin 1) k)) n) rfl rfl,
      val_main_v76_apply, ref_err']
    rfl
  rw [val_main_v82_apply, val_main_v80_apply, val_main_v79_apply, val_main_v81_apply, e]
  exact (scale_sum _).trans (squares_mul _ (fun n => errA a w h t g f n k) _)

include ha hw hh ht hg hf in
theorem ref_v85 (q : Fin 8) (k : Fin 1024) :
    val_main_v85 (F := Ideal) a w h t g f (ix2 q k) = ∑ n : Fin 4096, term a w h t g f q n k := by
  unfold val_main_v85
  match q with
  | 0 =>
    refine (concatenate_apply_piece (t := Cert.Reference5Ideal.S8x1024) 0 _ _ (ix2 (0 : Fin 8) k) 0 (by show 0 < 4; omega)
      Cert.Reference5Ideal.S1x1024 (val_main_v59 (F := Ideal) a w h t g f) rfl rfl 0 rfl (ix2 (0 : Fin 1) k) (fun x hx => ?_) rfl).trans
      (ref_row0 a w h t g f ha hw hh ht hg hf k)
    match x with
    | ⟨0, _⟩ => exact absurd rfl hx
    | ⟨1, _⟩ => rfl
  | 1 =>
    refine (concatenate_apply_piece (t := Cert.Reference5Ideal.S8x1024) 0 _ _ (ix2 (1 : Fin 8) k) 1 (by show 1 < 4; omega)
      Cert.Reference5Ideal.S1x1024 (val_main_v38 (F := Ideal) a w h t g f) rfl rfl 1 rfl (ix2 (0 : Fin 1) k) (fun x hx => ?_) rfl).trans
      (ref_row1 a w h t g f k)
    match x with
    | ⟨0, _⟩ => exact absurd rfl hx
    | ⟨1, _⟩ => rfl
  | 2 =>
    refine (concatenate_apply_piece (t := Cert.Reference5Ideal.S8x1024) 0 _ _ (ix2 (2 : Fin 8) k) 2 (by show 2 < 4; omega)
      Cert.Reference5Ideal.S1x1024 (val_main_v82 (F := Ideal) a w h t g f) rfl rfl 2 rfl (ix2 (0 : Fin 1) k) (fun x hx => ?_) rfl).trans
      (ref_row2 a w h t g f k)
    match x with
    | ⟨0, _⟩ => exact absurd rfl hx
    | ⟨1, _⟩ => rfl
  | ⟨q + 3, hq⟩ =>
    refine (concatenate_apply_piece (t := Cert.Reference5Ideal.S8x1024) 0 _ _ (ix2 (⟨q + 3, hq⟩ : Fin 8) k) 3 (by show 3 < 4; omega)
      Cert.Reference5Ideal.S5x1024 (val_main_v84 (F := Ideal)) rfl rfl 3 rfl (ix2 (⟨q, by omega⟩ : Fin 5) k) (fun x hx => ?_)
      (by show 3 + q = q + 3; omega)).trans ?_
    · match x with
      | ⟨0, _⟩ => exact absurd rfl hx
      | ⟨1, _⟩ => rfl
    · rw [val_main_v84_apply]
      exact Ideal.ofBits_zero_f32.trans (Finset.sum_const_zero).symm

end Real

end Cert.Loss

end
-- ==== Proof.Loss.lean ====
/-
  The loss kernel against the gradient of the loss taken operation by operation: on finite arguments the three results are
  the same arrays.
-/
module

public import proofs.«01_k».proof.Proof.LossHost
public import proofs.«01_k».proof.Proof.LossRef
public import Idealize.ShloMosaic.Lib.Quiescent
public import Idealize.ShloMosaic.Lib.Claim
public import proofs.«01_k».proof.Defs

@[expose] public section

set_option maxRecDepth 16384

noncomputable section

namespace Cert.Loss

open Idealize.ShloMosaic hiding ix2 ix3 eq_ix2 eq_ix3
open Cert.Kernel5Ideal Cert.Kernel5Ideal.Gen Idealize.ShloMosaic.TcCoe Idealize.SL.Sem
open Idealize.ShloMosaic.ValueIdx Idealize.ShloMosaic.Pipeline Cert.Kit Cert.NormRow
open scoped BigOperators

/-! ## The claims -/

theorem hPre : Cert.Pre_finite5.Facts := ⟨by decide, by decide, by decide, by decide⟩

section Both

variable (m : (ℓ : Loc nD τ sig) → Buf (Elt Ideal) ℓ)
variable (h : Cert.Pre_Kernel5Ideal_finite5 (hPre_finite5 := hPre) m) (c : Dev nD)

include h in
theorem reals : (∀ i, IsReal (aA m c i)) ∧ (∀ i, IsReal (aW m c i)) ∧ (∀ i, IsReal (aH m c i)) ∧ (∀ i, IsReal (aT m c i))
    ∧ (∀ i, IsReal (aG m c i)) ∧ ∀ i, IsReal (aF m c i) :=
  ⟨fun i => isReal_of_lt (congrFun (h c).1 i), fun i => isReal_of_lt (congrFun (h c).2.1 i),
    fun i => isReal_of_lt (congrFun (h c).2.2.1 i), fun i => isReal_of_lt (congrFun (h c).2.2.2.1 i),
    fun i => isReal_of_lt (congrFun (h c).2.2.2.2.1 i), fun i => isReal_of_lt (congrFun (h c).2.2.2.2.2 i)⟩

open Cert.Reference5Ideal.Read

include h in
theorem same5 : (dats m 0 c).arrAt 5 cfg0.N
    = val_main_v54 (F := Ideal) (aA m c) (aW m c) (aH m c) (aT m c) (aG m c) (aF m c) := by
  obtain ⟨ha, hw, hh, ht, hg, hf⟩ := reals m h c
  exact (arr5 m c).trans (funext fun i : S4096x1024.Idx => (ref_v54 _ _ _ _ _ _ ha hw hh ht hg hf (i 0) (i 1)).symm.trans
    (congrArg (val_main_v54 (F := Ideal) (aA m c) (aW m c) (aH m c) (aT m c) (aG m c) (aF m c)) (eq_ix2 i).symm))

include h in
theorem same6 : (dats m 0 c).arrAt 6 cfg0.N
    = val_main_v83 (F := Ideal) (aA m c) (aW m c) (aH m c) (aT m c) (aG m c) (aF m c) := by
  obtain ⟨ha, hw, hh, ht, hg, hf⟩ := reals m h c
  exact (arr6 m c).trans (funext fun i : S4096x1024.Idx => (ref_v83 _ _ _ _ _ _ ha hw hh ht hg hf (i 0) (i 1)).symm.trans
    (congrArg (val_main_v83 (F := Ideal) (aA m c) (aW m c) (aH m c) (aT m c) (aG m c) (aF m c)) (eq_ix2 i).symm))

include h in
theorem same7 : (dats m 0 c).arrAt 7 cfg0.N
    = val_main_v85 (F := Ideal) (aA m c) (aW m c) (aH m c) (aT m c) (aG m c) (aF m c) := by
  obtain ⟨ha, hw, hh, ht, hg, hf⟩ := reals m h c
  exact (arr7 m c).trans (funext fun i : S8x1024.Idx => (ref_v85 _ _ _ _ _ _ ha hw hh ht hg hf (i 0) (i 1)).symm.trans
    (congrArg (val_main_v85 (F := Ideal) (aA m c) (aW m c) (aH m c) (aT m c) (aG m c) (aF m c)) (eq_ix2 i).symm))

end Both

theorem ref_frame : Cert.quiescent_Reference5Ideal (hReference5Ideal := Cert.Reference5Ideal.Gen.facts) := fun m ρ _ =>
  (θ_run _ _ _).mono (fun r h => ⟨fun c => (h c).2.2.2, sem_eq_zero_of_no_sems rfl r.2⟩)
    (Cert.Reference5Ideal.Value.run (F := Ideal) m ρ)

open Cert.Reference5Ideal.Read in
theorem algebraic : Cert.algebraic_Kernel5Ideal_Reference5Ideal_pre_finite5 (hKernel5Ideal := Cert.Kernel5Ideal.Gen.facts)
    (hReference5Ideal := Cert.Reference5Ideal.Gen.facts) (hPre_finite5 := hPre) := by
  intro m g m' g' h hm
  refine ⟨fun c => val_main_v54 (F := Ideal) (aA m c) (aW m c) (aH m c) (aT m c) (aG m c) (aF m c),
    fun c => val_main_v83 (F := Ideal) (aA m c) (aW m c) (aH m c) (aT m c) (aG m c) (aF m c),
    fun c => val_main_v85 (F := Ideal) (aA m c) (aW m c) (aH m c) (aT m c) (aG m c) (aF m c), ?_, ?_⟩
  · exact (θ_run _ _ _).mono (fun r hr c => ⟨(hr c).1.trans (same5 m h c), (hr c).2.1.trans (same6 m h c),
      (hr c).2.2.1.trans (same7 m h c), (hr c).2.2.2⟩) (Cert.Kernel5Ideal.Value.run_blocks (F := Ideal) m g)
  · refine (θ_run _ _ _).mono (fun r hr c => ?_) (Cert.Reference5Ideal.Value.run (F := Ideal) m' g')
    obtain ⟨h0, h1, h2, h3, h4, h5⟩ := hm c
    refine ⟨(hr c).1.trans ((val_main_v54_eq m' c).trans ?_), (hr c).2.1.trans ((val_main_v83_eq m' c).trans ?_),
      (hr c).2.2.1.trans ((val_main_v85_eq m' c).trans ?_), (hr c).2.2.2⟩
    · rw [h0, h1, h2, h3, h4, h5]
    · rw [h0, h1, h2, h3, h4, h5]
    · rw [h0, h1, h2, h3, h4, h5]

end Cert.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.SwigluValue
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Dw
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.FfnUp
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.DwOut
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.DwIn
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.DwIn3
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.DwInDt
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.NormBwd
public import proofs.«01_k».proof.Proof.Gen.Kernel10
public import proofs.«01_k».proof.Proof.Gen.Kernel10Ideal
public import proofs.«01_k».proof.Proof.Gen.Reference10Ideal.Run
public import proofs.«01_k».proof.Proof.Gen.Reference10Ideal.Read
public import proofs.«01_k».proof.Proof.DuLat
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Loss
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel4.Gen.facts, Cert.Kernel4Ideal.Gen.facts, Cert.Reference4Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel3.Gen.facts, Cert.Kernel3Ideal.Gen.facts, Cert.Reference3Ideal.Gen.facts, Cert.Kernel10.Gen.facts, Cert.Kernel10Ideal.Gen.facts, Cert.Reference10Ideal.Gen.facts, Cert.Kernel5.Gen.facts, Cert.Kernel5Ideal.Gen.facts, Cert.Reference5Ideal.Gen.facts, Cert.Swiglu.hPre, Cert.NormBwd.hPre, Cert.DuLat.hPre, Cert.Loss.hPre,
    fun m ρ _ => Cert.Kernel.Gen.frame m ρ,
    fun m ρ _ => Cert.KernelIdeal.Gen.frame m ρ,
    fun m ρ _ => Cert.KernelIdeal.Gen.frame m ρ,
    Cert.Swiglu.ref_frame,
    fun m ρ _ => Cert.Swiglu.ref_frame m ρ trivial,
    fun m ρ _ => Cert.Kernel2.Gen.frame m ρ,
    fun m ρ _ => Cert.Kernel2Ideal.Gen.frame m ρ,
    Cert.Dw.ref_frame,
    fun m ρ _ => Cert.Kernel4.Gen.frame m ρ,
    fun m ρ _ => Cert.Kernel4Ideal.Gen.frame m ρ,
    Cert.FfnUp.ref_frame,
    fun m ρ _ => Cert.Kernel6.Gen.frame m ρ,
    fun m ρ _ => Cert.Kernel6Ideal.Gen.frame m ρ,
    Cert.DwOut.ref_frame,
    fun m ρ _ => Cert.Kernel7.Gen.frame m ρ,
    fun m ρ _ => Cert.Kernel7Ideal.Gen.frame m ρ,
    Cert.DwIn.ref_frame,
    fun m ρ _ => Cert.Kernel8.Gen.frame m ρ,
    fun m ρ _ => Cert.Kernel8Ideal.Gen.frame m ρ,
    Cert.DwIn3.ref_frame,
    fun m ρ _ => Cert.Kernel9.Gen.frame m ρ,
    fun m ρ _ => Cert.Kernel9Ideal.Gen.frame m ρ,
    Cert.DwInDt.ref_frame,
    fun m ρ _ => Cert.Kernel3.Gen.frame m ρ,
    fun m ρ _ => Cert.Kernel3Ideal.Gen.frame m ρ,
    fun m ρ _ => Cert.Kernel3Ideal.Gen.frame m ρ,
    Cert.NormBwd.ref_frame,
    fun m ρ _ => Cert.NormBwd.ref_frame m ρ trivial,
    Cert.DuLat.frame_kernel,
    Cert.DuLat.frame_ideal,
    fun m ρ _ => Cert.DuLat.frame_ideal m ρ trivial,
    Cert.DuLat.ref_frame,
    fun m ρ _ => Cert.DuLat.ref_frame m ρ trivial,
    fun m ρ _ => Cert.Kernel5.Gen.frame m ρ,
    fun m ρ _ => Cert.Kernel5Ideal.Gen.frame m ρ,
    fun m ρ _ => Cert.Kernel5Ideal.Gen.frame m ρ,
    Cert.Loss.ref_frame,
    fun m ρ _ => Cert.Loss.ref_frame m ρ trivial,
    trivial,
    Cert.Swiglu.algebraic,
    trivial,
    Cert.Dw.algebraic,
    trivial,
    Cert.FfnUp.algebraic,
    trivial,
    Cert.DwOut.algebraic,
    trivial,
    Cert.DwIn.algebraic,
    trivial,
    Cert.DwIn3.algebraic,
    trivial,
    Cert.DwInDt.algebraic,
    trivial,
    Cert.NormBwd.algebraic,
    trivial,
    Cert.DuLat.algebraic,
    trivial,
    Cert.Loss.algebraic⟩

end Cert.Proof

end
